-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_v85) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v83) = v1 c
          ∧ r.2.mem ((c.tc : Thread Cert.Reference5Ideal.nD Cert.Reference5Ideal.τ).loc Cert.Reference5Ideal.main_v84) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v177) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v64)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v64) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v72) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v64)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v64) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S2x256 : Shape := ⟨2, ![2, 256]⟩
abbrev S2x10x1024 : Shape := ⟨3, ![2, 10, 1024]⟩
abbrev S2x1024x1024 : Shape := ⟨3, ![2, 1024, 1024]⟩
abbrev S2x256x2048 : Shape := ⟨3, ![2, 256, 2048]⟩
abbrev S2x2x1024x5632 : Shape := ⟨4, ![2, 2, 1024, 5632]⟩
abbrev S2x2x2816x1024 : Shape := ⟨4, ![2, 2, 2816, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x8192x384 : S_.BroadcastsInDim S2x8192x384 (![] : Fin 0 → Fin S2x8192x384.rank)
  reducesTo_S2x8192x384_S_d0_1_2 : S2x8192x384.ReducesTo [0, 1, 2] S_
  bcast_S_S2x8192x256 : S_.BroadcastsInDim S2x8192x256 (![] : Fin 0 → Fin S2x8192x256.rank)
  reducesTo_S2x8192x256_S_d0_1_2 : S2x8192x256.ReducesTo [0, 1, 2] S_
  bcast_S_S2x256 : S_.BroadcastsInDim S2x256 (![] : Fin 0 → Fin S2x256.rank)
  reducesTo_S2x256_S_d0_1 : S2x256.ReducesTo [0, 1] S_
  bcast_S_S2x10x1024 : S_.BroadcastsInDim S2x10x1024 (![] : Fin 0 → Fin S2x10x1024.rank)
  reducesTo_S2x10x1024_S_d0_1_2 : S2x10x1024.ReducesTo [0, 1, 2] S_
  bcast_S_S2x1024x1024 : S_.BroadcastsInDim S2x1024x1024 (![] : Fin 0 → Fin S2x1024x1024.rank)
  reducesTo_S2x1024x1024_S_d0_1_2 : S2x1024x1024.ReducesTo [0, 1, 2] S_
  bitsLt_bf16_f32 : FTy.bits .bf16 < FTy.bits .f32
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn_part3 {F : FTy → Type} [FloatOps F] (main_v27 : IVec S_ 1) (main_v31 : IVec S_ 1) (main_v35 : IVec S_ 1) (main_v39 : IVec S_ 1) (main_v44 : IVec S_ 1) (main_v49 : IVec S_ 1) : IVec S_ 1 :=
  let main_v50 : IVec S_ 1 := andi main_v49 main_v27
  let main_v51 : IVec S_ 1 := andi main_v50 main_v31
  let main_v52 : IVec S_ 1 := andi main_v51 main_v35
  let main_v53 : IVec S_ 1 := andi main_v52 main_v39
  let main_v54 : IVec S_ 1 := andi main_v53 main_v44
  main_v54

def fn_part2 {F : FTy → Type} [FloatOps F] (main_arg8 : FVec F S2x1024x1024 .f32) (main_arg9 : FVec F S2x1024x1024 .f32) (main_arg10 : FVec F S2x256x2048 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x1024x1024 .f32 := Host.absf main_arg8
  let main_cst_14 : FVec F S_ .f32 := constant S_ .f32 0x7F800000#32
  let main_v33 : FVec F S2x1024x1024 .f32 := broadcastInDim S2x1024x1024 ![] bcast_S_S2x1024x1024 main_cst_14
  let main_v34 : IVec S2x1024x1024 1 := cmpf .olt main_v32 main_v33
  let main_c_15 : IVec S_ 1 := constantI S_ 1 1#1
  let main_v35 : IVec S_ 1 := (fun x v => Host.reduce IntOp.andi x v reducesTo_S2x1024x1024_S_d0_1_2 h_S_) main_v34 main_c_15
  let main_v36 : FVec F S2x1024x1024 .f32 := Host.absf main_arg9
  let main_cst_16 : FVec F S_ .f32 := constant S_ .f32 0x7F800000#32
  let main_v37 : FVec F S2x1024x1024 .f32 := broadcastInDim S2x1024x1024 ![] bcast_S_S2x1024x1024 main_cst_16
  let main_v38 : IVec S2x1024x1024 1 := cmpf .olt main_v36 main_v37
  let main_c_17 : IVec S_ 1 := constantI S_ 1 1#1
  let main_v39 : IVec S_ 1 := (fun x v => Host.reduce IntOp.andi x v reducesTo_S2x1024x1024_S_d0_1_2 h_S_) main_v38 main_c_17
  let main_v40 : FVec F S2x256x2048 .f32 := (extf .f32 · bitsLt_bf16_f32) main_arg10
  let main_v41 : FVec F S2x256x2048 .f32 := Host.absf main_v40
  let main_cst_18 : FVec F S_ .f32 := constant S_ .f32 0x7F800000#32
  let main_v42 : FVec F S2x256x2048 .f32 := broadcastInDim S2x256x2048 ![] bcast_S_S2x256x2048 main_cst_18
  let main_v43 : IVec S2x256x2048 1 := cmpf .olt main_v41 main_v42
  let main_c_19 : IVec S_ 1 := constantI S_ 1 1#1
  let main_v44 : IVec S_ 1 := (fun x v => Host.reduce IntOp.andi x v reducesTo_S2x256x2048_S_d0_1_2 h_S_) main_v43 main_c_19
  let main_v45 : IVec S_ 1 := andi main_v3 main_v7
  let main_v46 : IVec S_ 1 := andi main_v45 main_v11
  let main_v47 : IVec S_ 1 := andi main_v46 main_v15
  let main_v48 : IVec S_ 1 := andi main_v47 main_v19
  let main_v49 : IVec S_ 1 := andi main_v48 main_v23
  fn_part3 (F := F) main_v27 main_v31 main_v35 main_v39 main_v44 main_v49

def fn_part1 {F : FTy → Type} [FloatOps F] (main_arg4 : FVec F S2x8192x256 .f32) (main_arg5 : FVec F S2x8192x384 .f32) (main_arg6 : FVec F S2x256 .f32) (main_arg7 : FVec F S2x10x1024 .f32) (main_arg8 : FVec F S2x1024x1024 .f32) (main_arg9 : FVec F S2x1024x1024 .f32) (main_arg10 : FVec F S2x256x2048 .bf16) (main_v3 : IVec S_ 1) (main_v7 : IVec S_ 1) (main_v11 : IVec S_ 1) (main_v15 : IVec S_ 1) : IVec S_ 1 :=
  let main_v16 : FVec F S2x8192x256 .f32 := Host.absf main_arg4
  let main_cst_6 : FVec F S_ .f32 := constant S_ .f32 0x7F800000#32
  let main_v17 : FVec F S2x8192x256 .f32 := broadcastInDim S2x8192x256 ![] bcast_S_S2x8192x256 main_cst_6
  let main_v18 : IVec S2x8192x256 1 := cmpf .olt main_v16 main_v17
  let main_c_7 : IVec S_ 1 := constantI S_ 1 1#1
  let main_v19 : IVec S_ 1 := (fun x v => Host.reduce IntOp.andi x v reducesTo_S2x8192x256_S_d0_1_2 h_S_) main_v18 main_c_7
  let main_v20 : FVec F S2x8192x384 .f32 := Host.absf main_arg5
  let main_cst_8 : FVec F S_ .f32 := constant S_ .f32 0x7F800000#32
  let main_v21 : FVec F S2x8192x384 .f32 := broadcastInDim S2x8192x384 ![] bcast_S_S2x8192x384 main_cst_8
  let main_v22 : IVec S2x8192x384 1 := cmpf .olt main_v20 main_v21
  let main_c_9 : IVec S_ 1 := constantI S_ 1 1#1
  let main_v23 : IVec S_ 1 := (fun x v => Host.reduce IntOp.andi x v reducesTo_S2x8192x384_S_d0_1_2 h_S_) main_v22 main_c_9
  let main_v24 : FVec F S2x256 .f32 := Host.absf main_arg6
  let main_cst_10 : FVec F S_ .f32 := constant S_ .f32 0x7F800000#32
  let main_v25 : FVec F S2x256 .f32 := broadcastInDim S2x256 ![] bcast_S_S2x256 main_cst_10
  let main_v26 : IVec S2x256 1 := cmpf .olt main_v24 main_v25
  let main_c_11 : IVec S_ 1 := constantI S_ 1 1#1
  let main_v27 : IVec S_ 1 := (fun x v => Host.reduce IntOp.andi x v reducesTo_S2x256_S_d0_1 h_S_) main_v26 main_c_11
  let main_v28 : FVec F S2x10x1024 .f32 := Host.absf main_arg7
  let main_cst_12 : FVec F S_ .f32 := constant S_ .f32 0x7F800000#32
  let main_v29 : FVec F S2x10x1024 .f32 := broadcastInDim S2x10x1024 ![] bcast_S_S2x10x1024 main_cst_12
  let main_v30 : IVec S2x10x1024 1 := cmpf .olt main_v28 main_v29
  let main_c_13 : IVec S_ 1 := constantI S_ 1 1#1
  let main_v31 : IVec S_ 1 := (fun x v => Host.reduce IntOp.andi x v reducesTo_S2x10x1024_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S2x8192x1024 .f32) (main_arg1 : FVec F S2x8192x384 .f32) (main_arg2 : FVec F S2x8192x256 .f32) (main_arg3 : FVec F S2x8192x256 .f32) (main_arg4 : FVec F S2x8192x256 .f32) (main_arg5 : FVec F S2x8192x384 .f32) (main_arg6 : FVec F S2x256 .f32) (main_arg7 : FVec F S2x10x1024 .f32) (main_arg8 : FVec F S2x1024x1024 .f32) (main_arg9 : FVec F S2x1024x1024 .f32) (main_arg10 : FVec F S2x256x2048 .bf16) (main_arg11 : FVec F S2x1024x1024 .f32) (main_arg12 : FVec F S2x2x1024x5632 .f32) (main_arg13 : FVec F S2x2x2816x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x8192x384 .f32 := Host.absf main_arg1
  let main_cst_0 : FVec F S_ .f32 := constant S_ .f32 0x7F800000#32
  let main_v5 : FVec F S2x8192x384 .f32 := broadcastInDim S2x8192x384 ![] bcast_S_S2x8192x384 main_cst_0
  let main_v6 : IVec S2x8192x384 1 := cmpf .olt main_v4 main_v5
  let main_c_1 : IVec S_ 1 := constantI S_ 1 1#1
  let main_v7 : IVec S_ 1 := (fun x v => Host.reduce IntOp.andi x v reducesTo_S2x8192x384_S_d0_1_2 h_S_) main_v6 main_c_1
  let main_v8 : FVec F S2x8192x256 .f32 := Host.absf main_arg2
  let main_cst_2 : FVec F S_ .f32 := constant S_ .f32 0x7F800000#32
  let main_v9 : FVec F S2x8192x256 .f32 := broadcastInDim S2x8192x256 ![] bcast_S_S2x8192x256 main_cst_2
  let main_v10 : IVec S2x8192x256 1 := cmpf .olt main_v8 main_v9
  let main_c_3 : IVec S_ 1 := constantI S_ 1 1#1
  let main_v11 : IVec S_ 1 := (fun x v => Host.reduce IntOp.andi x v reducesTo_S2x8192x256_S_d0_1_2 h_S_) main_v10 main_c_3
  let main_v12 : FVec F S2x8192x256 .f32 := Host.absf main_arg3
  let main_cst_4 : FVec F S_ .f32 := constant S_ .f32 0x7F800000#32
  let main_v13 : FVec F S2x8192x256 .f32 := broadcastInDim S2x8192x256 ![] bcast_S_S2x8192x256 main_cst_4
  let main_v14 : IVec S2x8192x256 1 := cmpf .olt main_v12 main_v13
  let main_c_5 : IVec S_ 1 := constantI S_ 1 1#1
  let main_v15 : IVec S_ 1 := (fun x v => Host.reduce IntOp.andi x v reducesTo_S2x8192x256_S_d0_1_2 h_S_) main_v14 main_c_5
  fn_part1 (F := F) main_arg4 main_arg5 main_arg6 main_arg7 main_arg8 main_arg9 main_arg10 main_v3 main_v7 main_v11 main_v15
-- ==== Kernel.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S2x256 : Shape := ⟨2, ![2, 256]⟩
abbrev S2x10x1024 : Shape := ⟨3, ![2, 10, 1024]⟩
abbrev S2x1024x1024 : Shape := ⟨3, ![2, 1024, 1024]⟩
abbrev S2x256x2048 : Shape := ⟨3, ![2, 256, 2048]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S10x1x1024 : Shape := ⟨3, ![10, 1, 1024]⟩
abbrev S16384x1024 : Shape := ⟨2, ![16384, 1024]⟩
abbrev S16384x384 : Shape := ⟨2, ![16384, 384]⟩
abbrev S16384x256 : Shape := ⟨2, ![16384, 256]⟩
abbrev S1x256 : Shape := ⟨2, ![1, 256]⟩
abbrev S256 : Shape := ⟨1, ![256]⟩
abbrev S1x1x1024 : Shape := ⟨3, ![1, 1, 1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S1x256x2048 : Shape := ⟨3, ![1, 256, 2048]⟩
abbrev S1x1x1024x5632 : Shape := ⟨4, ![1, 1, 1024, 5632]⟩
abbrev S1x1x2816x1024 : Shape := ⟨4, ![1, 1, 2816, 1024]⟩
abbrev S1x384 : Shape := ⟨2, ![1, 384]⟩
abbrev S512 : Shape := ⟨1, ![512]⟩
abbrev S512x1 : Shape := ⟨2, ![512, 1]⟩
abbrev S1x384x1024 : Shape := ⟨3, ![1, 384, 1024]⟩
abbrev S384x1024 : Shape := ⟨2, ![384, 1024]⟩
abbrev S1x256x1024 : Shape := ⟨3, ![1, 256, 1024]⟩
abbrev S256x1024 : Shape := ⟨2, ![256, 1024]⟩
abbrev S1024x1024 : Shape := ⟨2, ![1024, 1024]⟩
abbrev S1x256x256 : Shape := ⟨3, ![1, 256, 256]⟩
abbrev S256x256 : Shape := ⟨2, ![256, 256]⟩
abbrev S1x1x1024x256 : Shape := ⟨4, ![1, 1, 1024, 256]⟩
abbrev S1024x256 : Shape := ⟨2, ![1024, 256]⟩
abbrev S1x1x256x1024 : Shape := ⟨4, ![1, 1, 256, 1024]⟩

abbrev nBuf : Space → Nat
  | .hbm => 44
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x8192x384, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x384, .f32⟩
  | .hbm, ⟨6, _⟩ => ⟨S2x256, .f32⟩
  | .hbm, ⟨7, _⟩ => ⟨S2x10x1024, .f32⟩
  | .hbm, ⟨8, _⟩ => ⟨S2x1024x1024, .f32⟩
  | .hbm, ⟨9, _⟩ => ⟨S2x1024x1024, .f32⟩
  | .hbm, ⟨10, _⟩ => ⟨S2x256x2048, .bf16⟩
  | .hbm, ⟨11, _⟩ => ⟨S2x1024x1024, .f32⟩
  | .hbm, ⟨12, _⟩ => ⟨S2x2x1024x5632, .f32⟩
  | .hbm, ⟨13, _⟩ => ⟨S2x2x2816x1024, .f32⟩
  | .hbm, ⟨14, _⟩ => ⟨S2x2x1024x5632, .bf16⟩
  | .hbm, ⟨15, _⟩ => ⟨S2x2x2816x1024, .bf16⟩
  | .hbm, ⟨16, _⟩ => ⟨S2x1024x1024, .bf16⟩
  | .hbm, ⟨17, _⟩ => ⟨S2x1024x1024, .bf16⟩
  | .hbm, ⟨18, _⟩ => ⟨S2x1024x1024, .bf16⟩
  | .hbm, ⟨19, _⟩ => ⟨S1x10x1024, .f32⟩
  | .hbm, ⟨20, _⟩ => ⟨S10x1024, .f32⟩
  | .hbm, ⟨21, _⟩ => ⟨S10x1x1024, .f32⟩
  | .hbm, ⟨22, _⟩ => ⟨S16384x1024, .f32⟩
  | .hbm, ⟨23, _⟩ => ⟨S16384x384, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x384, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S1x1x1024, .f32⟩
  | .hbm, ⟨32, _⟩ => ⟨S1x1024, .f32⟩
  | .hbm, ⟨33, _⟩ => ⟨S1x1x1024, .f32⟩
  | .hbm, ⟨34, _⟩ => ⟨S1x1024, .f32⟩
  | .hbm, ⟨35, _⟩ => ⟨S1x1x1024, .f32⟩
  | .hbm, ⟨36, _⟩ => ⟨S1x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S1x1024, .f32⟩
  | .hbm, ⟨41, _⟩ => ⟨S1x1x1024, .f32⟩
  | .hbm, ⟨42, _⟩ => ⟨S1x1024, .f32⟩
  | .hbm, ⟨43, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x384, .f32⟩
  | .local _ .vmem, ⟨11, _⟩ => ⟨S512x384, .f32⟩
  | .local _ .vmem, ⟨12, _⟩ => ⟨S1x256, .f32⟩
  | .local _ .vmem, ⟨13, _⟩ => ⟨S1x1024, .f32⟩
  | .local _ .vmem, ⟨14, _⟩ => ⟨S1x1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x1024, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x1024x1024, .bf16⟩
  | .local _ .vmem, ⟨21, _⟩ => ⟨S1x1024, .f32⟩
  | .local _ .vmem, ⟨22, _⟩ => ⟨S1x1024, .f32⟩
  | .local _ .vmem, ⟨23, _⟩ => ⟨S1x1x1024x5632, .bf16⟩
  | .local _ .vmem, ⟨24, _⟩ => ⟨S1x1x2816x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_17 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S2x256 : Shape := ⟨2, ![2, 256]⟩
abbrev S2x10x1024 : Shape := ⟨3, ![2, 10, 1024]⟩
abbrev S2x1024x1024 : Shape := ⟨3, ![2, 1024, 1024]⟩
abbrev S2x256x2048 : Shape := ⟨3, ![2, 256, 2048]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S1x256 : Shape := ⟨2, ![1, 256]⟩
abbrev S256 : Shape := ⟨1, ![256]⟩
abbrev S1x1x256 : Shape := ⟨3, ![1, 1, 256]⟩
abbrev S1x1024 : Shape := ⟨2, ![1, 1024]⟩
abbrev S1024 : Shape := ⟨1, ![1024]⟩
abbrev S384 : Shape := ⟨1, ![384]⟩
abbrev S_ : Shape := ⟨0, ![]⟩
abbrev S2x8192 : Shape := ⟨2, ![2, 8192]⟩
abbrev S2x8192x1 : Shape := ⟨3, ![2, 8192, 1]⟩
abbrev S1x1x384 : Shape := ⟨3, ![1, 1, 384]⟩
abbrev S1x1024x1024 : Shape := ⟨3, ![1, 1024, 1024]⟩
abbrev S1024x1024 : Shape := ⟨2, ![1024, 1024]⟩
abbrev S1x1x1024 : Shape := ⟨3, ![1, 1, 1024]⟩
abbrev S2x8192x4x256 : Shape := ⟨4, ![2, 8192, 4, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 229
  | .vmem => 0
  | .smem => 0
  | _ => 0

abbrev hbmTy0_0 (i : Nat) : BufTy := match i % 128 with
  | 0 => ⟨S2x8192x1024, .f32⟩
  | 1 => ⟨S2x8192x384, .f32⟩
  | 2 => ⟨S2x8192x256, .f32⟩
  | 3 => ⟨S2x8192x256, .f32⟩
  | 4 => ⟨S2x8192x256, .f32⟩
  | 5 => ⟨S2x8192x384, .f32⟩
  | 6 => ⟨S2x256, .f32⟩
  | 7 => ⟨S2x10x1024, .f32⟩
  | 8 => ⟨S2x1024x1024, .f32⟩
  | 9 => ⟨S2x1024x1024, .f32⟩
  | 10 => ⟨S2x256x2048, .bf16⟩
  | 11 => ⟨S2x1024x1024, .f32⟩
  | 12 => ⟨S2x2x1024x5632, .f32⟩
  | 13 => ⟨S2x2x2816x1024, .f32⟩
  | 14 => ⟨S1x10x1024, .f32⟩
  | 15 => ⟨S10x1024, .f32⟩
  | 16 => ⟨S1x256, .f32⟩
  | 17 => ⟨S256, .f32⟩
  | 18 => ⟨S1x1x256, .f32⟩
  | 19 => ⟨S2x8192x256, .f32⟩
  | 20 => ⟨S2x8192x256, .f32⟩
  | 21 => ⟨S2x8192x256, .f32⟩
  | 22 => ⟨S2x8192x256, .f32⟩
  | 23 => ⟨S1x1024, .f32⟩
  | 24 => ⟨S1024, .f32⟩
  | 25 => ⟨S384, .f32⟩
  | 26 => ⟨S2x8192x384, .f32⟩
  | 27 => ⟨S_, .f32⟩
  | 28 => ⟨S2x8192, .f32⟩
  | 29 => ⟨S2x8192x1, .f32⟩
  | 30 => ⟨S_, .f32⟩
  | 31 => ⟨S2x8192x1, .f32⟩
  | 32 => ⟨S2x8192x1, .f32⟩
  | 33 => ⟨S_, .f32⟩
  | 34 => ⟨S2x8192x1, .f32⟩
  | 35 => ⟨S2x8192x1, .f32⟩
  | 36 => ⟨S2x8192x1, .f32⟩
  | 37 => ⟨S2x8192x384, .f32⟩
  | 38 => ⟨S2x8192x384, .f32⟩
  | 39 => ⟨S1x1x384, .f32⟩
  | 40 => ⟨S2x8192x384, .f32⟩
  | 41 => ⟨S2x8192x384, .f32⟩
  | 42 => ⟨S256, .f32⟩
  | 43 => ⟨S2x8192x256, .f32⟩
  | 44 => ⟨S_, .f32⟩
  | 45 => ⟨S2x8192, .f32⟩
  | 46 => ⟨S2x8192x1, .f32⟩
  | 47 => ⟨S_, .f32⟩
  | 48 => ⟨S2x8192x1, .f32⟩
  | 49 => ⟨S2x8192x1, .f32⟩
  | 50 => ⟨S_, .f32⟩
  | 51 => ⟨S2x8192x1, .f32⟩
  | 52 => ⟨S2x8192x1, .f32⟩
  | 53 => ⟨S2x8192x1, .f32⟩
  | 54 => ⟨S2x8192x256, .f32⟩
  | 55 => ⟨S2x8192x256, .f32⟩
  | 56 => ⟨S1x1x256, .f32⟩
  | 57 => ⟨S2x8192x256, .f32⟩
  | 58 => ⟨S2x8192x256, .f32⟩
  | 59 => ⟨S384, .f32⟩
  | 60 => ⟨S2x8192x384, .f32⟩
  | 61 => ⟨S_, .f32⟩
  | 62 => ⟨S2x8192, .f32⟩
  | 63 => ⟨S2x8192x1, .f32⟩
  | 64 => ⟨S_, .f32⟩
  | 65 => ⟨S2x8192x1, .f32⟩
  | 66 => ⟨S2x8192x1, .f32⟩
  | 67 => ⟨S_, .f32⟩
  | 68 => ⟨S2x8192x1, .f32⟩
  | 69 => ⟨S2x8192x1, .f32⟩
  | 70 => ⟨S2x8192x1, .f32⟩
  | 71 => ⟨S2x8192x384, .f32⟩
  | 72 => ⟨S2x8192x384, .f32⟩
  | 73 => ⟨S1x1x384, .f32⟩
  | 74 => ⟨S2x8192x384, .f32⟩
  | 75 => ⟨S2x8192x384, .f32⟩
  | 76 => ⟨S2x8192x1024, .f32⟩
  | 77 => ⟨S1x1024x1024, .f32⟩
  | 78 => ⟨S1024x1024, .f32⟩
  | 79 => ⟨S2x8192x1024, .f32⟩
  | 80 => ⟨S1x1024, .f32⟩
  | 81 => ⟨S1024, .f32⟩
  | 82 => ⟨S2x8192x1024, .f32⟩
  | 83 => ⟨S_, .f32⟩
  | 84 => ⟨S2x8192, .f32⟩
  | 85 => ⟨S2x8192x1, .f32⟩
  | 86 => ⟨S_, .f32⟩
  | 87 => ⟨S2x8192x1, .f32⟩
  | 88 => ⟨S2x8192x1, .f32⟩
  | 89 => ⟨S_, .f32⟩
  | 90 => ⟨S2x8192x1, .f32⟩
  | 91 => ⟨S2x8192x1, .f32⟩
  | 92 => ⟨S2x8192x1, .f32⟩
  | 93 => ⟨S2x8192x1024, .f32⟩
  | 94 => ⟨S2x8192x1024, .f32⟩
  | 95 => ⟨S1x1x1024, .f32⟩
  | 96 => ⟨S2x8192x1024, .f32⟩
  | 97 => ⟨S2x8192x1024, .f32⟩
  | 98 => ⟨S2x8192x1024, .f32⟩
  | 99 => ⟨S1x1024, .f32⟩
  | 100 => ⟨S1024, .f32⟩
  | 101 => ⟨S2x8192x1024, .f32⟩
  | 102 => ⟨S_, .f32⟩
  | 103 => ⟨S2x8192, .f32⟩
  | 104 => ⟨S2x8192x1, .f32⟩
  | 105 => ⟨S_, .f32⟩
  | 106 => ⟨S2x8192x1, .f32⟩
  | 107 => ⟨S2x8192x1, .f32⟩
  | 108 => ⟨S_, .f32⟩
  | 109 => ⟨S2x8192x1, .f32⟩
  | 110 => ⟨S2x8192x1, .f32⟩
  | 111 => ⟨S2x8192x1, .f32⟩
  | 112 => ⟨S2x8192x1024, .f32⟩
  | 113 => ⟨S2x8192x1024, .f32⟩
  | 114 => ⟨S1x1x1024, .f32⟩
  | 115 => ⟨S2x8192x1024, .f32⟩
  | 116 => ⟨S2x8192x1024, .f32⟩
  | 117 => ⟨S1x1024x1024, .f32⟩
  | 118 => ⟨S1024x1024, .f32⟩
  | 119 => ⟨S2x8192x1024, .f32⟩
  | 120 => ⟨S2x8192x4x256, .f32⟩
  | 121 => ⟨S_, .f32⟩
  | 122 => ⟨S2x8192x4x256, .f32⟩
  | 123 => ⟨S2x8192x4x256, .f32⟩
  | 124 => ⟨S2x256x2048, .f32⟩
  | 125 => ⟨S2x256x2x4x256, .f32⟩
  | 126 => ⟨S2x256x1x4x256, .f32⟩
  | 127 => ⟨S2x256x4x256, .f32⟩
  | _ => ⟨S2x8192x1024, .f32⟩

abbrev hbmTy0_1 (i : Nat) : BufTy := match i % 128 with
  | 0 => ⟨S2x4x8192x256, .f32⟩
  | 1 => ⟨S_, .f32⟩
  | 2 => ⟨S2x4x8192, .f32⟩
  | 3 => ⟨S_, .f32⟩
  | 4 => ⟨S2x4x8192, .f32⟩
  | 5 => ⟨S2x4x8192, .f32⟩
  | 6 => ⟨S2x4x8192x1, .f32⟩
  | 7 => ⟨S2x4x8192x256, .f32⟩
  | 8 => ⟨S2x4x8192x256, .f32⟩
  | 9 => ⟨S2x4x8192x256, .f32⟩
  | 10 => ⟨S_, .f32⟩
  | 11 => ⟨S2x4x8192, .f32⟩
  | 12 => ⟨S2x4x8192x1, .f32⟩
  | 13 => ⟨S2x4x8192x256, .f32⟩
  | 14 => ⟨S2x4x8192x256, .f32⟩
  | 15 => ⟨S2x256x1x4x256, .f32⟩
  | 16 => ⟨S2x256x4x256, .f32⟩
  | 17 => ⟨S2x4x256x8192, .f32⟩
  | 18 => ⟨S2x8192x4x256, .f32⟩
  | 19 => ⟨S2x8192x1024, .f32⟩
  | 20 => ⟨S1x1024x1024, .f32⟩
  | 21 => ⟨S1024x1024, .f32⟩
  | 22 => ⟨S2x8192x1024, .f32⟩
  | 23 => ⟨S1x1024, .f32⟩
  | 24 => ⟨S1024, .f32⟩
  | 25 => ⟨S2x8192x1024, .f32⟩
  | 26 => ⟨S_, .f32⟩
  | 27 => ⟨S2x8192, .f32⟩
  | 28 => ⟨S2x8192x1, .f32⟩
  | 29 => ⟨S_, .f32⟩
  | 30 => ⟨S2x8192x1, .f32⟩
  | 31 => ⟨S2x8192x1, .f32⟩
  | 32 => ⟨S_, .f32⟩
  | 33 => ⟨S2x8192x1, .f32⟩
  | 34 => ⟨S2x8192x1, .f32⟩
  | 35 => ⟨S2x8192x1, .f32⟩
  | 36 => ⟨S2x8192x1024, .f32⟩
  | 37 => ⟨S2x8192x1024, .f32⟩
  | 38 => ⟨S1x1x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S2x8192x1024, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S_, .f32⟩
  | 52 => ⟨S2x8192x1, .f32⟩
  | 53 => ⟨S2x8192x1, .f32⟩
  | 54 => ⟨S2x8192x1, .f32⟩
  | 55 => ⟨S2x8192x1024, .f32⟩
  | 56 => ⟨S2x8192x1024, .f32⟩
  | 57 => ⟨S1x1x1024, .f32⟩
  | 58 => ⟨S2x8192x1024, .f32⟩
  | 59 => ⟨S2x8192x1024, .f32⟩
  | 60 => ⟨S1x1x1024x5632, .f32⟩
  | 61 => ⟨S1024x5632, .f32⟩
  | 62 => ⟨S1x1x2816x1024, .f32⟩
  | 63 => ⟨S2816x1024, .f32⟩
  | 64 => ⟨S2x8192x5632, .f32⟩
  | 65 => ⟨S2x8192x2816, .f32⟩
  | 66 => ⟨S2x8192x2816, .f32⟩
  | 67 => ⟨S2x8192x2816, .f32⟩
  | 68 => ⟨S2x8192x2816, .f32⟩
  | 69 => ⟨S_, .f32⟩
  | 70 => ⟨S2x8192x2816, .f32⟩
  | 71 => ⟨S2x8192x2816, .f32⟩
  | 72 => ⟨S_, .f32⟩
  | 73 => ⟨S2x8192x2816, .f32⟩
  | 74 => ⟨S2x8192x2816, .f32⟩
  | 75 => ⟨S2x8192x2816, .f32⟩
  | 76 => ⟨S2x8192x2816, .f32⟩
  | 77 => ⟨S2x8192x1024, .f32⟩
  | 78 => ⟨S1x1024, .f32⟩
  | 79 => ⟨S1024, .f32⟩
  | 80 => ⟨S2x8192x1024, .f32⟩
  | 81 => ⟨S_, .f32⟩
  | 82 => ⟨S2x8192, .f32⟩
  | 83 => ⟨S2x8192x1, .f32⟩
  | 84 => ⟨S_, .f32⟩
  | 85 => ⟨S2x8192x1, .f32⟩
  | 86 => ⟨S2x8192x1, .f32⟩
  | 87 => ⟨S_, .f32⟩
  | 88 => ⟨S2x8192x1, .f32⟩
  | 89 => ⟨S2x8192x1, .f32⟩
  | 90 => ⟨S2x8192x1, .f32⟩
  | 91 => ⟨S2x8192x1024, .f32⟩
  | 92 => ⟨S2x8192x1024, .f32⟩
  | 93 => ⟨S1x1x1024, .f32⟩
  | 94 => ⟨S2x8192x1024, .f32⟩
  | 95 => ⟨S2x8192x1024, .f32⟩
  | 96 => ⟨S_, .f32⟩
  | 97 => ⟨S2x8192x1024, .f32⟩
  | 98 => ⟨S2x8192x1024, .f32⟩
  | 99 => ⟨S2x8192x1024, .f32⟩
  | 100 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_cst_12 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_15 : Ref sig .tc := ⟨.hbm, 129, rfl⟩
abbrev main_v99 : Ref sig .tc := ⟨.hbm, 130, rfl⟩
abbrev main_cst_16 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_17 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_18 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_v124 : Ref sig .tc := ⟨.hbm, 159, rfl⟩
abbrev main_cst_20 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_21 : Ref sig .tc := ⟨.hbm, 173, rfl⟩
abbrev main_v137 : Ref sig .tc := ⟨.hbm, 174, rfl⟩
abbrev main_v138 : Ref sig .tc := ⟨.hbm, 175, rfl⟩
abbrev main_cst_22 : Ref sig .tc := ⟨.hbm, 176, rfl⟩
abbrev main_v139 : Ref sig .tc := ⟨.hbm, 177, rfl⟩
abbrev main_v140 : Ref sig .tc := ⟨.hbm, 178, rfl⟩
abbrev main_cst_23 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_call0_v0 : Ref sig .tc := ⟨.hbm, 195, rfl⟩
abbrev main_call0_v1 : Ref sig .tc := ⟨.hbm, 196, rfl⟩
abbrev main_call0_cst : Ref sig .tc := ⟨.hbm, 197, rfl⟩
abbrev main_call0_v2 : Ref sig .tc := ⟨.hbm, 198, rfl⟩
abbrev main_call0_v3 : Ref sig .tc := ⟨.hbm, 199, rfl⟩
abbrev main_call0_cst_0 : Ref sig .tc := ⟨.hbm, 200, rfl⟩
abbrev main_call0_v4 : Ref sig .tc := ⟨.hbm, 201, rfl⟩
abbrev main_call0_v5 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_24 : Ref sig .tc := ⟨.hbm, 209, rfl⟩
abbrev main_v162 : Ref sig .tc := ⟨.hbm, 210, rfl⟩
abbrev main_v163 : Ref sig .tc := ⟨.hbm, 211, rfl⟩
abbrev main_cst_25 : Ref sig .tc := ⟨.hbm, 212, rfl⟩
abbrev main_v164 : Ref sig .tc := ⟨.hbm, 213, rfl⟩
abbrev main_v165 : Ref sig .tc := ⟨.hbm, 214, rfl⟩
abbrev main_cst_26 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_27 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x10x1024 : Shape := ⟨3, ![2, 10, 1024]⟩
abbrev S2x1024x3072 : Shape := ⟨3, ![2, 1024, 3072]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S10x1x1024 : Shape := ⟨3, ![10, 1, 1024]⟩
abbrev S_ : Shape := ⟨0, ![]⟩
abbrev S1x384 : Shape := ⟨2, ![1, 384]⟩
abbrev S1x1536 : Shape := ⟨2, ![1, 1536]⟩
abbrev S1x768 : Shape := ⟨2, ![1, 768]⟩
abbrev S1x3072 : Shape := ⟨2, ![1, 3072]⟩
abbrev S16384x1024 : Shape := ⟨2, ![16384, 1024]⟩
abbrev S1x1x1024 : Shape := ⟨3, ![1, 1, 1024]⟩
abbrev S1x1024 : Shape := ⟨2, ![1, 1024]⟩
abbrev S16384x1152 : Shape := ⟨2, ![16384, 1152]⟩
abbrev S16384x768 : Shape := ⟨2, ![16384, 768]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S1x1024x3072 : Shape := ⟨3, ![1, 1024, 3072]⟩
abbrev S512x1152 : Shape := ⟨2, ![512, 1152]⟩
abbrev S512x768 : Shape := ⟨2, ![512, 768]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩
abbrev S1x1024x1152 : Shape := ⟨3, ![1, 1024, 1152]⟩
abbrev S1024x1152 : Shape := ⟨2, ![1024, 1152]⟩
abbrev S1x1152 : Shape := ⟨2, ![1, 1152]⟩
abbrev S1x1024x768 : Shape := ⟨3, ![1, 1024, 768]⟩
abbrev S1024x768 : Shape := ⟨2, ![1024, 768]⟩

abbrev nBuf : Space → Nat
  | .hbm => 31
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x10x1024, .f32⟩
  | .hbm, ⟨2, _⟩ => ⟨S2x1024x3072, .f32⟩
  | .hbm, ⟨3, _⟩ => ⟨S2x2x1024x5632, .f32⟩
  | .hbm, ⟨4, _⟩ => ⟨S2x2x2816x1024, .f32⟩
  | .hbm, ⟨5, _⟩ => ⟨S2x2x1024x5632, .bf16⟩
  | .hbm, ⟨6, _⟩ => ⟨S2x2x2816x1024, .bf16⟩
  | .hbm, ⟨7, _⟩ => ⟨S2x1024x3072, .bf16⟩
  | .hbm, ⟨8, _⟩ => ⟨S1x10x1024, .f32⟩
  | .hbm, ⟨9, _⟩ => ⟨S10x1024, .f32⟩
  | .hbm, ⟨10, _⟩ => ⟨S10x1x1024, .f32⟩
  | .hbm, ⟨11, _⟩ => ⟨S_, .f32⟩
  | .hbm, ⟨12, _⟩ => ⟨S1x384, .f32⟩
  | .hbm, ⟨13, _⟩ => ⟨S_, .f32⟩
  | .hbm, ⟨14, _⟩ => ⟨S1x1536, .f32⟩
  | .hbm, ⟨15, _⟩ => ⟨S_, .f32⟩
  | .hbm, ⟨16, _⟩ => ⟨S1x384, .f32⟩
  | .hbm, ⟨17, _⟩ => ⟨S_, .f32⟩
  | .hbm, ⟨18, _⟩ => ⟨S1x768, .f32⟩
  | .hbm, ⟨19, _⟩ => ⟨S1x3072, .f32⟩
  | .hbm, ⟨20, _⟩ => ⟨S16384x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S16384x1024, .f32⟩
  | .hbm, ⟨28, _⟩ => ⟨S16384x1152, .f32⟩
  | .hbm, ⟨29, _⟩ => ⟨S16384x768, .f32⟩
  | .hbm, ⟨30, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x3072, .bf16⟩
  | .local _ .vmem, ⟨8, _⟩ => ⟨S1x3072, .f32⟩
  | .local _ .vmem, ⟨9, _⟩ => ⟨S512x1024, .f32⟩
  | .local _ .vmem, ⟨10, _⟩ => ⟨S512x1024, .f32⟩
  | .local _ .vmem, ⟨11, _⟩ => ⟨S512x1152, .f32⟩
  | .local _ .vmem, ⟨12, _⟩ => ⟨S512x1152, .f32⟩
  | .local _ .vmem, ⟨13, _⟩ => ⟨S512x768, .f32⟩
  | .local _ .vmem, ⟨14, _⟩ => ⟨S512x768, .f32⟩
  | .local _ .vmem, ⟨15, _⟩ => ⟨S512x1152, .f32⟩
  | .local _ .vmem, ⟨16, _⟩ => ⟨S512x1152, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2x8192x1024 : Shape := ⟨3, ![2, 8192, 1024]⟩
abbrev S2x10x1024 : Shape := ⟨3, ![2, 10, 1024]⟩
abbrev S2x1024x3072 : Shape := ⟨3, ![2, 1024, 3072]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x8192x1152 : Shape := ⟨3, ![2, 8192, 1152]⟩
abbrev S2x8192x768 : Shape := ⟨3, ![2, 8192, 768]⟩
abbrev S2x8192x384 : Shape := ⟨3, ![2, 8192, 384]⟩
abbrev S16384x1024 : Shape := ⟨2, ![16384, 1024]⟩
abbrev S16384x1152 : Shape := ⟨2, ![16384, 1152]⟩
abbrev S16384x768 : Shape := ⟨2, ![16384, 768]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x10x1024, .f32⟩
  | .hbm, ⟨2, _⟩ => ⟨S2x1024x3072, .f32⟩
  | .hbm, ⟨3, _⟩ => ⟨S2x2x1024x5632, .f32⟩
  | .hbm, ⟨4, _⟩ => ⟨S2x2x2816x1024, .f32⟩
  | .hbm, ⟨5, _⟩ => ⟨S1x10x1024, .f32⟩
  | .hbm, ⟨6, _⟩ => ⟨S10x1024, .f32⟩
  | .hbm, ⟨7, _⟩ => ⟨S1x1024, .f32⟩
  | .hbm, ⟨8, _⟩ => ⟨S1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S1x1x1024x5632, .f32⟩
  | .hbm, ⟨26, _⟩ => ⟨S1024x5632, .f32⟩
  | .hbm, ⟨27, _⟩ => ⟨S1x1x2816x1024, .f32⟩
  | .hbm, ⟨28, _⟩ => ⟨S2816x1024, .f32⟩
  | .hbm, ⟨29, _⟩ => ⟨S2x8192x5632, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S_, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S1x1024, .f32⟩
  | .hbm, ⟨44, _⟩ => ⟨S1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S1x1024, .f32⟩
  | .hbm, ⟨66, _⟩ => ⟨S1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x1024, .f32⟩
  | .hbm, ⟨79, _⟩ => ⟨S2x8192x1024, .f32⟩
  | .hbm, ⟨80, _⟩ => ⟨S1x1x1024, .f32⟩
  | .hbm, ⟨81, _⟩ => ⟨S2x8192x1024, .f32⟩
  | .hbm, ⟨82, _⟩ => ⟨S2x8192x1024, .f32⟩
  | .hbm, ⟨83, _⟩ => ⟨S1x1024x3072, .f32⟩
  | .hbm, ⟨84, _⟩ => ⟨S1024x3072, .f32⟩
  | .hbm, ⟨85, _⟩ => ⟨S2x8192x3072, .f32⟩
  | .hbm, ⟨86, _⟩ => ⟨S2x8192x1152, .f32⟩
  | .hbm, ⟨87, _⟩ => ⟨S2x8192x768, .f32⟩
  | .hbm, ⟨88, _⟩ => ⟨S2x8192x1152, .f32⟩
  | .hbm, ⟨89, _⟩ => ⟨S2x8192x384, .f32⟩
  | .hbm, ⟨90, _⟩ => ⟨S2x8192x384, .f32⟩
  | .hbm, ⟨91, _⟩ => ⟨S2x8192x384, .f32⟩
  | .hbm, ⟨92, _⟩ => ⟨S2x8192x384, .f32⟩
  | .hbm, ⟨93, _⟩ => ⟨S2x8192x384, .f32⟩
  | .hbm, ⟨94, _⟩ => ⟨S2x8192x384, .f32⟩
  | .hbm, ⟨95, _⟩ => ⟨S_, .f32⟩
  | .hbm, ⟨96, _⟩ => ⟨S2x8192x384, .f32⟩
  | .hbm, ⟨97, _⟩ => ⟨S2x8192x384, .f32⟩
  | .hbm, ⟨98, _⟩ => ⟨S_, .f32⟩
  | .hbm, ⟨99, _⟩ => ⟨S2x8192x384, .f32⟩
  | .hbm, ⟨100, _⟩ => ⟨S2x8192x384, .f32⟩
  | .hbm, ⟨101, _⟩ => ⟨S2x8192x1152, .f32⟩
  | .hbm, ⟨102, _⟩ => ⟨S_, .f32⟩
  | .hbm, ⟨103, _⟩ => ⟨S2x8192x384, .f32⟩
  | .hbm, ⟨104, _⟩ => ⟨S2x8192x384, .f32⟩
  | .hbm, ⟨105, _⟩ => ⟨S_, .f32⟩
  | .hbm, ⟨106, _⟩ => ⟨S2x8192x384, .f32⟩
  | .hbm, ⟨107, _⟩ => ⟨S2x8192x384, .f32⟩
  | .hbm, ⟨108, _⟩ => ⟨S2x8192x1152, .f32⟩
  | .hbm, ⟨109, _⟩ => ⟨S16384x1024, .f32⟩
  | .hbm, ⟨110, _⟩ => ⟨S16384x1152, .f32⟩
  | .hbm, ⟨111, _⟩ => ⟨S16384x768, .f32⟩
  | .hbm, ⟨112, _⟩ => ⟨S16384x1152, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel3.lean ====
abbrev S2x256x1024 : Shape := ⟨3, ![2, 256, 1024]⟩
abbrev S2x10x1024 : Shape := ⟨3, ![2, 10, 1024]⟩
abbrev S2x1024x2048 : Shape := ⟨3, ![2, 1024, 2048]⟩
abbrev S1x10x1024 : Shape := ⟨3, ![1, 10, 1024]⟩
abbrev S10x1024 : Shape := ⟨2, ![10, 1024]⟩
abbrev S10x1x1024 : Shape := ⟨3, ![10, 1, 1024]⟩
abbrev S512x1024 : Shape := ⟨2, ![512, 1024]⟩
abbrev S1x1x1024 : Shape := ⟨3, ![1, 1, 1024]⟩
abbrev S1x1024 : Shape := ⟨2, ![1, 1024]⟩
abbrev S512x2048 : Shape := ⟨2, ![512, 2048]⟩
abbrev S256x1024 : Shape := ⟨2, ![256, 1024]⟩
abbrev S1x1024x2048 : Shape := ⟨3, ![1, 1024, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S2x10x1024, .f32⟩
  | .hbm, ⟨2, _⟩ => ⟨S2x1024x2048, .f32⟩
  | .hbm, ⟨3, _⟩ => ⟨S1x10x1024, .f32⟩
  | .hbm, ⟨4, _⟩ => ⟨S10x1024, .f32⟩
  | .hbm, ⟨5, _⟩ => ⟨S10x1x1024, .f32⟩
  | .hbm, ⟨6, _⟩ => ⟨S512x1024, .f32⟩
  | .hbm, ⟨7, _⟩ => ⟨S1x1x1024, .f32⟩
  | .hbm, ⟨8, _⟩ => ⟨S1x1024, .f32⟩
  | .hbm, ⟨9, _⟩ => ⟨S2x1024x2048, .bf16⟩
  | .hbm, ⟨10, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x2048, .bf16⟩
  | .local _ .vmem, ⟨4, _⟩ => ⟨S256x2048, .bf16⟩
  | .local _ .vmem, ⟨5, _⟩ => ⟨S256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x256x1024 : Shape := ⟨3, ![2, 256, 1024]⟩
abbrev S2x10x1024 : Shape := ⟨3, ![2, 10, 1024]⟩
abbrev S2x1024x2048 : Shape := ⟨3, ![2, 1024, 2048]⟩
abbrev S1x10x1024 : Shape := ⟨3, ![1, 10, 1024]⟩
abbrev S10x1024 : Shape := ⟨2, ![10, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x10x1024, .f32⟩
  | .hbm, ⟨2, _⟩ => ⟨S2x1024x2048, .f32⟩
  | .hbm, ⟨3, _⟩ => ⟨S1x10x1024, .f32⟩
  | .hbm, ⟨4, _⟩ => ⟨S10x1024, .f32⟩
  | .hbm, ⟨5, _⟩ => ⟨S1x1024, .f32⟩
  | .hbm, ⟨6, _⟩ => ⟨S1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S1x1024x2048, .f32⟩
  | .hbm, ⟨24, _⟩ => ⟨S1024x2048, .f32⟩
  | .hbm, ⟨25, _⟩ => ⟨S2x256x2048, .f32⟩
  | .hbm, ⟨26, _⟩ => ⟨S2x256x2048, .bf16⟩
  | .hbm, ⟨27, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S2x8192x768 : Shape := ⟨3, ![2, 8192, 768]⟩
abbrev S2x3x768 : Shape := ⟨3, ![2, 3, 768]⟩
abbrev S2x768 : Shape := ⟨2, ![2, 768]⟩
abbrev S1x3x768 : Shape := ⟨3, ![1, 3, 768]⟩
abbrev S3x768 : Shape := ⟨2, ![3, 768]⟩
abbrev S1x768 : Shape := ⟨2, ![1, 768]⟩
abbrev S768 : Shape := ⟨1, ![768]⟩
abbrev S2x8192x256 : Shape := ⟨3, ![2, 8192, 256]⟩
abbrev S1x1024x768 : Shape := ⟨3, ![1, 1024, 768]⟩
abbrev S1x8x768 : Shape := ⟨3, ![1, 8, 768]⟩
abbrev S1x1024x256 : Shape := ⟨3, ![1, 1024, 256]⟩
abbrev S1024x768 : Shape := ⟨2, ![1024, 768]⟩
abbrev S1x1x768 : Shape := ⟨3, ![1, 1, 768]⟩
abbrev S1024x1 : Shape := ⟨2, ![1024, 1]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x768, .f32⟩
  | .hbm, ⟨1, _⟩ => ⟨S2x3x768, .f32⟩
  | .hbm, ⟨2, _⟩ => ⟨S2x768, .f32⟩
  | .hbm, ⟨3, _⟩ => ⟨S1x3x768, .f32⟩
  | .hbm, ⟨4, _⟩ => ⟨S3x768, .f32⟩
  | .hbm, ⟨5, _⟩ => ⟨S1x768, .f32⟩
  | .hbm, ⟨6, _⟩ => ⟨S768, .f32⟩
  | .hbm, ⟨7, _⟩ => ⟨S1x768, .f32⟩
  | .hbm, ⟨8, _⟩ => ⟨S2x8192x256, .f32⟩
  | .hbm, ⟨9, _⟩ => ⟨S2x8192x256, .f32⟩
  | .local _ .vmem, ⟨0, _⟩ => ⟨S1x1024x768, .f32⟩
  | .local _ .vmem, ⟨1, _⟩ => ⟨S1x1024x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x768, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x8192x768 : Shape := ⟨3, ![2, 8192, 768]⟩
abbrev S2x3x768 : Shape := ⟨3, ![2, 3, 768]⟩
abbrev S2x768 : Shape := ⟨2, ![2, 768]⟩
abbrev S1x3x768 : Shape := ⟨3, ![1, 3, 768]⟩
abbrev S3x768 : Shape := ⟨2, ![3, 768]⟩
abbrev S1x768 : Shape := ⟨2, ![1, 768]⟩
abbrev S768 : Shape := ⟨1, ![768]⟩
abbrev S_ : Shape := ⟨0, ![]⟩
abbrev S2x8194x768 : Shape := ⟨3, ![2, 8194, 768]⟩
abbrev S1x1x768 : Shape := ⟨3, ![1, 1, 768]⟩
abbrev S2x8192x256 : Shape := ⟨3, ![2, 8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S2x3x768, .f32⟩
  | .hbm, ⟨2, _⟩ => ⟨S2x768, .f32⟩
  | .hbm, ⟨3, _⟩ => ⟨S1x3x768, .f32⟩
  | .hbm, ⟨4, _⟩ => ⟨S3x768, .f32⟩
  | .hbm, ⟨5, _⟩ => ⟨S1x768, .f32⟩
  | .hbm, ⟨6, _⟩ => ⟨S768, .f32⟩
  | .hbm, ⟨7, _⟩ => ⟨S_, .i32⟩
  | .hbm, ⟨8, _⟩ => ⟨S_, .f32⟩
  | .hbm, ⟨9, _⟩ => ⟨S2x8194x768, .f32⟩
  | .hbm, ⟨10, _⟩ => ⟨S2x8192x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S2x8192x768, .f32⟩
  | .hbm, ⟨15, _⟩ => ⟨S2x8192x768, .f32⟩
  | .hbm, ⟨16, _⟩ => ⟨S2x8192x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S2x8192x768, .f32⟩
  | .hbm, ⟨21, _⟩ => ⟨S2x8192x768, .f32⟩
  | .hbm, ⟨22, _⟩ => ⟨S2x8192x768, .f32⟩
  | .hbm, ⟨23, _⟩ => ⟨S2x8192x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S2x8192x768, .f32⟩
  | .hbm, ⟨28, _⟩ => ⟨S2x8192x768, .f32⟩
  | .hbm, ⟨29, _⟩ => ⟨S2x8192x768, .f32⟩
  | .hbm, ⟨30, _⟩ => ⟨S1x1x768, .f32⟩
  | .hbm, ⟨31, _⟩ => ⟨S2x8192x768, .f32⟩
  | .hbm, ⟨32, _⟩ => ⟨S2x8192x768, .f32⟩
  | .hbm, ⟨33, _⟩ => ⟨S2x8192x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x10x1024 : Shape := ⟨3, ![2, 10, 1024]⟩
abbrev S2x1024x3072 : Shape := ⟨3, ![2, 1024, 3072]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S10x1x1024 : Shape := ⟨3, ![10, 1, 1024]⟩
abbrev S_ : Shape := ⟨0, ![]⟩
abbrev S1x384 : Shape := ⟨2, ![1, 384]⟩
abbrev S1x1536 : Shape := ⟨2, ![1, 1536]⟩
abbrev S1x768 : Shape := ⟨2, ![1, 768]⟩
abbrev S1x3072 : Shape := ⟨2, ![1, 3072]⟩
abbrev S16384x1024 : Shape := ⟨2, ![16384, 1024]⟩
abbrev S1x1x1024 : Shape := ⟨3, ![1, 1, 1024]⟩
abbrev S1x1024 : Shape := ⟨2, ![1, 1024]⟩
abbrev S16384x1152 : Shape := ⟨2, ![16384, 1152]⟩
abbrev S16384x768 : Shape := ⟨2, ![16384, 768]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S1x1024x3072 : Shape := ⟨3, ![1, 1024, 3072]⟩
abbrev S512x1152 : Shape := ⟨2, ![512, 1152]⟩
abbrev S512x768 : Shape := ⟨2, ![512, 768]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩
abbrev S1x1024x1152 : Shape := ⟨3, ![1, 1024, 1152]⟩
abbrev S1024x1152 : Shape := ⟨2, ![1024, 1152]⟩
abbrev S1x1152 : Shape := ⟨2, ![1, 1152]⟩
abbrev S1x1024x768 : Shape := ⟨3, ![1, 1024, 768]⟩
abbrev S1024x768 : Shape := ⟨2, ![1024, 768]⟩

abbrev nBuf : Space → Nat
  | .hbm => 31
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x10x1024, .f32⟩
  | .hbm, ⟨2, _⟩ => ⟨S2x1024x3072, .f32⟩
  | .hbm, ⟨3, _⟩ => ⟨S2x2x1024x5632, .f32⟩
  | .hbm, ⟨4, _⟩ => ⟨S2x2x2816x1024, .f32⟩
  | .hbm, ⟨5, _⟩ => ⟨S2x2x1024x5632, .bf16⟩
  | .hbm, ⟨6, _⟩ => ⟨S2x2x2816x1024, .bf16⟩
  | .hbm, ⟨7, _⟩ => ⟨S2x1024x3072, .bf16⟩
  | .hbm, ⟨8, _⟩ => ⟨S1x10x1024, .f32⟩
  | .hbm, ⟨9, _⟩ => ⟨S10x1024, .f32⟩
  | .hbm, ⟨10, _⟩ => ⟨S10x1x1024, .f32⟩
  | .hbm, ⟨11, _⟩ => ⟨S_, .f32⟩
  | .hbm, ⟨12, _⟩ => ⟨S1x384, .f32⟩
  | .hbm, ⟨13, _⟩ => ⟨S_, .f32⟩
  | .hbm, ⟨14, _⟩ => ⟨S1x1536, .f32⟩
  | .hbm, ⟨15, _⟩ => ⟨S_, .f32⟩
  | .hbm, ⟨16, _⟩ => ⟨S1x384, .f32⟩
  | .hbm, ⟨17, _⟩ => ⟨S_, .f32⟩
  | .hbm, ⟨18, _⟩ => ⟨S1x768, .f32⟩
  | .hbm, ⟨19, _⟩ => ⟨S1x3072, .f32⟩
  | .hbm, ⟨20, _⟩ => ⟨S16384x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S16384x1024, .f32⟩
  | .hbm, ⟨28, _⟩ => ⟨S16384x1152, .f32⟩
  | .hbm, ⟨29, _⟩ => ⟨S16384x768, .f32⟩
  | .hbm, ⟨30, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x3072, .bf16⟩
  | .local _ .vmem, ⟨8, _⟩ => ⟨S1x3072, .f32⟩
  | .local _ .vmem, ⟨9, _⟩ => ⟨S512x1024, .f32⟩
  | .local _ .vmem, ⟨10, _⟩ => ⟨S512x1024, .f32⟩
  | .local _ .vmem, ⟨11, _⟩ => ⟨S512x1152, .f32⟩
  | .local _ .vmem, ⟨12, _⟩ => ⟨S512x1152, .f32⟩
  | .local _ .vmem, ⟨13, _⟩ => ⟨S512x768, .f32⟩
  | .local _ .vmem, ⟨14, _⟩ => ⟨S512x768, .f32⟩
  | .local _ .vmem, ⟨15, _⟩ => ⟨S512x1152, .f32⟩
  | .local _ .vmem, ⟨16, _⟩ => ⟨S512x1152, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S2x8192x1024 : Shape := ⟨3, ![2, 8192, 1024]⟩
abbrev S2x10x1024 : Shape := ⟨3, ![2, 10, 1024]⟩
abbrev S2x1024x3072 : Shape := ⟨3, ![2, 1024, 3072]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x8192x1152 : Shape := ⟨3, ![2, 8192, 1152]⟩
abbrev S2x8192x768 : Shape := ⟨3, ![2, 8192, 768]⟩
abbrev S2x8192x384 : Shape := ⟨3, ![2, 8192, 384]⟩
abbrev S16384x1024 : Shape := ⟨2, ![16384, 1024]⟩
abbrev S16384x1152 : Shape := ⟨2, ![16384, 1152]⟩
abbrev S16384x768 : Shape := ⟨2, ![16384, 768]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x10x1024, .f32⟩
  | .hbm, ⟨2, _⟩ => ⟨S2x1024x3072, .f32⟩
  | .hbm, ⟨3, _⟩ => ⟨S2x2x1024x5632, .f32⟩
  | .hbm, ⟨4, _⟩ => ⟨S2x2x2816x1024, .f32⟩
  | .hbm, ⟨5, _⟩ => ⟨S1x10x1024, .f32⟩
  | .hbm, ⟨6, _⟩ => ⟨S10x1024, .f32⟩
  | .hbm, ⟨7, _⟩ => ⟨S1x1024, .f32⟩
  | .hbm, ⟨8, _⟩ => ⟨S1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S1x1x1024x5632, .f32⟩
  | .hbm, ⟨26, _⟩ => ⟨S1024x5632, .f32⟩
  | .hbm, ⟨27, _⟩ => ⟨S1x1x2816x1024, .f32⟩
  | .hbm, ⟨28, _⟩ => ⟨S2816x1024, .f32⟩
  | .hbm, ⟨29, _⟩ => ⟨S2x8192x5632, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S_, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S1x1024, .f32⟩
  | .hbm, ⟨44, _⟩ => ⟨S1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S1x1024, .f32⟩
  | .hbm, ⟨66, _⟩ => ⟨S1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x1024, .f32⟩
  | .hbm, ⟨79, _⟩ => ⟨S2x8192x1024, .f32⟩
  | .hbm, ⟨80, _⟩ => ⟨S1x1x1024, .f32⟩
  | .hbm, ⟨81, _⟩ => ⟨S2x8192x1024, .f32⟩
  | .hbm, ⟨82, _⟩ => ⟨S2x8192x1024, .f32⟩
  | .hbm, ⟨83, _⟩ => ⟨S1x1024x3072, .f32⟩
  | .hbm, ⟨84, _⟩ => ⟨S1024x3072, .f32⟩
  | .hbm, ⟨85, _⟩ => ⟨S2x8192x3072, .f32⟩
  | .hbm, ⟨86, _⟩ => ⟨S2x8192x1152, .f32⟩
  | .hbm, ⟨87, _⟩ => ⟨S2x8192x768, .f32⟩
  | .hbm, ⟨88, _⟩ => ⟨S2x8192x1152, .f32⟩
  | .hbm, ⟨89, _⟩ => ⟨S2x8192x384, .f32⟩
  | .hbm, ⟨90, _⟩ => ⟨S2x8192x384, .f32⟩
  | .hbm, ⟨91, _⟩ => ⟨S2x8192x384, .f32⟩
  | .hbm, ⟨92, _⟩ => ⟨S2x8192x384, .f32⟩
  | .hbm, ⟨93, _⟩ => ⟨S2x8192x384, .f32⟩
  | .hbm, ⟨94, _⟩ => ⟨S2x8192x384, .f32⟩
  | .hbm, ⟨95, _⟩ => ⟨S_, .f32⟩
  | .hbm, ⟨96, _⟩ => ⟨S2x8192x384, .f32⟩
  | .hbm, ⟨97, _⟩ => ⟨S2x8192x384, .f32⟩
  | .hbm, ⟨98, _⟩ => ⟨S_, .f32⟩
  | .hbm, ⟨99, _⟩ => ⟨S2x8192x384, .f32⟩
  | .hbm, ⟨100, _⟩ => ⟨S2x8192x384, .f32⟩
  | .hbm, ⟨101, _⟩ => ⟨S2x8192x1152, .f32⟩
  | .hbm, ⟨102, _⟩ => ⟨S_, .f32⟩
  | .hbm, ⟨103, _⟩ => ⟨S2x8192x384, .f32⟩
  | .hbm, ⟨104, _⟩ => ⟨S2x8192x384, .f32⟩
  | .hbm, ⟨105, _⟩ => ⟨S_, .f32⟩
  | .hbm, ⟨106, _⟩ => ⟨S2x8192x384, .f32⟩
  | .hbm, ⟨107, _⟩ => ⟨S2x8192x384, .f32⟩
  | .hbm, ⟨108, _⟩ => ⟨S2x8192x1152, .f32⟩
  | .hbm, ⟨109, _⟩ => ⟨S16384x1024, .f32⟩
  | .hbm, ⟨110, _⟩ => ⟨S16384x1152, .f32⟩
  | .hbm, ⟨111, _⟩ => ⟨S16384x768, .f32⟩
  | .hbm, ⟨112, _⟩ => ⟨S16384x1152, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S2x256 : Shape := ⟨2, ![2, 256]⟩
abbrev S2x10x1024 : Shape := ⟨3, ![2, 10, 1024]⟩
abbrev S2x1024x1024 : Shape := ⟨3, ![2, 1024, 1024]⟩
abbrev S2x256x2048 : Shape := ⟨3, ![2, 256, 2048]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S10x1x1024 : Shape := ⟨3, ![10, 1, 1024]⟩
abbrev S16384x1024 : Shape := ⟨2, ![16384, 1024]⟩
abbrev S16384x384 : Shape := ⟨2, ![16384, 384]⟩
abbrev S16384x256 : Shape := ⟨2, ![16384, 256]⟩
abbrev S1x256 : Shape := ⟨2, ![1, 256]⟩
abbrev S256 : Shape := ⟨1, ![256]⟩
abbrev S1x1x1024 : Shape := ⟨3, ![1, 1, 1024]⟩
abbrev S1x1024 : Shape := ⟨2, ![1, 1024]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S1x256x2048 : Shape := ⟨3, ![1, 256, 2048]⟩
abbrev S1x1x1024x5632 : Shape := ⟨4, ![1, 1, 1024, 5632]⟩
abbrev S1x1x2816x1024 : Shape := ⟨4, ![1, 1, 2816, 1024]⟩
abbrev S1x384 : Shape := ⟨2, ![1, 384]⟩
abbrev S512 : Shape := ⟨1, ![512]⟩
abbrev S512x1 : Shape := ⟨2, ![512, 1]⟩
abbrev S1x384x1024 : Shape := ⟨3, ![1, 384, 1024]⟩
abbrev S384x1024 : Shape := ⟨2, ![384, 1024]⟩
abbrev S1x256x1024 : Shape := ⟨3, ![1, 256, 1024]⟩
abbrev S256x1024 : Shape := ⟨2, ![256, 1024]⟩
abbrev S1024x1024 : Shape := ⟨2, ![1024, 1024]⟩
abbrev S1x256x256 : Shape := ⟨3, ![1, 256, 256]⟩
abbrev S256x256 : Shape := ⟨2, ![256, 256]⟩
abbrev S1x1x1024x256 : Shape := ⟨4, ![1, 1, 1024, 256]⟩
abbrev S1024x256 : Shape := ⟨2, ![1024, 256]⟩
abbrev S1x1x256x1024 : Shape := ⟨4, ![1, 1, 256, 1024]⟩

abbrev nBuf : Space → Nat
  | .hbm => 44
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x8192x384, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x384, .f32⟩
  | .hbm, ⟨6, _⟩ => ⟨S2x256, .f32⟩
  | .hbm, ⟨7, _⟩ => ⟨S2x10x1024, .f32⟩
  | .hbm, ⟨8, _⟩ => ⟨S2x1024x1024, .f32⟩
  | .hbm, ⟨9, _⟩ => ⟨S2x1024x1024, .f32⟩
  | .hbm, ⟨10, _⟩ => ⟨S2x256x2048, .bf16⟩
  | .hbm, ⟨11, _⟩ => ⟨S2x1024x1024, .f32⟩
  | .hbm, ⟨12, _⟩ => ⟨S2x2x1024x5632, .f32⟩
  | .hbm, ⟨13, _⟩ => ⟨S2x2x2816x1024, .f32⟩
  | .hbm, ⟨14, _⟩ => ⟨S2x2x1024x5632, .bf16⟩
  | .hbm, ⟨15, _⟩ => ⟨S2x2x2816x1024, .bf16⟩
  | .hbm, ⟨16, _⟩ => ⟨S2x1024x1024, .bf16⟩
  | .hbm, ⟨17, _⟩ => ⟨S2x1024x1024, .bf16⟩
  | .hbm, ⟨18, _⟩ => ⟨S2x1024x1024, .bf16⟩
  | .hbm, ⟨19, _⟩ => ⟨S1x10x1024, .f32⟩
  | .hbm, ⟨20, _⟩ => ⟨S10x1024, .f32⟩
  | .hbm, ⟨21, _⟩ => ⟨S10x1x1024, .f32⟩
  | .hbm, ⟨22, _⟩ => ⟨S16384x1024, .f32⟩
  | .hbm, ⟨23, _⟩ => ⟨S16384x384, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x384, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S1x1x1024, .f32⟩
  | .hbm, ⟨32, _⟩ => ⟨S1x1024, .f32⟩
  | .hbm, ⟨33, _⟩ => ⟨S1x1x1024, .f32⟩
  | .hbm, ⟨34, _⟩ => ⟨S1x1024, .f32⟩
  | .hbm, ⟨35, _⟩ => ⟨S1x1x1024, .f32⟩
  | .hbm, ⟨36, _⟩ => ⟨S1x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S1x1024, .f32⟩
  | .hbm, ⟨41, _⟩ => ⟨S1x1x1024, .f32⟩
  | .hbm, ⟨42, _⟩ => ⟨S1x1024, .f32⟩
  | .hbm, ⟨43, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x384, .f32⟩
  | .local _ .vmem, ⟨11, _⟩ => ⟨S512x384, .f32⟩
  | .local _ .vmem, ⟨12, _⟩ => ⟨S1x256, .f32⟩
  | .local _ .vmem, ⟨13, _⟩ => ⟨S1x1024, .f32⟩
  | .local _ .vmem, ⟨14, _⟩ => ⟨S1x1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x1024, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x1024x1024, .bf16⟩
  | .local _ .vmem, ⟨21, _⟩ => ⟨S1x1024, .f32⟩
  | .local _ .vmem, ⟨22, _⟩ => ⟨S1x1024, .f32⟩
  | .local _ .vmem, ⟨23, _⟩ => ⟨S1x1x1024x5632, .bf16⟩
  | .local _ .vmem, ⟨24, _⟩ => ⟨S1x1x2816x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S2x8192x1024 : Shape := ⟨3, ![2, 8192, 1024]⟩
abbrev S2x8192x384 : Shape := ⟨3, ![2, 8192, 384]⟩
abbrev S2x8192x256 : Shape := ⟨3, ![2, 8192, 256]⟩
abbrev S2x256 : Shape := ⟨2, ![2, 256]⟩
abbrev S2x10x1024 : Shape := ⟨3, ![2, 10, 1024]⟩
abbrev S2x1024x1024 : Shape := ⟨3, ![2, 1024, 1024]⟩
abbrev S2x256x2048 : Shape := ⟨3, ![2, 256, 2048]⟩
abbrev S2x2x1024x5632 : Shape := ⟨4, ![2, 2, 1024, 5632]⟩
abbrev S2x2x2816x1024 : Shape := ⟨4, ![2, 2, 2816, 1024]⟩
abbrev S1x10x1024 : Shape := ⟨3, ![1, 10, 1024]⟩
abbrev S10x1024 : Shape := ⟨2, ![10, 1024]⟩
abbrev S1x256 : Shape := ⟨2, ![1, 256]⟩
abbrev S256 : Shape := ⟨1, ![256]⟩
abbrev S1x1x256 : Shape := ⟨3, ![1, 1, 256]⟩
abbrev S1x1024 : Shape := ⟨2, ![1, 1024]⟩
abbrev S1024 : Shape := ⟨1, ![1024]⟩
abbrev S384 : Shape := ⟨1, ![384]⟩
abbrev S_ : Shape := ⟨0, ![]⟩
abbrev S2x8192 : Shape := ⟨2, ![2, 8192]⟩
abbrev S2x8192x1 : Shape := ⟨3, ![2, 8192, 1]⟩
abbrev S1x1x384 : Shape := ⟨3, ![1, 1, 384]⟩
abbrev S1x1024x1024 : Shape := ⟨3, ![1, 1024, 1024]⟩
abbrev S1024x1024 : Shape := ⟨2, ![1024, 1024]⟩
abbrev S1x1x1024 : Shape := ⟨3, ![1, 1, 1024]⟩
abbrev S2x8192x4x256 : Shape := ⟨4, ![2, 8192, 4, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 229
  | .vmem => 0
  | .smem => 0
  | _ => 0

abbrev hbmTy0_0 (i : Nat) : BufTy := match i % 128 with
  | 0 => ⟨S2x8192x1024, .f32⟩
  | 1 => ⟨S2x8192x384, .f32⟩
  | 2 => ⟨S2x8192x256, .f32⟩
  | 3 => ⟨S2x8192x256, .f32⟩
  | 4 => ⟨S2x8192x256, .f32⟩
  | 5 => ⟨S2x8192x384, .f32⟩
  | 6 => ⟨S2x256, .f32⟩
  | 7 => ⟨S2x10x1024, .f32⟩
  | 8 => ⟨S2x1024x1024, .f32⟩
  | 9 => ⟨S2x1024x1024, .f32⟩
  | 10 => ⟨S2x256x2048, .bf16⟩
  | 11 => ⟨S2x1024x1024, .f32⟩
  | 12 => ⟨S2x2x1024x5632, .f32⟩
  | 13 => ⟨S2x2x2816x1024, .f32⟩
  | 14 => ⟨S1x10x1024, .f32⟩
  | 15 => ⟨S10x1024, .f32⟩
  | 16 => ⟨S1x256, .f32⟩
  | 17 => ⟨S256, .f32⟩
  | 18 => ⟨S1x1x256, .f32⟩
  | 19 => ⟨S2x8192x256, .f32⟩
  | 20 => ⟨S2x8192x256, .f32⟩
  | 21 => ⟨S2x8192x256, .f32⟩
  | 22 => ⟨S2x8192x256, .f32⟩
  | 23 => ⟨S1x1024, .f32⟩
  | 24 => ⟨S1024, .f32⟩
  | 25 => ⟨S384, .f32⟩
  | 26 => ⟨S2x8192x384, .f32⟩
  | 27 => ⟨S_, .f32⟩
  | 28 => ⟨S2x8192, .f32⟩
  | 29 => ⟨S2x8192x1, .f32⟩
  | 30 => ⟨S_, .f32⟩
  | 31 => ⟨S2x8192x1, .f32⟩
  | 32 => ⟨S2x8192x1, .f32⟩
  | 33 => ⟨S_, .f32⟩
  | 34 => ⟨S2x8192x1, .f32⟩
  | 35 => ⟨S2x8192x1, .f32⟩
  | 36 => ⟨S2x8192x1, .f32⟩
  | 37 => ⟨S2x8192x384, .f32⟩
  | 38 => ⟨S2x8192x384, .f32⟩
  | 39 => ⟨S1x1x384, .f32⟩
  | 40 => ⟨S2x8192x384, .f32⟩
  | 41 => ⟨S2x8192x384, .f32⟩
  | 42 => ⟨S256, .f32⟩
  | 43 => ⟨S2x8192x256, .f32⟩
  | 44 => ⟨S_, .f32⟩
  | 45 => ⟨S2x8192, .f32⟩
  | 46 => ⟨S2x8192x1, .f32⟩
  | 47 => ⟨S_, .f32⟩
  | 48 => ⟨S2x8192x1, .f32⟩
  | 49 => ⟨S2x8192x1, .f32⟩
  | 50 => ⟨S_, .f32⟩
  | 51 => ⟨S2x8192x1, .f32⟩
  | 52 => ⟨S2x8192x1, .f32⟩
  | 53 => ⟨S2x8192x1, .f32⟩
  | 54 => ⟨S2x8192x256, .f32⟩
  | 55 => ⟨S2x8192x256, .f32⟩
  | 56 => ⟨S1x1x256, .f32⟩
  | 57 => ⟨S2x8192x256, .f32⟩
  | 58 => ⟨S2x8192x256, .f32⟩
  | 59 => ⟨S384, .f32⟩
  | 60 => ⟨S2x8192x384, .f32⟩
  | 61 => ⟨S_, .f32⟩
  | 62 => ⟨S2x8192, .f32⟩
  | 63 => ⟨S2x8192x1, .f32⟩
  | 64 => ⟨S_, .f32⟩
  | 65 => ⟨S2x8192x1, .f32⟩
  | 66 => ⟨S2x8192x1, .f32⟩
  | 67 => ⟨S_, .f32⟩
  | 68 => ⟨S2x8192x1, .f32⟩
  | 69 => ⟨S2x8192x1, .f32⟩
  | 70 => ⟨S2x8192x1, .f32⟩
  | 71 => ⟨S2x8192x384, .f32⟩
  | 72 => ⟨S2x8192x384, .f32⟩
  | 73 => ⟨S1x1x384, .f32⟩
  | 74 => ⟨S2x8192x384, .f32⟩
  | 75 => ⟨S2x8192x384, .f32⟩
  | 76 => ⟨S2x8192x1024, .f32⟩
  | 77 => ⟨S1x1024x1024, .f32⟩
  | 78 => ⟨S1024x1024, .f32⟩
  | 79 => ⟨S2x8192x1024, .f32⟩
  | 80 => ⟨S1x1024, .f32⟩
  | 81 => ⟨S1024, .f32⟩
  | 82 => ⟨S2x8192x1024, .f32⟩
  | 83 => ⟨S_, .f32⟩
  | 84 => ⟨S2x8192, .f32⟩
  | 85 => ⟨S2x8192x1, .f32⟩
  | 86 => ⟨S_, .f32⟩
  | 87 => ⟨S2x8192x1, .f32⟩
  | 88 => ⟨S2x8192x1, .f32⟩
  | 89 => ⟨S_, .f32⟩
  | 90 => ⟨S2x8192x1, .f32⟩
  | 91 => ⟨S2x8192x1, .f32⟩
  | 92 => ⟨S2x8192x1, .f32⟩
  | 93 => ⟨S2x8192x1024, .f32⟩
  | 94 => ⟨S2x8192x1024, .f32⟩
  | 95 => ⟨S1x1x1024, .f32⟩
  | 96 => ⟨S2x8192x1024, .f32⟩
  | 97 => ⟨S2x8192x1024, .f32⟩
  | 98 => ⟨S2x8192x1024, .f32⟩
  | 99 => ⟨S1x1024, .f32⟩
  | 100 => ⟨S1024, .f32⟩
  | 101 => ⟨S2x8192x1024, .f32⟩
  | 102 => ⟨S_, .f32⟩
  | 103 => ⟨S2x8192, .f32⟩
  | 104 => ⟨S2x8192x1, .f32⟩
  | 105 => ⟨S_, .f32⟩
  | 106 => ⟨S2x8192x1, .f32⟩
  | 107 => ⟨S2x8192x1, .f32⟩
  | 108 => ⟨S_, .f32⟩
  | 109 => ⟨S2x8192x1, .f32⟩
  | 110 => ⟨S2x8192x1, .f32⟩
  | 111 => ⟨S2x8192x1, .f32⟩
  | 112 => ⟨S2x8192x1024, .f32⟩
  | 113 => ⟨S2x8192x1024, .f32⟩
  | 114 => ⟨S1x1x1024, .f32⟩
  | 115 => ⟨S2x8192x1024, .f32⟩
  | 116 => ⟨S2x8192x1024, .f32⟩
  | 117 => ⟨S1x1024x1024, .f32⟩
  | 118 => ⟨S1024x1024, .f32⟩
  | 119 => ⟨S2x8192x1024, .f32⟩
  | 120 => ⟨S2x8192x4x256, .f32⟩
  | 121 => ⟨S_, .f32⟩
  | 122 => ⟨S2x8192x4x256, .f32⟩
  | 123 => ⟨S2x8192x4x256, .f32⟩
  | 124 => ⟨S2x256x2048, .f32⟩
  | 125 => ⟨S2x256x2x4x256, .f32⟩
  | 126 => ⟨S2x256x1x4x256, .f32⟩
  | 127 => ⟨S2x256x4x256, .f32⟩
  | _ => ⟨S2x8192x1024, .f32⟩

abbrev hbmTy0_1 (i : Nat) : BufTy := match i % 128 with
  | 0 => ⟨S2x4x8192x256, .f32⟩
  | 1 => ⟨S_, .f32⟩
  | 2 => ⟨S2x4x8192, .f32⟩
  | 3 => ⟨S_, .f32⟩
  | 4 => ⟨S2x4x8192, .f32⟩
  | 5 => ⟨S2x4x8192, .f32⟩
  | 6 => ⟨S2x4x8192x1, .f32⟩
  | 7 => ⟨S2x4x8192x256, .f32⟩
  | 8 => ⟨S2x4x8192x256, .f32⟩
  | 9 => ⟨S2x4x8192x256, .f32⟩
  | 10 => ⟨S_, .f32⟩
  | 11 => ⟨S2x4x8192, .f32⟩
  | 12 => ⟨S2x4x8192x1, .f32⟩
  | 13 => ⟨S2x4x8192x256, .f32⟩
  | 14 => ⟨S2x4x8192x256, .f32⟩
  | 15 => ⟨S2x256x1x4x256, .f32⟩
  | 16 => ⟨S2x256x4x256, .f32⟩
  | 17 => ⟨S2x4x256x8192, .f32⟩
  | 18 => ⟨S2x8192x4x256, .f32⟩
  | 19 => ⟨S2x8192x1024, .f32⟩
  | 20 => ⟨S1x1024x1024, .f32⟩
  | 21 => ⟨S1024x1024, .f32⟩
  | 22 => ⟨S2x8192x1024, .f32⟩
  | 23 => ⟨S1x1024, .f32⟩
  | 24 => ⟨S1024, .f32⟩
  | 25 => ⟨S2x8192x1024, .f32⟩
  | 26 => ⟨S_, .f32⟩
  | 27 => ⟨S2x8192, .f32⟩
  | 28 => ⟨S2x8192x1, .f32⟩
  | 29 => ⟨S_, .f32⟩
  | 30 => ⟨S2x8192x1, .f32⟩
  | 31 => ⟨S2x8192x1, .f32⟩
  | 32 => ⟨S_, .f32⟩
  | 33 => ⟨S2x8192x1, .f32⟩
  | 34 => ⟨S2x8192x1, .f32⟩
  | 35 => ⟨S2x8192x1, .f32⟩
  | 36 => ⟨S2x8192x1024, .f32⟩
  | 37 => ⟨S2x8192x1024, .f32⟩
  | 38 => ⟨S1x1x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S2x8192x1024, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S_, .f32⟩
  | 52 => ⟨S2x8192x1, .f32⟩
  | 53 => ⟨S2x8192x1, .f32⟩
  | 54 => ⟨S2x8192x1, .f32⟩
  | 55 => ⟨S2x8192x1024, .f32⟩
  | 56 => ⟨S2x8192x1024, .f32⟩
  | 57 => ⟨S1x1x1024, .f32⟩
  | 58 => ⟨S2x8192x1024, .f32⟩
  | 59 => ⟨S2x8192x1024, .f32⟩
  | 60 => ⟨S1x1x1024x5632, .f32⟩
  | 61 => ⟨S1024x5632, .f32⟩
  | 62 => ⟨S1x1x2816x1024, .f32⟩
  | 63 => ⟨S2816x1024, .f32⟩
  | 64 => ⟨S2x8192x5632, .f32⟩
  | 65 => ⟨S2x8192x2816, .f32⟩
  | 66 => ⟨S2x8192x2816, .f32⟩
  | 67 => ⟨S2x8192x2816, .f32⟩
  | 68 => ⟨S2x8192x2816, .f32⟩
  | 69 => ⟨S_, .f32⟩
  | 70 => ⟨S2x8192x2816, .f32⟩
  | 71 => ⟨S2x8192x2816, .f32⟩
  | 72 => ⟨S_, .f32⟩
  | 73 => ⟨S2x8192x2816, .f32⟩
  | 74 => ⟨S2x8192x2816, .f32⟩
  | 75 => ⟨S2x8192x2816, .f32⟩
  | 76 => ⟨S2x8192x2816, .f32⟩
  | 77 => ⟨S2x8192x1024, .f32⟩
  | 78 => ⟨S1x1024, .f32⟩
  | 79 => ⟨S1024, .f32⟩
  | 80 => ⟨S2x8192x1024, .f32⟩
  | 81 => ⟨S_, .f32⟩
  | 82 => ⟨S2x8192, .f32⟩
  | 83 => ⟨S2x8192x1, .f32⟩
  | 84 => ⟨S_, .f32⟩
  | 85 => ⟨S2x8192x1, .f32⟩
  | 86 => ⟨S2x8192x1, .f32⟩
  | 87 => ⟨S_, .f32⟩
  | 88 => ⟨S2x8192x1, .f32⟩
  | 89 => ⟨S2x8192x1, .f32⟩
  | 90 => ⟨S2x8192x1, .f32⟩
  | 91 => ⟨S2x8192x1024, .f32⟩
  | 92 => ⟨S2x8192x1024, .f32⟩
  | 93 => ⟨S1x1x1024, .f32⟩
  | 94 => ⟨S2x8192x1024, .f32⟩
  | 95 => ⟨S2x8192x1024, .f32⟩
  | 96 => ⟨S_, .f32⟩
  | 97 => ⟨S2x8192x1024, .f32⟩
  | 98 => ⟨S2x8192x1024, .f32⟩
  | 99 => ⟨S2x8192x1024, .f32⟩
  | 100 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_cst_12 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_15 : Ref sig .tc := ⟨.hbm, 129, rfl⟩
abbrev main_v99 : Ref sig .tc := ⟨.hbm, 130, rfl⟩
abbrev main_cst_16 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_17 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_18 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_v123 : Ref sig .tc := ⟨.hbm, 158, rfl⟩
abbrev main_v124 : Ref sig .tc := ⟨.hbm, 159, rfl⟩
abbrev main_cst_20 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_21 : Ref sig .tc := ⟨.hbm, 173, rfl⟩
abbrev main_v137 : Ref sig .tc := ⟨.hbm, 174, rfl⟩
abbrev main_v138 : Ref sig .tc := ⟨.hbm, 175, rfl⟩
abbrev main_cst_22 : Ref sig .tc := ⟨.hbm, 176, rfl⟩
abbrev main_v139 : Ref sig .tc := ⟨.hbm, 177, rfl⟩
abbrev main_v140 : Ref sig .tc := ⟨.hbm, 178, rfl⟩
abbrev main_cst_23 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_call0_v0 : Ref sig .tc := ⟨.hbm, 195, rfl⟩
abbrev main_call0_v1 : Ref sig .tc := ⟨.hbm, 196, rfl⟩
abbrev main_call0_cst : Ref sig .tc := ⟨.hbm, 197, rfl⟩
abbrev main_call0_v2 : Ref sig .tc := ⟨.hbm, 198, rfl⟩
abbrev main_call0_v3 : Ref sig .tc := ⟨.hbm, 199, rfl⟩
abbrev main_call0_cst_0 : Ref sig .tc := ⟨.hbm, 200, rfl⟩
abbrev main_call0_v4 : Ref sig .tc := ⟨.hbm, 201, rfl⟩
abbrev main_call0_v5 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_24 : Ref sig .tc := ⟨.hbm, 209, rfl⟩
abbrev main_v162 : Ref sig .tc := ⟨.hbm, 210, rfl⟩
abbrev main_v163 : Ref sig .tc := ⟨.hbm, 211, rfl⟩
abbrev main_cst_25 : Ref sig .tc := ⟨.hbm, 212, rfl⟩
abbrev main_v164 : Ref sig .tc := ⟨.hbm, 213, rfl⟩
abbrev main_v165 : Ref sig .tc := ⟨.hbm, 214, rfl⟩
abbrev main_cst_26 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_27 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩

abbrev nD : Nat := 1
abbrev τ : Topo := Topo.v7x

variable {F : FTy → Type} [FloatOps F]
-- ==== Kernel7.lean ====
abbrev S2x256x1024 : Shape := ⟨3, ![2, 256, 1024]⟩
abbrev S2x10x1024 : Shape := ⟨3, ![2, 10, 1024]⟩
abbrev S2x1024x2048 : Shape := ⟨3, ![2, 1024, 2048]⟩
abbrev S1x10x1024 : Shape := ⟨3, ![1, 10, 1024]⟩
abbrev S10x1024 : Shape := ⟨2, ![10, 1024]⟩
abbrev S10x1x1024 : Shape := ⟨3, ![10, 1, 1024]⟩
abbrev S512x1024 : Shape := ⟨2, ![512, 1024]⟩
abbrev S1x1x1024 : Shape := ⟨3, ![1, 1, 1024]⟩
abbrev S1x1024 : Shape := ⟨2, ![1, 1024]⟩
abbrev S512x2048 : Shape := ⟨2, ![512, 2048]⟩
abbrev S256x1024 : Shape := ⟨2, ![256, 1024]⟩
abbrev S1x1024x2048 : Shape := ⟨3, ![1, 1024, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S2x10x1024, .f32⟩
  | .hbm, ⟨2, _⟩ => ⟨S2x1024x2048, .f32⟩
  | .hbm, ⟨3, _⟩ => ⟨S1x10x1024, .f32⟩
  | .hbm, ⟨4, _⟩ => ⟨S10x1024, .f32⟩
  | .hbm, ⟨5, _⟩ => ⟨S10x1x1024, .f32⟩
  | .hbm, ⟨6, _⟩ => ⟨S512x1024, .f32⟩
  | .hbm, ⟨7, _⟩ => ⟨S1x1x1024, .f32⟩
  | .hbm, ⟨8, _⟩ => ⟨S1x1024, .f32⟩
  | .hbm, ⟨9, _⟩ => ⟨S2x1024x2048, .bf16⟩
  | .hbm, ⟨10, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x2048, .bf16⟩
  | .local _ .vmem, ⟨4, _⟩ => ⟨S256x2048, .bf16⟩
  | .local _ .vmem, ⟨5, _⟩ => ⟨S256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x256x1024 : Shape := ⟨3, ![2, 256, 1024]⟩
abbrev S2x10x1024 : Shape := ⟨3, ![2, 10, 1024]⟩
abbrev S2x1024x2048 : Shape := ⟨3, ![2, 1024, 2048]⟩
abbrev S1x10x1024 : Shape := ⟨3, ![1, 10, 1024]⟩
abbrev S10x1024 : Shape := ⟨2, ![10, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x10x1024, .f32⟩
  | .hbm, ⟨2, _⟩ => ⟨S2x1024x2048, .f32⟩
  | .hbm, ⟨3, _⟩ => ⟨S1x10x1024, .f32⟩
  | .hbm, ⟨4, _⟩ => ⟨S10x1024, .f32⟩
  | .hbm, ⟨5, _⟩ => ⟨S1x1024, .f32⟩
  | .hbm, ⟨6, _⟩ => ⟨S1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S1x1024x2048, .f32⟩
  | .hbm, ⟨24, _⟩ => ⟨S1024x2048, .f32⟩
  | .hbm, ⟨25, _⟩ => ⟨S2x256x2048, .f32⟩
  | .hbm, ⟨26, _⟩ => ⟨S2x256x2048, .bf16⟩
  | .hbm, ⟨27, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel8.lean ====
abbrev S2x8192x768 : Shape := ⟨3, ![2, 8192, 768]⟩
abbrev S2x3x768 : Shape := ⟨3, ![2, 3, 768]⟩
abbrev S2x768 : Shape := ⟨2, ![2, 768]⟩
abbrev S1x3x768 : Shape := ⟨3, ![1, 3, 768]⟩
abbrev S3x768 : Shape := ⟨2, ![3, 768]⟩
abbrev S1x768 : Shape := ⟨2, ![1, 768]⟩
abbrev S768 : Shape := ⟨1, ![768]⟩
abbrev S2x8192x256 : Shape := ⟨3, ![2, 8192, 256]⟩
abbrev S1x1024x768 : Shape := ⟨3, ![1, 1024, 768]⟩
abbrev S1x8x768 : Shape := ⟨3, ![1, 8, 768]⟩
abbrev S1x1024x256 : Shape := ⟨3, ![1, 1024, 256]⟩
abbrev S1024x768 : Shape := ⟨2, ![1024, 768]⟩
abbrev S1x1x768 : Shape := ⟨3, ![1, 1, 768]⟩
abbrev S1024x1 : Shape := ⟨2, ![1024, 1]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x768, .f32⟩
  | .hbm, ⟨1, _⟩ => ⟨S2x3x768, .f32⟩
  | .hbm, ⟨2, _⟩ => ⟨S2x768, .f32⟩
  | .hbm, ⟨3, _⟩ => ⟨S1x3x768, .f32⟩
  | .hbm, ⟨4, _⟩ => ⟨S3x768, .f32⟩
  | .hbm, ⟨5, _⟩ => ⟨S1x768, .f32⟩
  | .hbm, ⟨6, _⟩ => ⟨S768, .f32⟩
  | .hbm, ⟨7, _⟩ => ⟨S1x768, .f32⟩
  | .hbm, ⟨8, _⟩ => ⟨S2x8192x256, .f32⟩
  | .hbm, ⟨9, _⟩ => ⟨S2x8192x256, .f32⟩
  | .local _ .vmem, ⟨0, _⟩ => ⟨S1x1024x768, .f32⟩
  | .local _ .vmem, ⟨1, _⟩ => ⟨S1x1024x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x768, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S2x8192x768 : Shape := ⟨3, ![2, 8192, 768]⟩
abbrev S2x3x768 : Shape := ⟨3, ![2, 3, 768]⟩
abbrev S2x768 : Shape := ⟨2, ![2, 768]⟩
abbrev S1x3x768 : Shape := ⟨3, ![1, 3, 768]⟩
abbrev S3x768 : Shape := ⟨2, ![3, 768]⟩
abbrev S1x768 : Shape := ⟨2, ![1, 768]⟩
abbrev S768 : Shape := ⟨1, ![768]⟩
abbrev S_ : Shape := ⟨0, ![]⟩
abbrev S2x8194x768 : Shape := ⟨3, ![2, 8194, 768]⟩
abbrev S1x1x768 : Shape := ⟨3, ![1, 1, 768]⟩
abbrev S2x8192x256 : Shape := ⟨3, ![2, 8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S2x3x768, .f32⟩
  | .hbm, ⟨2, _⟩ => ⟨S2x768, .f32⟩
  | .hbm, ⟨3, _⟩ => ⟨S1x3x768, .f32⟩
  | .hbm, ⟨4, _⟩ => ⟨S3x768, .f32⟩
  | .hbm, ⟨5, _⟩ => ⟨S1x768, .f32⟩
  | .hbm, ⟨6, _⟩ => ⟨S768, .f32⟩
  | .hbm, ⟨7, _⟩ => ⟨S_, .i32⟩
  | .hbm, ⟨8, _⟩ => ⟨S_, .f32⟩
  | .hbm, ⟨9, _⟩ => ⟨S2x8194x768, .f32⟩
  | .hbm, ⟨10, _⟩ => ⟨S2x8192x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S2x8192x768, .f32⟩
  | .hbm, ⟨15, _⟩ => ⟨S2x8192x768, .f32⟩
  | .hbm, ⟨16, _⟩ => ⟨S2x8192x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S2x8192x768, .f32⟩
  | .hbm, ⟨21, _⟩ => ⟨S2x8192x768, .f32⟩
  | .hbm, ⟨22, _⟩ => ⟨S2x8192x768, .f32⟩
  | .hbm, ⟨23, _⟩ => ⟨S2x8192x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S2x8192x768, .f32⟩
  | .hbm, ⟨28, _⟩ => ⟨S2x8192x768, .f32⟩
  | .hbm, ⟨29, _⟩ => ⟨S2x8192x768, .f32⟩
  | .hbm, ⟨30, _⟩ => ⟨S1x1x768, .f32⟩
  | .hbm, ⟨31, _⟩ => ⟨S2x8192x768, .f32⟩
  | .hbm, ⟨32, _⟩ => ⟨S2x8192x768, .f32⟩
  | .hbm, ⟨33, _⟩ => ⟨S2x8192x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel9.lean ====
abbrev S2x33x64 : Shape := ⟨3, ![2, 33, 64]⟩
abbrev S2x64 : Shape := ⟨2, ![2, 64]⟩
abbrev S2x64x64 : Shape := ⟨3, ![2, 64, 64]⟩
abbrev S2x64x512 : Shape := ⟨3, ![2, 64, 512]⟩
abbrev S2x512 : Shape := ⟨2, ![2, 512]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x128 : Shape := ⟨2, ![8192, 128]⟩
abbrev S4096x128 : Shape := ⟨2, ![4096, 128]⟩
abbrev S4096x256 : Shape := ⟨2, ![4096, 256]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S512 : Shape := ⟨1, ![512]⟩
abbrev S128x64 : Shape := ⟨2, ![128, 64]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S64x128 : Shape := ⟨2, ![64, 128]⟩
abbrev S64x1024 : Shape := ⟨2, ![64, 1024]⟩
abbrev S128x1024 : Shape := ⟨2, ![128, 1024]⟩
abbrev S2x4096x512 : Shape := ⟨3, ![2, 4096, 512]⟩
abbrev S1024x256 : Shape := ⟨2, ![1024, 256]⟩
abbrev S2x1024x512 : Shape := ⟨3, ![2, 1024, 512]⟩
abbrev S1024x128 : Shape := ⟨2, ![1024, 128]⟩
abbrev S1024x1024 : Shape := ⟨2, ![1024, 1024]⟩
abbrev S1024x512 : Shape := ⟨2, ![1024, 512]⟩
abbrev S1024x1 : Shape := ⟨2, ![1024, 1]⟩
abbrev S1x1024x512 : Shape := ⟨3, ![1, 1024, 512]⟩

abbrev nBuf : Space → Nat
  | .hbm => 127
  | .vmem => 13
  | .smem => 0
  | _ => 0

abbrev bufTy : (tb : Table) → Fin (tcTables nBuf tb) → BufTy
  | .hbm, ⟨0, _⟩ => ⟨S2x33x64, .f32⟩
  | .hbm, ⟨1, _⟩ => ⟨S2x64, .f32⟩
  | .hbm, ⟨2, _⟩ => ⟨S2x64x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S2x64x512, .f32⟩
  | .hbm, ⟨7, _⟩ => ⟨S2x64, .f32⟩
  | .hbm, ⟨8, _⟩ => ⟨S2x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8191, .f32⟩
  | .hbm, ⟨17, _⟩ => ⟨S_, .f32⟩
  | .hbm, ⟨18, _⟩ => ⟨S8191, .f32⟩
  | .hbm, ⟨19, _⟩ => ⟨S8191, .f32⟩
  | .hbm, ⟨20, _⟩ => ⟨S1, .f32⟩
  | .hbm, ⟨21, _⟩ => ⟨S_, .f32⟩
  | .hbm, ⟨22, _⟩ => ⟨S8191, .f32⟩
  | .hbm, ⟨23, _⟩ => ⟨S8191, .f32⟩
  | .hbm, ⟨24, _⟩ => ⟨S8191, .f32⟩
  | .hbm, ⟨25, _⟩ => ⟨S8191, .f32⟩
  | .hbm, ⟨26, _⟩ => ⟨S1, .f32⟩
  | .hbm, ⟨27, _⟩ => ⟨S8191, .f32⟩
  | .hbm, ⟨28, _⟩ => ⟨S8191, .f32⟩
  | .hbm, ⟨29, _⟩ => ⟨S8191, .f32⟩
  | .hbm, ⟨30, _⟩ => ⟨S1, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S1, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S16, .f32⟩
  | .hbm, ⟨56, _⟩ => ⟨S1x16, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x33, .f32⟩
  | .hbm, ⟨69, _⟩ => ⟨S_, .i32⟩
  | .hbm, ⟨70, _⟩ => ⟨S_, .f32⟩
  | .hbm, ⟨71, _⟩ => ⟨S8192x128, .f32⟩
  | .hbm, ⟨72, _⟩ => ⟨S4096x128, .f32⟩
  | .hbm, ⟨73, _⟩ => ⟨S4096x128, .f32⟩
  | .hbm, ⟨74, _⟩ => ⟨S4096x256, .f32⟩
  | .hbm, ⟨75, _⟩ => ⟨S1x33x64, .f32⟩
  | .hbm, ⟨76, _⟩ => ⟨S33x64, .f32⟩
  | .hbm, ⟨77, _⟩ => ⟨S1x64, .f32⟩
  | .hbm, ⟨78, _⟩ => ⟨S64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S1x64x64, .f32⟩
  | .hbm, ⟨84, _⟩ => ⟨S64x64, .f32⟩
  | .hbm, ⟨85, _⟩ => ⟨S1x64, .f32⟩
  | .hbm, ⟨86, _⟩ => ⟨S64, .f32⟩
  | .hbm, ⟨87, _⟩ => ⟨S1x64x512, .f32⟩
  | .hbm, ⟨88, _⟩ => ⟨S64x512, .f32⟩
  | .hbm, ⟨89, _⟩ => ⟨S1x64, .f32⟩
  | .hbm, ⟨90, _⟩ => ⟨S64, .f32⟩
  | .hbm, ⟨91, _⟩ => ⟨S1x512, .f32⟩
  | .hbm, ⟨92, _⟩ => ⟨S512, .f32⟩
  | .hbm, ⟨93, _⟩ => ⟨S_, .i32⟩
  | .hbm, ⟨94, _⟩ => ⟨S_, .f32⟩
  | .hbm, ⟨95, _⟩ => ⟨S128x64, .f32⟩
  | .hbm, ⟨96, _⟩ => ⟨S_, .f32⟩
  | .hbm, ⟨97, _⟩ => ⟨S128x64, .f32⟩
  | .hbm, ⟨98, _⟩ => ⟨S128x128, .f32⟩
  | .hbm, ⟨99, _⟩ => ⟨S128x128, .f32⟩
  | .hbm, ⟨100, _⟩ => ⟨S256x128, .f32⟩
  | .hbm, ⟨101, _⟩ => ⟨S128, .f32⟩
  | .hbm, ⟨102, _⟩ => ⟨S1x128, .f32⟩
  | .hbm, ⟨103, _⟩ => ⟨S_, .f32⟩
  | .hbm, ⟨104, _⟩ => ⟨S64x64, .f32⟩
  | .hbm, ⟨105, _⟩ => ⟨S64x128, .f32⟩
  | .hbm, ⟨106, _⟩ => ⟨S64x128, .f32⟩
  | .hbm, ⟨107, _⟩ => ⟨S128x128, .f32⟩
  | .hbm, ⟨108, _⟩ => ⟨S128, .f32⟩
  | .hbm, ⟨109, _⟩ => ⟨S1x128, .f32⟩
  | .hbm, ⟨110, _⟩ => ⟨S_, .f32⟩
  | .hbm, ⟨111, _⟩ => ⟨S64x64, .f32⟩
  | .hbm, ⟨112, _⟩ => ⟨S64x128, .f32⟩
  | .hbm, ⟨113, _⟩ => ⟨S64x128, .f32⟩
  | .hbm, ⟨114, _⟩ => ⟨S128x128, .f32⟩
  | .hbm, ⟨115, _⟩ => ⟨S128, .f32⟩
  | .hbm, ⟨116, _⟩ => ⟨S1x128, .f32⟩
  | .hbm, ⟨117, _⟩ => ⟨S_, .f32⟩
  | .hbm, ⟨118, _⟩ => ⟨S64x512, .f32⟩
  | .hbm, ⟨119, _⟩ => ⟨S64x1024, .f32⟩
  | .hbm, ⟨120, _⟩ => ⟨S64x1024, .f32⟩
  | .hbm, ⟨121, _⟩ => ⟨S128x1024, .f32⟩
  | .hbm, ⟨122, _⟩ => ⟨S128x1024, .bf16⟩
  | .hbm, ⟨123, _⟩ => ⟨S128, .f32⟩
  | .hbm, ⟨124, _⟩ => ⟨S1x128, .f32⟩
  | .hbm, ⟨125, _⟩ => ⟨S1x512, .f32⟩
  | .hbm, ⟨126, _⟩ => ⟨S2x4096x512, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1024, .bf16⟩
  | .local _ .vmem, ⟨9, _⟩ => ⟨S1x128, .f32⟩
  | .local _ .vmem, ⟨10, _⟩ => ⟨S1x512, .f32⟩
  | .local _ .vmem, ⟨11, _⟩ => ⟨S2x1024x512, .f32⟩
  | .local _ .vmem, ⟨12, _⟩ => ⟨S2x1024x512, .f32⟩
  | _, _ => ⟨S2x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev main_v1 : Ref sig .tc := ⟨.hbm, 32, rfl⟩
abbrev main_cst_1 : Ref sig .tc := ⟨.hbm, 33, rfl⟩
abbrev main_c : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst_2 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_c_3 : Ref sig .tc := ⟨.hbm, 69, rfl⟩
abbrev main_call2_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_4 : Ref sig .tc := ⟨.hbm, 93, rfl⟩
abbrev main_call3_v0 : Ref sig .tc := ⟨.hbm, 94, rfl⟩
abbrev main_v37 : Ref sig .tc := ⟨.hbm, 95, rfl⟩
abbrev main_cst_5 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_6 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_7 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_8 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S2x33x64 : Shape := ⟨3, ![2, 33, 64]⟩
abbrev S2x64 : Shape := ⟨2, ![2, 64]⟩
abbrev S2x64x64 : Shape := ⟨3, ![2, 64, 64]⟩
abbrev S2x64x512 : Shape := ⟨3, ![2, 64, 512]⟩
abbrev S2x512 : Shape := ⟨2, ![2, 512]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S512 : Shape := ⟨1, ![512]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S8192x512 : Shape := ⟨2, ![8192, 512]⟩
abbrev S8192x256 : Shape := ⟨2, ![8192, 256]⟩
abbrev S1x256 : Shape := ⟨2, ![1, 256]⟩
abbrev S8191x256 : Shape := ⟨2, ![8191, 256]⟩
abbrev S2x4096x512 : Shape := ⟨3, ![2, 4096, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x33x64, .f32⟩
  | .hbm, ⟨1, _⟩ => ⟨S2x64, .f32⟩
  | .hbm, ⟨2, _⟩ => ⟨S2x64x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S2x64x512, .f32⟩
  | .hbm, ⟨7, _⟩ => ⟨S2x64, .f32⟩
  | .hbm, ⟨8, _⟩ => ⟨S2x512, .f32⟩
  | .hbm, ⟨9, _⟩ => ⟨S1x33x64, .f32⟩
  | .hbm, ⟨10, _⟩ => ⟨S33x64, .f32⟩
  | .hbm, ⟨11, _⟩ => ⟨S1x64, .f32⟩
  | .hbm, ⟨12, _⟩ => ⟨S64, .f32⟩
  | .hbm, ⟨13, _⟩ => ⟨S1x64x64, .f32⟩
  | .hbm, ⟨14, _⟩ => ⟨S64x64, .f32⟩
  | .hbm, ⟨15, _⟩ => ⟨S1x64, .f32⟩
  | .hbm, ⟨16, _⟩ => ⟨S64, .f32⟩
  | .hbm, ⟨17, _⟩ => ⟨S1x64x64, .f32⟩
  | .hbm, ⟨18, _⟩ => ⟨S64x64, .f32⟩
  | .hbm, ⟨19, _⟩ => ⟨S1x64, .f32⟩
  | .hbm, ⟨20, _⟩ => ⟨S64, .f32⟩
  | .hbm, ⟨21, _⟩ => ⟨S1x64x512, .f32⟩
  | .hbm, ⟨22, _⟩ => ⟨S64x512, .f32⟩
  | .hbm, ⟨23, _⟩ => ⟨S1x64, .f32⟩
  | .hbm, ⟨24, _⟩ => ⟨S64, .f32⟩
  | .hbm, ⟨25, _⟩ => ⟨S1x512, .f32⟩
  | .hbm, ⟨26, _⟩ => ⟨S512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8191, .f32⟩
  | .hbm, ⟨35, _⟩ => ⟨S_, .f32⟩
  | .hbm, ⟨36, _⟩ => ⟨S8191, .f32⟩
  | .hbm, ⟨37, _⟩ => ⟨S8191, .f32⟩
  | .hbm, ⟨38, _⟩ => ⟨S1, .f32⟩
  | .hbm, ⟨39, _⟩ => ⟨S_, .f32⟩
  | .hbm, ⟨40, _⟩ => ⟨S8191, .f32⟩
  | .hbm, ⟨41, _⟩ => ⟨S8191, .f32⟩
  | .hbm, ⟨42, _⟩ => ⟨S8191, .f32⟩
  | .hbm, ⟨43, _⟩ => ⟨S8191, .f32⟩
  | .hbm, ⟨44, _⟩ => ⟨S1, .f32⟩
  | .hbm, ⟨45, _⟩ => ⟨S8191, .f32⟩
  | .hbm, ⟨46, _⟩ => ⟨S8191, .f32⟩
  | .hbm, ⟨47, _⟩ => ⟨S8191, .f32⟩
  | .hbm, ⟨48, _⟩ => ⟨S1, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S15, .f32⟩
  | .hbm, ⟨59, _⟩ => ⟨S_, .f32⟩
  | .hbm, ⟨60, _⟩ => ⟨S15, .f32⟩
  | .hbm, ⟨61, _⟩ => ⟨S15, .f32⟩
  | .hbm, ⟨62, _⟩ => ⟨S1, .f32⟩
  | .hbm, ⟨63, _⟩ => ⟨S_, .f32⟩
  | .hbm, ⟨64, _⟩ => ⟨S15, .f32⟩
  | .hbm, ⟨65, _⟩ => ⟨S15, .f32⟩
  | .hbm, ⟨66, _⟩ => ⟨S15, .f32⟩
  | .hbm, ⟨67, _⟩ => ⟨S15, .f32⟩
  | .hbm, ⟨68, _⟩ => ⟨S1, .f32⟩
  | .hbm, ⟨69, _⟩ => ⟨S15, .f32⟩
  | .hbm, ⟨70, _⟩ => ⟨S15, .f32⟩
  | .hbm, ⟨71, _⟩ => ⟨S15, .f32⟩
  | .hbm, ⟨72, _⟩ => ⟨S1, .f32⟩
  | .hbm, ⟨73, _⟩ => ⟨S16, .f32⟩
  | .hbm, ⟨74, _⟩ => ⟨S1x16, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x16, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x16, .f32⟩
  | .hbm, ⟨85, _⟩ => ⟨S8192x16, .f32⟩
  | .hbm, ⟨86, _⟩ => ⟨S8192x33, .f32⟩
  | .hbm, ⟨87, _⟩ => ⟨S8192x64, .f32⟩
  | .hbm, ⟨88, _⟩ => ⟨S1x64, .f32⟩
  | .hbm, ⟨89, _⟩ => ⟨S8192x64, .f32⟩
  | .hbm, ⟨90, _⟩ => ⟨S8192x64, .f32⟩
  | .hbm, ⟨91, _⟩ => ⟨S1x64, .f32⟩
  | .hbm, ⟨92, _⟩ => ⟨S8192x64, .f32⟩
  | .hbm, ⟨93, _⟩ => ⟨S8192x64, .f32⟩
  | .hbm, ⟨94, _⟩ => ⟨S8192x64, .f32⟩
  | .hbm, ⟨95, _⟩ => ⟨S8192x64, .f32⟩
  | .hbm, ⟨96, _⟩ => ⟨S1x64, .f32⟩
  | .hbm, ⟨97, _⟩ => ⟨S8192x64, .f32⟩
  | .hbm, ⟨98, _⟩ => ⟨S8192x64, .f32⟩
  | .hbm, ⟨99, _⟩ => ⟨S1x64, .f32⟩
  | .hbm, ⟨100, _⟩ => ⟨S8192x64, .f32⟩
  | .hbm, ⟨101, _⟩ => ⟨S8192x64, .f32⟩
  | .hbm, ⟨102, _⟩ => ⟨S8192x64, .f32⟩
  | .hbm, ⟨103, _⟩ => ⟨S8192x64, .f32⟩
  | .hbm, ⟨104, _⟩ => ⟨S1x64, .f32⟩
  | .hbm, ⟨105, _⟩ => ⟨S8192x64, .f32⟩
  | .hbm, ⟨106, _⟩ => ⟨S8192x64, .f32⟩
  | .hbm, ⟨107, _⟩ => ⟨S1x64, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S8192x512, .f32⟩
  | .hbm, ⟨112, _⟩ => ⟨S8192x1, .f32⟩
  | .hbm, ⟨113, _⟩ => ⟨S512, .f32⟩
  | .hbm, ⟨114, _⟩ => ⟨S1x512, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x256, .f32⟩
  | .hbm, ⟨121, _⟩ => ⟨S8192x256, .f32⟩
  | .hbm, ⟨122, _⟩ => ⟨S_, .f32⟩
  | .hbm, ⟨123, _⟩ => ⟨S1x256, .f32⟩
  | .hbm, ⟨124, _⟩ => ⟨S8191x256, .f32⟩
  | .hbm, ⟨125, _⟩ => ⟨S8192x256, .f32⟩
  | .hbm, ⟨126, _⟩ => ⟨S8192x512, .f32⟩
  | .hbm, ⟨127, _⟩ => ⟨S2x4096x512, .f32⟩
  | _, _ => ⟨S2x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_c : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_cst : Ref sig .tc := ⟨.hbm, 56, rfl⟩
abbrev main_call1_v3 : Ref sig .tc := ⟨.hbm, 57, rfl⟩
abbrev main_call1_v4 : Ref sig .tc := ⟨.hbm, 58, rfl⟩
abbrev main_call1_cst_0 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_v15 : Ref sig .tc := ⟨.hbm, 71, rfl⟩
abbrev main_call1_v16 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_2 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_3 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩

abbrev nD : Nat := 1
abbrev τ : Topo := Topo.v7x

variable {F : FTy → Type} [FloatOps F]
-- ==== Kernel10.lean ====
abbrev S2x33x64 : Shape := ⟨3, ![2, 33, 64]⟩
abbrev S2x64 : Shape := ⟨2, ![2, 64]⟩
abbrev S2x64x64 : Shape := ⟨3, ![2, 64, 64]⟩
abbrev S2x64x512 : Shape := ⟨3, ![2, 64, 512]⟩
abbrev S2x512 : Shape := ⟨2, ![2, 512]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x128 : Shape := ⟨2, ![8192, 128]⟩
abbrev S4096x128 : Shape := ⟨2, ![4096, 128]⟩
abbrev S4096x256 : Shape := ⟨2, ![4096, 256]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S512 : Shape := ⟨1, ![512]⟩
abbrev S128x64 : Shape := ⟨2, ![128, 64]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S64x128 : Shape := ⟨2, ![64, 128]⟩
abbrev S64x1024 : Shape := ⟨2, ![64, 1024]⟩
abbrev S128x1024 : Shape := ⟨2, ![128, 1024]⟩
abbrev S2x4096x512 : Shape := ⟨3, ![2, 4096, 512]⟩
abbrev S1024x256 : Shape := ⟨2, ![1024, 256]⟩
abbrev S2x1024x512 : Shape := ⟨3, ![2, 1024, 512]⟩
abbrev S1024x128 : Shape := ⟨2, ![1024, 128]⟩
abbrev S1024x1024 : Shape := ⟨2, ![1024, 1024]⟩
abbrev S1024x512 : Shape := ⟨2, ![1024, 512]⟩
abbrev S1024x1 : Shape := ⟨2, ![1024, 1]⟩
abbrev S1x1024x512 : Shape := ⟨3, ![1, 1024, 512]⟩

abbrev nBuf : Space → Nat
  | .hbm => 127
  | .vmem => 13
  | .smem => 0
  | _ => 0

abbrev bufTy : (tb : Table) → Fin (tcTables nBuf tb) → BufTy
  | .hbm, ⟨0, _⟩ => ⟨S2x33x64, .f32⟩
  | .hbm, ⟨1, _⟩ => ⟨S2x64, .f32⟩
  | .hbm, ⟨2, _⟩ => ⟨S2x64x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S2x64x512, .f32⟩
  | .hbm, ⟨7, _⟩ => ⟨S2x64, .f32⟩
  | .hbm, ⟨8, _⟩ => ⟨S2x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8191, .f32⟩
  | .hbm, ⟨17, _⟩ => ⟨S_, .f32⟩
  | .hbm, ⟨18, _⟩ => ⟨S8191, .f32⟩
  | .hbm, ⟨19, _⟩ => ⟨S8191, .f32⟩
  | .hbm, ⟨20, _⟩ => ⟨S1, .f32⟩
  | .hbm, ⟨21, _⟩ => ⟨S_, .f32⟩
  | .hbm, ⟨22, _⟩ => ⟨S8191, .f32⟩
  | .hbm, ⟨23, _⟩ => ⟨S8191, .f32⟩
  | .hbm, ⟨24, _⟩ => ⟨S8191, .f32⟩
  | .hbm, ⟨25, _⟩ => ⟨S8191, .f32⟩
  | .hbm, ⟨26, _⟩ => ⟨S1, .f32⟩
  | .hbm, ⟨27, _⟩ => ⟨S8191, .f32⟩
  | .hbm, ⟨28, _⟩ => ⟨S8191, .f32⟩
  | .hbm, ⟨29, _⟩ => ⟨S8191, .f32⟩
  | .hbm, ⟨30, _⟩ => ⟨S1, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S1, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S16, .f32⟩
  | .hbm, ⟨56, _⟩ => ⟨S1x16, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x33, .f32⟩
  | .hbm, ⟨69, _⟩ => ⟨S_, .i32⟩
  | .hbm, ⟨70, _⟩ => ⟨S_, .f32⟩
  | .hbm, ⟨71, _⟩ => ⟨S8192x128, .f32⟩
  | .hbm, ⟨72, _⟩ => ⟨S4096x128, .f32⟩
  | .hbm, ⟨73, _⟩ => ⟨S4096x128, .f32⟩
  | .hbm, ⟨74, _⟩ => ⟨S4096x256, .f32⟩
  | .hbm, ⟨75, _⟩ => ⟨S1x33x64, .f32⟩
  | .hbm, ⟨76, _⟩ => ⟨S33x64, .f32⟩
  | .hbm, ⟨77, _⟩ => ⟨S1x64, .f32⟩
  | .hbm, ⟨78, _⟩ => ⟨S64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S1x64x64, .f32⟩
  | .hbm, ⟨84, _⟩ => ⟨S64x64, .f32⟩
  | .hbm, ⟨85, _⟩ => ⟨S1x64, .f32⟩
  | .hbm, ⟨86, _⟩ => ⟨S64, .f32⟩
  | .hbm, ⟨87, _⟩ => ⟨S1x64x512, .f32⟩
  | .hbm, ⟨88, _⟩ => ⟨S64x512, .f32⟩
  | .hbm, ⟨89, _⟩ => ⟨S1x64, .f32⟩
  | .hbm, ⟨90, _⟩ => ⟨S64, .f32⟩
  | .hbm, ⟨91, _⟩ => ⟨S1x512, .f32⟩
  | .hbm, ⟨92, _⟩ => ⟨S512, .f32⟩
  | .hbm, ⟨93, _⟩ => ⟨S_, .i32⟩
  | .hbm, ⟨94, _⟩ => ⟨S_, .f32⟩
  | .hbm, ⟨95, _⟩ => ⟨S128x64, .f32⟩
  | .hbm, ⟨96, _⟩ => ⟨S_, .f32⟩
  | .hbm, ⟨97, _⟩ => ⟨S128x64, .f32⟩
  | .hbm, ⟨98, _⟩ => ⟨S128x128, .f32⟩
  | .hbm, ⟨99, _⟩ => ⟨S128x128, .f32⟩
  | .hbm, ⟨100, _⟩ => ⟨S256x128, .f32⟩
  | .hbm, ⟨101, _⟩ => ⟨S128, .f32⟩
  | .hbm, ⟨102, _⟩ => ⟨S1x128, .f32⟩
  | .hbm, ⟨103, _⟩ => ⟨S_, .f32⟩
  | .hbm, ⟨104, _⟩ => ⟨S64x64, .f32⟩
  | .hbm, ⟨105, _⟩ => ⟨S64x128, .f32⟩
  | .hbm, ⟨106, _⟩ => ⟨S64x128, .f32⟩
  | .hbm, ⟨107, _⟩ => ⟨S128x128, .f32⟩
  | .hbm, ⟨108, _⟩ => ⟨S128, .f32⟩
  | .hbm, ⟨109, _⟩ => ⟨S1x128, .f32⟩
  | .hbm, ⟨110, _⟩ => ⟨S_, .f32⟩
  | .hbm, ⟨111, _⟩ => ⟨S64x64, .f32⟩
  | .hbm, ⟨112, _⟩ => ⟨S64x128, .f32⟩
  | .hbm, ⟨113, _⟩ => ⟨S64x128, .f32⟩
  | .hbm, ⟨114, _⟩ => ⟨S128x128, .f32⟩
  | .hbm, ⟨115, _⟩ => ⟨S128, .f32⟩
  | .hbm, ⟨116, _⟩ => ⟨S1x128, .f32⟩
  | .hbm, ⟨117, _⟩ => ⟨S_, .f32⟩
  | .hbm, ⟨118, _⟩ => ⟨S64x512, .f32⟩
  | .hbm, ⟨119, _⟩ => ⟨S64x1024, .f32⟩
  | .hbm, ⟨120, _⟩ => ⟨S64x1024, .f32⟩
  | .hbm, ⟨121, _⟩ => ⟨S128x1024, .f32⟩
  | .hbm, ⟨122, _⟩ => ⟨S128x1024, .bf16⟩
  | .hbm, ⟨123, _⟩ => ⟨S128, .f32⟩
  | .hbm, ⟨124, _⟩ => ⟨S1x128, .f32⟩
  | .hbm, ⟨125, _⟩ => ⟨S1x512, .f32⟩
  | .hbm, ⟨126, _⟩ => ⟨S2x4096x512, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1024, .bf16⟩
  | .local _ .vmem, ⟨9, _⟩ => ⟨S1x128, .f32⟩
  | .local _ .vmem, ⟨10, _⟩ => ⟨S1x512, .f32⟩
  | .local _ .vmem, ⟨11, _⟩ => ⟨S2x1024x512, .f32⟩
  | .local _ .vmem, ⟨12, _⟩ => ⟨S2x1024x512, .f32⟩
  | _, _ => ⟨S2x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev main_v1 : Ref sig .tc := ⟨.hbm, 32, rfl⟩
abbrev main_cst_1 : Ref sig .tc := ⟨.hbm, 33, rfl⟩
abbrev main_c : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst_2 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_c_3 : Ref sig .tc := ⟨.hbm, 69, rfl⟩
abbrev main_call2_v0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_4 : Ref sig .tc := ⟨.hbm, 93, rfl⟩
abbrev main_call3_v0 : Ref sig .tc := ⟨.hbm, 94, rfl⟩
abbrev main_v37 : Ref sig .tc := ⟨.hbm, 95, rfl⟩
abbrev main_cst_5 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_6 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_7 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_8 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S2x33x64 : Shape := ⟨3, ![2, 33, 64]⟩
abbrev S2x64 : Shape := ⟨2, ![2, 64]⟩
abbrev S2x64x64 : Shape := ⟨3, ![2, 64, 64]⟩
abbrev S2x64x512 : Shape := ⟨3, ![2, 64, 512]⟩
abbrev S2x512 : Shape := ⟨2, ![2, 512]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S512 : Shape := ⟨1, ![512]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S8192x512 : Shape := ⟨2, ![8192, 512]⟩
abbrev S8192x256 : Shape := ⟨2, ![8192, 256]⟩
abbrev S1x256 : Shape := ⟨2, ![1, 256]⟩
abbrev S8191x256 : Shape := ⟨2, ![8191, 256]⟩
abbrev S2x4096x512 : Shape := ⟨3, ![2, 4096, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x33x64, .f32⟩
  | .hbm, ⟨1, _⟩ => ⟨S2x64, .f32⟩
  | .hbm, ⟨2, _⟩ => ⟨S2x64x64, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S2x64x512, .f32⟩
  | .hbm, ⟨7, _⟩ => ⟨S2x64, .f32⟩
  | .hbm, ⟨8, _⟩ => ⟨S2x512, .f32⟩
  | .hbm, ⟨9, _⟩ => ⟨S1x33x64, .f32⟩
  | .hbm, ⟨10, _⟩ => ⟨S33x64, .f32⟩
  | .hbm, ⟨11, _⟩ => ⟨S1x64, .f32⟩
  | .hbm, ⟨12, _⟩ => ⟨S64, .f32⟩
  | .hbm, ⟨13, _⟩ => ⟨S1x64x64, .f32⟩
  | .hbm, ⟨14, _⟩ => ⟨S64x64, .f32⟩
  | .hbm, ⟨15, _⟩ => ⟨S1x64, .f32⟩
  | .hbm, ⟨16, _⟩ => ⟨S64, .f32⟩
  | .hbm, ⟨17, _⟩ => ⟨S1x64x64, .f32⟩
  | .hbm, ⟨18, _⟩ => ⟨S64x64, .f32⟩
  | .hbm, ⟨19, _⟩ => ⟨S1x64, .f32⟩
  | .hbm, ⟨20, _⟩ => ⟨S64, .f32⟩
  | .hbm, ⟨21, _⟩ => ⟨S1x64x512, .f32⟩
  | .hbm, ⟨22, _⟩ => ⟨S64x512, .f32⟩
  | .hbm, ⟨23, _⟩ => ⟨S1x64, .f32⟩
  | .hbm, ⟨24, _⟩ => ⟨S64, .f32⟩
  | .hbm, ⟨25, _⟩ => ⟨S1x512, .f32⟩
  | .hbm, ⟨26, _⟩ => ⟨S512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8191, .f32⟩
  | .hbm, ⟨35, _⟩ => ⟨S_, .f32⟩
  | .hbm, ⟨36, _⟩ => ⟨S8191, .f32⟩
  | .hbm, ⟨37, _⟩ => ⟨S8191, .f32⟩
  | .hbm, ⟨38, _⟩ => ⟨S1, .f32⟩
  | .hbm, ⟨39, _⟩ => ⟨S_, .f32⟩
  | .hbm, ⟨40, _⟩ => ⟨S8191, .f32⟩
  | .hbm, ⟨41, _⟩ => ⟨S8191, .f32⟩
  | .hbm, ⟨42, _⟩ => ⟨S8191, .f32⟩
  | .hbm, ⟨43, _⟩ => ⟨S8191, .f32⟩
  | .hbm, ⟨44, _⟩ => ⟨S1, .f32⟩
  | .hbm, ⟨45, _⟩ => ⟨S8191, .f32⟩
  | .hbm, ⟨46, _⟩ => ⟨S8191, .f32⟩
  | .hbm, ⟨47, _⟩ => ⟨S8191, .f32⟩
  | .hbm, ⟨48, _⟩ => ⟨S1, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S15, .f32⟩
  | .hbm, ⟨59, _⟩ => ⟨S_, .f32⟩
  | .hbm, ⟨60, _⟩ => ⟨S15, .f32⟩
  | .hbm, ⟨61, _⟩ => ⟨S15, .f32⟩
  | .hbm, ⟨62, _⟩ => ⟨S1, .f32⟩
  | .hbm, ⟨63, _⟩ => ⟨S_, .f32⟩
  | .hbm, ⟨64, _⟩ => ⟨S15, .f32⟩
  | .hbm, ⟨65, _⟩ => ⟨S15, .f32⟩
  | .hbm, ⟨66, _⟩ => ⟨S15, .f32⟩
  | .hbm, ⟨67, _⟩ => ⟨S15, .f32⟩
  | .hbm, ⟨68, _⟩ => ⟨S1, .f32⟩
  | .hbm, ⟨69, _⟩ => ⟨S15, .f32⟩
  | .hbm, ⟨70, _⟩ => ⟨S15, .f32⟩
  | .hbm, ⟨71, _⟩ => ⟨S15, .f32⟩
  | .hbm, ⟨72, _⟩ => ⟨S1, .f32⟩
  | .hbm, ⟨73, _⟩ => ⟨S16, .f32⟩
  | .hbm, ⟨74, _⟩ => ⟨S1x16, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x16, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x16, .f32⟩
  | .hbm, ⟨85, _⟩ => ⟨S8192x16, .f32⟩
  | .hbm, ⟨86, _⟩ => ⟨S8192x33, .f32⟩
  | .hbm, ⟨87, _⟩ => ⟨S8192x64, .f32⟩
  | .hbm, ⟨88, _⟩ => ⟨S1x64, .f32⟩
  | .hbm, ⟨89, _⟩ => ⟨S8192x64, .f32⟩
  | .hbm, ⟨90, _⟩ => ⟨S8192x64, .f32⟩
  | .hbm, ⟨91, _⟩ => ⟨S1x64, .f32⟩
  | .hbm, ⟨92, _⟩ => ⟨S8192x64, .f32⟩
  | .hbm, ⟨93, _⟩ => ⟨S8192x64, .f32⟩
  | .hbm, ⟨94, _⟩ => ⟨S8192x64, .f32⟩
  | .hbm, ⟨95, _⟩ => ⟨S8192x64, .f32⟩
  | .hbm, ⟨96, _⟩ => ⟨S1x64, .f32⟩
  | .hbm, ⟨97, _⟩ => ⟨S8192x64, .f32⟩
  | .hbm, ⟨98, _⟩ => ⟨S8192x64, .f32⟩
  | .hbm, ⟨99, _⟩ => ⟨S1x64, .f32⟩
  | .hbm, ⟨100, _⟩ => ⟨S8192x64, .f32⟩
  | .hbm, ⟨101, _⟩ => ⟨S8192x64, .f32⟩
  | .hbm, ⟨102, _⟩ => ⟨S8192x64, .f32⟩
  | .hbm, ⟨103, _⟩ => ⟨S8192x64, .f32⟩
  | .hbm, ⟨104, _⟩ => ⟨S1x64, .f32⟩
  | .hbm, ⟨105, _⟩ => ⟨S8192x64, .f32⟩
  | .hbm, ⟨106, _⟩ => ⟨S8192x64, .f32⟩
  | .hbm, ⟨107, _⟩ => ⟨S1x64, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S8192x512, .f32⟩
  | .hbm, ⟨112, _⟩ => ⟨S8192x1, .f32⟩
  | .hbm, ⟨113, _⟩ => ⟨S512, .f32⟩
  | .hbm, ⟨114, _⟩ => ⟨S1x512, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x256, .f32⟩
  | .hbm, ⟨121, _⟩ => ⟨S8192x256, .f32⟩
  | .hbm, ⟨122, _⟩ => ⟨S_, .f32⟩
  | .hbm, ⟨123, _⟩ => ⟨S1x256, .f32⟩
  | .hbm, ⟨124, _⟩ => ⟨S8191x256, .f32⟩
  | .hbm, ⟨125, _⟩ => ⟨S8192x256, .f32⟩
  | .hbm, ⟨126, _⟩ => ⟨S8192x512, .f32⟩
  | .hbm, ⟨127, _⟩ => ⟨S2x4096x512, .f32⟩
  | _, _ => ⟨S2x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_c : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_cst : Ref sig .tc := ⟨.hbm, 56, rfl⟩
abbrev main_call1_v3 : Ref sig .tc := ⟨.hbm, 57, rfl⟩
abbrev main_call1_v4 : Ref sig .tc := ⟨.hbm, 58, rfl⟩
abbrev main_call1_cst_0 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_v15 : Ref sig .tc := ⟨.hbm, 71, rfl⟩
abbrev main_call1_v16 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_2 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_3 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩

abbrev nD : Nat := 1
abbrev τ : Topo := Topo.v7x

variable {F : FTy → Type} [FloatOps F]
-- ==== Proof.Rows.lean ====
/- One token's row through the layer's last block, over the extended reals: the formulas that the kernel's block and the
   reference's arrays are both read as. -/
module

public import Idealize.ShloMosaic.Lib.Pointwise
public import Idealize.ShloMosaic.Lib.IdealHost

@[expose] public section

set_option maxRecDepth 16384

noncomputable section

namespace Cert.Rows

open Idealize.ShloMosaic

/-- The factor of a root-mean-square norm: one over the root of the mean square (`d` is the length) plus the epsilon. -/
def rscale {n : ℕ} (d : EReal) (v : Fin n → EReal) : EReal :=
  Ideal.rsqrt (Ideal.div (∑ k, v k * v k) d + Ideal.ofBits .f32 0x358637BD#32)

/-- The root-mean-square norm of a row with the gain `g`. -/
def rms {n : ℕ} (d : EReal) (v g : Fin n → EReal) (k : Fin n) : EReal := v k * rscale d v * g k

/-- A row times a matrix. -/
def lin {n m : ℕ} (v : Fin n → EReal) (w : Fin n → Fin m → EReal) (c : Fin m) : EReal := ∑ k, v k * w k c

/-- The length 1024. -/
abbrev d1024 : EReal := Ideal.ofBits .f32 0x44800000#32
/-- The length 384. -/
abbrev d384 : EReal := Ideal.ofBits .f32 0x43C00000#32
/-- The length 256. -/
abbrev d256 : EReal := Ideal.ofBits .f32 0x43800000#32

/-- The gated branch of the feed-forward network at one hidden unit: silu of the gate, times the up projection. -/
def hid {n : ℕ} (h : Fin 1024 → EReal) (G U : Fin 1024 → Fin n → EReal) (k : Fin n) : EReal :=
  lin h G k * Ideal.logistic (lin h G k) * lin h U k

/-- The feed-forward network on `n` hidden units: the gated branch times the down projection. -/
def ffn {n : ℕ} (h : Fin 1024 → EReal) (G U : Fin 1024 → Fin n → EReal) (D : Fin n → Fin 1024 → EReal) (c : Fin 1024) : EReal :=
  ∑ k, hid h G U k * D k c

/-- The largest score of a row. -/
def top {n : ℕ} (s : Fin n → EReal) : EReal := (Finset.univ : Finset (Fin n)).fold max (Ideal.ofBits .f32 0xFF800000#32) s

/-- Attention with the scores `s` over the values `V`, the division after the sum. -/
def att {n m : ℕ} (s : Fin n → EReal) (V : Fin n → Fin m → EReal) (d : Fin m) : EReal :=
  Ideal.div (∑ k, Ideal.exp (s k - top s) * V k d) (∑ k, Ideal.exp (s k - top s))

/-- Three rows of 384, 256 and 384 numbers side by side. -/
def cat3 (f0 : Fin 384 → EReal) (f1 : Fin 256 → EReal) (f2 : Fin 384 → EReal) (k : Fin 1024) : EReal :=
  if h0 : (k : ℕ) < 384 then f0 ⟨k, h0⟩ else if h1 : (k : ℕ) - 384 < 256 then f1 ⟨k - 384, h1⟩
    else f2 ⟨k - 384 - 256, by omega⟩

end Cert.Rows

end
-- ==== Proof.Entry.lean ====
/- What each window's block holds at a grid point, in terms of the kernel's arguments. -/
module

public import proofs.«01_k».proof.Proof.Gen.KernelIdeal.Value
public import Idealize.ShloMosaic.Lib.Claim
public import Idealize.ShloMosaic.Lib.Pipeline.ValueKit
public import proofs.«01_k».proof.Proof.Rows

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![1, 0, 0]
    ∧ win0_9.index t = ![0, 0] ∧ win0_10.index t = ![0, 0] ∧ win0_11.index t = ![1, 0, 0] ∧ win0_12.index t = ![t.val / 16, 0, 0] ∧ win0_13.index t = ![1, 0, 0]
    ∧ win0_14.index t = ![0, 0] ∧ win0_15.index t = ![0, 0] ∧ win0_16.index t = ![1, 1, 0, 0] ∧ win0_17.index t = ![1, 1, 0, 0] ∧ win0_18.index t = ![0, 0]
    ∧ win0_19.index t = ![t.val, 0] ∧ t.val < 32 :=
  (by decide +kernel : ∀ t : Fin grid0.N, _)

theorem lt (t : Fin cfg0.N) : t.val < 32 := (idx t).2.2.2.2.2.2.2.2.2.2.2.2.2.2.2.2.2.2.2.2

/-- Window 0's block at a grid point. -/
abbrev B0 (t : Fin cfg0.N) : FVec Ideal S512x1024 .f32 := iblk m c 0 t

/-- Window 1's block at a grid point. -/
abbrev B1 (t : Fin cfg0.N) : FVec Ideal S512x384 .f32 := iblk m c 1 t

/-- Window 2's block at a grid point. -/
abbrev B2 (t : Fin cfg0.N) : FVec Ideal S512x256 .f32 := iblk m c 2 t

/-- Window 3's block at a grid point. -/
abbrev B3 (t : Fin cfg0.N) : FVec Ideal S512x256 .f32 := iblk m c 3 t

/-- Window 4's block at a grid point. -/
abbrev B4 (t : Fin cfg0.N) : FVec Ideal S512x256 .f32 := iblk m c 4 t

/-- Window 5's block at a grid point. -/
abbrev B5 (t : Fin cfg0.N) : FVec Ideal S512x384 .f32 := iblk m c 5 t

/-- Window 6's block at a grid point. -/
abbrev B6 (t : Fin cfg0.N) : FVec Ideal S1x256 .f32 := iblk m c 6 t

/-- Window 7's block at a grid point. -/
abbrev B7 (t : Fin cfg0.N) : FVec Ideal S1x1024 .f32 := iblk m c 7 t

/-- Window 8's block at a grid point. -/
abbrev B8 (t : Fin cfg0.N) : FVec Ideal S1x1024x1024 .bf16 := iblk m c 8 t

/-- Window 9's block at a grid point. -/
abbrev B9 (t : Fin cfg0.N) : FVec Ideal S1x1024 .f32 := iblk m c 9 t

/-- Window 10's block at a grid point. -/
abbrev B10 (t : Fin cfg0.N) : FVec Ideal S1x1024 .f32 := iblk m c 10 t

/-- Window 11's block at a grid point. -/
abbrev B11 (t : Fin cfg0.N) : FVec Ideal S1x1024x1024 .bf16 := iblk m c 11 t

/-- Window 12's block at a grid point. -/
abbrev B12 (t : Fin cfg0.N) : FVec Ideal S1x256x2048 .bf16 := iblk m c 12 t

/-- Window 13's block at a grid point. -/
abbrev B13 (t : Fin cfg0.N) : FVec Ideal S1x1024x1024 .bf16 := iblk m c 13 t

/-- Window 14's block at a grid point. -/
abbrev B14 (t : Fin cfg0.N) : FVec Ideal S1x1024 .f32 := iblk m c 14 t

/-- Window 15's block at a grid point. -/
abbrev B15 (t : Fin cfg0.N) : FVec Ideal S1x1024 .f32 := iblk m c 15 t

/-- Window 16's block at a grid point. -/
abbrev B16 (t : Fin cfg0.N) : FVec Ideal S1x1x1024x5632 .bf16 := iblk m c 16 t

/-- Window 17's block at a grid point. -/
abbrev B17 (t : Fin cfg0.N) : FVec Ideal S1x1x2816x1024 .bf16 := iblk m c 17 t

/-- Window 18's block at a grid point. -/
abbrev B18 (t : Fin cfg0.N) : FVec Ideal S1x1024 .f32 := iblk m c 18 t

/-- The kernel's argument 0. -/
abbrev K0 : FVec Ideal S2x8192x1024 .f32 := m ((c : Thread nD τ).loc main_arg0)

/-- The kernel's argument 1. -/
abbrev K1 : FVec Ideal S2x8192x384 .f32 := m ((c : Thread nD τ).loc main_arg1)

/-- The kernel's argument 2. -/
abbrev K2 : FVec Ideal S2x8192x256 .f32 := m ((c : Thread nD τ).loc main_arg2)

/-- The kernel's argument 3. -/
abbrev K3 : FVec Ideal S2x8192x256 .f32 := m ((c : Thread nD τ).loc main_arg3)

/-- The kernel's argument 4. -/
abbrev K4 : FVec Ideal S2x8192x256 .f32 := m ((c : Thread nD τ).loc main_arg4)

/-- The kernel's argument 5. -/
abbrev K5 : FVec Ideal S2x8192x384 .f32 := m ((c : Thread nD τ).loc main_arg5)

/-- The kernel's argument 6. -/
abbrev K6 : FVec Ideal S2x256 .f32 := m ((c : Thread nD τ).loc main_arg6)

/-- The kernel's argument 7. -/
abbrev K7 : FVec Ideal S2x10x1024 .f32 := m ((c : Thread nD τ).loc main_arg7)

/-- The kernel's argument 8. -/
abbrev K8 : FVec Ideal S2x1024x1024 .f32 := m ((c : Thread nD τ).loc main_arg8)

/-- The kernel's argument 9. -/
abbrev K9 : FVec Ideal S2x1024x1024 .f32 := m ((c : Thread nD τ).loc main_arg9)

/-- The kernel's argument 10. -/
abbrev K10 : FVec Ideal S2x256x2048 .bf16 := m ((c : Thread nD τ).loc main_arg10)

/-- The kernel's argument 11. -/
abbrev K11 : FVec Ideal S2x1024x1024 .f32 := m ((c : Thread nD τ).loc main_arg11)

/-- The kernel's argument 12. -/
abbrev K12 : FVec Ideal S2x2x1024x5632 .f32 := m ((c : Thread nD τ).loc main_arg12)

/-- The kernel's argument 13. -/
abbrev K13 : FVec Ideal S2x2x2816x1024 .f32 := m ((c : Thread nD τ).loc main_arg13)

end Cert.Entry

end
-- ==== Proof.EntryA.lean ====
/- What windows 0, 1, 2, 3 hold, read at an index of the kernel's arguments. -/
module

public import proofs.«01_k».proof.Proof.Entry

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem b0 (t : Fin cfg0.N) (r : Fin 512) (k : Fin 1024) : B0 m c t (ix2 r k) = K0 m c (ix3 ⟨(t * 512 + r) / 8192, by have := lt t; omega⟩ ⟨(t * 512 + r) % 8192, by omega⟩ k) := by
  blk_point [iblk, V, idx t]

theorem b1 (t : Fin cfg0.N) (r : Fin 512) (k : Fin 384) : B1 m c t (ix2 r k) = K1 m c (ix3 ⟨(t * 512 + r) / 8192, by have := lt t; omega⟩ ⟨(t * 512 + r) % 8192, by omega⟩ k) := by
  blk_point [iblk, V, idx t]

theorem b2 (t : Fin cfg0.N) (r : Fin 512) (k : Fin 256) : B2 m c t (ix2 r k) = K2 m c (ix3 ⟨(t * 512 + r) / 8192, by have := lt t; omega⟩ ⟨(t * 512 + r) % 8192, by omega⟩ k) := by
  blk_point [iblk, V, idx t]

theorem b3 (t : Fin cfg0.N) (r : Fin 512) (k : Fin 256) : B3 m c t (ix2 r k) = K3 m c (ix3 ⟨(t * 512 + r) / 8192, by have := lt t; omega⟩ ⟨(t * 512 + r) % 8192, by omega⟩ k) := by
  blk_point [iblk, V, idx t]

end Cert.Entry

end
-- ==== Proof.EntryB.lean ====
/- What windows 4, 5, 6, 12 hold, read at an index of the kernel's arguments. -/
module

public import proofs.«01_k».proof.Proof.Entry

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem b4 (t : Fin cfg0.N) (r : Fin 512) (k : Fin 256) : B4 m c t (ix2 r k) = K4 m c (ix3 ⟨(t * 512 + r) / 8192, by have := lt t; omega⟩ ⟨(t * 512 + r) % 8192, by omega⟩ k) := by
  blk_point [iblk, V, idx t]

theorem b5 (t : Fin cfg0.N) (r : Fin 512) (k : Fin 384) : B5 m c t (ix2 r k) = K5 m c (ix3 ⟨(t * 512 + r) / 8192, by have := lt t; omega⟩ ⟨(t * 512 + r) % 8192, by omega⟩ k) := by
  blk_point [iblk, V, idx t]

theorem b6 (t : Fin cfg0.N) (k : Fin 256) : B6 m c t (ix2 0 k) = K6 m c (ix2 1 k) := by
  blk_point [iblk, V, idx t]

theorem b12 (t : Fin cfg0.N) (r : Fin 512) (p : Fin 256) (k : Fin 2048) : B12 m c t (ix3 0 p k) = K10 m c (ix3 ⟨(t * 512 + r) / 8192, by have := lt t; omega⟩ p k) := by
  blk_point [iblk, V, idx t]

end Cert.Entry

end
-- ==== Proof.EntryC.lean ====
/- What windows 7, 9, 10, 14 hold, read at an index of the kernel's arguments. -/
module

public import proofs.«01_k».proof.Proof.Entry

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem b7 (t : Fin cfg0.N) (k : Fin 1024) : B7 m c t (ix2 0 k) = K7 m c (ix3 1 3 k) := by
  blk_point [iblk, V, idx t]

theorem b9 (t : Fin cfg0.N) (k : Fin 1024) : B9 m c t (ix2 0 k) = K7 m c (ix3 1 4 k) := by
  blk_point [iblk, V, idx t]

theorem b10 (t : Fin cfg0.N) (k : Fin 1024) : B10 m c t (ix2 0 k) = K7 m c (ix3 1 5 k) := by
  blk_point [iblk, V, idx t]

theorem b14 (t : Fin cfg0.N) (k : Fin 1024) : B14 m c t (ix2 0 k) = K7 m c (ix3 1 7 k) := by
  blk_point [iblk, V, idx t]

end Cert.Entry

end
-- ==== Proof.EntryD.lean ====
/- What windows 15, 18, 8, 11 hold, read at an index of the kernel's arguments. -/
module

public import proofs.«01_k».proof.Proof.Entry

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem b15 (t : Fin cfg0.N) (k : Fin 1024) : B15 m c t (ix2 0 k) = K7 m c (ix3 1 8 k) := by
  blk_point [iblk, V, idx t]

theorem b18 (t : Fin cfg0.N) (k : Fin 1024) : B18 m c t (ix2 0 k) = K7 m c (ix3 1 9 k) := by
  blk_point [iblk, V, idx t]

theorem b8 (t : Fin cfg0.N) (k c' : Fin 1024) : B8 m c t (ix3 0 k c') = K8 m c (ix3 1 k c') := by
  blk_point [iblk, V, idx t]

theorem b11 (t : Fin cfg0.N) (k c' : Fin 1024) : B11 m c t (ix3 0 k c') = K9 m c (ix3 1 k c') := by
  blk_point [iblk, V, idx t]

end Cert.Entry

end
-- ==== Proof.EntryE.lean ====
/- What windows 13, 16, 17 hold, read at an index of the kernel's arguments. -/
module

public import proofs.«01_k».proof.Proof.Entry

@[expose] public section

set_option maxRecDepth 16384

noncomputable section

namespace Cert.Entry

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem b13 (t : Fin cfg0.N) (k c' : Fin 1024) : B13 m c t (ix3 0 k c') = K11 m c (ix3 1 k c') := by
  blk_point [iblk, V, idx t]

theorem b16 (t : Fin cfg0.N) (k : Fin 1024) (n : Fin 5632) : B16 m c t (ix4 0 0 k n) = K12 m c (ix4 1 1 k n) := by
  blk_point [iblk, V, idx t]

theorem b17 (t : Fin cfg0.N) (k : Fin 2816) (n : Fin 1024) : B17 m c t (ix4 0 0 k n) = K13 m c (ix4 1 1 k n) := by
  blk_point [iblk, V, idx t]

end Cert.Entry

end
-- ==== Proof.Tok.lean ====
/- The layer's last block at one token, as one function of the token's rows and the weights, and the two ways in which the
   attention divides by the sum of its exponentials. -/
module

public import proofs.«01_k».proof.Proof.Rows

@[expose] public section

set_option maxRecDepth 16384

noncomputable section

namespace Cert.Rows

open Idealize.ShloMosaic

/-- What the block reads for one token: its rows (`yb` gated already), the gains, the weights, the memory's keys and values. -/
structure Par where
  x : Fin 1024 → EReal
  ya : Fin 384 → EReal
  yb : Fin 256 → EReal
  yc : Fin 384 → EReal
  gm : Fin 1024 → EReal
  g4 : Fin 1024 → EReal
  g5 : Fin 1024 → EReal
  g7 : Fin 1024 → EReal
  g8 : Fin 1024 → EReal
  g9 : Fin 1024 → EReal
  wm : Fin 1024 → Fin 1024 → EReal
  wq : Fin 1024 → Fin 1024 → EReal
  wo : Fin 1024 → Fin 1024 → EReal
  K : Fin 4 → Fin 256 → Fin 256 → EReal
  V : Fin 4 → Fin 256 → Fin 256 → EReal
  G : Fin 1024 → Fin 2816 → EReal
  U : Fin 1024 → Fin 2816 → EReal
  D : Fin 2816 → Fin 1024 → EReal

namespace Par

variable (p : Par)

/-- The three mixers' rows, each with its own norm, side by side. -/
def cat : Fin 1024 → EReal :=
  cat3 (rms d384 p.ya fun k => p.gm ⟨k, by omega⟩) (rms d256 p.yb fun k => p.gm ⟨384 + k, by omega⟩)
    (rms d384 p.yc fun k => p.gm ⟨640 + k, by omega⟩)

/-- The token after the mixers. -/
def x1 (c : Fin 1024) : EReal := p.x c + rms d1024 (lin p.cat p.wm) p.g4 c

/-- The queries, scaled. -/
def q (c : Fin 1024) : EReal := lin (rms d1024 p.x1 p.g5) p.wq c * Ideal.ofBits .f32 0x3D800000#32

/-- The score of head `h` at the memory's place `m`. -/
def sc (h : Fin 4) (m : Fin 256) : EReal := ∑ d : Fin 256, p.q ⟨h * 256 + d, by omega⟩ * p.K h m d

/-- The attention's output, divided after the sum over the memory. -/
def oK (k : Fin 1024) : EReal :=
  att (p.sc ⟨k / 256, by omega⟩) (p.V ⟨k / 256, by omega⟩) ⟨k % 256, by omega⟩

/-- The attention's output, every weight divided before the sum over the memory. -/
def oR (k : Fin 1024) : EReal :=
  ∑ m : Fin 256, p.V ⟨k / 256, by omega⟩ m ⟨k % 256, by omega⟩ *
    Ideal.div (Ideal.exp (p.sc ⟨k / 256, by omega⟩ m - max (Ideal.ofBits .f32 0xFF800000#32) (top (p.sc ⟨k / 256, by omega⟩))))
      (∑ m : Fin 256, Ideal.exp (p.sc ⟨k / 256, by omega⟩ m - max (Ideal.ofBits .f32 0xFF800000#32) (top (p.sc ⟨k / 256, by omega⟩))))

/-- The token after the attention, whose output is `o`. -/
def x2 (o : Fin 1024 → EReal) (c : Fin 1024) : EReal := p.x1 c + rms d1024 (lin o p.wo) p.g7 c

/-- The token after the feed-forward network. -/
def res (o : Fin 1024 → EReal) (c : Fin 1024) : EReal :=
  p.x2 o c + Ideal.ofBits .f32 0x3F000000#32 * rms d1024 (ffn (rms d1024 (p.x2 o) p.g8) p.G p.U p.D) p.g9 c

end Par

/-- A row of three parts times a matrix is the sum of the three parts' products. -/
theorem lin_cat3 {m : ℕ} (f0 : Fin 384 → EReal) (f1 : Fin 256 → EReal) (f2 : Fin 384 → EReal) (w : Fin 1024 → Fin m → EReal) (c : Fin m) :
    lin (cat3 f0 f1 f2) w c = lin f0 (fun k c => w ⟨k, by omega⟩ c) c + lin f1 (fun k c => w ⟨384 + k, by omega⟩ c) c
      + lin f2 (fun k c => w ⟨640 + k, by omega⟩ c) c := by
  unfold lin
  rw [show (∑ k : Fin 1024, cat3 f0 f1 f2 k * w k c) = ∑ k : Fin (384 + 256 + 384), cat3 f0 f1 f2 k * w k c from rfl,
    Fin.sum_univ_add, Fin.sum_univ_add]
  refine congrArg₂ (· + ·) (congrArg₂ (· + ·) ?_ ?_) ?_ <;> refine Finset.sum_congr rfl fun k _ => ?_
  · have : cat3 f0 f1 f2 (Fin.castAdd 384 (Fin.castAdd 256 k)) = f0 k := by
      unfold cat3; rw [dif_pos (by simp)]; rfl
    rw [this]; rfl
  · have : cat3 f0 f1 f2 (Fin.castAdd 384 (Fin.natAdd 384 k)) = f1 k := by
      unfold cat3; rw [dif_neg (by simp), dif_pos (by simp)]; congr 1; ext; simp
    rw [this]; rfl
  · have : cat3 f0 f1 f2 (Fin.natAdd (384 + 256) k) = f2 k := by
      unfold cat3; rw [dif_neg (by simp; omega), dif_neg (by simp; omega)]; congr 1; ext; simp; omega
    rw [this]; rfl

/-- The feed-forward network on eleven chunks of hidden units, added one after another. -/
theorem ffn_chunks (h : Fin 1024 → EReal) (G U : Fin 1024 → Fin 2816 → EReal) (D : Fin 2816 → Fin 1024 → EReal) (c : Fin 1024) :
    ffn h G U D c = ∑ j : Fin 11, ffn h (fun k (i : Fin 256) => G k ⟨j * 256 + i, by omega⟩) (fun k (i : Fin 256) => U k ⟨j * 256 + i, by omega⟩)
      (fun (i : Fin 256) c => D ⟨j * 256 + i, by omega⟩ c) c := by
  unfold ffn
  rw [Fin.sum_univ_tiles 11 256 rfl]
  rfl

end Cert.Rows

end
-- ==== Proof.PayMix.lean ====
/- The kernel's payloads of the group norms, the output projection and the attention's scores, read at a row and a column. -/
module

public import proofs.«01_k».proof.Proof.Rows
public import proofs.«01_k».proof.Proof.Gen.KernelIdeal.Skeleton

@[expose] public section

set_option maxRecDepth 16384

noncomputable section

namespace Cert.Pay

open Idealize.ShloMosaic Idealize.ShloMosaic.TcCoe Cert.KernelIdeal Cert.KernelIdeal.Gen Cert.Rows

theorem pay2_at (v0 : FVec Ideal S512x1024 .f32) (r : Fin 512) (c : Fin 1024) :
    k0_pay2 (F := Ideal) v0 (ix2 r c) = v0 (ix2 r c) := by
  pointwise [k0_pay2]

theorem pay3_at (v0 : FVec Ideal S512x384 .f32) (r : Fin 512) (c : Fin 384) :
    k0_pay3 (F := Ideal) v0 (ix2 r c) = v0 (ix2 r c) := by
  pointwise [k0_pay3]

theorem pay4_at (v4 v6 v8 : FVec Ideal S512x256 .f32) (v12 : FVec Ideal S1x256 .f32) (r : Fin 512) (c : Fin 256) :
    k0_pay4 (F := Ideal) v4 v6 v8 v12 (ix2 r c) = v8 (ix2 r c) * (v4 (ix2 r c) + v12 (ix2 0 c) * v6 (ix2 r c)) := by
  pointwise [k0_pay4]

theorem pay5_at (v2 : FVec Ideal S512x384 .f32) (v18 : FVec Ideal S1x384 .f32) (v33 : FVec Ideal S1x384x1024 .bf16)
    (r : Fin 512) (c : Fin 1024) :
    k0_pay5 (F := Ideal) v2 v18 v33 (ix2 r c) = lin (rms d384 (fun k => v2 (ix2 r k)) (fun k => v18 (ix2 0 k))) (fun k c => v33 (ix3 0 k c)) c := by
  unfold lin rms rscale
  pointwise [k0_pay5]

theorem pay6_at (v11 : FVec Ideal S512x384 .f32) (v17 : FVec Ideal S512x256 .f32) (v35 : FVec Ideal S512x1024 .f32)
    (v36 : FVec Ideal S1x256 .f32) (v51 : FVec Ideal S1x256x1024 .bf16) (v55 : FVec Ideal S1x384 .f32) (v70 : FVec Ideal S1x384x1024 .bf16)
    (r : Fin 512) (c : Fin 1024) :
    k0_pay6 (F := Ideal) v11 v17 v35 v36 v51 v55 v70 (ix2 r c) =
      v35 (ix2 r c) + lin (rms d256 (fun k => v17 (ix2 r k)) (fun k => v36 (ix2 0 k))) (fun k c => v51 (ix3 0 k c)) c
      + lin (rms d384 (fun k => v11 (ix2 r k)) (fun k => v55 (ix2 0 k))) (fun k c => v70 (ix3 0 k c)) c := by
  unfold lin rms rscale
  pointwise [k0_pay6]

theorem pay7_at (v0 : FVec Ideal S1x1024 .f32) (c : Fin 1024) :
    k0_pay7 (F := Ideal) v0 (ix2 0 c) = v0 (ix2 0 c) := by
  pointwise [k0_pay7]

theorem pay8_at (v1 v73 : FVec Ideal S512x1024 .f32) (v75 : FVec Ideal S1x1024 .f32) (r : Fin 512) (c : Fin 1024) :
    k0_pay8 (F := Ideal) v1 v73 v75 (ix2 r c) =
      v1 (ix2 r c) + rms d1024 (fun k => v73 (ix2 r k)) (fun k => v75 (ix2 0 k)) c := by
  unfold rms rscale
  pointwise [k0_pay8]

theorem pay9_at (v1 v73 : FVec Ideal S512x1024 .f32) (v75 v89 : FVec Ideal S1x1024 .f32) (v104 : FVec Ideal S1x1024x1024 .bf16)
    (r : Fin 512) (c : Fin 1024) :
    k0_pay9 (F := Ideal) v1 v73 v75 v89 v104 (ix2 r c) =
      lin (rms d1024 (fun k => k0_pay8 (F := Ideal) v1 v73 v75 (ix2 r k)) (fun k => v89 (ix2 0 k))) (fun k c => v104 (ix3 0 k c)) c
        * Ideal.ofBits .f32 0x3D800000#32 := by
  unfold lin rms rscale
  pointwise [k0_pay9]

theorem pay10_at (v0 : FVec Ideal S1x256x256 .bf16) (r c : Fin 256) :
    k0_pay10 (F := Ideal) v0 (ix2 r c) = v0 (ix3 0 r c) := by
  pointwise [k0_pay10]

theorem pay14_at (v0 : FVec Ideal S1x256x256 .bf16) (r c : Fin 256) :
    k0_pay14 (F := Ideal) v0 (ix2 r c) = v0 (ix3 0 r c) := by
  pointwise [k0_pay14]

theorem pay11_at (v1 v73 : FVec Ideal S512x1024 .f32) (v75 v89 : FVec Ideal S1x1024 .f32) (v104 : FVec Ideal S1x1024x1024 .bf16)
    (v111 : FVec Ideal S1x256x256 .bf16) (r : Fin 512) (m : Fin 256) :
    k0_pay11 (F := Ideal) v1 v73 v75 v89 v104 v111 (ix2 r m) =
      ∑ d : Fin 256, k0_pay9 (F := Ideal) v1 v73 v75 v89 v104 (ix2 r ⟨d, by omega⟩) * v111 (ix3 0 m d) := by
  pointwise [k0_pay11]

theorem pay12_at (v114 : FVec Ideal S256x256 .bf16) (v115 : FVec Ideal S512x256 .f32) (r : Fin 512) (d : Fin 256) :
    k0_pay12 (F := Ideal) v114 v115 (ix2 r d) = att (fun m => v115 (ix2 r m)) (fun m d => v114 (ix2 m d)) d := by
  unfold att top
  pointwise [k0_pay12]

theorem pay13_at (v108 : FVec Ideal S512x1024 .f32) (v129 v131 : FVec Ideal S1x256x256 .bf16) (r : Fin 512) (d : Fin 256) :
    k0_pay13 (F := Ideal) v108 v129 v131 (ix2 r d) =
      att (fun m => ∑ d : Fin 256, v108 (ix2 r ⟨256 + d, by omega⟩) * v129 (ix3 0 m d)) (fun m d => v131 (ix3 0 m d)) d := by
  unfold att top
  pointwise [k0_pay13]

theorem pay15_at (v108 : FVec Ideal S512x1024 .f32) (v147 : FVec Ideal S1x256x256 .bf16) (r : Fin 512) (m : Fin 256) :
    k0_pay15 (F := Ideal) v108 v147 (ix2 r m) = ∑ d : Fin 256, v108 (ix2 r ⟨512 + d, by omega⟩) * v147 (ix3 0 m d) := by
  pointwise [k0_pay15]

theorem pay16_at (v108 : FVec Ideal S512x1024 .f32) (v147 : FVec Ideal S1x256x256 .bf16) (r : Fin 512) (m : Fin 256) :
    k0_pay16 (F := Ideal) v108 v147 (ix2 r m) = top (fun m => k0_pay15 (F := Ideal) v108 v147 (ix2 r m)) := by
  unfold top
  pointwise [k0_pay16]

end Cert.Pay

end
-- ==== Proof.PayAtt.lean ====
/- The kernel's payloads of the cross-attention's output, read at a row and a column. -/
module

public import proofs.«01_k».proof.Proof.Rows
public import proofs.«01_k».proof.Proof.Gen.KernelIdeal.Skeleton

@[expose] public section

set_option maxRecDepth 16384

noncomputable section

namespace Cert.Pay

open Idealize.ShloMosaic Idealize.ShloMosaic.TcCoe Cert.KernelIdeal Cert.KernelIdeal.Gen Cert.Rows

/-- The four heads' outputs side by side. -/
def heads (f0 f1 f2 f3 : Fin 256 → EReal) (k : Fin 1024) : EReal :=
  if h0 : (k : ℕ) < 256 then f0 ⟨k, h0⟩ else if h1 : (k : ℕ) - 256 < 256 then f1 ⟨k - 256, h1⟩
    else if h2 : (k : ℕ) - 256 - 256 < 256 then f2 ⟨k - 256 - 256, h2⟩ else f3 ⟨k - 256 - 256 - 256, by omega⟩

theorem pay17_at (v108 : FVec Ideal S512x1024 .f32) (v126 v144 : FVec Ideal S512x256 .f32) (v150 : FVec Ideal S256x256 .bf16) (v151 v154 : FVec Ideal S512x256 .f32) (v165 v167 : FVec Ideal S1x256x256 .bf16) (v183 : FVec Ideal S1x1024x1024 .bf16) (r : Fin 512) (c : Fin 1024) :
    k0_pay17 (F := Ideal) v108 v126 v144 v150 v151 v154 v165 v167 v183 (ix2 r c) =
      lin (heads (fun d => v126 (ix2 r d)) (fun d => v144 (ix2 r d))
        (fun d => Ideal.div (∑ m : Fin 256, Ideal.exp (v151 (ix2 r m) - v154 (ix2 r m)) * v150 (ix2 m d))
          (∑ m : Fin 256, Ideal.exp (v151 (ix2 r m) - v154 (ix2 r m))))
        (att (fun m => ∑ d : Fin 256, v108 (ix2 r ⟨768 + d, by omega⟩) * v165 (ix3 0 m d)) (fun m d => v167 (ix3 0 m d))))
        (fun k c => v183 (ix3 0 k c)) c := by
  unfold lin att top
  pointwise [k0_pay17]
  rfl

theorem pay19_at (v108 : FVec Ideal S512x1024 .f32) (v126 v144 : FVec Ideal S512x256 .f32) (v150 : FVec Ideal S256x256 .bf16) (v151 v154 : FVec Ideal S512x256 .f32) (v165 v167 : FVec Ideal S1x256x256 .bf16) (v183 : FVec Ideal S1x1024x1024 .bf16) (r : Fin 512) :
    k0_pay19 (F := Ideal) v108 v126 v144 v150 v151 v154 v165 v167 v183 (ix2 r 0) =
      Ideal.div (∑ c : Fin 1024, k0_pay17 (F := Ideal) v108 v126 v144 v150 v151 v154 v165 v167 v183 (ix2 r c) * k0_pay17 (F := Ideal) v108 v126 v144 v150 v151 v154 v165 v167 v183 (ix2 r c)) d1024 := by
  pointwise [k0_pay19]

end Cert.Pay

end
-- ==== Proof.PayFfn.lean ====
/- The kernel's payloads of the feed-forward network and of the last norms, read at a row and a column. -/
module

public import proofs.«01_k».proof.Proof.Rows
public import proofs.«01_k».proof.Proof.Gen.KernelIdeal.Skeleton

@[expose] public section

set_option maxRecDepth 16384

noncomputable section

namespace Cert.Pay

open Idealize.ShloMosaic Idealize.ShloMosaic.TcCoe Cert.KernelIdeal Cert.KernelIdeal.Gen Cert.Rows

theorem pay18_at (v0 : FVec Ideal S1x1024 .f32) (c : Fin 1024) :
    k0_pay18 (F := Ideal) v0 (ix2 0 c) = v0 (ix2 0 c) := by
  pointwise [k0_pay18]

theorem pay20_at (r : Fin 512) : k0_pay20 (F := Ideal) (ix2 r 0) = Ideal.ofBits .f32 0x358637BD#32 := by
  pointwise [k0_pay20]

theorem pay21_at (v88 v185 : FVec Ideal S512x1024 .f32) (v187 : FVec Ideal S1x1024 .f32) (v192 v193 : FVec Ideal S512x1 .f32) (r : Fin 512) (c : Fin 1024) :
    k0_pay21 (F := Ideal) v88 v185 v187 v192 v193 (ix2 r c) =
      v88 (ix2 r c) + v185 (ix2 r c) * Ideal.rsqrt (v192 (ix2 r 0) + v193 (ix2 r 0)) * v187 (ix2 0 c) := by
  pointwise [k0_pay21]

theorem pay22_at (v88 v185 : FVec Ideal S512x1024 .f32) (v187 : FVec Ideal S1x1024 .f32) (v192 v193 : FVec Ideal S512x1 .f32) (v201 : FVec Ideal S1x1024 .f32) (r : Fin 512) (c : Fin 1024) :
    k0_pay22 (F := Ideal) v88 v185 v187 v192 v193 v201 (ix2 r c) =
      rms d1024 (fun k => k0_pay21 (F := Ideal) v88 v185 v187 v192 v193 (ix2 r k)) (fun k => v201 (ix2 0 k)) c := by
  unfold rms rscale
  pointwise [k0_pay22]

theorem pay23_at (v88 v185 : FVec Ideal S512x1024 .f32) (v187 : FVec Ideal S1x1024 .f32) (v192 v193 : FVec Ideal S512x1 .f32) (v201 : FVec Ideal S1x1024 .f32) (v217 v220 : FVec Ideal S1x1x1024x256 .bf16) (v227 : FVec Ideal S1x1x256x1024 .bf16) (r : Fin 512) (c : Fin 1024) :
    k0_pay23 (F := Ideal) v88 v185 v187 v192 v193 v201 v217 v220 v227 (ix2 r c) =
      ffn (fun k => k0_pay22 (F := Ideal) v88 v185 v187 v192 v193 v201 (ix2 r k)) (fun k c => v217 (ix4 0 0 k c)) (fun k c => v220 (ix4 0 0 k c)) (fun k c => v227 (ix4 0 0 k c)) c := by
  unfold ffn hid lin
  pointwise [k0_pay23]

theorem pay24_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay24 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay24]

theorem pay25_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay25 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay25]

theorem pay26_at (v0 : FVec Ideal S1x1x1024x256 .bf16) (k : Fin 1024) (c : Fin 256) : k0_pay26 (F := Ideal) v0 (ix2 k c) = v0 (ix4 0 0 k c) := by
  pointwise [k0_pay26]

theorem pay27_at (h : FVec Ideal S512x1024 .bf16) (a : FVec Ideal S512x1024 .f32) (g : FVec Ideal S1024x256 .bf16) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay27 (F := Ideal) h a g u d g' u' d' (ix2 r c) =
      a (ix2 r c) + ffn (fun k => h (ix2 r k)) (fun k c => g (ix2 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay27]

theorem pay28_at (h : FVec Ideal S512x1024 .bf16) (g : FVec Ideal S1x1x1024x256 .bf16) (r : Fin 512) (c : Fin 256) :
    k0_pay28 (F := Ideal) h g (ix2 r c) = lin (fun k => h (ix2 r k)) (fun k c => g (ix4 0 0 k c)) c := by
  unfold lin
  pointwise [k0_pay28]

theorem pay30_at (h : FVec Ideal S512x1024 .bf16) (g : FVec Ideal S1x1x1024x256 .bf16) (r : Fin 512) (c : Fin 256) :
    k0_pay30 (F := Ideal) h g (ix2 r c) = lin (fun k => h (ix2 r k)) (fun k c => g (ix4 0 0 k c)) c := by
  unfold lin
  pointwise [k0_pay30]

theorem pay29_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay29 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay29]

theorem pay31_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay31 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay31]

theorem pay32_at (v0 : FVec Ideal S1x1024 .f32) (c : Fin 1024) :
    k0_pay32 (F := Ideal) v0 (ix2 0 c) = v0 (ix2 0 c) := by
  pointwise [k0_pay32]

theorem pay33_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) :
    k0_pay33 (F := Ideal) h a s u d g' u' d' (ix2 r 0) =
      Ideal.div (∑ c : Fin 1024, k0_pay31 (F := Ideal) h a s u d g' u' d' (ix2 r c) * k0_pay31 (F := Ideal) h a s u d g' u' d' (ix2 r c)) d1024 := by
  pointwise [k0_pay33]

theorem pay1_at (v200 v370 : FVec Ideal S512x1024 .f32) (v372 : FVec Ideal S1x1024 .f32) (v377 : FVec Ideal S512x1 .f32) (e : EReal) (r : Fin 512) (c : Fin 1024) :
    k0_pay1 (F := Ideal) v200 v370 v372 v377 e (ix2 r c) =
      v200 (ix2 r c) + Ideal.ofBits .f32 0x3F000000#32 * (v370 (ix2 r c) * Ideal.rsqrt (v377 (ix2 r 0) + e) * v372 (ix2 0 c)) := by
  pointwise [k0_pay1]

end Cert.Pay

end
-- ==== Proof.BlkA.lean ====
/- The layer's last block on the blocks of one grid point: the token's parameters, and the values the body computes in terms of them. -/
module

public import proofs.«01_k».proof.Proof.Tok
public import proofs.«01_k».proof.Proof.PayMix
public import proofs.«01_k».proof.Proof.PayAtt
public import proofs.«01_k».proof.Proof.PayFfn
public import proofs.«01_k».proof.Proof.Gen.KernelIdeal.Frame

@[expose] public section

set_option maxRecDepth 16384

noncomputable section

namespace Cert.Blk

open Idealize.ShloMosaic Idealize.ShloMosaic.TcCoe Cert.KernelIdeal Cert.KernelIdeal.Gen Cert.Rows Cert.Pay

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

/-- The parameters of the token in row `r` of the blocks. -/
def par (r : Fin 512) : Par where
  x k := x0 (ix2 r k)
  ya k := x1 (ix2 r k)
  yb k := x4 (ix2 r k) * (x2 (ix2 r k) + x6 (ix2 0 k) * x3 (ix2 r k))
  yc k := x5 (ix2 r k)
  gm k := x7 (ix2 0 k)
  g4 k := x9 (ix2 0 k)
  g5 k := x10 (ix2 0 k)
  g7 k := x14 (ix2 0 k)
  g8 k := x15 (ix2 0 k)
  g9 k := x18 (ix2 0 k)
  wm k c := x8 (ix3 0 k c)
  wq k c := x11 (ix3 0 k c)
  wo k c := x13 (ix3 0 k c)
  K h m d := x12 (ix3 0 m ⟨h * 256 + d, by omega⟩)
  V h m d := x12 (ix3 0 m ⟨1024 + h * 256 + d, by omega⟩)
  G k c := x16 (ix4 0 0 k ⟨c, by omega⟩)
  U k c := x16 (ix4 0 0 k ⟨2816 + c, by omega⟩)
  D k c := x17 (ix4 0 0 k c)

theorem p34 (r : Fin 512) (c : Fin 1024) : k0_pay34 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).x c := by
  unfold k0_pay34
  rw [pay2_at]
  pointwise [par]

theorem p35 (r : Fin 512) (c : Fin 1024) : k0_pay35 (F := Ideal) x0 x1 x2 x3 x4 x5 x6 x7 x8 x9 x10 x11 x12 x13 x14 x15 x16 x17 x18 (ix2 r c) = lin (par x0 x1 x2 x3 x4 x5 x6 x7 x8 x9 x10 x11 x12 x13 x14 x15 x16 x17 x18 r).cat (par x0 x1 x2 x3 x4 x5 x6 x7 x8 x9 x10 x11 x12 x13 x14 x15 x16 x17 x18 r).wm c := by
  unfold k0_pay35 Par.cat
  rw [lin_cat3, pay6_at, pay5_at]
  unfold lin rms rscale par
  simp only [pay4_at, pay3_at]
  pointwise

theorem p36 (c : Fin 1024) : k0_pay36 (F := Ideal) x0 x1 x2 x3 x4 x5 x6 x7 x8 x9 x10 x11 x12 x13 x14 x15 x16 x17 x18 (ix2 0 c) = x9 (ix2 0 c) := by
  unfold k0_pay36
  rw [pay7_at]
  pointwise

theorem p37 (r : Fin 512) (c : Fin 1024) : k0_pay37 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).x1 c := by
  unfold k0_pay37 Par.x1
  rw [pay8_at]
  simp only [p34, p35, p36]
  rfl

theorem p38 (r : Fin 512) (c : Fin 1024) : k0_pay38 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).q c := by
  have e : ∀ k : Fin 1024, k0_pay8 (F := Ideal) (k0_pay34 x0 x1 x2 x3 x4 x5 x6 x7 x8 x9 x10 x11 x12 x13 x14 x15 x16 x17 x18) (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (ix2 r k) = (par x0 x1 x2 x3 x4 x5 x6 x7 x8 x9 x10 x11 x12 x13 x14 x15 x16 x17 x18 r).x1 k := p37 x0 x1 x2 x3 x4 x5 x6 x7 x8 x9 x10 x11 x12 x13 x14 x15 x16 x17 x18 r
  unfold k0_pay38 Par.q
  rw [pay9_at]
  simp only [e]
  unfold lin rms rscale
  pointwise [par]

theorem p39 (r : Fin 512) (d : Fin 256) : k0_pay39 (F := Ideal) x0 x1 x2 x3 x4 x5 x6 x7 x8 x9 x10 x11 x12 x13 x14 x15 x16 x17 x18 (ix2 r d) = att ((par x0 x1 x2 x3 x4 x5 x6 x7 x8 x9 x10 x11 x12 x13 x14 x15 x16 x17 x18 r).sc 0) ((par x0 x1 x2 x3 x4 x5 x6 x7 x8 x9 x10 x11 x12 x13 x14 x15 x16 x17 x18 r).V 0) d := by
  have e : ∀ k : Fin 1024, k0_pay9 (F := Ideal) (k0_pay34 x0 x1 x2 x3 x4 x5 x6 x7 x8 x9 x10 x11 x12 x13 x14 x15 x16 x17 x18) (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (View.ld x10 r0_10) (View.ld x11 r0_11) (ix2 r k) = (par x0 x1 x2 x3 x4 x5 x6 x7 x8 x9 x10 x11 x12 x13 x14 x15 x16 x17 x18 r).q k := p38 x0 x1 x2 x3 x4 x5 x6 x7 x8 x9 x10 x11 x12 x13 x14 x15 x16 x17 x18 r
  unfold k0_pay39
  rw [pay12_at]
  refine congrArg₂ (fun s v => att s v d) (funext fun m => ?_) (funext fun m => funext fun d => ?_)
  · rw [pay11_at]
    simp only [e]
    unfold Par.sc
    refine Finset.sum_congr rfl fun d _ => congrArg₂ (· * ·) (congrArg _ (Fin.ext (by simp))) ?_
    pointwise [par]
  · rw [pay10_at]
    pointwise [par]

end Cert.Blk

end
-- ==== Proof.BlkB.lean ====
/- The layer's last block on the blocks of one grid point: the memory's attention. -/
module

public import proofs.«01_k».proof.Proof.BlkA

@[expose] public section

set_option maxRecDepth 16384

noncomputable section

namespace Cert.Blk

open Idealize.ShloMosaic Idealize.ShloMosaic.TcCoe Cert.KernelIdeal Cert.KernelIdeal.Gen Cert.Rows Cert.Pay

/-- Four heads side by side: lane `k` is lane `k % 256` of head `k / 256`. -/
theorem heads_at (F : Fin 4 → Fin 256 → EReal) (k : Fin 1024) :
    heads (F 0) (F 1) (F 2) (F 3) k = F ⟨k / 256, by omega⟩ ⟨k % 256, by omega⟩ := by
  have key : ∀ (a : Fin 4) (b : Fin 256), (k : ℕ) = a * 256 + b → F a b = F ⟨k / 256, by omega⟩ ⟨k % 256, by omega⟩ := fun a b h => by
    congr 1
    · congr 1; ext; simp only; omega
    · ext; simp only; omega
  unfold heads
  split_ifs with h0 h1 h2
  · exact key 0 _ (by simp)
  · exact key 1 _ (by simp; omega)
  · exact key 2 _ (by simp; omega)
  · exact key 3 _ (by simp; omega)

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

theorem p40 (r : Fin 512) (d : Fin 256) : k0_pay40 (F := Ideal) x0 x1 x2 x3 x4 x5 x6 x7 x8 x9 x10 x11 x12 x13 x14 x15 x16 x17 x18 (ix2 r d) = att ((par x0 x1 x2 x3 x4 x5 x6 x7 x8 x9 x10 x11 x12 x13 x14 x15 x16 x17 x18 r).sc 1) ((par x0 x1 x2 x3 x4 x5 x6 x7 x8 x9 x10 x11 x12 x13 x14 x15 x16 x17 x18 r).V 1) d := by
  unfold k0_pay40
  rw [pay13_at]
  refine congrArg₂ (fun s v => att s v d) (funext fun m => ?_) (funext fun m => funext fun d => ?_)
  · unfold Par.sc
    simp only [p38]
    refine Finset.sum_congr rfl fun d _ => congrArg₂ (· * ·) (congrArg _ (Fin.ext (by simp))) ?_
    pointwise [par]
  · pointwise [par]

theorem p41 (m d : Fin 256) (r : Fin 512) : k0_pay41 (F := Ideal) x0 x1 x2 x3 x4 x5 x6 x7 x8 x9 x10 x11 x12 x13 x14 x15 x16 x17 x18 (ix2 m d) = (par x0 x1 x2 x3 x4 x5 x6 x7 x8 x9 x10 x11 x12 x13 x14 x15 x16 x17 x18 r).V 2 m d := by
  unfold k0_pay41
  rw [pay14_at]
  pointwise [par]

theorem p42 (r : Fin 512) (m : Fin 256) : k0_pay42 (F := Ideal) x0 x1 x2 x3 x4 x5 x6 x7 x8 x9 x10 x11 x12 x13 x14 x15 x16 x17 x18 (ix2 r m) = (par x0 x1 x2 x3 x4 x5 x6 x7 x8 x9 x10 x11 x12 x13 x14 x15 x16 x17 x18 r).sc 2 m := by
  unfold k0_pay42
  rw [pay15_at]
  unfold Par.sc
  simp only [p38]
  refine Finset.sum_congr rfl fun d _ => congrArg₂ (· * ·) (congrArg _ (Fin.ext (by simp))) ?_
  pointwise [par]

theorem p43 (r : Fin 512) (m : Fin 256) : k0_pay43 (F := Ideal) x0 x1 x2 x3 x4 x5 x6 x7 x8 x9 x10 x11 x12 x13 x14 x15 x16 x17 x18 (ix2 r m) = top ((par x0 x1 x2 x3 x4 x5 x6 x7 x8 x9 x10 x11 x12 x13 x14 x15 x16 x17 x18 r).sc 2) := by
  have e : ∀ m : Fin 256, k0_pay15 (F := Ideal) (k0_pay38 x0 x1 x2 x3 x4 x5 x6 x7 x8 x9 x10 x11 x12 x13 x14 x15 x16 x17 x18) (View.ld x12 r0_16) (ix2 r m) = (par x0 x1 x2 x3 x4 x5 x6 x7 x8 x9 x10 x11 x12 x13 x14 x15 x16 x17 x18 r).sc 2 m := p42 x0 x1 x2 x3 x4 x5 x6 x7 x8 x9 x10 x11 x12 x13 x14 x15 x16 x17 x18 r
  unfold k0_pay43
  rw [pay16_at]
  simp only [e]

theorem p44 (r : Fin 512) (c : Fin 1024) : k0_pay44 (F := Ideal) x0 x1 x2 x3 x4 x5 x6 x7 x8 x9 x10 x11 x12 x13 x14 x15 x16 x17 x18 (ix2 r c) = lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c := by
  unfold k0_pay44
  rw [pay17_at]
  refine congrArg₂ (fun o w => lin o w c) (funext fun k => ?_) (funext fun k => funext fun c => ?_)
  · refine Eq.trans ?_ (heads_at (fun h d => att ((par x0 x1 x2 x3 x4 x5 x6 x7 x8 x9 x10 x11 x12 x13 x14 x15 x16 x17 x18 r).sc h) ((par x0 x1 x2 x3 x4 x5 x6 x7 x8 x9 x10 x11 x12 x13 x14 x15 x16 x17 x18 r).V h) d) k)
    refine congrFun (congr (congr (congr (congrArg heads ?_) ?_) ?_) ?_) k <;> funext d
    · exact p39 x0 x1 x2 x3 x4 x5 x6 x7 x8 x9 x10 x11 x12 x13 x14 x15 x16 x17 x18 r d
    · exact p40 x0 x1 x2 x3 x4 x5 x6 x7 x8 x9 x10 x11 x12 x13 x14 x15 x16 x17 x18 r d
    · simp only [p42, p43]
      simp only [p41 (r := r)]
      rfl
    · refine congrArg₂ (fun s v => att s v d) (funext fun m => ?_) (funext fun m => funext fun d => ?_)
      · unfold Par.sc
        simp only [p38]
        refine Finset.sum_congr rfl fun d _ => congrArg₂ (· * ·) (congrArg _ (Fin.ext (by simp))) ?_
        pointwise [par]
      · pointwise [par]
  · pointwise [par]

theorem p45 (c : Fin 1024) : k0_pay45 (F := Ideal) x0 x1 x2 x3 x4 x5 x6 x7 x8 x9 x10 x11 x12 x13 x14 x15 x16 x17 x18 (ix2 0 c) = x14 (ix2 0 c) := by
  unfold k0_pay45
  rw [pay18_at]
  pointwise

theorem p46 (r : Fin 512) : k0_pay46 (F := Ideal) x0 x1 x2 x3 x4 x5 x6 x7 x8 x9 x10 x11 x12 x13 x14 x15 x16 x17 x18 (ix2 r 0) =
    Ideal.div (∑ c : Fin 1024, lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c * lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c) d1024 := by
  have e : ∀ c : Fin 1024, k0_pay17 (F := Ideal) (k0_pay38 x0 x1 x2 x3 x4 x5 x6 x7 x8 x9 x10 x11 x12 x13 x14 x15 x16 x17 x18) (k0_pay39 x0 x1 x2 x3 x4 x5 x6 x7 x8 x9 x10 x11 x12 x13 x14 x15 x16 x17 x18) (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_18) (View.ld x12 r0_19) (View.ld x13 r0_11) (ix2 r c) = lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c := p44 x0 x1 x2 x3 x4 x5 x6 x7 x8 x9 x10 x11 x12 x13 x14 x15 x16 x17 x18 r
  unfold k0_pay46
  rw [pay19_at]
  simp only [e]

theorem p47 (r : Fin 512) : k0_pay47 (F := Ideal) x0 x1 x2 x3 x4 x5 x6 x7 x8 x9 x10 x11 x12 x13 x14 x15 x16 x17 x18 (ix2 r 0) = Ideal.ofBits .f32 0x358637BD#32 := by
  unfold k0_pay47
  exact pay20_at r

/-- The token after the attention. -/
theorem x2_at (r : Fin 512) (c : Fin 1024) :
    k0_pay21 (F := Ideal) (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (ix2 r c) = (par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK c := by
  rw [pay21_at, p37, p44, p45, p46, p47]
  rfl

theorem p48 (r : Fin 512) (c : Fin 1024) : k0_pay48 (F := Ideal) x0 x1 x2 x3 x4 x5 x6 x7 x8 x9 x10 x11 x12 x13 x14 x15 x16 x17 x18 (ix2 r c) = rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8 c := by
  unfold k0_pay48
  rw [pay22_at]
  simp only [x2_at]
  unfold rms rscale
  pointwise [par]

end Cert.Blk

end
-- ==== Proof.BlkC.lean ====
/- The layer's last block on the blocks of one grid point: the feed-forward network and the result. -/
module

public import proofs.«01_k».proof.Proof.BlkB

@[expose] public section

set_option maxRecDepth 16384

noncomputable section

namespace Cert.Blk

open Idealize.ShloMosaic Idealize.ShloMosaic.TcCoe Cert.KernelIdeal Cert.KernelIdeal.Gen Cert.Rows Cert.Pay

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

/-- Hidden units `256 j …` of the feed-forward network with the weights of the parameters `p`. -/
def chunk (p : Par) (h : Fin 1024 → EReal) (j : Fin 11) (c : Fin 1024) : EReal :=
  ffn h (fun k (i : Fin 256) => p.G k ⟨j * 256 + i, by omega⟩) (fun k (i : Fin 256) => p.U k ⟨j * 256 + i, by omega⟩)
    (fun (i : Fin 256) c => p.D ⟨j * 256 + i, by omega⟩ c) c

theorem ch0 (r : Fin 512) (h : Fin 1024 → EReal) (c : Fin 1024) : ffn h (fun k (i : Fin 256) => (View.ld (Val := Elt Ideal) (e' := .bf16) x16 r0_20 : FVec Ideal S1x1x1024x256 .bf16) (ix4 0 0 k i)) (fun k (i : Fin 256) => (View.ld (Val := Elt Ideal) (e' := .bf16) x16 r0_21 : FVec Ideal S1x1x1024x256 .bf16) (ix4 0 0 k i)) (fun (i : Fin 256) (c : Fin 1024) => (View.ld (Val := Elt Ideal) (e' := .bf16) x17 r0_22 : FVec Ideal S1x1x256x1024 .bf16) (ix4 0 0 i c)) c = chunk (par x0 x1 x2 x3 x4 x5 x6 x7 x8 x9 x10 x11 x12 x13 x14 x15 x16 x17 x18 r) h 0 c := by
  unfold chunk ffn hid lin
  pointwise [par]

theorem ch1 (r : Fin 512) (h : Fin 1024 → EReal) (c : Fin 1024) : ffn h (fun k (i : Fin 256) => (View.ld (Val := Elt Ideal) (e' := .bf16) x16 r0_23 : FVec Ideal S1x1x1024x256 .bf16) (ix4 0 0 k i)) (fun k (i : Fin 256) => (View.ld (Val := Elt Ideal) (e' := .bf16) x16 r0_24 : FVec Ideal S1x1x1024x256 .bf16) (ix4 0 0 k i)) (fun (i : Fin 256) (c : Fin 1024) => (View.ld (Val := Elt Ideal) (e' := .bf16) x17 r0_25 : FVec Ideal S1x1x256x1024 .bf16) (ix4 0 0 i c)) c = chunk (par x0 x1 x2 x3 x4 x5 x6 x7 x8 x9 x10 x11 x12 x13 x14 x15 x16 x17 x18 r) h 1 c := by
  unfold chunk ffn hid lin
  pointwise [par]
  simp only [← Nat.add_assoc, Nat.reduceAdd]

theorem ch2 (r : Fin 512) (h : Fin 1024 → EReal) (c : Fin 1024) : ffn h (fun k (i : Fin 256) => (View.ld (Val := Elt Ideal) (e' := .bf16) x16 r0_26 : FVec Ideal S1x1x1024x256 .bf16) (ix4 0 0 k i)) (fun k (i : Fin 256) => (View.ld (Val := Elt Ideal) (e' := .bf16) x16 r0_27 : FVec Ideal S1x1x1024x256 .bf16) (ix4 0 0 k i)) (fun (i : Fin 256) (c : Fin 1024) => (View.ld (Val := Elt Ideal) (e' := .bf16) x17 r0_28 : FVec Ideal S1x1x256x1024 .bf16) (ix4 0 0 i c)) c = chunk (par x0 x1 x2 x3 x4 x5 x6 x7 x8 x9 x10 x11 x12 x13 x14 x15 x16 x17 x18 r) h 2 c := by
  unfold chunk ffn hid lin
  pointwise [par]
  simp only [← Nat.add_assoc, Nat.reduceAdd]

theorem ch3 (r : Fin 512) (h : Fin 1024 → EReal) (c : Fin 1024) : ffn h (fun k (i : Fin 256) => (View.ld (Val := Elt Ideal) (e' := .bf16) x16 r0_29 : FVec Ideal S1x1x1024x256 .bf16) (ix4 0 0 k i)) (fun k (i : Fin 256) => (View.ld (Val := Elt Ideal) (e' := .bf16) x16 r0_30 : FVec Ideal S1x1x1024x256 .bf16) (ix4 0 0 k i)) (fun (i : Fin 256) (c : Fin 1024) => (View.ld (Val := Elt Ideal) (e' := .bf16) x17 r0_31 : FVec Ideal S1x1x256x1024 .bf16) (ix4 0 0 i c)) c = chunk (par x0 x1 x2 x3 x4 x5 x6 x7 x8 x9 x10 x11 x12 x13 x14 x15 x16 x17 x18 r) h 3 c := by
  unfold chunk ffn hid lin
  pointwise [par]
  simp only [← Nat.add_assoc, Nat.reduceAdd]

theorem ch4 (r : Fin 512) (h : Fin 1024 → EReal) (c : Fin 1024) : ffn h (fun k (i : Fin 256) => (View.ld (Val := Elt Ideal) (e' := .bf16) x16 r0_32 : FVec Ideal S1x1x1024x256 .bf16) (ix4 0 0 k i)) (fun k (i : Fin 256) => (View.ld (Val := Elt Ideal) (e' := .bf16) x16 r0_33 : FVec Ideal S1x1x1024x256 .bf16) (ix4 0 0 k i)) (fun (i : Fin 256) (c : Fin 1024) => (View.ld (Val := Elt Ideal) (e' := .bf16) x17 r0_34 : FVec Ideal S1x1x256x1024 .bf16) (ix4 0 0 i c)) c = chunk (par x0 x1 x2 x3 x4 x5 x6 x7 x8 x9 x10 x11 x12 x13 x14 x15 x16 x17 x18 r) h 4 c := by
  unfold chunk ffn hid lin
  pointwise [par]
  simp only [← Nat.add_assoc, Nat.reduceAdd]

theorem ch5 (r : Fin 512) (h : Fin 1024 → EReal) (c : Fin 1024) : ffn h (fun k (i : Fin 256) => (View.ld (Val := Elt Ideal) (e' := .bf16) x16 r0_35 : FVec Ideal S1x1x1024x256 .bf16) (ix4 0 0 k i)) (fun k (i : Fin 256) => (View.ld (Val := Elt Ideal) (e' := .bf16) x16 r0_36 : FVec Ideal S1x1x1024x256 .bf16) (ix4 0 0 k i)) (fun (i : Fin 256) (c : Fin 1024) => (View.ld (Val := Elt Ideal) (e' := .bf16) x17 r0_37 : FVec Ideal S1x1x256x1024 .bf16) (ix4 0 0 i c)) c = chunk (par x0 x1 x2 x3 x4 x5 x6 x7 x8 x9 x10 x11 x12 x13 x14 x15 x16 x17 x18 r) h 5 c := by
  unfold chunk ffn hid lin
  pointwise [par]
  simp only [← Nat.add_assoc, Nat.reduceAdd]

theorem ch6 (r : Fin 512) (h : Fin 1024 → EReal) (c : Fin 1024) : ffn h (fun k (i : Fin 256) => (View.ld (Val := Elt Ideal) (e' := .bf16) x16 r0_38 : FVec Ideal S1x1x1024x256 .bf16) (ix4 0 0 k i)) (fun k (i : Fin 256) => (View.ld (Val := Elt Ideal) (e' := .bf16) x16 r0_39 : FVec Ideal S1x1x1024x256 .bf16) (ix4 0 0 k i)) (fun (i : Fin 256) (c : Fin 1024) => (View.ld (Val := Elt Ideal) (e' := .bf16) x17 r0_40 : FVec Ideal S1x1x256x1024 .bf16) (ix4 0 0 i c)) c = chunk (par x0 x1 x2 x3 x4 x5 x6 x7 x8 x9 x10 x11 x12 x13 x14 x15 x16 x17 x18 r) h 6 c := by
  unfold chunk ffn hid lin
  pointwise [par]
  simp only [← Nat.add_assoc, Nat.reduceAdd]

theorem ch7 (r : Fin 512) (h : Fin 1024 → EReal) (c : Fin 1024) : ffn h (fun k (i : Fin 256) => (View.ld (Val := Elt Ideal) (e' := .bf16) x16 r0_41 : FVec Ideal S1x1x1024x256 .bf16) (ix4 0 0 k i)) (fun k (i : Fin 256) => (View.ld (Val := Elt Ideal) (e' := .bf16) x16 r0_42 : FVec Ideal S1x1x1024x256 .bf16) (ix4 0 0 k i)) (fun (i : Fin 256) (c : Fin 1024) => (View.ld (Val := Elt Ideal) (e' := .bf16) x17 r0_43 : FVec Ideal S1x1x256x1024 .bf16) (ix4 0 0 i c)) c = chunk (par x0 x1 x2 x3 x4 x5 x6 x7 x8 x9 x10 x11 x12 x13 x14 x15 x16 x17 x18 r) h 7 c := by
  unfold chunk ffn hid lin
  pointwise [par]
  simp only [← Nat.add_assoc, Nat.reduceAdd]

theorem ch8 (r : Fin 512) (h : Fin 1024 → EReal) (c : Fin 1024) : ffn h (fun k (i : Fin 256) => (View.ld (Val := Elt Ideal) (e' := .bf16) x16 r0_44 : FVec Ideal S1x1x1024x256 .bf16) (ix4 0 0 k i)) (fun k (i : Fin 256) => (View.ld (Val := Elt Ideal) (e' := .bf16) x16 r0_45 : FVec Ideal S1x1x1024x256 .bf16) (ix4 0 0 k i)) (fun (i : Fin 256) (c : Fin 1024) => (View.ld (Val := Elt Ideal) (e' := .bf16) x17 r0_46 : FVec Ideal S1x1x256x1024 .bf16) (ix4 0 0 i c)) c = chunk (par x0 x1 x2 x3 x4 x5 x6 x7 x8 x9 x10 x11 x12 x13 x14 x15 x16 x17 x18 r) h 8 c := by
  unfold chunk ffn hid lin
  pointwise [par]
  simp only [← Nat.add_assoc, Nat.reduceAdd]

theorem ch9 (r : Fin 512) (h : Fin 1024 → EReal) (c : Fin 1024) : ffn h (fun k (i : Fin 256) => (View.ld (Val := Elt Ideal) (e' := .bf16) x16 r0_47 : FVec Ideal S1x1x1024x256 .bf16) (ix4 0 0 k i)) (fun k (i : Fin 256) => (View.ld (Val := Elt Ideal) (e' := .bf16) x16 r0_48 : FVec Ideal S1x1x1024x256 .bf16) (ix4 0 0 k i)) (fun (i : Fin 256) (c : Fin 1024) => (View.ld (Val := Elt Ideal) (e' := .bf16) x17 r0_49 : FVec Ideal S1x1x256x1024 .bf16) (ix4 0 0 i c)) c = chunk (par x0 x1 x2 x3 x4 x5 x6 x7 x8 x9 x10 x11 x12 x13 x14 x15 x16 x17 x18 r) h 9 c := by
  unfold chunk ffn hid lin
  pointwise [par]
  simp only [← Nat.add_assoc, Nat.reduceAdd]

theorem ch10 (r : Fin 512) (h : Fin 1024 → EReal) (c : Fin 1024) : ffn h (fun k (i : Fin 256) => (View.ld (Val := Elt Ideal) (e' := .bf16) x16 r0_50 : FVec Ideal S1x1x1024x256 .bf16) (ix4 0 0 k i)) (fun k (i : Fin 256) => (View.ld (Val := Elt Ideal) (e' := .bf16) x16 r0_51 : FVec Ideal S1x1x1024x256 .bf16) (ix4 0 0 k i)) (fun (i : Fin 256) (c : Fin 1024) => (View.ld (Val := Elt Ideal) (e' := .bf16) x17 r0_52 : FVec Ideal S1x1x256x1024 .bf16) (ix4 0 0 i c)) c = chunk (par x0 x1 x2 x3 x4 x5 x6 x7 x8 x9 x10 x11 x12 x13 x14 x15 x16 x17 x18 r) h 10 c := by
  unfold chunk ffn hid lin
  pointwise [par]
  simp only [← Nat.add_assoc, Nat.reduceAdd]

theorem sum11 (f : Fin 11 → EReal) : ∑ j, f j = f 0 + f 1 + f 2 + f 3 + f 4 + f 5 + f 6 + f 7 + f 8 + f 9 + f 10 := by
  simp only [Fin.sum_univ_succ, Fin.sum_univ_zero, ← add_assoc, add_zero]
  rfl

theorem p50 (r : Fin 512) (i : Fin 256) : k0_pay50 (F := Ideal) x0 x1 x2 x3 x4 x5 x6 x7 x8 x9 x10 x11 x12 x13 x14 x15 x16 x17 x18 (ix2 r i) = lin (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (fun k (i : Fin 256) => (View.ld (Val := Elt Ideal) (e' := .bf16) x16 r0_47 : FVec Ideal S1x1x1024x256 .bf16) (ix4 0 0 k i)) i := by
  unfold k0_pay50
  rw [pay30_at]
  simp only [p48]

theorem p49 (r : Fin 512) (c : Fin 1024) : k0_pay49 (F := Ideal) x0 x1 x2 x3 x4 x5 x6 x7 x8 x9 x10 x11 x12 x13 x14 x15 x16 x17 x18 (ix2 r c) = chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 0 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 1 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 2 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 3 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 4 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 5 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 6 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 7 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 8 c := by
  have e : ∀ k : Fin 1024, k0_pay22 (F := Ideal) (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (View.ld x15 r0_10) (ix2 r k) = (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) k := p48 x0 x1 x2 x3 x4 x5 x6 x7 x8 x9 x10 x11 x12 x13 x14 x15 x16 x17 x18 r
  unfold k0_pay49
  rw [pay29_at, pay27_at, pay25_at, pay24_at, pay23_at]
  simp only [p48, pay26_at, pay28_at, e]
  generalize (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) = h
  simp only [← ch0 x0 x1 x2 x3 x4 x5 x6 x7 x8 x9 x10 x11 x12 x13 x14 x15 x16 x17 x18 r, ← ch1 x0 x1 x2 x3 x4 x5 x6 x7 x8 x9 x10 x11 x12 x13 x14 x15 x16 x17 x18 r, ← ch2 x0 x1 x2 x3 x4 x5 x6 x7 x8 x9 x10 x11 x12 x13 x14 x15 x16 x17 x18 r, ← ch3 x0 x1 x2 x3 x4 x5 x6 x7 x8 x9 x10 x11 x12 x13 x14 x15 x16 x17 x18 r, ← ch4 x0 x1 x2 x3 x4 x5 x6 x7 x8 x9 x10 x11 x12 x13 x14 x15 x16 x17 x18 r, ← ch5 x0 x1 x2 x3 x4 x5 x6 x7 x8 x9 x10 x11 x12 x13 x14 x15 x16 x17 x18 r, ← ch6 x0 x1 x2 x3 x4 x5 x6 x7 x8 x9 x10 x11 x12 x13 x14 x15 x16 x17 x18 r, ← ch7 x0 x1 x2 x3 x4 x5 x6 x7 x8 x9 x10 x11 x12 x13 x14 x15 x16 x17 x18 r, ← ch8 x0 x1 x2 x3 x4 x5 x6 x7 x8 x9 x10 x11 x12 x13 x14 x15 x16 x17 x18 r]
  rfl

theorem y_at (r : Fin 512) (c : Fin 1024) :
    k0_pay31 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r c)
      = ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c := by
  rw [pay31_at, p49, ffn_chunks]
  simp only [p48, p50]
  generalize (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) = h
  refine Eq.trans ?_ (sum11 fun j => chunk (par x0 x1 x2 x3 x4 x5 x6 x7 x8 x9 x10 x11 x12 x13 x14 x15 x16 x17 x18 r) h j c).symm
  have e9 := ch9 x0 x1 x2 x3 x4 x5 x6 x7 x8 x9 x10 x11 x12 x13 x14 x15 x16 x17 x18 r h c
  have e10 := ch10 x0 x1 x2 x3 x4 x5 x6 x7 x8 x9 x10 x11 x12 x13 x14 x15 x16 x17 x18 r h c
  refine congrArg₂ (· + ·) (congrArg₂ (· + ·) rfl ?_) ?_
  · exact e9
  · exact e10

theorem out_at (r : Fin 512) (c : Fin 1024) : out0_19 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).res (par x0 x1 x2 x3 x4 x5 x6 x7 x8 x9 x10 x11 x12 x13 x14 x15 x16 x17 x18 r).oK c := by
  unfold out0_19 Par.res
  have e : ∀ c : Fin 1024, k0_pay31 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r c)
      = ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c := y_at x0 x1 x2 x3 x4 x5 x6 x7 x8 x9 x10 x11 x12 x13 x14 x15 x16 x17 x18 r
  have f : k0_pay33 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r 0)
      = Ideal.div (∑ c : Fin 1024, ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c * ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c) d1024 := by
    rw [pay33_at]
    simp only [e]
  have g : k0_pay32 (F := Ideal) (View.ld x18 r0_10) (ix2 0 c) = (par x0 x1 x2 x3 x4 x5 x6 x7 x8 x9 x10 x11 x12 x13 x14 x15 x16 x17 x18 r).g9 c := by
    rw [pay32_at]
    pointwise [par]
  have w : k0_pay1 (F := Ideal) (k0_pay21 (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18))
      (k0_pay31 (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52)) (k0_pay32 (View.ld x18 r0_10)) (k0_pay33 (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52)) (Scalar.ofBits .f32 0x358637BD#32) (ix2 r c) = (par x0 x1 x2 x3 x4 x5 x6 x7 x8 x9 x10 x11 x12 x13 x14 x15 x16 x17 x18 r).res (par x0 x1 x2 x3 x4 x5 x6 x7 x8 x9 x10 x11 x12 x13 x14 x15 x16 x17 x18 r).oK c := by
    rw [pay1_at, x2_at, e, f, g]
    rfl
  refine Eq.trans ?_ w
  exact congrFun (View.canon_unit_zero (S := S512x1024) (by decide) inb_S512x1024_S512x1024_0_0 _) (ix2 r c)

end Cert.Blk

end
-- ==== Proof.RefBase.lean ====
/- The reference's named terms, read at a batch, a position and a column. -/
module

public import proofs.«01_k».proof.Proof.Rows
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

/-- Argument 0 of the reference. -/
abbrev A0 (V0 : Valuation τ sig (Elt Ideal)) : FVec Ideal S2x8192x1024 .f32 := V0 (Proc.devRef .tc main_arg0)
/-- Argument 1 of the reference. -/
abbrev A1 (V0 : Valuation τ sig (Elt Ideal)) : FVec Ideal S2x8192x384 .f32 := V0 (Proc.devRef .tc main_arg1)
/-- Argument 2 of the reference. -/
abbrev A2 (V0 : Valuation τ sig (Elt Ideal)) : FVec Ideal S2x8192x256 .f32 := V0 (Proc.devRef .tc main_arg2)
/-- Argument 3 of the reference. -/
abbrev A3 (V0 : Valuation τ sig (Elt Ideal)) : FVec Ideal S2x8192x256 .f32 := V0 (Proc.devRef .tc main_arg3)
/-- Argument 4 of the reference. -/
abbrev A4 (V0 : Valuation τ sig (Elt Ideal)) : FVec Ideal S2x8192x256 .f32 := V0 (Proc.devRef .tc main_arg4)
/-- Argument 5 of the reference. -/
abbrev A5 (V0 : Valuation τ sig (Elt Ideal)) : FVec Ideal S2x8192x384 .f32 := V0 (Proc.devRef .tc main_arg5)
/-- Argument 6 of the reference. -/
abbrev A6 (V0 : Valuation τ sig (Elt Ideal)) : FVec Ideal S2x256 .f32 := V0 (Proc.devRef .tc main_arg6)
/-- Argument 7 of the reference. -/
abbrev A7 (V0 : Valuation τ sig (Elt Ideal)) : FVec Ideal S2x10x1024 .f32 := V0 (Proc.devRef .tc main_arg7)
/-- Argument 8 of the reference. -/
abbrev A8 (V0 : Valuation τ sig (Elt Ideal)) : FVec Ideal S2x1024x1024 .f32 := V0 (Proc.devRef .tc main_arg8)
/-- Argument 9 of the reference. -/
abbrev A9 (V0 : Valuation τ sig (Elt Ideal)) : FVec Ideal S2x1024x1024 .f32 := V0 (Proc.devRef .tc main_arg9)
/-- Argument 10 of the reference. -/
abbrev A10 (V0 : Valuation τ sig (Elt Ideal)) : FVec Ideal S2x256x2048 .bf16 := V0 (Proc.devRef .tc main_arg10)
/-- Argument 11 of the reference. -/
abbrev A11 (V0 : Valuation τ sig (Elt Ideal)) : FVec Ideal S2x1024x1024 .f32 := V0 (Proc.devRef .tc main_arg11)
/-- Argument 12 of the reference. -/
abbrev A12 (V0 : Valuation τ sig (Elt Ideal)) : FVec Ideal S2x2x1024x5632 .f32 := V0 (Proc.devRef .tc main_arg12)
/-- Argument 13 of the reference. -/
abbrev A13 (V0 : Valuation τ sig (Elt Ideal)) : FVec Ideal S2x2x2816x1024 .f32 := V0 (Proc.devRef .tc main_arg13)
/-- The named term 1 of the reference, as numbers. -/
abbrev R1 (V0 : Valuation τ sig (Elt Ideal)) : S10x1024.Idx → EReal := res_main_v1 (F := Ideal) V0
/-- The named term 8 of the reference, as numbers. -/
abbrev R8 (V0 : Valuation τ sig (Elt Ideal)) : S2x8192x256.Idx → EReal := res_main_v8 (F := Ideal) V0
/-- The named term 10 of the reference, as numbers. -/
abbrev R10 (V0 : Valuation τ sig (Elt Ideal)) : S1024.Idx → EReal := res_main_v10 (F := Ideal) V0
/-- The named term 56 of the reference, as numbers. -/
abbrev R56 (V0 : Valuation τ sig (Elt Ideal)) : S2x8192x1024.Idx → EReal := res_main_v56 (F := Ideal) V0
/-- The named term 72 of the reference, as numbers. -/
abbrev R72 (V0 : Valuation τ sig (Elt Ideal)) : S2x8192x1024.Idx → EReal := res_main_v72 (F := Ideal) V0
/-- The named term 95 of the reference, as numbers. -/
abbrev R95 (V0 : Valuation τ sig (Elt Ideal)) : S2x256x2x4x256.Idx → EReal := res_main_v95 (F := Ideal) V0
/-- The named term 98 of the reference, as numbers. -/
abbrev R98 (V0 : Valuation τ sig (Elt Ideal)) : S2x4x8192x256.Idx → EReal := res_main_v98 (F := Ideal) V0
/-- The named term 105 of the reference, as numbers. -/
abbrev R105 (V0 : Valuation τ sig (Elt Ideal)) : S2x4x8192x256.Idx → EReal := res_main_v105 (F := Ideal) V0
/-- The named term 117 of the reference, as numbers. -/
abbrev R117 (V0 : Valuation τ sig (Elt Ideal)) : S2x8192x1024.Idx → EReal := res_main_v117 (F := Ideal) V0
/-- The named term 133 of the reference, as numbers. -/
abbrev R133 (V0 : Valuation τ sig (Elt Ideal)) : S2x8192x1024.Idx → EReal := res_main_v133 (F := Ideal) V0
/-- The named term 153 of the reference, as numbers. -/
abbrev R153 (V0 : Valuation τ sig (Elt Ideal)) : S2x8192x5632.Idx → EReal := res_main_v153 (F := Ideal) V0
/-- The named term 154 of the reference, as numbers. -/
abbrev R154 (V0 : Valuation τ sig (Elt Ideal)) : S2x8192x2816.Idx → EReal := res_main_v154 (F := Ideal) V0
/-- The named term 158 of the reference, as numbers. -/
abbrev R158 (V0 : Valuation τ sig (Elt Ideal)) : S2x8192x1024.Idx → EReal := res_main_v158 (F := Ideal) V0

variable (V0 : Valuation τ sig (Elt Ideal))

theorem v1_at (i : Fin 10) (c : Fin 1024) : R1 V0 (ix2 i c) = A7 V0 (ix3 1 i c) := by
  pointwise [res_main_v1]

end Cert.Ref

end
-- ==== Proof.RefMix.lean ====
/- The reference's group norms and output projection, read at a batch, a position and a column. -/
module

public import proofs.«01_k».proof.Proof.RefBase
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

variable (V0 : Valuation τ sig (Elt Ideal))

theorem v8_at (b : Fin 2) (l : Fin 8192) (c : Fin 256) :
    R8 V0 (ix3 b l c) =
      A4 V0 (ix3 b l c) * (A2 V0 (ix3 b l c) + A6 V0 (ix2 1 c) * A3 V0 (ix3 b l c)) := by
  pointwise [res_main_v8]

theorem v10_at (c : Fin 1024) : R10 V0 (ix1 c) = A7 V0 (ix3 1 3 c) := by
  pointwise [res_main_v10, v1_at]

theorem v56_at (b : Fin 2) (l : Fin 8192) (c : Fin 1024) :
    R56 V0 (ix3 b l c) =
      lin (cat3 (rms d384 (fun k => A1 V0 (ix3 b l k)) (fun k => A7 V0 (ix3 1 3 ⟨k, by omega⟩)))
        (rms d256 (fun k => R8 V0 (ix3 b l k)) (fun k => A7 V0 (ix3 1 3 ⟨384 + k, by omega⟩)))
        (rms d384 (fun k => A5 V0 (ix3 b l k)) (fun k => A7 V0 (ix3 1 3 ⟨640 + k, by omega⟩)))) (fun k c => A8 V0 (ix3 1 k c)) c := by
  unfold lin rms rscale
  pointwise [res_main_v56, v10_at]
  exact Finset.sum_congr rfl fun x _ => rfl

theorem v72_at (b : Fin 2) (l : Fin 8192) (c : Fin 1024) :
    R72 V0 (ix3 b l c) =
      A0 V0 (ix3 b l c) + rms d1024 (fun k => R56 V0 (ix3 b l k)) (fun k => A7 V0 (ix3 1 4 k)) c := by
  unfold rms rscale
  pointwise [res_main_v72, v1_at]

end Cert.Ref

end
-- ==== Proof.RefAtt.lean ====
/- The reference's cross-attention, read at an index. -/
module

public import proofs.«01_k».proof.Proof.RefBase
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

variable (V0 : Valuation τ sig (Elt Ideal))

theorem v95_at (b : Fin 2) (m : Fin 256) (s : Fin 2) (h : Fin 4) (d : Fin 256) :
    R95 V0 (ix5 b m s h d) = A10 V0 (ix3 b m ⟨s * 1024 + h * 256 + d, by omega⟩) := by
  pointwise [res_main_v95]

theorem v98_at (b : Fin 2) (h : Fin 4) (l : Fin 8192) (m : Fin 256) :
    R98 V0 (ix4 b h l m) =
      ∑ d : Fin 256, (lin (rms d1024 (fun k => R72 V0 (ix3 b l k)) (fun k => A7 V0 (ix3 1 5 k)))
        (fun k c => A9 V0 (ix3 1 k c)) ⟨h * 256 + d, by omega⟩ * Ideal.ofBits .f32 0x3D800000#32)
        * R95 V0 (ix5 b m 0 h d) := by
  unfold lin rms rscale
  pointwise [res_main_v98, v1_at]

theorem v117_at (b : Fin 2) (l : Fin 8192) (c : Fin 1024) :
    R117 V0 (ix3 b l c) =
      lin (fun k : Fin 1024 => ∑ m : Fin 256, R95 V0 (ix5 b m 1 ⟨k / 256, by omega⟩ ⟨k % 256, by omega⟩) *
          Ideal.div (R105 V0 (ix4 b ⟨k / 256, by omega⟩ l m))
            (∑ m : Fin 256, R105 V0 (ix4 b ⟨k / 256, by omega⟩ l m)))
        (fun k c => A11 V0 (ix3 1 k c)) c := by
  unfold lin
  pointwise [res_main_v117]

theorem v133_at (b : Fin 2) (l : Fin 8192) (c : Fin 1024) :
    R133 V0 (ix3 b l c) =
      R72 V0 (ix3 b l c)
      + rms d1024 (fun k => R117 V0 (ix3 b l k)) (fun k => A7 V0 (ix3 1 7 k)) c := by
  unfold rms rscale
  pointwise [res_main_v133, v1_at]

end Cert.Ref

end
-- ==== Proof.RefSoft.lean ====
/- The reference's exponentials of the attention's scores, read at an index. -/
module

public import proofs.«01_k».proof.Proof.RefBase
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

variable (V0 : Valuation τ sig (Elt Ideal))

/-- The largest number along the last axis, as the fold of `max`. -/
theorem reduce_at {n0 n1 n2 n3 : ℕ} (v : FVec Ideal ⟨4, ![n0, n1, n2, n3]⟩ .f32) (e : FVec Ideal S_ .f32)
    (hr : (⟨4, ![n0, n1, n2, n3]⟩ : Shape).ReducesTo [3] ⟨3, ![n0, n1, n2]⟩) (hu : 0 < S_.numel) (b : Fin n0) (h : Fin n1) (l : Fin n2) :
    Host.reduce FloatOps.maximumf v e hr hu (ix3 b h l)
      = (Finset.univ : Finset (Fin n3)).fold max (e (Shape.Idx.first hu)) fun m => v (ix4 b h l m) := by
  pointwise

/-- The exponentials of a softmax over the last axis, the largest numbers `w` being given. -/
theorem soft_at (v : FVec Ideal S2x4x8192x256 .f32) (w : FVec Ideal S2x4x8192 .f32) (b : Fin 2) (h : Fin 4) (l : Fin 8192) (m : Fin 256) :
    Host.exp (subf v (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant (F := Ideal) S_ .f32 0xFF800000#32)) w)))) (ix4 b h l m)
      = Ideal.exp (v (ix4 b h l m) - max (Ideal.ofBits .f32 0xFF800000#32) (w (ix3 b h l))) := by
  pointwise

theorem v105_at (V0 : Valuation τ sig (Elt Ideal)) (b : Fin 2) (h : Fin 4) (l : Fin 8192) (m : Fin 256) :
    R105 V0 (ix4 b h l m) = Ideal.exp (R98 V0 (ix4 b h l m)
        - max (Ideal.ofBits .f32 0xFF800000#32) (top (fun m => R98 V0 (ix4 b h l m)))) := by
  have e := reduce_at (R98 V0) (constant (F := Ideal) S_ .f32 0xFF800000#32) reducesTo_S2x4x8192x256_S2x4x8192_d3 h_S_ b h l
  have f := soft_at (R98 V0) (Host.reduce FloatOps.maximumf (R98 V0) (constant (F := Ideal) S_ .f32 0xFF800000#32) reducesTo_S2x4x8192x256_S2x4x8192_d3 h_S_) b h l m
  rw [e] at f
  exact f

end Cert.Ref

end
-- ==== Proof.RefFfn.lean ====
/- The reference's feed-forward network and result, read at an index. -/
module

public import proofs.«01_k».proof.Proof.RefBase
public import proofs.«01_k».proof.Proof.Gen.ReferenceIdeal.Run

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

variable (V0 : Valuation τ sig (Elt Ideal))

theorem v153_at (b : Fin 2) (l : Fin 8192) (c : Fin 5632) :
    R153 V0 (ix3 b l c) =
      lin (rms d1024 (fun k => R133 V0 (ix3 b l k)) (fun k => A7 V0 (ix3 1 8 k)))
        (fun k c => A12 V0 (ix4 1 1 k c)) c := by
  unfold lin rms rscale
  pointwise [res_main_v153, v1_at]

theorem v154_at (b : Fin 2) (l : Fin 8192) (c : Fin 2816) :
    R154 V0 (ix3 b l c) =
      R153 V0 (ix3 b l ⟨c, by omega⟩) := by
  pointwise [res_main_v154]

theorem v158_at (b : Fin 2) (l : Fin 8192) (c : Fin 1024) :
    R158 V0 (ix3 b l c) =
      ffn (rms d1024 (fun k => R133 V0 (ix3 b l k)) (fun k => A7 V0 (ix3 1 8 k)))
        (fun k (c : Fin 2816) => A12 V0 (ix4 1 1 k ⟨c, by omega⟩)) (fun k c => A12 V0 (ix4 1 1 k ⟨2816 + c, by omega⟩))
        (fun k c => A13 V0 (ix4 1 1 k c)) c := by
  unfold ffn hid Ideal.logistic
  pointwise [res_main_v158, v154_at, v153_at]
  rfl

/-- The reference's result. -/
def out : FVec Ideal S16384x1024 .f32 :=
  shapeCast _ (addf (res_main_v133 V0) (mulf (broadcastInDim S2x8192x1024 ![] bcast_S_S2x8192x1024 (constant S_ .f32 0x3F000000#32)) (mulf (mulf (res_main_v158 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v158 V0) (res_main_v158 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![9, 0] (res_main_v1 V0) slices_S10x1024_S1x1024_9_0) shapeCasts_S1x1024_S1024)))))) shapeCasts_S2x8192x1024_S16384x1024

theorem out_at (r : Fin 16384) (c : Fin 1024) :
    out V0 (ix2 r c) = R133 V0 (ix3 ⟨r / 8192, by omega⟩ ⟨r % 8192, by omega⟩ c)
      + Ideal.ofBits .f32 0x3F000000#32 * rms d1024 (fun k => R158 V0 (ix3 ⟨r / 8192, by omega⟩ ⟨r % 8192, by omega⟩ k))
          (fun k => A7 V0 (ix3 1 9 k)) c := by
  unfold rms rscale
  pointwise [out, v1_at]

end Cert.Ref

end
-- ==== Proof.RefTok.lean ====
/- The reference's result at a row, as the token's function of its parameters. -/
module

public import proofs.«01_k».proof.Proof.Tok
public import proofs.«01_k».proof.Proof.RefMix
public import proofs.«01_k».proof.Proof.RefAtt
public import proofs.«01_k».proof.Proof.RefSoft
public import proofs.«01_k».proof.Proof.RefFfn

@[expose] public section

set_option maxRecDepth 16384

noncomputable section

namespace Cert.Ref

open Cert.ReferenceIdeal Cert.ReferenceIdeal.Gen Cert.ReferenceIdeal.Value Idealize.ShloMosaic Idealize.ShloMosaic.TcCoe
open Idealize.SL.Sem Idealize.ShloMosaic.StableHlo Cert.Rows

variable (V0 : Valuation τ sig (Elt Ideal))

/-- The parameters of the token at position `l` of batch `b`. -/
def par (b : Fin 2) (l : Fin 8192) : Par where
  x k := A0 V0 (ix3 b l k)
  ya k := A1 V0 (ix3 b l k)
  yb k := A4 V0 (ix3 b l k) * (A2 V0 (ix3 b l k) + A6 V0 (ix2 1 k) * A3 V0 (ix3 b l k))
  yc k := A5 V0 (ix3 b l k)
  gm k := A7 V0 (ix3 1 3 k)
  g4 k := A7 V0 (ix3 1 4 k)
  g5 k := A7 V0 (ix3 1 5 k)
  g7 k := A7 V0 (ix3 1 7 k)
  g8 k := A7 V0 (ix3 1 8 k)
  g9 k := A7 V0 (ix3 1 9 k)
  wm k c := A8 V0 (ix3 1 k c)
  wq k c := A9 V0 (ix3 1 k c)
  wo k c := A11 V0 (ix3 1 k c)
  K h m d := A10 V0 (ix3 b m ⟨h * 256 + d, by omega⟩)
  V h m d := A10 V0 (ix3 b m ⟨1024 + h * 256 + d, by omega⟩)
  G k c := A12 V0 (ix4 1 1 k ⟨c, by omega⟩)
  U k c := A12 V0 (ix4 1 1 k ⟨2816 + c, by omega⟩)
  D k c := A13 V0 (ix4 1 1 k c)

theorem mix_at (b : Fin 2) (l : Fin 8192) (c : Fin 1024) : R56 V0 (ix3 b l c) = lin (par V0 b l).cat (par V0 b l).wm c := by
  rw [v56_at]
  simp only [v8_at]
  rfl

theorem x1_at (b : Fin 2) (l : Fin 8192) (c : Fin 1024) : R72 V0 (ix3 b l c) = (par V0 b l).x1 c := by
  rw [v72_at]
  simp only [mix_at]
  rfl

theorem sc_at (b : Fin 2) (h : Fin 4) (l : Fin 8192) (m : Fin 256) : R98 V0 (ix4 b h l m) = (par V0 b l).sc h m := by
  rw [v98_at]
  simp only [x1_at]
  unfold Par.sc
  refine Finset.sum_congr rfl fun d _ => congrArg₂ (· * ·) rfl ?_
  rw [v95_at]
  exact congrArg (fun k => A10 V0 (ix3 b m k)) (Fin.ext (by simp))

theorem o_at (b : Fin 2) (l : Fin 8192) (c : Fin 1024) : R117 V0 (ix3 b l c) = lin (par V0 b l).oR (par V0 b l).wo c := by
  rw [v117_at]
  refine congrArg₂ (fun o w => lin o w c) (funext fun k => ?_) rfl
  unfold Par.oR
  simp only [v105_at, sc_at]
  refine Finset.sum_congr rfl fun m _ => congrArg₂ (· * ·) ?_ rfl
  rw [v95_at]
  exact congrArg (fun k => A10 V0 (ix3 b m k)) (Fin.ext (by simp))

theorem x2_at (b : Fin 2) (l : Fin 8192) (c : Fin 1024) : R133 V0 (ix3 b l c) = (par V0 b l).x2 (par V0 b l).oR c := by
  rw [v133_at, x1_at]
  simp only [o_at]
  rfl

theorem y_at (b : Fin 2) (l : Fin 8192) (c : Fin 1024) :
    R158 V0 (ix3 b l c) = ffn (rms d1024 ((par V0 b l).x2 (par V0 b l).oR) (par V0 b l).g8) (par V0 b l).G (par V0 b l).U (par V0 b l).D c := by
  rw [v158_at]
  simp only [x2_at]
  rfl

/-- The reference's result at row `r`: batch `r / 8192`, position `r % 8192`. -/
theorem res_at (r : Fin 16384) (c : Fin 1024) :
    out V0 (ix2 r c) = (par V0 ⟨r / 8192, by omega⟩ ⟨r % 8192, by omega⟩).res (par V0 ⟨r / 8192, by omega⟩ ⟨r % 8192, by omega⟩).oR c := by
  rw [out_at, x2_at]
  simp only [y_at]
  rfl

end Cert.Ref

end
-- ==== Proof.Finite.lean ====
/- Finiteness: a token whose rows, gains, weights and memory are finite has finite scores, and then dividing the attention's
   output after the sum over the memory is dividing every weight before it. -/
module

public import proofs.«01_k».proof.Proof.Tok
public import Idealize.ShloMosaic.Lib.IdealHost

@[expose] public section

set_option maxRecDepth 16384

noncomputable section

namespace Cert.Rows

open Idealize.ShloMosaic

/-- A real number, seen as an extended one. -/
def IsFin (x : EReal) : Prop := ∃ r : ℝ, x = r

/-- A real number that is not negative. -/
def IsNonneg (x : EReal) : Prop := ∃ r : ℝ, 0 ≤ r ∧ x = r

theorem isFin_of_ne {x : EReal} (h1 : x ≠ ⊥) (h2 : x ≠ ⊤) : IsFin x := ⟨x.toReal, (EReal.coe_toReal h2 h1).symm⟩

theorem IsFin.add {x y : EReal} : IsFin x → IsFin y → IsFin (x + y)
  | ⟨a, ha⟩, ⟨b, hb⟩ => ⟨a + b, by rw [ha, hb, EReal.coe_add]⟩

theorem IsFin.mul {x y : EReal} : IsFin x → IsFin y → IsFin (x * y)
  | ⟨a, ha⟩, ⟨b, hb⟩ => ⟨a * b, by rw [ha, hb, EReal.coe_mul]⟩

theorem IsFin.sum {ι : Type*} (s : Finset ι) (f : ι → EReal) (h : ∀ k, IsFin (f k)) : IsFin (∑ k ∈ s, f k) :=
  Finset.sum_induction f IsFin (fun _ _ => IsFin.add) ⟨0, rfl⟩ fun k _ => h k

theorem IsFin.sum_sq {ι : Type*} (s : Finset ι) (f : ι → EReal) (h : ∀ k, IsFin (f k)) : IsNonneg (∑ k ∈ s, f k * f k) :=
  Finset.sum_induction _ IsNonneg (fun _ _ => fun ⟨a, ha, ea⟩ ⟨b, hb, eb⟩ => ⟨a + b, add_nonneg ha hb, by rw [ea, eb, EReal.coe_add]⟩)
    ⟨0, le_rfl, rfl⟩ fun k _ => (h k).elim fun a ha => ⟨a * a, mul_self_nonneg a, by rw [ha, EReal.coe_mul]⟩

theorem d1024_eq : d1024 = ((1024 : ℝ) : EReal) := by
  simp [d1024, Ideal.ofBits, Ideal.ieee, -EReal.coe_mul]; norm_num

theorem d384_eq : d384 = ((384 : ℝ) : EReal) := by
  simp [d384, Ideal.ofBits, Ideal.ieee, -EReal.coe_mul]; norm_num

theorem d256_eq : d256 = ((256 : ℝ) : EReal) := by
  simp [d256, Ideal.ofBits, Ideal.ieee, -EReal.coe_mul]; norm_num

theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem sixteenth_fin : IsFin (Ideal.ofBits .f32 0x3D800000#32) := by
  unfold IsFin
  simp only [Ideal.ofBits, Ideal.ieee]
  norm_num
  exact ⟨_, rfl⟩

/-- The root of a finite row's mean square is finite. -/
theorem rscale_fin {n : ℕ} {d : ℝ} (hd : 0 < d) (v : Fin n → EReal) (h : ∀ k, IsFin (v k)) : IsFin (rscale (d : EReal) v) := by
  obtain ⟨s, hs, es⟩ := IsFin.sum_sq Finset.univ v h
  obtain ⟨e, he, ee⟩ := eps_pos
  have hp : 0 < s * (1 / d) + e := add_pos_of_nonneg_of_pos (mul_nonneg hs (by positivity)) he
  unfold rscale
  rw [es, Ideal.div_coe hd.ne', ee, ← EReal.coe_mul, ← EReal.coe_add, Ideal.rsqrt_coe, if_neg (not_lt.mpr hp.le), if_neg hp.ne']
  exact ⟨_, rfl⟩

theorem rms_fin {n : ℕ} {d : ℝ} (hd : 0 < d) (v g : Fin n → EReal) (h : ∀ k, IsFin (v k)) (hg : ∀ k, IsFin (g k)) (k : Fin n) :
    IsFin (rms (d : EReal) v g k) :=
  ((h k).mul (rscale_fin hd v h)).mul (hg k)

theorem lin_fin {n m : ℕ} (v : Fin n → EReal) (w : Fin n → Fin m → EReal) (h : ∀ k, IsFin (v k)) (hw : ∀ k c, IsFin (w k c)) (c : Fin m) :
    IsFin (lin v w c) :=
  IsFin.sum _ _ fun k => (h k).mul (hw k c)

/-- Everything that feeds the scores is finite. -/
structure Par.Finite (p : Par) : Prop where
  x : ∀ k, IsFin (p.x k)
  ya : ∀ k, IsFin (p.ya k)
  yb : ∀ k, IsFin (p.yb k)
  yc : ∀ k, IsFin (p.yc k)
  gm : ∀ k, IsFin (p.gm k)
  g4 : ∀ k, IsFin (p.g4 k)
  g5 : ∀ k, IsFin (p.g5 k)
  wm : ∀ k c, IsFin (p.wm k c)
  wq : ∀ k c, IsFin (p.wq k c)
  K : ∀ h m d, IsFin (p.K h m d)

theorem Par.cat_fin {p : Par} (hp : p.Finite) (k : Fin 1024) : IsFin (p.cat k) := by
  unfold Par.cat cat3
  rw [d384_eq, d256_eq]
  split_ifs
  · exact rms_fin (by norm_num) _ _ hp.ya (fun k => hp.gm _) _
  · exact rms_fin (by norm_num) _ _ hp.yb (fun k => hp.gm _) _
  · exact rms_fin (by norm_num) _ _ hp.yc (fun k => hp.gm _) _

theorem Par.x1_fin {p : Par} (hp : p.Finite) (c : Fin 1024) : IsFin (p.x1 c) := by
  unfold Par.x1
  rw [d1024_eq]
  exact (hp.x c).add (rms_fin (by norm_num) _ _ (lin_fin _ _ (Par.cat_fin hp) hp.wm) hp.g4 c)

theorem Par.sc_fin {p : Par} (hp : p.Finite) (h : Fin 4) (m : Fin 256) : IsFin (p.sc h m) := by
  refine IsFin.sum _ _ fun d => IsFin.mul ?_ (hp.K h m d)
  unfold Par.q
  rw [d1024_eq]
  exact (lin_fin _ _ (rms_fin (by norm_num) _ _ (Par.x1_fin hp) hp.g5) hp.wq _).mul sixteenth_fin

theorem bot_bits : Ideal.ofBits .f32 0xFF800000#32 = ⊥ := by
  simp [Ideal.ofBits, Ideal.ieee]

/-- The greatest of finitely many real numbers is a real number. -/
theorem top_fin {n : ℕ} (s : Fin (n + 1) → EReal) (h : ∀ k, IsFin (s k)) : IsFin (top s) := by
  unfold top
  rw [bot_bits]
  refine isFin_of_ne (ne_of_gt ?_) (ne_of_lt ?_)
  · refine lt_of_lt_of_le (b := s 0) ?_ ((Finset.le_fold_max _).mpr (Or.inr ⟨0, Finset.mem_univ _, le_rfl⟩))
    obtain ⟨a, ha⟩ := h 0
    rw [ha]; exact EReal.bot_lt_coe a
  · refine (Finset.fold_max_lt _).mpr ⟨bot_lt_top, fun k _ => ?_⟩
    obtain ⟨a, ha⟩ := h k
    rw [ha]; exact EReal.coe_lt_top a

/-- A sum times a real number that is not negative, term by term. -/
theorem sum_mul_nonneg {ι : Type*} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Real scores: the weighted sum divided by the weights' sum is the sum weighted by the divided weights. -/
theorem att_eq {n q : ℕ} (s : Fin (n + 1) → EReal) (h : ∀ k, IsFin (s k)) (V : Fin (n + 1) → Fin q → EReal) (d : Fin q) :
    att s V d = ∑ m, V m d * Ideal.div (Ideal.exp (s m - max (Ideal.ofBits .f32 0xFF800000#32) (top s)))
      (∑ m, Ideal.exp (s m - max (Ideal.ofBits .f32 0xFF800000#32) (top s))) := by
  rw [bot_bits, max_eq_right bot_le]
  unfold att
  have hpos : ∃ l : ℝ, 0 < l ∧ (∑ m, Ideal.exp (s m - top s)) = (l : EReal) := by
    obtain ⟨t, ht⟩ := top_fin s h
    choose r hr using h
    refine ⟨∑ m, Real.exp (r m - t), Finset.sum_pos (fun _ _ => Real.exp_pos _) Finset.univ_nonempty, ?_⟩
    have hc : ∀ u : Finset (Fin (n + 1)), ((∑ m ∈ u, Real.exp (r m - t) : ℝ) : EReal) = ∑ m ∈ u, Ideal.exp (s m - top s) := fun u => by
      classical
      induction u using Finset.induction_on with
      | empty => simp
      | insert a u ha ih =>
        rw [Finset.sum_insert ha, Finset.sum_insert ha, EReal.coe_add, ih, ht, hr a, ← EReal.coe_sub, Ideal.exp_coe]
    exact (hc _).symm
  obtain ⟨l, hl, el⟩ := hpos
  rw [el, Ideal.div_coe hl.ne', sum_mul_nonneg _ _ (by positivity)]
  refine Finset.sum_congr rfl fun m _ => ?_
  rw [Ideal.div_coe hl.ne', mul_comm (Ideal.exp _) (V m d), mul_assoc]

/-- With finite scores the two ways of dividing agree. -/
theorem Par.oK_eq {p : Par} (hp : p.Finite) : p.oK = p.oR := by
  funext k
  exact att_eq _ (Par.sc_fin hp _) _ _

end Cert.Rows

end
-- ==== Proof.PreFacts.lean ====
/- The precondition, that the arguments feeding the attention's scores are finite: its side conditions, and what it says of every element. -/
module

public import proofs.«01_k».proof.Proof.Finite
public import proofs.«01_k».proof.Pre_finite
public import Idealize.ShloMosaic.Lib.ReduceAll
public import Idealize.ShloMosaic.Lib.Pointwise

@[expose] public section

set_option maxRecDepth 16384

noncomputable section

namespace Cert.PreFin

open Idealize.ShloMosaic Idealize.ShloMosaic.TcCoe Cert.Rows

/-- The side conditions of the precondition's operations. -/
instance preFacts : Cert.Pre_finite.Facts where
  bcast_S_S2x8192x1024 := by decide
  reducesTo_S2x8192x1024_S_d0_1_2 := by decide
  h_S_ := by decide
  bcast_S_S2x8192x384 := by decide
  reducesTo_S2x8192x384_S_d0_1_2 := by decide
  bcast_S_S2x8192x256 := by decide
  reducesTo_S2x8192x256_S_d0_1_2 := by decide
  bcast_S_S2x256 := by decide
  reducesTo_S2x256_S_d0_1 := by decide
  bcast_S_S2x10x1024 := by decide
  reducesTo_S2x10x1024_S_d0_1_2 := by decide
  bcast_S_S2x1024x1024 := by decide
  reducesTo_S2x1024x1024_S_d0_1_2 := by decide
  bitsLt_bf16_f32 := by decide
  bcast_S_S2x256x2048 := by decide
  reducesTo_S2x256x2048_S_d0_1_2 := by decide

/-- An absolute value below infinity is a finite number's. -/
theorem isFin_of_abs (x : EReal) (h : FloatOps.cmpf (F := Ideal) (φ := .f32) .olt (FloatOps.absf (F := Ideal) (φ := .f32) x) (Ideal.ofBits .f32 0x7F800000#32) = 1#1) : IsFin x := by
  have e : Ideal.ofBits .f32 0x7F800000#32 = ⊤ := by simp [Ideal.ofBits, Ideal.ieee]
  rw [e] at h
  have h2 : max x (-x) < ⊤ := by
    by_contra hn
    have : FloatOps.cmpf (F := Ideal) (φ := .f32) .olt (FloatOps.absf (F := Ideal) (φ := .f32) x) (⊤ : EReal) = BitVec.ofBool (decide (max x (-x) < ⊤)) := rfl
    rw [this, decide_eq_false hn] at h
    exact absurd h (by decide)
  refine isFin_of_ne (fun hb => ?_) (fun ht => ?_)
  · rw [hb] at h2; simp at h2
  · rw [ht] at h2; simp at h2

/-- The test that all of an array is finite, read at every element. -/
theorem all_fin {s : Shape} (x : FVec Ideal s .f32) (dims : List (Fin s.rank)) (bc : Cert.Pre_finite.S_.BroadcastsInDim s (![] : Fin 0 → Fin s.rank))
    (hr : s.ReducesTo dims Cert.Pre_finite.S_) (h0 : 0 < Cert.Pre_finite.S_.numel) (j : Cert.Pre_finite.S_.Idx)
    (h : Host.reduce IntOp.andi (cmpf .olt (Host.absf x) (broadcastInDim s ![] bc (constant Cert.Pre_finite.S_ .f32 0x7F800000#32)))
      (constantI Cert.Pre_finite.S_ 1 1#1) hr h0 j = 1#1) (i : s.Idx) : IsFin (x i) := by
  have e := Host.reduce_andi_all _ _ _ _ j h i
  refine isFin_of_abs (x i) (Eq.trans ?_ e)
  rfl

end Cert.PreFin

end
-- ==== Proof.Final.lean ====
/- The kernel's result array is the reference's result, the arguments that feed the scores being finite. -/
module

public import proofs.«01_k».proof.Proof.EntryA
public import proofs.«01_k».proof.Proof.EntryB
public import proofs.«01_k».proof.Proof.EntryC
public import proofs.«01_k».proof.Proof.EntryD
public import proofs.«01_k».proof.Proof.EntryE
public import proofs.«01_k».proof.Proof.BlkC
public import proofs.«01_k».proof.Proof.RefTok
public import proofs.«01_k».proof.Proof.PreFacts

@[expose] public section

set_option maxRecDepth 16384

noncomputable section

namespace Cert.Final

open Idealize.ShloMosaic Idealize.ShloMosaic.TcCoe Idealize.SL.Sem Cert.KernelIdeal Cert.KernelIdeal.Gen Cert.Entry Cert.Rows
open Idealize.ShloMosaic.Pipeline (Dat)

variable (m : (ℓ : Loc nD τ sig) → Buf (Elt Ideal) ℓ) (c : Dev nD)

/-- The parameters of the token at position `l` of batch `b`, over the kernel's arguments. -/
def par (b : Fin 2) (l : Fin 8192) : Par where
  x k := K0 m c (ix3 b l k)
  ya k := K1 m c (ix3 b l k)
  yb k := K4 m c (ix3 b l k) * (K2 m c (ix3 b l k) + K6 m c (ix2 1 k) * K3 m c (ix3 b l k))
  yc k := K5 m c (ix3 b l k)
  gm k := K7 m c (ix3 1 3 k)
  g4 k := K7 m c (ix3 1 4 k)
  g5 k := K7 m c (ix3 1 5 k)
  g7 k := K7 m c (ix3 1 7 k)
  g8 k := K7 m c (ix3 1 8 k)
  g9 k := K7 m c (ix3 1 9 k)
  wm k c' := K8 m c (ix3 1 k c')
  wq k c' := K9 m c (ix3 1 k c')
  wo k c' := K11 m c (ix3 1 k c')
  K h p d := K10 m c (ix3 b p ⟨h * 256 + d, by omega⟩)
  V h p d := K10 m c (ix3 b p ⟨1024 + h * 256 + d, by omega⟩)
  G k c' := K12 m c (ix4 1 1 k ⟨c', by omega⟩)
  U k c' := K12 m c (ix4 1 1 k ⟨2816 + c', by omega⟩)
  D k c' := K13 m c (ix4 1 1 k c')

/-- The blocks of grid point `t` hold, in row `r`, the token of row `512 t + r`. -/
theorem par_eq (t : Fin cfg0.N) (r : Fin 512) :
    Cert.Blk.par (B0 m c t) (B1 m c t) (B2 m c t) (B3 m c t) (B4 m c t) (B5 m c t) (B6 m c t) (B7 m c t) (B8 m c t) (B9 m c t) (B10 m c t) (B11 m c t)
      (B12 m c t) (B13 m c t) (B14 m c t) (B15 m c t) (B16 m c t) (B17 m c t) (B18 m c t) r
      = par m c ⟨(t * 512 + r) / 8192, by have := lt t; omega⟩ ⟨(t * 512 + r) % 8192, by omega⟩ := by
  unfold Cert.Blk.par par
  simp only [b0, b1, b2, b3, b4, b5, b6, b7, b8, b9, b10, b11, b12 m c t r, b13, b14, b15, b16, b17, b18]

/-- The token's result at every row of the array. -/
def G : FVec Ideal S16384x1024 .f32 := fun i =>
  (par m c ⟨(i 0).val / 8192, by have := (i 0).isLt; change _ < 16384 at this; omega⟩ ⟨(i 0).val % 8192, by omega⟩).res
    (par m c ⟨(i 0).val / 8192, by have := (i 0).isLt; change _ < 16384 at this; omega⟩ ⟨(i 0).val % 8192, by omega⟩).oK (i 1)

theorem point (t : Fin cfg0.N) (y : S512x1024.Idx) :
    out0_19 (F := Ideal) (B0 m c t) (B1 m c t) (B2 m c t) (B3 m c t) (B4 m c t) (B5 m c t) (B6 m c t) (B7 m c t) (B8 m c t) (B9 m c t) (B10 m c t) (B11 m c t)
      (B12 m c t) (B13 m c t) (B14 m c t) (B15 m c t) (B16 m c t) (B17 m c t) (B18 m c t) y = G m c (((cfg0.win 19).blk t).view.emb y) := by
  obtain ⟨r, k, rfl⟩ : ∃ (r : Fin 512) (k : Fin 1024), y = ix2 r k := ⟨y 0, y 1, eq_ix2 y⟩
  rw [Cert.Blk.out_at, par_eq]
  have e0 : ((((cfg0.win 19).blk t).view.emb (ix2 r k)) 0 : ℕ) = t * 512 + r := by blk_simp [idx t]
  have e1 : (((cfg0.win 19).blk t).view.emb (ix2 r k)) 1 = k := by
    ext
    blk_simp [idx t]
  unfold G
  simp only [e0, e1]

theorem final : (dats m 0 c).arrAt 19 (cfgs 0).N = G m c := by
  refine (dats m 0 c).arrAt_eq_of_covers 19 _ (by decide +kernel) fun t _ y => ?_
  blk_simp
  rw [after0_19]
  exact point m c t y

end Cert.Final

end
-- ==== Proof.PreRead.lean ====
/- What the precondition says of the arguments: every element of those that feed the attention's scores is finite. -/
module

public import proofs.«01_k».proof.Proof.PreFacts

@[expose] public section

set_option maxRecDepth 16384

noncomputable section

namespace Cert.PreFin

open Idealize.ShloMosaic Idealize.ShloMosaic.TcCoe Cert.Rows Cert.Pre_finite

theorem and_one : ∀ a b : BitVec 1, IntOp.andi a b = 1#1 → a = 1#1 ∧ b = 1#1 := by decide

/-- The precondition, argument by argument. -/
theorem read (a0 : FVec Ideal S2x8192x1024 .f32) (a1 : FVec Ideal S2x8192x384 .f32) (a2 a3 a4 : FVec Ideal S2x8192x256 .f32) (a5 : FVec Ideal S2x8192x384 .f32)
    (a6 : FVec Ideal S2x256 .f32) (a7 : FVec Ideal S2x10x1024 .f32) (a8 a9 : FVec Ideal S2x1024x1024 .f32) (a10 : FVec Ideal S2x256x2048 .bf16)
    (a11 : FVec Ideal S2x1024x1024 .f32) (a12 : FVec Ideal S2x2x1024x5632 .f32) (a13 : FVec Ideal S2x2x2816x1024 .f32)
    (h : Cert.Pre_finite.fn (F := Ideal) a0 a1 a2 a3 a4 a5 a6 a7 a8 a9 a10 a11 a12 a13 = fun _ => 1#1) :
    (∀ i, IsFin (a0 i)) ∧ (∀ i, IsFin (a1 i)) ∧ (∀ i, IsFin (a2 i)) ∧ (∀ i, IsFin (a3 i)) ∧ (∀ i, IsFin (a4 i)) ∧ (∀ i, IsFin (a5 i)) ∧ (∀ i, IsFin (a6 i))
      ∧ (∀ i, IsFin (a7 i)) ∧ (∀ i, IsFin (a8 i)) ∧ (∀ i, IsFin (a9 i)) ∧ (∀ i, IsFin (a10 i)) := by
  have h' := congrFun h ix0
  unfold Cert.Pre_finite.fn Cert.Pre_finite.fn_part1 Cert.Pre_finite.fn_part2 Cert.Pre_finite.fn_part3 at h'
  obtain ⟨h', e10⟩ := and_one _ _ h'
  obtain ⟨h', e9⟩ := and_one _ _ h'
  obtain ⟨h', e8⟩ := and_one _ _ h'
  obtain ⟨h', e7⟩ := and_one _ _ h'
  obtain ⟨h', e6⟩ := and_one _ _ h'
  obtain ⟨h', e5⟩ := and_one _ _ h'
  obtain ⟨h', e4⟩ := and_one _ _ h'
  obtain ⟨h', e3⟩ := and_one _ _ h'
  obtain ⟨h', e2⟩ := and_one _ _ h'
  obtain ⟨e0, e1⟩ := and_one _ _ h'
  exact ⟨all_fin a0 _ _ _ _ _ e0, all_fin a1 _ _ _ _ _ e1, all_fin a2 _ _ _ _ _ e2, all_fin a3 _ _ _ _ _ e3, all_fin a4 _ _ _ _ _ e4, all_fin a5 _ _ _ _ _ e5,
    all_fin a6 _ _ _ _ _ e6, all_fin a7 _ _ _ _ _ e7, all_fin a8 _ _ _ _ _ e8, all_fin a9 _ _ _ _ _ e9, fun i => all_fin (extf .f32 a10 _) _ _ _ _ _ e10 i⟩

end Cert.PreFin

end
-- ==== Proof.Bridge.lean ====
/- The kernel's array is the reference's result when the two programs' arguments agree and those feeding the scores are finite. -/
module

public import proofs.«01_k».proof.Proof.Final
public import proofs.«01_k».proof.Proof.PreRead

@[expose] public section

set_option maxRecDepth 16384

noncomputable section

namespace Cert.Bridge

open Idealize.ShloMosaic Idealize.ShloMosaic.TcCoe Idealize.SL.Sem Cert.KernelIdeal Cert.KernelIdeal.Gen Cert.Entry Cert.Rows
open Cert.Ref (A0 A1 A2 A3 A4 A5 A6 A7 A8 A9 A10 A11 A12 A13)

variable (m : (ℓ : Loc nD τ sig) → Buf (Elt Ideal) ℓ) (c : Dev nD)

/-- Under the precondition every token's parameters that feed the scores are finite. -/
theorem par_fin (h : Cert.Pre_finite.fn (F := Ideal) (K0 m c) (K1 m c) (K2 m c) (K3 m c) (K4 m c) (K5 m c) (K6 m c) (K7 m c) (K8 m c) (K9 m c) (K10 m c) (K11 m c) (K12 m c) (K13 m c) = fun _ => 1#1)
    (b : Fin 2) (l : Fin 8192) : (Cert.Final.par m c b l).Finite := by
  obtain ⟨h0, h1, h2, h3, h4, h5, h6, h7, h8, h9, h10⟩ := Cert.PreFin.read _ _ _ _ _ _ _ _ _ _ _ _ _ _ h
  exact
    { x := fun k => h0 _, ya := fun k => h1 _, yb := fun k => (h4 _).mul ((h2 _).add ((h6 _).mul (h3 _))), yc := fun k => h5 _,
      gm := fun k => h7 _, g4 := fun k => h7 _, g5 := fun k => h7 _, wm := fun k c' => h8 _, wq := fun k c' => h9 _, K := fun h' p d => h10 _ }

/-- Both programs see the same token. -/
theorem par_eq (V0 : Valuation Cert.ReferenceIdeal.τ Cert.ReferenceIdeal.sig (Elt Ideal)) (h0 : A0 V0 = K0 m c) (h1 : A1 V0 = K1 m c) (h2 : A2 V0 = K2 m c) (h3 : A3 V0 = K3 m c) (h4 : A4 V0 = K4 m c) (h5 : A5 V0 = K5 m c) (h6 : A6 V0 = K6 m c) (h7 : A7 V0 = K7 m c) (h8 : A8 V0 = K8 m c) (h9 : A9 V0 = K9 m c) (h10 : A10 V0 = K10 m c) (h11 : A11 V0 = K11 m c) (h12 : A12 V0 = K12 m c) (h13 : A13 V0 = K13 m c)
    (b : Fin 2) (l : Fin 8192) : Cert.Ref.par V0 b l = Cert.Final.par m c b l := by
  unfold Cert.Ref.par Cert.Final.par
  rw [h0, h1, h2, h3, h4, h5, h6, h7, h8, h9, h10, h11, h12, h13]

/-- The reference's result is the kernel's array. -/
theorem out_eq (V0 : Valuation Cert.ReferenceIdeal.τ Cert.ReferenceIdeal.sig (Elt Ideal)) (h0 : A0 V0 = K0 m c) (h1 : A1 V0 = K1 m c) (h2 : A2 V0 = K2 m c) (h3 : A3 V0 = K3 m c) (h4 : A4 V0 = K4 m c) (h5 : A5 V0 = K5 m c) (h6 : A6 V0 = K6 m c) (h7 : A7 V0 = K7 m c) (h8 : A8 V0 = K8 m c) (h9 : A9 V0 = K9 m c) (h10 : A10 V0 = K10 m c) (h11 : A11 V0 = K11 m c) (h12 : A12 V0 = K12 m c) (h13 : A13 V0 = K13 m c)
    (h : Cert.Pre_finite.fn (F := Ideal) (K0 m c) (K1 m c) (K2 m c) (K3 m c) (K4 m c) (K5 m c) (K6 m c) (K7 m c) (K8 m c) (K9 m c) (K10 m c) (K11 m c) (K12 m c) (K13 m c) = fun _ => 1#1) : Cert.Ref.out V0 = Cert.Final.G m c := by
  funext i
  obtain ⟨r, k, rfl⟩ : ∃ (r : Fin 16384) (k : Fin 1024), i = ix2 r k := ⟨i 0, i 1, eq_ix2 i⟩
  rw [Cert.Ref.res_at, par_eq m c V0 h0 h1 h2 h3 h4 h5 h6 h7 h8 h9 h10 h11 h12 h13, ← Par.oK_eq (par_fin m c h _ _)]
  rfl

end Cert.Bridge

end
-- ==== Proof.Pre.lean ====
/- One token's row through the layer's first block: the feed-forward half step and the combined projection. -/
module

public import proofs.«01_k».proof.Proof.Tok

@[expose] public section

set_option maxRecDepth 16384

noncomputable section

namespace Cert.Rows

open Idealize.ShloMosaic

/-- What the layer's first block reads for one token: its row, the gains, the weights. -/
structure Pre where
  x : Fin 1024 → EReal
  g0 : Fin 1024 → EReal
  g1 : Fin 1024 → EReal
  g2 : Fin 1024 → EReal
  G : Fin 1024 → Fin 2816 → EReal
  U : Fin 1024 → Fin 2816 → EReal
  D : Fin 2816 → Fin 1024 → EReal
  w : Fin 1024 → Fin 3072 → EReal

namespace Pre

variable (p : Pre)

/-- The feed-forward network's output. -/
def y : Fin 1024 → EReal := ffn (rms d1024 p.x p.g0) p.G p.U p.D

/-- The token after the feed-forward half step. -/
def x1 (c : Fin 1024) : EReal := p.x c + Ideal.ofBits .f32 0x3F000000#32 * rms d1024 p.y p.g1 c

/-- The projection of the normed token, at one of its 3072 columns. -/
def pr (k : Fin 3072) : EReal := lin (rms d1024 p.x1 p.g2) p.w k

end Pre

/-- The scale of a column of the projection: the queries' (columns 0 to 383 and 1920 to 2303) carry the softmax scale times
    log2 e, the others 1. -/
def colscale (k : Fin 3072) : EReal :=
  if (k : ℕ) < 384 then Ideal.ofBits .f32 0x3E38AA3B#32 else if (k : ℕ) < 1920 then Ideal.ofBits .f32 0x3F800000#32
    else if (k : ℕ) < 2304 then Ideal.ofBits .f32 0x3E38AA3B#32 else Ideal.ofBits .f32 0x3F800000#32

/-- The queries' scale is an eighth times log2 e. -/
theorem scale_eq (a : EReal) : a * Ideal.ofBits .f32 0x3E38AA3B#32 = a * Ideal.ofBits .f32 0x3E000000#32 * Ideal.ofBits .f32 0x3FB8AA3B#32 := by
  rw [mul_assoc]
  congr 1
  simp [Ideal.ofBits, Ideal.ieee, -EReal.coe_mul]
  norm_num
  rw [← EReal.coe_mul]
  norm_num

theorem colscale_q (k : Fin 3072) (h : (k : ℕ) < 384) (a : EReal) :
    a * colscale k = a * Ideal.ofBits .f32 0x3E000000#32 * Ideal.ofBits .f32 0x3FB8AA3B#32 := by
  rw [colscale, if_pos h, scale_eq]

theorem colscale_q' (k : Fin 3072) (h : 1920 ≤ (k : ℕ)) (h' : (k : ℕ) < 2304) (a : EReal) :
    a * colscale k = a * Ideal.ofBits .f32 0x3E000000#32 * Ideal.ofBits .f32 0x3FB8AA3B#32 := by
  rw [colscale, if_neg (by omega), if_neg (by omega), if_pos h', scale_eq]

theorem colscale_mid (k : Fin 3072) (h : 384 ≤ (k : ℕ)) (h' : (k : ℕ) < 1920) (a : EReal) : a * colscale k = a := by
  rw [colscale, if_neg (by omega), if_pos h', Ideal.ofBits_one_f32, mul_one]

theorem colscale_end (k : Fin 3072) (h : 2304 ≤ (k : ℕ)) (a : EReal) : a * colscale k = a := by
  rw [colscale, if_neg (by omega), if_neg (by omega), if_neg (by omega), Ideal.ofBits_one_f32, mul_one]

/-- Hidden units `256 j …` of a feed-forward network. -/
def part (G U : Fin 1024 → Fin 2816 → EReal) (D : Fin 2816 → Fin 1024 → EReal) (h : Fin 1024 → EReal) (j : Fin 11) (c : Fin 1024) : EReal :=
  ffn h (fun k (i : Fin 256) => G k ⟨j * 256 + i, by omega⟩) (fun k (i : Fin 256) => U k ⟨j * 256 + i, by omega⟩)
    (fun (i : Fin 256) c => D ⟨j * 256 + i, by omega⟩ c) c

/-- A sum over eleven indices, added one after another. -/
theorem add11 (f : Fin 11 → EReal) : ∑ j, f j = f 0 + f 1 + f 2 + f 3 + f 4 + f 5 + f 6 + f 7 + f 8 + f 9 + f 10 := by
  simp only [Fin.sum_univ_succ, Fin.sum_univ_zero, ← add_assoc, add_zero]
  rfl

/-- The feed-forward network is its eleven parts, added one after another. -/
theorem ffn_parts (h : Fin 1024 → EReal) (G U : Fin 1024 → Fin 2816 → EReal) (D : Fin 2816 → Fin 1024 → EReal) (c : Fin 1024) :
    ffn h G U D c = part G U D h 0 c + part G U D h 1 c + part G U D h 2 c + part G U D h 3 c + part G U D h 4 c + part G U D h 5 c
      + part G U D h 6 c + part G U D h 7 c + part G U D h 8 c + part G U D h 9 c + part G U D h 10 c :=
  (ffn_chunks h G U D c).trans (add11 fun j => part G U D h j c)

end Cert.Rows

end
-- ==== Proof.P2Entry.lean ====
/- What each window of the first block of layer 0 holds at a grid point, in terms of the arguments. -/
module

public import proofs.«01_k».proof.Proof.Gen.Kernel2Ideal.Value
public import Idealize.ShloMosaic.Lib.Claim
public import Idealize.ShloMosaic.Lib.Pipeline.ValueKit
public import proofs.«01_k».proof.Proof.Pre

@[expose] public section

set_option maxRecDepth 16384

noncomputable section

namespace Cert.P2

open Idealize.ShloMosaic Idealize.ShloMosaic.TcCoe Idealize.SL.Sem Cert.Kernel2Ideal Cert.Kernel2Ideal.Gen Cert.Rows

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0, 0, 0] ∧ win0_3.index t = ![0, 0, 0, 0] ∧ win0_4.index t = ![0, 0] ∧ win0_5.index t = ![0, 0] ∧ win0_6.index t = ![0, 0, 0] ∧ win0_7.index t = ![0, 0] ∧ win0_8.index t = ![t.val, 0] ∧ win0_9.index t = ![t.val, 0] ∧ win0_10.index t = ![t.val, 0] ∧ win0_11.index t = ![t.val, 0] ∧ t.val < 32 :=
  (by decide +kernel : ∀ t : Fin grid0.N, _)

theorem lt (t : Fin cfg0.N) : t.val < 32 := (idx t).2.2.2.2.2.2.2.2.2.2.2.2

/-- Window 0's block at a grid point. -/
abbrev B0 (t : Fin cfg0.N) : FVec Ideal S512x1024 .f32 := iblk m c 0 t

/-- Window 1's block at a grid point. -/
abbrev B1 (t : Fin cfg0.N) : FVec Ideal S1x1024 .f32 := iblk m c 1 t

/-- Window 2's block at a grid point. -/
abbrev B2 (t : Fin cfg0.N) : FVec Ideal S1x1x1024x5632 .bf16 := iblk m c 2 t

/-- Window 3's block at a grid point. -/
abbrev B3 (t : Fin cfg0.N) : FVec Ideal S1x1x2816x1024 .bf16 := iblk m c 3 t

/-- Window 4's block at a grid point. -/
abbrev B4 (t : Fin cfg0.N) : FVec Ideal S1x1024 .f32 := iblk m c 4 t

/-- Window 5's block at a grid point. -/
abbrev B5 (t : Fin cfg0.N) : FVec Ideal S1x1024 .f32 := iblk m c 5 t

/-- Window 6's block at a grid point. -/
abbrev B6 (t : Fin cfg0.N) : FVec Ideal S1x1024x3072 .bf16 := iblk m c 6 t

/-- Window 7's block at a grid point. -/
abbrev B7 (t : Fin cfg0.N) : FVec Ideal S1x3072 .f32 := iblk m c 7 t

/-- The kernel's argument 0. -/
abbrev K0 : FVec Ideal S2x8192x1024 .f32 := m ((c : Thread nD τ).loc main_arg0)

/-- The kernel's argument 1. -/
abbrev K1 : FVec Ideal S2x10x1024 .f32 := m ((c : Thread nD τ).loc main_arg1)

/-- The kernel's argument 2. -/
abbrev K2 : FVec Ideal S2x1024x3072 .f32 := m ((c : Thread nD τ).loc main_arg2)

/-- The kernel's argument 3. -/
abbrev K3 : FVec Ideal S2x2x1024x5632 .f32 := m ((c : Thread nD τ).loc main_arg3)

/-- The kernel's argument 4. -/
abbrev K4 : FVec Ideal S2x2x2816x1024 .f32 := m ((c : Thread nD τ).loc main_arg4)

theorem b0 (t : Fin cfg0.N) (r : Fin 512) (k : Fin 1024) :
    B0 m c t (ix2 r k) = K0 m c (ix3 ⟨(t * 512 + r) / 8192, by have := lt t; omega⟩ ⟨(t * 512 + r) % 8192, by omega⟩ k) := by
  blk_point [iblk, V, idx t]

theorem b1 (t : Fin cfg0.N) (k : Fin 1024) : B1 m c t (ix2 0 k) = K1 m c (ix3 0 0 k) := by
  blk_point [iblk, V, idx t]

theorem b4 (t : Fin cfg0.N) (k : Fin 1024) : B4 m c t (ix2 0 k) = K1 m c (ix3 0 1 k) := by
  blk_point [iblk, V, idx t]

theorem b5 (t : Fin cfg0.N) (k : Fin 1024) : B5 m c t (ix2 0 k) = K1 m c (ix3 0 2 k) := by
  blk_point [iblk, V, idx t]

theorem b2 (t : Fin cfg0.N) (k : Fin 1024) (n : Fin 5632) : B2 m c t (ix4 0 0 k n) = K3 m c (ix4 0 0 k n) := by
  blk_point [iblk, V, idx t]

theorem b3 (t : Fin cfg0.N) (k : Fin 2816) (n : Fin 1024) : B3 m c t (ix4 0 0 k n) = K4 m c (ix4 0 0 k n) := by
  blk_point [iblk, V, idx t]

theorem b6 (t : Fin cfg0.N) (k : Fin 1024) (n : Fin 3072) : B6 m c t (ix3 0 k n) = K2 m c (ix3 0 k n) := by
  blk_point [iblk, V, idx t]

/-- The column scales as the program builds them: four constant rows side by side. -/
def colrow : FVec Ideal S1x3072 .f32 :=
  concatenate S1x3072 1 [⟨S1x384, (broadcastInDim S1x384 ![] bcast_S_S1x384 (constant S_ .f32 0x3E38AA3B#32) : FVec Ideal S1x384 .f32)⟩,
    ⟨S1x1536, (broadcastInDim S1x1536 ![] bcast_S_S1x1536 (constant S_ .f32 0x3F800000#32) : FVec Ideal S1x1536 .f32)⟩,
    ⟨S1x384, (broadcastInDim S1x384 ![] bcast_S_S1x384 (constant S_ .f32 0x3E38AA3B#32) : FVec Ideal S1x384 .f32)⟩,
    ⟨S1x768, (broadcastInDim S1x768 ![] bcast_S_S1x768 (constant S_ .f32 0x3F800000#32) : FVec Ideal S1x768 .f32)⟩]
    concatenates_S1x384_S1x1536_S1x384_S1x768_S1x3072_d1

theorem colrow_at (k : Fin 3072) : colrow (ix2 0 k) = colscale k := by
  unfold colscale
  pointwise [colrow]
  split_ifs <;> first | rfl | omega

theorem v10_eq : StableHlo.after hostOps0 (fun b => m (c, b)) (Proc.devRef .tc main_v10) = colrow := by
  simp only [hostOps0, StableHlo.after_cons, StableHlo.after_nil]
  repeat (first
    | (rw [StableHlo.reshape_result_ne]; rotate_left; decide)
    | (rw [StableHlo.unary_result_ne]; rotate_left; decide))
  rw [StableHlo.nary4_result]
  repeat (first
    | rw [StableHlo.unary_result] | rw [StableHlo.nullary_result]
    | (rw [StableHlo.nullary_result_ne]; rotate_left; decide)
    | (rw [StableHlo.unary_result_ne]; rotate_left; decide))
  rfl

theorem b7 (t : Fin cfg0.N) (k : Fin 3072) : B7 m c t (ix2 0 k) = colscale k := by
  have e : ((win0_7.blk t).view.emb (ix2 0 k) : S1x3072.Idx) = ix2 0 k := by
    blk_ext [idx t]
  exact (congrFun (v10_eq m c) ((win0_7.blk t).view.emb (ix2 0 k))).trans ((congrArg colrow e).trans (colrow_at k))

end Cert.P2

end
-- ==== Proof.P2Pay.lean ====
/- The payloads of the first block of layer 0, read at a row and a column. -/
module

public import proofs.«01_k».proof.Proof.Pre
public import proofs.«01_k».proof.Proof.Gen.Kernel2Ideal.Skeleton

@[expose] public section

set_option maxRecDepth 16384

noncomputable section

namespace Cert.P2

open Idealize.ShloMosaic Idealize.ShloMosaic.TcCoe Cert.Kernel2Ideal Cert.Kernel2Ideal.Gen Cert.Rows

theorem pay3_at (v0 : FVec Ideal S512x1024 .f32) (r : Fin 512) (c : Fin 1024) : k0_pay3 (F := Ideal) v0 (ix2 r c) = v0 (ix2 r c) := by
  pointwise [k0_pay3]

theorem pay4_at (v0 : FVec Ideal S512x1024 .f32) (v2 : FVec Ideal S1x1024 .f32) (r : Fin 512) (c : Fin 1024) :
    k0_pay4 (F := Ideal) v0 v2 (ix2 r c) = rms d1024 (fun k => v0 (ix2 r k)) (fun k => v2 (ix2 0 k)) c := by
  unfold rms rscale
  pointwise [k0_pay4, pay3_at]

theorem pay5_at (v0 : FVec Ideal S512x1024 .f32) (v2 : FVec Ideal S1x1024 .f32) (g u : FVec Ideal S1x1x1024x256 .bf16) (d : FVec Ideal S1x1x256x1024 .bf16) (r : Fin 512) (c : Fin 1024) :
    k0_pay5 (F := Ideal) v0 v2 g u d (ix2 r c) = ffn (fun k => k0_pay4 (F := Ideal) v0 v2 (ix2 r k)) (fun k c => g (ix4 0 0 k c)) (fun k c => u (ix4 0 0 k c)) (fun k c => d (ix4 0 0 k c)) c := by
  unfold ffn hid lin
  pointwise [k0_pay5]

theorem pay6_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay6 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay6]

theorem pay7_at (v0 : FVec Ideal S1x1x1024x256 .bf16) (k : Fin 1024) (c : Fin 256) : k0_pay7 (F := Ideal) v0 (ix2 k c) = v0 (ix4 0 0 k c) := by
  pointwise [k0_pay7]

theorem pay8_at (h : FVec Ideal S512x1024 .bf16) (a : FVec Ideal S512x1024 .f32) (g : FVec Ideal S1024x256 .bf16) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay8 (F := Ideal) h a g u d g' u' d' (ix2 r c) =
      a (ix2 r c) + ffn (fun k => h (ix2 r k)) (fun k c => g (ix2 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay8]

theorem pay9_at (h : FVec Ideal S512x1024 .bf16) (g : FVec Ideal S1x1x1024x256 .bf16) (r : Fin 512) (c : Fin 256) :
    k0_pay9 (F := Ideal) h g (ix2 r c) = lin (fun k => h (ix2 r k)) (fun k c => g (ix4 0 0 k c)) c := by
  unfold lin
  pointwise [k0_pay9]

theorem pay11_at (h : FVec Ideal S512x1024 .bf16) (g : FVec Ideal S1x1x1024x256 .bf16) (r : Fin 512) (c : Fin 256) :
    k0_pay11 (F := Ideal) h g (ix2 r c) = lin (fun k => h (ix2 r k)) (fun k c => g (ix4 0 0 k c)) c := by
  unfold lin
  pointwise [k0_pay11]

theorem pay13_at (h : FVec Ideal S512x1024 .bf16) (g : FVec Ideal S1x1x1024x256 .bf16) (r : Fin 512) (c : Fin 256) :
    k0_pay13 (F := Ideal) h g (ix2 r c) = lin (fun k => h (ix2 r k)) (fun k c => g (ix4 0 0 k c)) c := by
  unfold lin
  pointwise [k0_pay13]

theorem pay10_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay10 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay10]

theorem pay12_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay12 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay12]

theorem pay14_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay14 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay14]

theorem pay15_at (v0 : FVec Ideal S1x1024 .f32) (c : Fin 1024) : k0_pay15 (F := Ideal) v0 (ix2 0 c) = v0 (ix2 0 c) := by
  pointwise [k0_pay15]

theorem pay16_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) :
    k0_pay16 (F := Ideal) h a s u d g' u' d' (ix2 r 0) =
      Ideal.div (∑ c : Fin 1024, k0_pay14 (F := Ideal) h a s u d g' u' d' (ix2 r c) * k0_pay14 (F := Ideal) h a s u d g' u' d' (ix2 r c)) d1024 + Ideal.ofBits .f32 0x358637BD#32 := by
  pointwise [k0_pay16]

theorem pay17_at (v1 v171 : FVec Ideal S512x1024 .f32) (v173 : FVec Ideal S1x1024 .f32) (v180 : FVec Ideal S512x1 .f32) (r : Fin 512) (c : Fin 1024) :
    k0_pay17 (F := Ideal) v1 v171 v173 v180 (ix2 r c) =
      v1 (ix2 r c) + Ideal.ofBits .f32 0x3F000000#32 * (v171 (ix2 r c) * Ideal.rsqrt (v180 (ix2 r 0)) * v173 (ix2 0 c)) := by
  pointwise [k0_pay17]

theorem pay18_at (v1 v171 : FVec Ideal S512x1024 .f32) (v173 : FVec Ideal S1x1024 .f32) (v180 : FVec Ideal S512x1 .f32) (v190 : FVec Ideal S1x1024 .f32) (r : Fin 512) (c : Fin 1024) :
    k0_pay18 (F := Ideal) v1 v171 v173 v180 v190 (ix2 r c) =
      rms d1024 (fun k => k0_pay17 (F := Ideal) v1 v171 v173 v180 (ix2 r k)) (fun k => v190 (ix2 0 k)) c := by
  unfold rms rscale
  pointwise [k0_pay18]

theorem pay19_at (v1 v171 : FVec Ideal S512x1024 .f32) (v173 : FVec Ideal S1x1024 .f32) (v180 : FVec Ideal S512x1 .f32) (v190 : FVec Ideal S1x1024 .f32) (w : FVec Ideal S1x1024x1152 .bf16) (s : FVec Ideal S1x1152 .f32) (r : Fin 512) (c : Fin 1152) :
    k0_pay19 (F := Ideal) v1 v171 v173 v180 v190 w s (ix2 r c) =
      lin (fun k => k0_pay18 (F := Ideal) v1 v171 v173 v180 v190 (ix2 r k)) (fun k c => w (ix3 0 k c)) c * s (ix2 0 c) := by
  unfold lin
  pointwise [k0_pay19]

theorem pay20_at (v1 v171 : FVec Ideal S512x1024 .f32) (v173 : FVec Ideal S1x1024 .f32) (v180 : FVec Ideal S512x1 .f32) (v190 : FVec Ideal S1x1024 .f32) (w : FVec Ideal S1x1024x768 .bf16) (r : Fin 512) (c : Fin 768) :
    k0_pay20 (F := Ideal) v1 v171 v173 v180 v190 w (ix2 r c) =
      lin (fun k => k0_pay18 (F := Ideal) v1 v171 v173 v180 v190 (ix2 r k)) (fun k c => w (ix3 0 k c)) c := by
  unfold lin
  pointwise [k0_pay20]

theorem pay1_at (v : FVec Ideal S512x768 .f32) (s : FVec Ideal S1x768 .f32) (r : Fin 512) (c : Fin 768) :
    k0_pay1 (F := Ideal) v s (ix2 r c) = v (ix2 r c) * s (ix2 0 c) := by
  pointwise [k0_pay1]

theorem pay2_at (h : FVec Ideal S512x1024 .bf16) (w : FVec Ideal S1x1024x1152 .bf16) (s : FVec Ideal S1x1152 .f32) (r : Fin 512) (c : Fin 1152) :
    k0_pay2 (F := Ideal) h w s (ix2 r c) = lin (fun k => h (ix2 r k)) (fun k c => w (ix3 0 k c)) c * s (ix2 0 c) := by
  unfold lin
  pointwise [k0_pay2]

end Cert.P2

end
-- ==== Proof.P2Blk.lean ====
/- The first block of layer 0 on the blocks of one grid point. -/
module

public import proofs.«01_k».proof.Proof.P2Pay
public import proofs.«01_k».proof.Proof.Gen.Kernel2Ideal.Frame

@[expose] public section

set_option maxRecDepth 16384

noncomputable section

namespace Cert.P2

open Idealize.ShloMosaic Idealize.ShloMosaic.TcCoe Cert.Kernel2Ideal Cert.Kernel2Ideal.Gen Cert.Rows

variable (x0 : FVec Ideal S512x1024 .f32) (x1 : FVec Ideal S1x1024 .f32) (x2 : FVec Ideal S1x1x1024x5632 .bf16) (x3 : FVec Ideal S1x1x2816x1024 .bf16) (x4 : FVec Ideal S1x1024 .f32) (x5 : FVec Ideal S1x1024 .f32) (x6 : FVec Ideal S1x1024x3072 .bf16) (x7 : FVec Ideal S1x3072 .f32)

/-- The token of row `r` of the blocks. -/
def par (x0 : FVec Ideal S512x1024 .f32) (x1 : FVec Ideal S1x1024 .f32) (x2 : FVec Ideal S1x1x1024x5632 .bf16) (x3 : FVec Ideal S1x1x2816x1024 .bf16) (x4 : FVec Ideal S1x1024 .f32) (x5 : FVec Ideal S1x1024 .f32) (x6 : FVec Ideal S1x1024x3072 .bf16) (x7 : FVec Ideal S1x3072 .f32) (r : Fin 512) : Pre where
  x k := x0 (ix2 r k)
  g0 k := x1 (ix2 0 k)
  g1 k := x4 (ix2 0 k)
  g2 k := x5 (ix2 0 k)
  G k c := x2 (ix4 0 0 k ⟨c, by omega⟩)
  U k c := x2 (ix4 0 0 k ⟨2816 + c, by omega⟩)
  D k c := x3 (ix4 0 0 k c)
  w k c := x6 (ix3 0 k c)

theorem ch0 (r : Fin 512) (h : Fin 1024 → EReal) (c : Fin 1024) : ffn h (fun k (i : Fin 256) => (View.ld (Val := Elt Ideal) (e' := .bf16) x2 r0_2 : FVec Ideal S1x1x1024x256 .bf16) (ix4 0 0 k i))
      (fun k (i : Fin 256) => (View.ld (Val := Elt Ideal) (e' := .bf16) x2 r0_3 : FVec Ideal S1x1x1024x256 .bf16) (ix4 0 0 k i)) (fun (i : Fin 256) c => (View.ld (Val := Elt Ideal) (e' := .bf16) x3 r0_4 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 0 c := by
  unfold part ffn hid lin
  pointwise [par]

theorem ch1 (r : Fin 512) (h : Fin 1024 → EReal) (c : Fin 1024) : ffn h (fun k (i : Fin 256) => (View.ld (Val := Elt Ideal) (e' := .bf16) x2 r0_5 : FVec Ideal S1x1x1024x256 .bf16) (ix4 0 0 k i))
      (fun k (i : Fin 256) => (View.ld (Val := Elt Ideal) (e' := .bf16) x2 r0_6 : FVec Ideal S1x1x1024x256 .bf16) (ix4 0 0 k i)) (fun (i : Fin 256) c => (View.ld (Val := Elt Ideal) (e' := .bf16) x3 r0_7 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 1 c := by
  unfold part ffn hid lin
  pointwise [par]
  simp only [← Nat.add_assoc, Nat.reduceAdd]

theorem ch2 (r : Fin 512) (h : Fin 1024 → EReal) (c : Fin 1024) : ffn h (fun k (i : Fin 256) => (View.ld (Val := Elt Ideal) (e' := .bf16) x2 r0_8 : FVec Ideal S1x1x1024x256 .bf16) (ix4 0 0 k i))
      (fun k (i : Fin 256) => (View.ld (Val := Elt Ideal) (e' := .bf16) x2 r0_9 : FVec Ideal S1x1x1024x256 .bf16) (ix4 0 0 k i)) (fun (i : Fin 256) c => (View.ld (Val := Elt Ideal) (e' := .bf16) x3 r0_10 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 2 c := by
  unfold part ffn hid lin
  pointwise [par]
  simp only [← Nat.add_assoc, Nat.reduceAdd]

theorem ch3 (r : Fin 512) (h : Fin 1024 → EReal) (c : Fin 1024) : ffn h (fun k (i : Fin 256) => (View.ld (Val := Elt Ideal) (e' := .bf16) x2 r0_11 : FVec Ideal S1x1x1024x256 .bf16) (ix4 0 0 k i))
      (fun k (i : Fin 256) => (View.ld (Val := Elt Ideal) (e' := .bf16) x2 r0_12 : FVec Ideal S1x1x1024x256 .bf16) (ix4 0 0 k i)) (fun (i : Fin 256) c => (View.ld (Val := Elt Ideal) (e' := .bf16) x3 r0_13 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 3 c := by
  unfold part ffn hid lin
  pointwise [par]
  simp only [← Nat.add_assoc, Nat.reduceAdd]

theorem ch4 (r : Fin 512) (h : Fin 1024 → EReal) (c : Fin 1024) : ffn h (fun k (i : Fin 256) => (View.ld (Val := Elt Ideal) (e' := .bf16) x2 r0_14 : FVec Ideal S1x1x1024x256 .bf16) (ix4 0 0 k i))
      (fun k (i : Fin 256) => (View.ld (Val := Elt Ideal) (e' := .bf16) x2 r0_15 : FVec Ideal S1x1x1024x256 .bf16) (ix4 0 0 k i)) (fun (i : Fin 256) c => (View.ld (Val := Elt Ideal) (e' := .bf16) x3 r0_16 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 4 c := by
  unfold part ffn hid lin
  pointwise [par]
  simp only [← Nat.add_assoc, Nat.reduceAdd]

theorem ch5 (r : Fin 512) (h : Fin 1024 → EReal) (c : Fin 1024) : ffn h (fun k (i : Fin 256) => (View.ld (Val := Elt Ideal) (e' := .bf16) x2 r0_17 : FVec Ideal S1x1x1024x256 .bf16) (ix4 0 0 k i))
      (fun k (i : Fin 256) => (View.ld (Val := Elt Ideal) (e' := .bf16) x2 r0_18 : FVec Ideal S1x1x1024x256 .bf16) (ix4 0 0 k i)) (fun (i : Fin 256) c => (View.ld (Val := Elt Ideal) (e' := .bf16) x3 r0_19 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 5 c := by
  unfold part ffn hid lin
  pointwise [par]
  simp only [← Nat.add_assoc, Nat.reduceAdd]

theorem ch6 (r : Fin 512) (h : Fin 1024 → EReal) (c : Fin 1024) : ffn h (fun k (i : Fin 256) => (View.ld (Val := Elt Ideal) (e' := .bf16) x2 r0_20 : FVec Ideal S1x1x1024x256 .bf16) (ix4 0 0 k i))
      (fun k (i : Fin 256) => (View.ld (Val := Elt Ideal) (e' := .bf16) x2 r0_21 : FVec Ideal S1x1x1024x256 .bf16) (ix4 0 0 k i)) (fun (i : Fin 256) c => (View.ld (Val := Elt Ideal) (e' := .bf16) x3 r0_22 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 6 c := by
  unfold part ffn hid lin
  pointwise [par]
  simp only [← Nat.add_assoc, Nat.reduceAdd]

theorem ch7 (r : Fin 512) (h : Fin 1024 → EReal) (c : Fin 1024) : ffn h (fun k (i : Fin 256) => (View.ld (Val := Elt Ideal) (e' := .bf16) x2 r0_23 : FVec Ideal S1x1x1024x256 .bf16) (ix4 0 0 k i))
      (fun k (i : Fin 256) => (View.ld (Val := Elt Ideal) (e' := .bf16) x2 r0_24 : FVec Ideal S1x1x1024x256 .bf16) (ix4 0 0 k i)) (fun (i : Fin 256) c => (View.ld (Val := Elt Ideal) (e' := .bf16) x3 r0_25 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 7 c := by
  unfold part ffn hid lin
  pointwise [par]
  simp only [← Nat.add_assoc, Nat.reduceAdd]

theorem ch8 (r : Fin 512) (h : Fin 1024 → EReal) (c : Fin 1024) : ffn h (fun k (i : Fin 256) => (View.ld (Val := Elt Ideal) (e' := .bf16) x2 r0_26 : FVec Ideal S1x1x1024x256 .bf16) (ix4 0 0 k i))
      (fun k (i : Fin 256) => (View.ld (Val := Elt Ideal) (e' := .bf16) x2 r0_27 : FVec Ideal S1x1x1024x256 .bf16) (ix4 0 0 k i)) (fun (i : Fin 256) c => (View.ld (Val := Elt Ideal) (e' := .bf16) x3 r0_28 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 8 c := by
  unfold part ffn hid lin
  pointwise [par]
  simp only [← Nat.add_assoc, Nat.reduceAdd]

theorem ch9 (r : Fin 512) (h : Fin 1024 → EReal) (c : Fin 1024) : ffn h (fun k (i : Fin 256) => (View.ld (Val := Elt Ideal) (e' := .bf16) x2 r0_29 : FVec Ideal S1x1x1024x256 .bf16) (ix4 0 0 k i))
      (fun k (i : Fin 256) => (View.ld (Val := Elt Ideal) (e' := .bf16) x2 r0_30 : FVec Ideal S1x1x1024x256 .bf16) (ix4 0 0 k i)) (fun (i : Fin 256) c => (View.ld (Val := Elt Ideal) (e' := .bf16) x3 r0_31 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 9 c := by
  unfold part ffn hid lin
  pointwise [par]
  simp only [← Nat.add_assoc, Nat.reduceAdd]

theorem ch10 (r : Fin 512) (h : Fin 1024 → EReal) (c : Fin 1024) : ffn h (fun k (i : Fin 256) => (View.ld (Val := Elt Ideal) (e' := .bf16) x2 r0_32 : FVec Ideal S1x1x1024x256 .bf16) (ix4 0 0 k i))
      (fun k (i : Fin 256) => (View.ld (Val := Elt Ideal) (e' := .bf16) x2 r0_33 : FVec Ideal S1x1x1024x256 .bf16) (ix4 0 0 k i)) (fun (i : Fin 256) c => (View.ld (Val := Elt Ideal) (e' := .bf16) x3 r0_34 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 10 c := by
  unfold part ffn hid lin
  pointwise [par]
  simp only [← Nat.add_assoc, Nat.reduceAdd]

theorem p22 (r : Fin 512) (k : Fin 1024) : k0_pay22 (F := Ideal) x0 x1 x2 x3 x4 x5 x6 x7 (ix2 r k) = rms d1024 (par x0 x1 x2 x3 x4 x5 x6 x7 r).x (par x0 x1 x2 x3 x4 x5 x6 x7 r).g0 k := by
  unfold k0_pay22
  rw [pay4_at]
  unfold rms rscale
  pointwise [par]

theorem p24 (r : Fin 512) (i : Fin 256) : k0_pay24 (F := Ideal) x0 x1 x2 x3 x4 x5 x6 x7 (ix2 r i) = lin (rms d1024 (par x0 x1 x2 x3 x4 x5 x6 x7 r).x (par x0 x1 x2 x3 x4 x5 x6 x7 r).g0) (fun k (i : Fin 256) => (View.ld (Val := Elt Ideal) (e' := .bf16) x2 r0_29 : FVec Ideal S1x1x1024x256 .bf16) (ix4 0 0 k i)) i := by
  unfold k0_pay24
  rw [pay13_at]
  simp only [p22]

theorem p23 (r : Fin 512) (c : Fin 1024) : k0_pay23 (F := Ideal) x0 x1 x2 x3 x4 x5 x6 x7 (ix2 r c) = part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 0 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 1 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 2 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 3 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 4 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 5 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 6 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 7 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 8 c := by
  have e : ∀ k : Fin 1024, k0_pay4 (F := Ideal) (View.ld x0 r0_0) (View.ld x1 r0_1) (ix2 r k) = (rms d1024 (par x0 x1 x2 x3 x4 x5 x6 x7 r).x (par x0 x1 x2 x3 x4 x5 x6 x7 r).g0) k := fun k => p22 x0 x1 x2 x3 x4 x5 x6 x7 r k
  unfold k0_pay23
  rw [pay12_at, pay10_at, pay8_at, pay6_at, pay5_at]
  simp only [p22, pay7_at, pay9_at, pay11_at, e]
  generalize (rms d1024 (par x0 x1 x2 x3 x4 x5 x6 x7 r).x (par x0 x1 x2 x3 x4 x5 x6 x7 r).g0) = h
  simp only [← ch0 x0 x1 x2 x3 x4 x5 x6 x7 r, ← ch1 x0 x1 x2 x3 x4 x5 x6 x7 r, ← ch2 x0 x1 x2 x3 x4 x5 x6 x7 r, ← ch3 x0 x1 x2 x3 x4 x5 x6 x7 r, ← ch4 x0 x1 x2 x3 x4 x5 x6 x7 r, ← ch5 x0 x1 x2 x3 x4 x5 x6 x7 r, ← ch6 x0 x1 x2 x3 x4 x5 x6 x7 r, ← ch7 x0 x1 x2 x3 x4 x5 x6 x7 r, ← ch8 x0 x1 x2 x3 x4 x5 x6 x7 r]
  rfl

theorem y_at (r : Fin 512) (c : Fin 1024) : k0_pay25 (F := Ideal) x0 x1 x2 x3 x4 x5 x6 x7 (ix2 r c) = (par x0 x1 x2 x3 x4 x5 x6 x7 r).y c := by
  unfold k0_pay25 Pre.y
  rw [pay14_at, p23, ffn_parts]
  simp only [p22, p24]
  generalize (rms d1024 (par x0 x1 x2 x3 x4 x5 x6 x7 r).x (par x0 x1 x2 x3 x4 x5 x6 x7 r).g0) = h
  have e9 := ch9 x0 x1 x2 x3 x4 x5 x6 x7 r h c
  have e10 := ch10 x0 x1 x2 x3 x4 x5 x6 x7 r h c
  refine congrArg₂ (· + ·) (congrArg₂ (· + ·) rfl ?_) ?_
  · exact e9
  · exact e10

theorem x1_at (r : Fin 512) (c : Fin 1024) :
    k0_pay17 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (ix2 r c) = (par x0 x1 x2 x3 x4 x5 x6 x7 r).x1 c := by
  have f : k0_pay27 (F := Ideal) x0 x1 x2 x3 x4 x5 x6 x7 (ix2 r 0) = Ideal.div (∑ c : Fin 1024, (par x0 x1 x2 x3 x4 x5 x6 x7 r).y c * (par x0 x1 x2 x3 x4 x5 x6 x7 r).y c) d1024 + Ideal.ofBits .f32 0x358637BD#32 := by
    unfold k0_pay27
    rw [pay16_at]
    simp only [← y_at]
    rfl
  have g : k0_pay26 (F := Ideal) x0 x1 x2 x3 x4 x5 x6 x7 (ix2 0 c) = (par x0 x1 x2 x3 x4 x5 x6 x7 r).g1 c := by
    unfold k0_pay26
    rw [pay15_at]
    pointwise [par]
  have e : k0_pay21 (F := Ideal) x0 x1 x2 x3 x4 x5 x6 x7 (ix2 r c) = (par x0 x1 x2 x3 x4 x5 x6 x7 r).x c := by
    unfold k0_pay21
    rw [pay3_at]
    pointwise [par]
  rw [pay17_at, y_at, e, f, g]
  rfl

theorem u_at (r : Fin 512) (k : Fin 1024) :
    k0_pay18 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (ix2 r k) = rms d1024 (par x0 x1 x2 x3 x4 x5 x6 x7 r).x1 (par x0 x1 x2 x3 x4 x5 x6 x7 r).g2 k := by
  rw [pay18_at]
  simp only [x1_at]
  unfold rms
  pointwise [par]

theorem out8_at (r : Fin 512) (c : Fin 1024) : out0_8 (F := Ideal) x0 x1 x2 x3 x4 x5 x6 x7 (ix2 r c) = (par x0 x1 x2 x3 x4 x5 x6 x7 r).x1 c := by
  unfold out0_8
  refine Eq.trans ?_ (x1_at x0 x1 x2 x3 x4 x5 x6 x7 r c)
  exact congrFun (View.canon_unit_zero (S := S512x1024) (by decide) inb_S512x1024_S512x1024_0_0 _) (ix2 r c)

theorem out9_at (r : Fin 512) (c : Fin 1152) : out0_9 (F := Ideal) x0 x1 x2 x3 x4 x5 x6 x7 (ix2 r c) = (par x0 x1 x2 x3 x4 x5 x6 x7 r).pr ⟨c, by omega⟩ * x7 (ix2 0 ⟨c, by omega⟩) := by
  have w : k0_pay19 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (View.ld x6 r0_35) (View.ld x7 r0_36) (ix2 r c)
      = (par x0 x1 x2 x3 x4 x5 x6 x7 r).pr ⟨c, by omega⟩ * x7 (ix2 0 ⟨c, by omega⟩) := by
    rw [pay19_at]
    simp only [u_at]
    unfold Pre.pr lin
    pointwise [par]
  unfold out0_9
  refine Eq.trans ?_ w
  exact congrFun (View.canon_unit_zero (S := S512x1152) (by decide) inb_S512x1152_S512x1152_0_0 _) (ix2 r c)

theorem out10_at (r : Fin 512) (c : Fin 768) : out0_10 (F := Ideal) x0 x1 x2 x3 x4 x5 x6 x7 (ix2 r c) = (par x0 x1 x2 x3 x4 x5 x6 x7 r).pr ⟨1152 + c, by omega⟩ * x7 (ix2 0 ⟨1152 + c, by omega⟩) := by
  have w : k0_pay1 (F := Ideal) (k0_pay20 (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (View.ld x6 r0_38)) (View.ld x7 r0_39) (ix2 r c)
      = (par x0 x1 x2 x3 x4 x5 x6 x7 r).pr ⟨1152 + c, by omega⟩ * x7 (ix2 0 ⟨1152 + c, by omega⟩) := by
    rw [pay1_at, pay20_at]
    simp only [u_at]
    unfold Pre.pr lin
    pointwise [par]
  unfold out0_10
  refine Eq.trans ?_ w
  exact congrFun (View.canon_unit_zero (S := S512x768) (by decide) inb_S512x768_S512x768_0_0 _) (ix2 r c)

theorem out11_at (r : Fin 512) (c : Fin 1152) : out0_11 (F := Ideal) x0 x1 x2 x3 x4 x5 x6 x7 (ix2 r c) = (par x0 x1 x2 x3 x4 x5 x6 x7 r).pr ⟨1920 + c, by omega⟩ * x7 (ix2 0 ⟨1920 + c, by omega⟩) := by
  have w : k0_pay2 (F := Ideal) (k0_pay18 (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1)) (View.ld x6 r0_41) (View.ld x7 r0_42) (ix2 r c)
      = (par x0 x1 x2 x3 x4 x5 x6 x7 r).pr ⟨1920 + c, by omega⟩ * x7 (ix2 0 ⟨1920 + c, by omega⟩) := by
    rw [pay2_at]
    simp only [u_at]
    unfold Pre.pr lin
    pointwise [par]
  unfold out0_11
  refine Eq.trans ?_ w
  exact congrFun (View.canon_unit_zero (S := S512x1152) (by decide) inb_S512x1152_S512x1152_0_0 _) (ix2 r c)

end Cert.P2

end
-- ==== Proof.P2Final.lean ====
/- The result arrays of the first block of layer 0. -/
module

public import proofs.«01_k».proof.Proof.P2Entry
public import proofs.«01_k».proof.Proof.P2Blk

@[expose] public section

set_option maxRecDepth 16384

noncomputable section

namespace Cert.P2

open Idealize.ShloMosaic Idealize.ShloMosaic.TcCoe Idealize.SL.Sem Cert.Kernel2Ideal Cert.Kernel2Ideal.Gen Cert.Rows

variable (m : (ℓ : Loc nD τ sig) → Buf (Elt Ideal) ℓ) (c : Dev nD)

/-- The token at position `l` of batch `b`, over the kernel's arguments. -/
def tok (b : Fin 2) (l : Fin 8192) : Pre where
  x k := K0 m c (ix3 b l k)
  g0 k := K1 m c (ix3 0 0 k)
  g1 k := K1 m c (ix3 0 1 k)
  g2 k := K1 m c (ix3 0 2 k)
  G k c' := K3 m c (ix4 0 0 k ⟨c', by omega⟩)
  U k c' := K3 m c (ix4 0 0 k ⟨2816 + c', by omega⟩)
  D k c' := K4 m c (ix4 0 0 k c')
  w k c' := K2 m c (ix3 0 k c')

/-- The blocks of grid point `t` hold, in row `r`, the token of row `512 t + r`. -/
theorem par_eq (t : Fin cfg0.N) (r : Fin 512) :
    par (B0 m c t) (B1 m c t) (B2 m c t) (B3 m c t) (B4 m c t) (B5 m c t) (B6 m c t) (B7 m c t) r = tok m c ⟨(t * 512 + r) / 8192, by have := lt t; omega⟩ ⟨(t * 512 + r) % 8192, by omega⟩ := by
  unfold par tok
  simp only [b0, b1, b2, b3, b4, b5, b6]

/-- The tokens after the half step, at every row of the array. -/
def G8 : FVec Ideal S16384x1024 .f32 := fun i => (tok m c ⟨(i 0).val / 8192, by have := (i 0).isLt; change _ < 16384 at this; omega⟩ ⟨(i 0).val % 8192, by omega⟩).x1 (i 1)

/-- The scaled projection's columns 0 to 1151, at every row of the array. -/
def G9 : FVec Ideal S16384x1152 .f32 := fun i => (tok m c ⟨(i 0).val / 8192, by have := (i 0).isLt; change _ < 16384 at this; omega⟩ ⟨(i 0).val % 8192, by omega⟩).pr ⟨(i 1).val, by have := (i 1).isLt; change _ < 1152 at this; omega⟩ * colscale ⟨(i 1).val, by have := (i 1).isLt; change _ < 1152 at this; omega⟩

/-- The scaled projection's columns 1152 to 1919, at every row of the array. -/
def G10 : FVec Ideal S16384x768 .f32 := fun i => (tok m c ⟨(i 0).val / 8192, by have := (i 0).isLt; change _ < 16384 at this; omega⟩ ⟨(i 0).val % 8192, by omega⟩).pr ⟨1152 + (i 1).val, by have := (i 1).isLt; change _ < 768 at this; omega⟩ * colscale ⟨1152 + (i 1).val, by have := (i 1).isLt; change _ < 768 at this; omega⟩

/-- The scaled projection's columns 1920 to 3071, at every row of the array. -/
def G11 : FVec Ideal S16384x1152 .f32 := fun i => (tok m c ⟨(i 0).val / 8192, by have := (i 0).isLt; change _ < 16384 at this; omega⟩ ⟨(i 0).val % 8192, by omega⟩).pr ⟨1920 + (i 1).val, by have := (i 1).isLt; change _ < 1152 at this; omega⟩ * colscale ⟨1920 + (i 1).val, by have := (i 1).isLt; change _ < 1152 at this; omega⟩

theorem point8 (t : Fin cfg0.N) (y : S512x1024.Idx) : out0_8 (F := Ideal) (B0 m c t) (B1 m c t) (B2 m c t) (B3 m c t) (B4 m c t) (B5 m c t) (B6 m c t) (B7 m c t) y = G8 m c (((cfg0.win 8).blk t).view.emb y) := by
  obtain ⟨r, k, rfl⟩ : ∃ (r : Fin 512) (k : Fin 1024), y = ix2 r k := ⟨y 0, y 1, eq_ix2 y⟩
  rw [out8_at, par_eq]
  have e0 : ((((cfg0.win 8).blk t).view.emb (ix2 r k)) 0 : ℕ) = t * 512 + r := by blk_simp [idx t]
  have e1 : (((cfg0.win 8).blk t).view.emb (ix2 r k)) 1 = k := by
    ext
    blk_simp [idx t]
  unfold G8
  simp only [e0, e1]

theorem final8 : (dats m 0 c).arrAt 8 (cfgs 0).N = G8 m c := by
  refine (dats m 0 c).arrAt_eq_of_covers 8 _ (by decide +kernel) fun t _ y => ?_
  blk_simp
  rw [after0_8]
  exact point8 m c t y

theorem point9 (t : Fin cfg0.N) (y : S512x1152.Idx) : out0_9 (F := Ideal) (B0 m c t) (B1 m c t) (B2 m c t) (B3 m c t) (B4 m c t) (B5 m c t) (B6 m c t) (B7 m c t) y = G9 m c (((cfg0.win 9).blk t).view.emb y) := by
  obtain ⟨r, k, rfl⟩ : ∃ (r : Fin 512) (k : Fin 1152), y = ix2 r k := ⟨y 0, y 1, eq_ix2 y⟩
  rw [out9_at, par_eq, b7]
  have e0 : ((((cfg0.win 9).blk t).view.emb (ix2 r k)) 0 : ℕ) = t * 512 + r := by blk_simp [idx t]
  have e1 : (((cfg0.win 9).blk t).view.emb (ix2 r k)) 1 = k := by
    ext
    blk_simp [idx t]
  unfold G9
  simp only [e0, e1]

theorem final9 : (dats m 0 c).arrAt 9 (cfgs 0).N = G9 m c := by
  refine (dats m 0 c).arrAt_eq_of_covers 9 _ (by decide +kernel) fun t _ y => ?_
  blk_simp
  rw [after0_9]
  exact point9 m c t y

theorem point10 (t : Fin cfg0.N) (y : S512x768.Idx) : out0_10 (F := Ideal) (B0 m c t) (B1 m c t) (B2 m c t) (B3 m c t) (B4 m c t) (B5 m c t) (B6 m c t) (B7 m c t) y = G10 m c (((cfg0.win 10).blk t).view.emb y) := by
  obtain ⟨r, k, rfl⟩ : ∃ (r : Fin 512) (k : Fin 768), y = ix2 r k := ⟨y 0, y 1, eq_ix2 y⟩
  rw [out10_at, par_eq, b7]
  have e0 : ((((cfg0.win 10).blk t).view.emb (ix2 r k)) 0 : ℕ) = t * 512 + r := by blk_simp [idx t]
  have e1 : (((cfg0.win 10).blk t).view.emb (ix2 r k)) 1 = k := by
    ext
    blk_simp [idx t]
  unfold G10
  simp only [e0, e1]

theorem final10 : (dats m 0 c).arrAt 10 (cfgs 0).N = G10 m c := by
  refine (dats m 0 c).arrAt_eq_of_covers 10 _ (by decide +kernel) fun t _ y => ?_
  blk_simp
  rw [after0_10]
  exact point10 m c t y

theorem point11 (t : Fin cfg0.N) (y : S512x1152.Idx) : out0_11 (F := Ideal) (B0 m c t) (B1 m c t) (B2 m c t) (B3 m c t) (B4 m c t) (B5 m c t) (B6 m c t) (B7 m c t) y = G11 m c (((cfg0.win 11).blk t).view.emb y) := by
  obtain ⟨r, k, rfl⟩ : ∃ (r : Fin 512) (k : Fin 1152), y = ix2 r k := ⟨y 0, y 1, eq_ix2 y⟩
  rw [out11_at, par_eq, b7]
  have e0 : ((((cfg0.win 11).blk t).view.emb (ix2 r k)) 0 : ℕ) = t * 512 + r := by blk_simp [idx t]
  have e1 : (((cfg0.win 11).blk t).view.emb (ix2 r k)) 1 = k := by
    ext
    blk_simp [idx t]
  unfold G11
  simp only [e0, e1]

theorem final11 : (dats m 0 c).arrAt 11 (cfgs 0).N = G11 m c := by
  refine (dats m 0 c).arrAt_eq_of_covers 11 _ (by decide +kernel) fun t _ y => ?_
  blk_simp
  rw [after0_11]
  exact point11 m c t y

end Cert.P2

end
-- ==== Proof.P2Ref.lean ====
/- The reference of the first block of layer 0, read at an index. -/
module

public import proofs.«01_k».proof.Proof.Pre
public import proofs.«01_k».proof.Proof.Gen.Reference2Ideal.Run

@[expose] public section

set_option maxRecDepth 16384

noncomputable section

namespace Cert.P2.Ref

open Cert.Reference2Ideal Cert.Reference2Ideal.Gen Cert.Reference2Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x8192x1024 .f32 := V0 (Proc.devRef .tc main_arg0)

/-- The reference's argument 1. -/
abbrev A1 : FVec Ideal S2x10x1024 .f32 := V0 (Proc.devRef .tc main_arg1)

/-- The reference's argument 2. -/
abbrev A2 : FVec Ideal S2x1024x3072 .f32 := V0 (Proc.devRef .tc main_arg2)

/-- The reference's argument 3. -/
abbrev A3 : FVec Ideal S2x2x1024x5632 .f32 := V0 (Proc.devRef .tc main_arg3)

/-- The reference's argument 4. -/
abbrev A4 : FVec Ideal S2x2x2816x1024 .f32 := V0 (Proc.devRef .tc main_arg4)

/-- The token at position `s` of batch `b`, over the reference's arguments. -/
def tok (b : Fin 2) (s : Fin 8192) : Pre where
  x k := A0 V0 (ix3 b s k)
  g0 k := A1 V0 (ix3 0 0 k)
  g1 k := A1 V0 (ix3 0 1 k)
  g2 k := A1 V0 (ix3 0 2 k)
  G k c' := A3 V0 (ix4 0 0 k ⟨c', by omega⟩)
  U k c' := A3 V0 (ix4 0 0 k ⟨2816 + c', by omega⟩)
  D k c' := A4 V0 (ix4 0 0 k c')
  w k c' := A2 V0 (ix3 0 k c')

theorem v1_at (i : Fin 10) (c : Fin 1024) : (res_main_v1 V0 : FVec Ideal S10x1024 .f32) (ix2 i c) = A1 V0 (ix3 0 i c) := by
  pointwise [res_main_v1]

theorem v21_at (b : Fin 2) (s : Fin 8192) (c : Fin 5632) :
    (res_main_v21 V0 : FVec Ideal S2x8192x5632 .f32) (ix3 b s c) =
      lin (rms d1024 (fun k => A0 V0 (ix3 b s k)) (fun k => A1 V0 (ix3 0 0 k))) (fun k c => A3 V0 (ix4 0 0 k c)) c := by
  unfold lin rms rscale
  pointwise [res_main_v21, v1_at]

theorem v22_at (b : Fin 2) (s : Fin 8192) (c : Fin 2816) :
    (res_main_v22 V0 : FVec Ideal S2x8192x2816 .f32) (ix3 b s c) = (res_main_v21 V0 : FVec Ideal S2x8192x5632 .f32) (ix3 b s ⟨c, by omega⟩) := by
  pointwise [res_main_v22]

theorem v26_at (b : Fin 2) (s : Fin 8192) (c : Fin 1024) :
    (res_main_v26 V0 : FVec Ideal S2x8192x1024 .f32) (ix3 b s c) = (tok V0 b s).y c := by
  unfold Pre.y ffn hid Ideal.logistic
  pointwise [res_main_v26, v22_at, v21_at]
  rfl

theorem v44_at (b : Fin 2) (s : Fin 8192) (c : Fin 1024) :
    (res_main_v44 V0 : FVec Ideal S2x8192x1024 .f32) (ix3 b s c) = (tok V0 b s).x1 c := by
  unfold Pre.x1 rms rscale
  pointwise [res_main_v44, v1_at, v26_at]
  rfl

theorem v62_at (b : Fin 2) (s : Fin 8192) (c : Fin 3072) :
    (res_main_v62 V0 : FVec Ideal S2x8192x3072 .f32) (ix3 b s c) = (tok V0 b s).pr c := by
  unfold Pre.pr lin rms rscale
  pointwise [res_main_v62, v1_at, v44_at]
  rfl

theorem v63_at (b : Fin 2) (s : Fin 8192) (c : Fin 1152) :
    (res_main_v63 V0 : FVec Ideal S2x8192x1152 .f32) (ix3 b s c) = (tok V0 b s).pr ⟨c, by omega⟩ := by
  pointwise [res_main_v63, v62_at]

theorem v65_at (b : Fin 2) (s : Fin 8192) (c : Fin 1152) :
    (res_main_v65 V0 : FVec Ideal S2x8192x1152 .f32) (ix3 b s c) = (tok V0 b s).pr ⟨1920 + c, by omega⟩ := by
  pointwise [res_main_v65, v62_at]

/-- The reference's result 0. -/
def o82 : FVec Ideal S16384x1024 .f32 :=
  shapeCast _ (res_main_v44 V0) shapeCasts_S2x8192x1024_S16384x1024

/-- The reference's result 1. -/
def o83 : FVec Ideal S16384x1152 .f32 :=
  shapeCast _ ((concatenate S2x8192x1152 2 [⟨S2x8192x384, ((mulf (mulf (extractStridedSlice S2x8192x384 ![0, 0, 0] (res_main_v63 V0) slices_S2x8192x1152_S2x8192x384_0_0_0) (broadcastInDim S2x8192x384 ![] bcast_S_S2x8192x384 (constant S_ .f32 0x3E000000#32))) (broadcastInDim S2x8192x384 ![] bcast_S_S2x8192x384 (constant S_ .f32 0x3FB8AA3B#32))) : (⟨S2x8192x384, .f32⟩ : BufTy).Contents (Elt Ideal))⟩, ⟨S2x8192x384, ((extractStridedSlice S2x8192x384 ![0, 0, 384] (res_main_v63 V0) slices_S2x8192x1152_S2x8192x384_0_0_384) : (⟨S2x8192x384, .f32⟩ : BufTy).Contents (Elt Ideal))⟩, ⟨S2x8192x384, ((extractStridedSlice S2x8192x384 ![0, 0, 768] (res_main_v63 V0) slices_S2x8192x1152_S2x8192x384_0_0_768) : (⟨S2x8192x384, .f32⟩ : BufTy).Contents (Elt Ideal))⟩] concatenates_S2x8192x384_S2x8192x384_S2x8192x384_S2x8192x1152_d2 : (⟨S2x8192x1152, .f32⟩ : BufTy).Contents (Elt Ideal))) shapeCasts_S2x8192x1152_S16384x1152

/-- The reference's result 2. -/
def o84 : FVec Ideal S16384x768 .f32 :=
  shapeCast _ (extractStridedSlice S2x8192x768 ![0, 0, 1152] (res_main_v62 V0) slices_S2x8192x3072_S2x8192x768_0_0_1152) shapeCasts_S2x8192x768_S16384x768

/-- The reference's result 3. -/
def o85 : FVec Ideal S16384x1152 .f32 :=
  shapeCast _ ((concatenate S2x8192x1152 2 [⟨S2x8192x384, ((mulf (mulf (extractStridedSlice S2x8192x384 ![0, 0, 0] (res_main_v65 V0) slices_S2x8192x1152_S2x8192x384_0_0_0) (broadcastInDim S2x8192x384 ![] bcast_S_S2x8192x384 (constant S_ .f32 0x3E000000#32))) (broadcastInDim S2x8192x384 ![] bcast_S_S2x8192x384 (constant S_ .f32 0x3FB8AA3B#32))) : (⟨S2x8192x384, .f32⟩ : BufTy).Contents (Elt Ideal))⟩, ⟨S2x8192x384, ((extractStridedSlice S2x8192x384 ![0, 0, 384] (res_main_v65 V0) slices_S2x8192x1152_S2x8192x384_0_0_384) : (⟨S2x8192x384, .f32⟩ : BufTy).Contents (Elt Ideal))⟩, ⟨S2x8192x384, ((extractStridedSlice S2x8192x384 ![0, 0, 768] (res_main_v65 V0) slices_S2x8192x1152_S2x8192x384_0_0_768) : (⟨S2x8192x384, .f32⟩ : BufTy).Contents (Elt Ideal))⟩] concatenates_S2x8192x384_S2x8192x384_S2x8192x384_S2x8192x1152_d2 : (⟨S2x8192x1152, .f32⟩ : BufTy).Contents (Elt Ideal))) shapeCasts_S2x8192x1152_S16384x1152

theorem o82_at (r : Fin 16384) (c : Fin 1024) : o82 V0 (ix2 r c) = (tok V0 ⟨r / 8192, by omega⟩ ⟨r % 8192, by omega⟩).x1 c := by
  pointwise [o82, v44_at]

theorem o84_at (r : Fin 16384) (c : Fin 768) :
    o84 V0 (ix2 r c) = (tok V0 ⟨r / 8192, by omega⟩ ⟨r % 8192, by omega⟩).pr ⟨1152 + c, by omega⟩ * colscale ⟨1152 + c, by omega⟩ := by
  rw [colscale_mid _ (by show 384 ≤ 1152 + (c : ℕ); omega) (by show 1152 + (c : ℕ) < 1920; omega)]
  pointwise [o84, v62_at]

theorem o83_at (r : Fin 16384) (c : Fin 1152) :
    o83 V0 (ix2 r c) = (tok V0 ⟨r / 8192, by omega⟩ ⟨r % 8192, by omega⟩).pr ⟨c, by omega⟩ * colscale ⟨c, by omega⟩ := by
  by_cases h : (c : ℕ) < 384
  · rw [colscale_q _ h]
    pointwise [o83, v63_at]
    rw [dif_pos h]
  · rw [colscale_mid _ (by show 384 ≤ (c : ℕ); omega) (by show (c : ℕ) < 1920; omega)]
    pointwise [o83, v63_at]
    rw [dif_neg h]
    split_ifs <;> refine congrArg (Pre.pr _) (Fin.ext ?_) <;> dsimp only <;> omega

theorem o85_at (r : Fin 16384) (c : Fin 1152) :
    o85 V0 (ix2 r c) = (tok V0 ⟨r / 8192, by omega⟩ ⟨r % 8192, by omega⟩).pr ⟨1920 + c, by omega⟩ * colscale ⟨1920 + c, by omega⟩ := by
  by_cases h : (c : ℕ) < 384
  · rw [colscale_q' _ (by show 1920 ≤ 1920 + (c : ℕ); omega) (by show 1920 + (c : ℕ) < 2304; omega)]
    pointwise [o85, v65_at]
    rw [dif_pos h]
  · rw [colscale_end _ (by show 2304 ≤ 1920 + (c : ℕ); omega)]
    pointwise [o85, v65_at]
    rw [dif_neg h]
    split_ifs <;> refine congrArg (Pre.pr _) (Fin.ext ?_) <;> dsimp only <;> omega

end Cert.P2.Ref

end
-- ==== Proof.P2Bridge.lean ====
/- The first block of layer 0: the kernel's arrays are the reference's results when the two programs' arguments agree. -/
module

public import proofs.«01_k».proof.Defs
public import proofs.«01_k».proof.Proof.Gen.Reference2Ideal
public import proofs.«01_k».proof.Proof.P2Final
public import proofs.«01_k».proof.Proof.P2Ref
public import Idealize.ShloMosaic.Lib.Claim
public import Idealize.ShloMosaic.Adequacy
public import Idealize.ShloMosaic.Init

@[expose] public section

set_option maxRecDepth 16384

noncomputable section

namespace Cert.P2

open Idealize.ShloMosaic Idealize.ShloMosaic.TcCoe Idealize.SL.Sem Cert.Kernel2Ideal Cert.Kernel2Ideal.Gen Cert.Rows

/-- Both programs see the same token. -/
theorem tok_eq (m : (ℓ : Loc nD τ sig) → Buf (Elt Ideal) ℓ) (c : Dev nD) (V0 : Valuation Cert.Reference2Ideal.τ Cert.Reference2Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c)
    (b : Fin 2) (s : Fin 8192) : Ref.tok V0 b s = tok m c b s := by
  unfold Ref.tok tok
  rw [h0, h1, h2, h3, h4]

/-- The reference's result 0 is the kernel's array 0. -/
theorem o82_eq (m : (ℓ : Loc nD τ sig) → Buf (Elt Ideal) ℓ) (c : Dev nD) (V0 : Valuation Cert.Reference2Ideal.τ Cert.Reference2Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o82 V0 = G8 m c := by
  funext i
  obtain ⟨r, k, rfl⟩ : ∃ (r : Fin 16384) (k : Fin 1024), i = ix2 r k := ⟨i 0, i 1, eq_ix2 i⟩
  rw [Ref.o82_at, tok_eq m c V0 h0 h1 h2 h3 h4]
  rfl

/-- The reference's result 1 is the kernel's array 1. -/
theorem o83_eq (m : (ℓ : Loc nD τ sig) → Buf (Elt Ideal) ℓ) (c : Dev nD) (V0 : Valuation Cert.Reference2Ideal.τ Cert.Reference2Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o83 V0 = G9 m c := by
  funext i
  obtain ⟨r, k, rfl⟩ : ∃ (r : Fin 16384) (k : Fin 1152), i = ix2 r k := ⟨i 0, i 1, eq_ix2 i⟩
  rw [Ref.o83_at, tok_eq m c V0 h0 h1 h2 h3 h4]
  rfl

/-- The reference's result 2 is the kernel's array 2. -/
theorem o84_eq (m : (ℓ : Loc nD τ sig) → Buf (Elt Ideal) ℓ) (c : Dev nD) (V0 : Valuation Cert.Reference2Ideal.τ Cert.Reference2Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o84 V0 = G10 m c := by
  funext i
  obtain ⟨r, k, rfl⟩ : ∃ (r : Fin 16384) (k : Fin 768), i = ix2 r k := ⟨i 0, i 1, eq_ix2 i⟩
  rw [Ref.o84_at, tok_eq m c V0 h0 h1 h2 h3 h4]
  rfl

/-- The reference's result 3 is the kernel's array 3. -/
theorem o85_eq (m : (ℓ : Loc nD τ sig) → Buf (Elt Ideal) ℓ) (c : Dev nD) (V0 : Valuation Cert.Reference2Ideal.τ Cert.Reference2Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o85 V0 = G11 m c := by
  funext i
  obtain ⟨r, k, rfl⟩ : ∃ (r : Fin 16384) (k : Fin 1152), i = ix2 r k := ⟨i 0, i 1, eq_ix2 i⟩
  rw [Ref.o85_at, tok_eq m c V0 h0 h1 h2 h3 h4]
  rfl

/-- The reference runs, leaves its arguments unchanged, and declares no semaphore. -/
theorem reference_frame : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The reference's run: its results are its definitions at the arguments, its arguments unchanged. -/
theorem reference_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      fun r => ∀ c : Dev Cert.Reference2Ideal.nD,
      r.2.mem ((c.tc : Thread Cert.Reference2Ideal.nD Cert.Reference2Ideal.τ).loc Cert.Reference2Ideal.main_v82) = Ref.o82 (StableHlo.launchContents m c)
      ∧ r.2.mem ((c.tc : Thread Cert.Reference2Ideal.nD Cert.Reference2Ideal.τ).loc Cert.Reference2Ideal.main_v83) = Ref.o83 (StableHlo.launchContents m c)
      ∧ r.2.mem ((c.tc : Thread Cert.Reference2Ideal.nD Cert.Reference2Ideal.τ).loc Cert.Reference2Ideal.main_v84) = Ref.o84 (StableHlo.launchContents m c)
      ∧ r.2.mem ((c.tc : Thread Cert.Reference2Ideal.nD Cert.Reference2Ideal.τ).loc Cert.Reference2Ideal.main_v85) = Ref.o85 (StableHlo.launchContents m c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  Cert.Reference2Ideal.Value.run (F := Ideal) m g

/-- The kernel and the reference end with equal results over the extended reals. -/
theorem value : Cert.algebraic_Kernel2Ideal_Reference2Ideal (hKernel2Ideal := Cert.Kernel2Ideal.Gen.facts) (hReference2Ideal := Cert.Reference2Ideal.Gen.facts) := by
  intro m g m' g' _ hagree
  refine ⟨fun c => G8 m c, fun c => G9 m c, fun c => G10 m c, fun c => G11 m c, ?_, ?_⟩
  · exact (θ_run _ _ _).mono (fun r h c => ⟨(h c).1.trans (final8 m c), (h c).2.1.trans (final9 m c), (h c).2.2.1.trans (final10 m c), (h c).2.2.2.1.trans (final11 m c), (h c).2.2.2.2⟩) (Cert.Kernel2Ideal.Value.run_blocks m g)
  · refine (θ_run _ _ _).mono (fun r h c => ?_) (reference_run m' g')
    obtain ⟨e0, e1, e2, e3, e4⟩ := hagree c
    exact ⟨(h c).1.trans (o82_eq m c (StableHlo.launchContents m' c) e0 e1 e2 e3 e4), (h c).2.1.trans (o83_eq m c (StableHlo.launchContents m' c) e0 e1 e2 e3 e4), (h c).2.2.1.trans (o84_eq m c (StableHlo.launchContents m' c) e0 e1 e2 e3 e4), (h c).2.2.2.1.trans (o85_eq m c (StableHlo.launchContents m' c) e0 e1 e2 e3 e4), (h c).2.2.2.2⟩

end Cert.P2

end
-- ==== Proof.P3Final.lean ====
/- The memory's keys and values of layer 1: the result array of the kernel. -/
module

public import proofs.«01_k».proof.Proof.Gen.Kernel3Ideal.Value
public import Idealize.ShloMosaic.Lib.Claim
public import Idealize.ShloMosaic.Lib.Pipeline.ValueKit
public import proofs.«01_k».proof.Proof.Rows

@[expose] public section

set_option maxRecDepth 16384

noncomputable section

namespace Cert.P3

open Idealize.ShloMosaic Idealize.ShloMosaic.TcCoe Idealize.SL.Sem Cert.Kernel3Ideal Cert.Kernel3Ideal.Gen Cert.Rows

/-- The payload: the normed row times the matrix. -/
theorem pay1_at (x : FVec Ideal S256x1024 .f32) (g : FVec Ideal S1x1024 .f32) (w : FVec Ideal S1x1024x2048 .bf16) (r : Fin 256) (k : Fin 2048) :
    k0_pay1 (F := Ideal) x g w (ix2 r k) = lin (rms d1024 (fun j => x (ix2 r j)) (fun j => g (ix2 0 j))) (fun j k => w (ix3 0 j k)) k := by
  unfold lin rms rscale
  pointwise [k0_pay1]

/-- The body's result on its blocks. -/
theorem out3_at (x0 : FVec Ideal S256x1024 .f32) (x1 : FVec Ideal S1x1024 .f32) (x2 : FVec Ideal S1x1024x2048 .bf16) (r : Fin 256) (k : Fin 2048) :
    out0_3 (F := Ideal) x0 x1 x2 (ix2 r k) = lin (rms d1024 (fun j => x0 (ix2 r j)) (fun j => x1 (ix2 0 j))) (fun j k => x2 (ix3 0 j k)) k := by
  have w : k0_pay1 (F := Ideal) (View.ld x0 r0_0) (View.ld x1 r0_1) (View.ld x2 r0_2) (ix2 r k)
      = lin (rms d1024 (fun j => x0 (ix2 r j)) (fun j => x1 (ix2 0 j))) (fun j k => x2 (ix3 0 j k)) k := by
    rw [pay1_at]
    unfold lin rms rscale
    pointwise []
  unfold out0_3
  refine Eq.trans ?_ w
  exact congrFun (View.canon_unit_zero (S := S256x2048) (by decide) inb_S256x2048_S256x2048_0_0 _) (ix2 r k)

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![1, 0, 0] ∧ win0_3.index t = ![t.val, 0] ∧ t.val < 2 :=
  (by decide +kernel : ∀ t : Fin grid0.N, _)

theorem lt (t : Fin cfg0.N) : t.val < 2 := (idx t).2.2.2.2

/-- Window 0's block at a grid point. -/
abbrev B0 (t : Fin cfg0.N) : FVec Ideal S256x1024 .f32 := iblk m c 0 t

/-- Window 1's block at a grid point. -/
abbrev B1 (t : Fin cfg0.N) : FVec Ideal S1x1024 .f32 := iblk m c 1 t

/-- Window 2's block at a grid point. -/
abbrev B2 (t : Fin cfg0.N) : FVec Ideal S1x1024x2048 .bf16 := iblk m c 2 t

/-- The kernel's argument 0. -/
abbrev K0 : FVec Ideal S2x256x1024 .f32 := m ((c : Thread nD τ).loc main_arg0)

/-- The kernel's argument 1. -/
abbrev K1 : FVec Ideal S2x10x1024 .f32 := m ((c : Thread nD τ).loc main_arg1)

/-- The kernel's argument 2. -/
abbrev K2 : FVec Ideal S2x1024x2048 .f32 := m ((c : Thread nD τ).loc main_arg2)

theorem b0 (t : Fin cfg0.N) (r : Fin 256) (k : Fin 1024) :
    B0 m c t (ix2 r k) = K0 m c (ix3 ⟨(t * 256 + r) / 256, by have := lt t; omega⟩ ⟨(t * 256 + r) % 256, by omega⟩ k) := by
  blk_point [iblk, V, idx t]

theorem b1 (t : Fin cfg0.N) (k : Fin 1024) : B1 m c t (ix2 0 k) = K1 m c (ix3 1 6 k) := by
  blk_point [iblk, V, idx t]

theorem b2 (t : Fin cfg0.N) (k : Fin 1024) (k' : Fin 2048) : B2 m c t (ix3 0 k k') = K2 m c (ix3 1 k k') := by
  blk_point [iblk, V, idx t]

/-- The keys and values of the memory's row `s` of batch `b`, at one of the 2048 columns. -/
def kv (b : Fin 2) (s : Fin 256) : Fin 2048 → EReal :=
  lin (rms d1024 (fun j => K0 m c (ix3 b s j)) (fun j => K1 m c (ix3 1 6 j))) (fun j k => K2 m c (ix3 1 j k))

/-- The keys and values, at every row of the array. -/
def G : FVec Ideal S512x2048 .bf16 := fun i =>
  kv m c ⟨(i 0).val / 256, by have := (i 0).isLt; change _ < 512 at this; omega⟩ ⟨(i 0).val % 256, by omega⟩ (i 1)

theorem point (t : Fin cfg0.N) (y : S256x2048.Idx) : out0_3 (F := Ideal) (B0 m c t) (B1 m c t) (B2 m c t) y = G m c (((cfg0.win 3).blk t).view.emb y) := by
  obtain ⟨r, k, rfl⟩ : ∃ (r : Fin 256) (k : Fin 2048), y = ix2 r k := ⟨y 0, y 1, eq_ix2 y⟩
  rw [out3_at]
  simp only [b0, b1, b2]
  have e0 : ((((cfg0.win 3).blk t).view.emb (ix2 r k)) 0 : ℕ) = t * 256 + r := by blk_simp [idx t]
  have e1 : (((cfg0.win 3).blk t).view.emb (ix2 r k)) 1 = k := by
    ext
    blk_simp [idx t]
  unfold G kv
  simp only [e0, e1]

/-- The kernel's result array: every row's keys and values. -/
theorem final : (dats m 0 c).arrAt 3 (cfgs 0).N = G m c := by
  refine (dats m 0 c).arrAt_eq_of_covers 3 _ (by decide +kernel) fun t _ y => ?_
  blk_simp
  rw [after0_3]
  exact point m c t y

end Cert.P3

end
-- ==== Proof.P3Ref.lean ====
/- The memory's keys and values of layer 1 as the reference computes them, read at a row and a column. -/
module

public import proofs.«01_k».proof.Proof.Rows
public import proofs.«01_k».proof.Proof.Gen.Reference3Ideal.Run

@[expose] public section

set_option maxRecDepth 16384

noncomputable section

namespace Cert.P3.Ref

open Cert.Reference3Ideal Cert.Reference3Ideal.Gen Cert.Reference3Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x256x1024 .f32 := V0 (Proc.devRef .tc main_arg0)

/-- The reference's argument 1. -/
abbrev A1 : FVec Ideal S2x10x1024 .f32 := V0 (Proc.devRef .tc main_arg1)

/-- The reference's argument 2. -/
abbrev A2 : FVec Ideal S2x1024x2048 .f32 := V0 (Proc.devRef .tc main_arg2)

/-- The reference's result. -/
def o : FVec Ideal S512x2048 .bf16 := shapeCast _ (truncf .bf16 (Host.dotGeneral dot_S2x256x1024_S1024x2048_S2x256x2048_2_0_01_1_n_n none (mulf (mulf (A0 V0) (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (A0 V0) (A0 V0)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![6, 0] (shapeCast _ (extractStridedSlice S1x10x1024 ![1, 0, 0] (A1 V0) slices_S2x10x1024_S1x10x1024_1_0_0) shapeCasts_S1x10x1024_S10x1024) slices_S10x1024_S1x1024_6_0) shapeCasts_S1x1024_S1024)))) (shapeCast _ (extractStridedSlice S1x1024x2048 ![1, 0, 0] (A2 V0) slices_S2x1024x2048_S1x1024x2048_1_0_0) shapeCasts_S1x1024x2048_S1024x2048)) bitsLt_bf16_f32) shapeCasts_S2x256x2048_S512x2048

theorem o_at (r : Fin 512) (k : Fin 2048) : o V0 (ix2 r k) =
    lin (rms d1024 (fun j => A0 V0 (ix3 ⟨r / 256, by omega⟩ ⟨r % 256, by omega⟩ j)) (fun j => A1 V0 (ix3 1 6 j))) (fun j k => A2 V0 (ix3 1 j k)) k := by
  unfold lin rms rscale
  pointwise [o]

end Cert.P3.Ref

end
-- ==== Proof.P3Bridge.lean ====
/- The memory's keys and values of layer 1: the kernel's array is the reference's result when the two programs' arguments agree. -/
module

public import proofs.«01_k».proof.Defs
public import proofs.«01_k».proof.Proof.Gen.Reference3Ideal
public import proofs.«01_k».proof.Proof.P3Final
public import proofs.«01_k».proof.Proof.P3Ref
public import Idealize.ShloMosaic.Lib.Claim
public import Idealize.ShloMosaic.Adequacy
public import Idealize.ShloMosaic.Init

@[expose] public section

set_option maxRecDepth 16384

noncomputable section

namespace Cert.P3

open Idealize.ShloMosaic Idealize.ShloMosaic.TcCoe Idealize.SL.Sem Cert.Kernel3Ideal Cert.Kernel3Ideal.Gen Cert.Rows

/-- The reference's result is the kernel's array. -/
theorem o_eq (m : (ℓ : Loc nD τ sig) → Buf (Elt Ideal) ℓ) (c : Dev nD) (V0 : Valuation Cert.Reference3Ideal.τ Cert.Reference3Ideal.sig (Elt Ideal)) (h0 : Ref.A0 V0 = K0 m c) (h1 : Ref.A1 V0 = K1 m c) (h2 : Ref.A2 V0 = K2 m c) :
    Ref.o V0 = G m c := by
  funext i
  obtain ⟨r, k, rfl⟩ : ∃ (r : Fin 512) (k : Fin 2048), i = ix2 r k := ⟨i 0, i 1, eq_ix2 i⟩
  rw [Ref.o_at, h0, h1, h2]
  rfl

/-- The reference runs, leaves its arguments unchanged, and declares no semaphore. -/
theorem reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's run: its result is its definition at the arguments, its arguments unchanged. -/
theorem reference_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      fun r => ∀ c : Dev Cert.Reference3Ideal.nD,
      r.2.mem ((c.tc : Thread Cert.Reference3Ideal.nD Cert.Reference3Ideal.τ).loc Cert.Reference3Ideal.main_v21) = Ref.o (StableHlo.launchContents m c)
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2) :=
  Cert.Reference3Ideal.Value.run (F := Ideal) m g

/-- The kernel and the reference end with equal results over the extended reals. -/
theorem value : Cert.algebraic_Kernel3Ideal_Reference3Ideal (hKernel3Ideal := Cert.Kernel3Ideal.Gen.facts) (hReference3Ideal := Cert.Reference3Ideal.Gen.facts) := by
  intro m g m' g' _ hagree
  refine ⟨fun c => G m c, ?_, ?_⟩
  · exact (θ_run _ _ _).mono (fun r h c => ⟨(h c).1.trans (final m c), (h c).2⟩) (Cert.Kernel3Ideal.Value.run_blocks m g)
  · refine (θ_run _ _ _).mono (fun r h c => ?_) (reference_run m' g')
    obtain ⟨e0, e1, e2⟩ := hagree c
    exact ⟨(h c).1.trans (o_eq m c (StableHlo.launchContents m' c) e0 e1 e2), (h c).2⟩

end Cert.P3

end
-- ==== Proof.P5Entry.lean ====
/- What each window of the first block of layer 1 holds at a grid point, in terms of the arguments. -/
module

public import proofs.«01_k».proof.Proof.Gen.Kernel5Ideal.Value
public import Idealize.ShloMosaic.Lib.Claim
public import Idealize.ShloMosaic.Lib.Pipeline.ValueKit
public import proofs.«01_k».proof.Proof.Pre

@[expose] public section

set_option maxRecDepth 16384

noncomputable section

namespace Cert.P5

open Idealize.ShloMosaic Idealize.ShloMosaic.TcCoe Idealize.SL.Sem Cert.Kernel5Ideal Cert.Kernel5Ideal.Gen Cert.Rows

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![1, 0, 0, 0] ∧ win0_3.index t = ![1, 0, 0, 0] ∧ win0_4.index t = ![0, 0] ∧ win0_5.index t = ![0, 0] ∧ win0_6.index t = ![1, 0, 0] ∧ win0_7.index t = ![0, 0] ∧ win0_8.index t = ![t.val, 0] ∧ win0_9.index t = ![t.val, 0] ∧ win0_10.index t = ![t.val, 0] ∧ win0_11.index t = ![t.val, 0] ∧ t.val < 32 :=
  (by decide +kernel : ∀ t : Fin grid0.N, _)

theorem lt (t : Fin cfg0.N) : t.val < 32 := (idx t).2.2.2.2.2.2.2.2.2.2.2.2

/-- Window 0's block at a grid point. -/
abbrev B0 (t : Fin cfg0.N) : FVec Ideal S512x1024 .f32 := iblk m c 0 t

/-- Window 1's block at a grid point. -/
abbrev B1 (t : Fin cfg0.N) : FVec Ideal S1x1024 .f32 := iblk m c 1 t

/-- Window 2's block at a grid point. -/
abbrev B2 (t : Fin cfg0.N) : FVec Ideal S1x1x1024x5632 .bf16 := iblk m c 2 t

/-- Window 3's block at a grid point. -/
abbrev B3 (t : Fin cfg0.N) : FVec Ideal S1x1x2816x1024 .bf16 := iblk m c 3 t

/-- Window 4's block at a grid point. -/
abbrev B4 (t : Fin cfg0.N) : FVec Ideal S1x1024 .f32 := iblk m c 4 t

/-- Window 5's block at a grid point. -/
abbrev B5 (t : Fin cfg0.N) : FVec Ideal S1x1024 .f32 := iblk m c 5 t

/-- Window 6's block at a grid point. -/
abbrev B6 (t : Fin cfg0.N) : FVec Ideal S1x1024x3072 .bf16 := iblk m c 6 t

/-- Window 7's block at a grid point. -/
abbrev B7 (t : Fin cfg0.N) : FVec Ideal S1x3072 .f32 := iblk m c 7 t

/-- The kernel's argument 0. -/
abbrev K0 : FVec Ideal S2x8192x1024 .f32 := m ((c : Thread nD τ).loc main_arg0)

/-- The kernel's argument 1. -/
abbrev K1 : FVec Ideal S2x10x1024 .f32 := m ((c : Thread nD τ).loc main_arg1)

/-- The kernel's argument 2. -/
abbrev K2 : FVec Ideal S2x1024x3072 .f32 := m ((c : Thread nD τ).loc main_arg2)

/-- The kernel's argument 3. -/
abbrev K3 : FVec Ideal S2x2x1024x5632 .f32 := m ((c : Thread nD τ).loc main_arg3)

/-- The kernel's argument 4. -/
abbrev K4 : FVec Ideal S2x2x2816x1024 .f32 := m ((c : Thread nD τ).loc main_arg4)

theorem b0 (t : Fin cfg0.N) (r : Fin 512) (k : Fin 1024) :
    B0 m c t (ix2 r k) = K0 m c (ix3 ⟨(t * 512 + r) / 8192, by have := lt t; omega⟩ ⟨(t * 512 + r) % 8192, by omega⟩ k) := by
  blk_point [iblk, V, idx t]

theorem b1 (t : Fin cfg0.N) (k : Fin 1024) : B1 m c t (ix2 0 k) = K1 m c (ix3 1 0 k) := by
  blk_point [iblk, V, idx t]

theorem b4 (t : Fin cfg0.N) (k : Fin 1024) : B4 m c t (ix2 0 k) = K1 m c (ix3 1 1 k) := by
  blk_point [iblk, V, idx t]

theorem b5 (t : Fin cfg0.N) (k : Fin 1024) : B5 m c t (ix2 0 k) = K1 m c (ix3 1 2 k) := by
  blk_point [iblk, V, idx t]

theorem b2 (t : Fin cfg0.N) (k : Fin 1024) (n : Fin 5632) : B2 m c t (ix4 0 0 k n) = K3 m c (ix4 1 0 k n) := by
  blk_point [iblk, V, idx t]

theorem b3 (t : Fin cfg0.N) (k : Fin 2816) (n : Fin 1024) : B3 m c t (ix4 0 0 k n) = K4 m c (ix4 1 0 k n) := by
  blk_point [iblk, V, idx t]

theorem b6 (t : Fin cfg0.N) (k : Fin 1024) (n : Fin 3072) : B6 m c t (ix3 0 k n) = K2 m c (ix3 1 k n) := by
  blk_point [iblk, V, idx t]

/-- The column scales as the program builds them: four constant rows side by side. -/
def colrow : FVec Ideal S1x3072 .f32 :=
  concatenate S1x3072 1 [⟨S1x384, (broadcastInDim S1x384 ![] bcast_S_S1x384 (constant S_ .f32 0x3E38AA3B#32) : FVec Ideal S1x384 .f32)⟩,
    ⟨S1x1536, (broadcastInDim S1x1536 ![] bcast_S_S1x1536 (constant S_ .f32 0x3F800000#32) : FVec Ideal S1x1536 .f32)⟩,
    ⟨S1x384, (broadcastInDim S1x384 ![] bcast_S_S1x384 (constant S_ .f32 0x3E38AA3B#32) : FVec Ideal S1x384 .f32)⟩,
    ⟨S1x768, (broadcastInDim S1x768 ![] bcast_S_S1x768 (constant S_ .f32 0x3F800000#32) : FVec Ideal S1x768 .f32)⟩]
    concatenates_S1x384_S1x1536_S1x384_S1x768_S1x3072_d1

theorem colrow_at (k : Fin 3072) : colrow (ix2 0 k) = colscale k := by
  unfold colscale
  pointwise [colrow]
  split_ifs <;> first | rfl | omega

theorem v10_eq : StableHlo.after hostOps0 (fun b => m (c, b)) (Proc.devRef .tc main_v10) = colrow := by
  simp only [hostOps0, StableHlo.after_cons, StableHlo.after_nil]
  repeat (first
    | (rw [StableHlo.reshape_result_ne]; rotate_left; decide)
    | (rw [StableHlo.unary_result_ne]; rotate_left; decide))
  rw [StableHlo.nary4_result]
  repeat (first
    | rw [StableHlo.unary_result] | rw [StableHlo.nullary_result]
    | (rw [StableHlo.nullary_result_ne]; rotate_left; decide)
    | (rw [StableHlo.unary_result_ne]; rotate_left; decide))
  rfl

theorem b7 (t : Fin cfg0.N) (k : Fin 3072) : B7 m c t (ix2 0 k) = colscale k := by
  have e : ((win0_7.blk t).view.emb (ix2 0 k) : S1x3072.Idx) = ix2 0 k := by
    blk_ext [idx t]
  exact (congrFun (v10_eq m c) ((win0_7.blk t).view.emb (ix2 0 k))).trans ((congrArg colrow e).trans (colrow_at k))

end Cert.P5

end
-- ==== Proof.P5Pay.lean ====
/- The payloads of the first block of layer 1, read at a row and a column. -/
module

public import proofs.«01_k».proof.Proof.Pre
public import proofs.«01_k».proof.Proof.Gen.Kernel5Ideal.Skeleton

@[expose] public section

set_option maxRecDepth 16384

noncomputable section

namespace Cert.P5

open Idealize.ShloMosaic Idealize.ShloMosaic.TcCoe Cert.Kernel5Ideal Cert.Kernel5Ideal.Gen Cert.Rows

theorem pay3_at (v0 : FVec Ideal S512x1024 .f32) (r : Fin 512) (c : Fin 1024) : k0_pay3 (F := Ideal) v0 (ix2 r c) = v0 (ix2 r c) := by
  pointwise [k0_pay3]

theorem pay4_at (v0 : FVec Ideal S512x1024 .f32) (v2 : FVec Ideal S1x1024 .f32) (r : Fin 512) (c : Fin 1024) :
    k0_pay4 (F := Ideal) v0 v2 (ix2 r c) = rms d1024 (fun k => v0 (ix2 r k)) (fun k => v2 (ix2 0 k)) c := by
  unfold rms rscale
  pointwise [k0_pay4, pay3_at]

theorem pay5_at (v0 : FVec Ideal S512x1024 .f32) (v2 : FVec Ideal S1x1024 .f32) (g u : FVec Ideal S1x1x1024x256 .bf16) (d : FVec Ideal S1x1x256x1024 .bf16) (r : Fin 512) (c : Fin 1024) :
    k0_pay5 (F := Ideal) v0 v2 g u d (ix2 r c) = ffn (fun k => k0_pay4 (F := Ideal) v0 v2 (ix2 r k)) (fun k c => g (ix4 0 0 k c)) (fun k c => u (ix4 0 0 k c)) (fun k c => d (ix4 0 0 k c)) c := by
  unfold ffn hid lin
  pointwise [k0_pay5]

theorem pay6_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay6 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay6]

theorem pay7_at (v0 : FVec Ideal S1x1x1024x256 .bf16) (k : Fin 1024) (c : Fin 256) : k0_pay7 (F := Ideal) v0 (ix2 k c) = v0 (ix4 0 0 k c) := by
  pointwise [k0_pay7]

theorem pay8_at (h : FVec Ideal S512x1024 .bf16) (a : FVec Ideal S512x1024 .f32) (g : FVec Ideal S1024x256 .bf16) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay8 (F := Ideal) h a g u d g' u' d' (ix2 r c) =
      a (ix2 r c) + ffn (fun k => h (ix2 r k)) (fun k c => g (ix2 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay8]

theorem pay9_at (h : FVec Ideal S512x1024 .bf16) (g : FVec Ideal S1x1x1024x256 .bf16) (r : Fin 512) (c : Fin 256) :
    k0_pay9 (F := Ideal) h g (ix2 r c) = lin (fun k => h (ix2 r k)) (fun k c => g (ix4 0 0 k c)) c := by
  unfold lin
  pointwise [k0_pay9]

theorem pay11_at (h : FVec Ideal S512x1024 .bf16) (g : FVec Ideal S1x1x1024x256 .bf16) (r : Fin 512) (c : Fin 256) :
    k0_pay11 (F := Ideal) h g (ix2 r c) = lin (fun k => h (ix2 r k)) (fun k c => g (ix4 0 0 k c)) c := by
  unfold lin
  pointwise [k0_pay11]

theorem pay13_at (h : FVec Ideal S512x1024 .bf16) (g : FVec Ideal S1x1x1024x256 .bf16) (r : Fin 512) (c : Fin 256) :
    k0_pay13 (F := Ideal) h g (ix2 r c) = lin (fun k => h (ix2 r k)) (fun k c => g (ix4 0 0 k c)) c := by
  unfold lin
  pointwise [k0_pay13]

theorem pay10_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay10 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay10]

theorem pay12_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay12 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay12]

theorem pay14_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay14 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay14]

theorem pay15_at (v0 : FVec Ideal S1x1024 .f32) (c : Fin 1024) : k0_pay15 (F := Ideal) v0 (ix2 0 c) = v0 (ix2 0 c) := by
  pointwise [k0_pay15]

theorem pay16_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) :
    k0_pay16 (F := Ideal) h a s u d g' u' d' (ix2 r 0) =
      Ideal.div (∑ c : Fin 1024, k0_pay14 (F := Ideal) h a s u d g' u' d' (ix2 r c) * k0_pay14 (F := Ideal) h a s u d g' u' d' (ix2 r c)) d1024 + Ideal.ofBits .f32 0x358637BD#32 := by
  pointwise [k0_pay16]

theorem pay17_at (v1 v171 : FVec Ideal S512x1024 .f32) (v173 : FVec Ideal S1x1024 .f32) (v180 : FVec Ideal S512x1 .f32) (r : Fin 512) (c : Fin 1024) :
    k0_pay17 (F := Ideal) v1 v171 v173 v180 (ix2 r c) =
      v1 (ix2 r c) + Ideal.ofBits .f32 0x3F000000#32 * (v171 (ix2 r c) * Ideal.rsqrt (v180 (ix2 r 0)) * v173 (ix2 0 c)) := by
  pointwise [k0_pay17]

theorem pay18_at (v1 v171 : FVec Ideal S512x1024 .f32) (v173 : FVec Ideal S1x1024 .f32) (v180 : FVec Ideal S512x1 .f32) (v190 : FVec Ideal S1x1024 .f32) (r : Fin 512) (c : Fin 1024) :
    k0_pay18 (F := Ideal) v1 v171 v173 v180 v190 (ix2 r c) =
      rms d1024 (fun k => k0_pay17 (F := Ideal) v1 v171 v173 v180 (ix2 r k)) (fun k => v190 (ix2 0 k)) c := by
  unfold rms rscale
  pointwise [k0_pay18]

theorem pay19_at (v1 v171 : FVec Ideal S512x1024 .f32) (v173 : FVec Ideal S1x1024 .f32) (v180 : FVec Ideal S512x1 .f32) (v190 : FVec Ideal S1x1024 .f32) (w : FVec Ideal S1x1024x1152 .bf16) (s : FVec Ideal S1x1152 .f32) (r : Fin 512) (c : Fin 1152) :
    k0_pay19 (F := Ideal) v1 v171 v173 v180 v190 w s (ix2 r c) =
      lin (fun k => k0_pay18 (F := Ideal) v1 v171 v173 v180 v190 (ix2 r k)) (fun k c => w (ix3 0 k c)) c * s (ix2 0 c) := by
  unfold lin
  pointwise [k0_pay19]

theorem pay20_at (v1 v171 : FVec Ideal S512x1024 .f32) (v173 : FVec Ideal S1x1024 .f32) (v180 : FVec Ideal S512x1 .f32) (v190 : FVec Ideal S1x1024 .f32) (w : FVec Ideal S1x1024x768 .bf16) (r : Fin 512) (c : Fin 768) :
    k0_pay20 (F := Ideal) v1 v171 v173 v180 v190 w (ix2 r c) =
      lin (fun k => k0_pay18 (F := Ideal) v1 v171 v173 v180 v190 (ix2 r k)) (fun k c => w (ix3 0 k c)) c := by
  unfold lin
  pointwise [k0_pay20]

theorem pay1_at (v : FVec Ideal S512x768 .f32) (s : FVec Ideal S1x768 .f32) (r : Fin 512) (c : Fin 768) :
    k0_pay1 (F := Ideal) v s (ix2 r c) = v (ix2 r c) * s (ix2 0 c) := by
  pointwise [k0_pay1]

theorem pay2_at (h : FVec Ideal S512x1024 .bf16) (w : FVec Ideal S1x1024x1152 .bf16) (s : FVec Ideal S1x1152 .f32) (r : Fin 512) (c : Fin 1152) :
    k0_pay2 (F := Ideal) h w s (ix2 r c) = lin (fun k => h (ix2 r k)) (fun k c => w (ix3 0 k c)) c * s (ix2 0 c) := by
  unfold lin
  pointwise [k0_pay2]

end Cert.P5

end
-- ==== Proof.P5Blk.lean ====
/- The first block of layer 1 on the blocks of one grid point. -/
module

public import proofs.«01_k».proof.Proof.P5Pay
public import proofs.«01_k».proof.Proof.Gen.Kernel5Ideal.Frame

@[expose] public section

set_option maxRecDepth 16384

noncomputable section

namespace Cert.P5

open Idealize.ShloMosaic Idealize.ShloMosaic.TcCoe Cert.Kernel5Ideal Cert.Kernel5Ideal.Gen Cert.Rows

variable (x0 : FVec Ideal S512x1024 .f32) (x1 : FVec Ideal S1x1024 .f32) (x2 : FVec Ideal S1x1x1024x5632 .bf16) (x3 : FVec Ideal S1x1x2816x1024 .bf16) (x4 : FVec Ideal S1x1024 .f32) (x5 : FVec Ideal S1x1024 .f32) (x6 : FVec Ideal S1x1024x3072 .bf16) (x7 : FVec Ideal S1x3072 .f32)

/-- The token of row `r` of the blocks. -/
def par (x0 : FVec Ideal S512x1024 .f32) (x1 : FVec Ideal S1x1024 .f32) (x2 : FVec Ideal S1x1x1024x5632 .bf16) (x3 : FVec Ideal S1x1x2816x1024 .bf16) (x4 : FVec Ideal S1x1024 .f32) (x5 : FVec Ideal S1x1024 .f32) (x6 : FVec Ideal S1x1024x3072 .bf16) (x7 : FVec Ideal S1x3072 .f32) (r : Fin 512) : Pre where
  x k := x0 (ix2 r k)
  g0 k := x1 (ix2 0 k)
  g1 k := x4 (ix2 0 k)
  g2 k := x5 (ix2 0 k)
  G k c := x2 (ix4 0 0 k ⟨c, by omega⟩)
  U k c := x2 (ix4 0 0 k ⟨2816 + c, by omega⟩)
  D k c := x3 (ix4 0 0 k c)
  w k c := x6 (ix3 0 k c)

theorem ch0 (r : Fin 512) (h : Fin 1024 → EReal) (c : Fin 1024) : ffn h (fun k (i : Fin 256) => (View.ld (Val := Elt Ideal) (e' := .bf16) x2 r0_2 : FVec Ideal S1x1x1024x256 .bf16) (ix4 0 0 k i))
      (fun k (i : Fin 256) => (View.ld (Val := Elt Ideal) (e' := .bf16) x2 r0_3 : FVec Ideal S1x1x1024x256 .bf16) (ix4 0 0 k i)) (fun (i : Fin 256) c => (View.ld (Val := Elt Ideal) (e' := .bf16) x3 r0_4 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 0 c := by
  unfold part ffn hid lin
  pointwise [par]

theorem ch1 (r : Fin 512) (h : Fin 1024 → EReal) (c : Fin 1024) : ffn h (fun k (i : Fin 256) => (View.ld (Val := Elt Ideal) (e' := .bf16) x2 r0_5 : FVec Ideal S1x1x1024x256 .bf16) (ix4 0 0 k i))
      (fun k (i : Fin 256) => (View.ld (Val := Elt Ideal) (e' := .bf16) x2 r0_6 : FVec Ideal S1x1x1024x256 .bf16) (ix4 0 0 k i)) (fun (i : Fin 256) c => (View.ld (Val := Elt Ideal) (e' := .bf16) x3 r0_7 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 1 c := by
  unfold part ffn hid lin
  pointwise [par]
  simp only [← Nat.add_assoc, Nat.reduceAdd]

theorem ch2 (r : Fin 512) (h : Fin 1024 → EReal) (c : Fin 1024) : ffn h (fun k (i : Fin 256) => (View.ld (Val := Elt Ideal) (e' := .bf16) x2 r0_8 : FVec Ideal S1x1x1024x256 .bf16) (ix4 0 0 k i))
      (fun k (i : Fin 256) => (View.ld (Val := Elt Ideal) (e' := .bf16) x2 r0_9 : FVec Ideal S1x1x1024x256 .bf16) (ix4 0 0 k i)) (fun (i : Fin 256) c => (View.ld (Val := Elt Ideal) (e' := .bf16) x3 r0_10 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 2 c := by
  unfold part ffn hid lin
  pointwise [par]
  simp only [← Nat.add_assoc, Nat.reduceAdd]

theorem ch3 (r : Fin 512) (h : Fin 1024 → EReal) (c : Fin 1024) : ffn h (fun k (i : Fin 256) => (View.ld (Val := Elt Ideal) (e' := .bf16) x2 r0_11 : FVec Ideal S1x1x1024x256 .bf16) (ix4 0 0 k i))
      (fun k (i : Fin 256) => (View.ld (Val := Elt Ideal) (e' := .bf16) x2 r0_12 : FVec Ideal S1x1x1024x256 .bf16) (ix4 0 0 k i)) (fun (i : Fin 256) c => (View.ld (Val := Elt Ideal) (e' := .bf16) x3 r0_13 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 3 c := by
  unfold part ffn hid lin
  pointwise [par]
  simp only [← Nat.add_assoc, Nat.reduceAdd]

theorem ch4 (r : Fin 512) (h : Fin 1024 → EReal) (c : Fin 1024) : ffn h (fun k (i : Fin 256) => (View.ld (Val := Elt Ideal) (e' := .bf16) x2 r0_14 : FVec Ideal S1x1x1024x256 .bf16) (ix4 0 0 k i))
      (fun k (i : Fin 256) => (View.ld (Val := Elt Ideal) (e' := .bf16) x2 r0_15 : FVec Ideal S1x1x1024x256 .bf16) (ix4 0 0 k i)) (fun (i : Fin 256) c => (View.ld (Val := Elt Ideal) (e' := .bf16) x3 r0_16 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 4 c := by
  unfold part ffn hid lin
  pointwise [par]
  simp only [← Nat.add_assoc, Nat.reduceAdd]

theorem ch5 (r : Fin 512) (h : Fin 1024 → EReal) (c : Fin 1024) : ffn h (fun k (i : Fin 256) => (View.ld (Val := Elt Ideal) (e' := .bf16) x2 r0_17 : FVec Ideal S1x1x1024x256 .bf16) (ix4 0 0 k i))
      (fun k (i : Fin 256) => (View.ld (Val := Elt Ideal) (e' := .bf16) x2 r0_18 : FVec Ideal S1x1x1024x256 .bf16) (ix4 0 0 k i)) (fun (i : Fin 256) c => (View.ld (Val := Elt Ideal) (e' := .bf16) x3 r0_19 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 5 c := by
  unfold part ffn hid lin
  pointwise [par]
  simp only [← Nat.add_assoc, Nat.reduceAdd]

theorem ch6 (r : Fin 512) (h : Fin 1024 → EReal) (c : Fin 1024) : ffn h (fun k (i : Fin 256) => (View.ld (Val := Elt Ideal) (e' := .bf16) x2 r0_20 : FVec Ideal S1x1x1024x256 .bf16) (ix4 0 0 k i))
      (fun k (i : Fin 256) => (View.ld (Val := Elt Ideal) (e' := .bf16) x2 r0_21 : FVec Ideal S1x1x1024x256 .bf16) (ix4 0 0 k i)) (fun (i : Fin 256) c => (View.ld (Val := Elt Ideal) (e' := .bf16) x3 r0_22 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 6 c := by
  unfold part ffn hid lin
  pointwise [par]
  simp only [← Nat.add_assoc, Nat.reduceAdd]

theorem ch7 (r : Fin 512) (h : Fin 1024 → EReal) (c : Fin 1024) : ffn h (fun k (i : Fin 256) => (View.ld (Val := Elt Ideal) (e' := .bf16) x2 r0_23 : FVec Ideal S1x1x1024x256 .bf16) (ix4 0 0 k i))
      (fun k (i : Fin 256) => (View.ld (Val := Elt Ideal) (e' := .bf16) x2 r0_24 : FVec Ideal S1x1x1024x256 .bf16) (ix4 0 0 k i)) (fun (i : Fin 256) c => (View.ld (Val := Elt Ideal) (e' := .bf16) x3 r0_25 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 7 c := by
  unfold part ffn hid lin
  pointwise [par]
  simp only [← Nat.add_assoc, Nat.reduceAdd]

theorem ch8 (r : Fin 512) (h : Fin 1024 → EReal) (c : Fin 1024) : ffn h (fun k (i : Fin 256) => (View.ld (Val := Elt Ideal) (e' := .bf16) x2 r0_26 : FVec Ideal S1x1x1024x256 .bf16) (ix4 0 0 k i))
      (fun k (i : Fin 256) => (View.ld (Val := Elt Ideal) (e' := .bf16) x2 r0_27 : FVec Ideal S1x1x1024x256 .bf16) (ix4 0 0 k i)) (fun (i : Fin 256) c => (View.ld (Val := Elt Ideal) (e' := .bf16) x3 r0_28 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 8 c := by
  unfold part ffn hid lin
  pointwise [par]
  simp only [← Nat.add_assoc, Nat.reduceAdd]

theorem ch9 (r : Fin 512) (h : Fin 1024 → EReal) (c : Fin 1024) : ffn h (fun k (i : Fin 256) => (View.ld (Val := Elt Ideal) (e' := .bf16) x2 r0_29 : FVec Ideal S1x1x1024x256 .bf16) (ix4 0 0 k i))
      (fun k (i : Fin 256) => (View.ld (Val := Elt Ideal) (e' := .bf16) x2 r0_30 : FVec Ideal S1x1x1024x256 .bf16) (ix4 0 0 k i)) (fun (i : Fin 256) c => (View.ld (Val := Elt Ideal) (e' := .bf16) x3 r0_31 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 9 c := by
  unfold part ffn hid lin
  pointwise [par]
  simp only [← Nat.add_assoc, Nat.reduceAdd]

theorem ch10 (r : Fin 512) (h : Fin 1024 → EReal) (c : Fin 1024) : ffn h (fun k (i : Fin 256) => (View.ld (Val := Elt Ideal) (e' := .bf16) x2 r0_32 : FVec Ideal S1x1x1024x256 .bf16) (ix4 0 0 k i))
      (fun k (i : Fin 256) => (View.ld (Val := Elt Ideal) (e' := .bf16) x2 r0_33 : FVec Ideal S1x1x1024x256 .bf16) (ix4 0 0 k i)) (fun (i : Fin 256) c => (View.ld (Val := Elt Ideal) (e' := .bf16) x3 r0_34 : FVec Ideal S1x1x256x1024 .bf16) (ix4 0 0 i c)) c
      = part (par x0 x1 x2 x3 x4 x5 x6 x7 r).G (par x0 x1 x2 x3 x4 x5 x6 x7 r).U (par x0 x1 x2 x3 x4 x5 x6 x7 r).D h 10 c := by
  unfold part ffn hid lin
  pointwise [par]
  simp only [← Nat.add_assoc, Nat.reduceAdd]

theorem p22 (r : Fin 512) (k : Fin 1024) : k0_pay22 (F := Ideal) x0 x1 x2 x3 x4 x5 x6 x7 (ix2 r k) = rms d1024 (par x0 x1 x2 x3 x4 x5 x6 x7 r).x (par x0 x1 x2 x3 x4 x5 x6 x7 r).g0 k := by
  unfold k0_pay22
  rw [pay4_at]
  unfold rms rscale
  pointwise [par]

theorem p24 (r : Fin 512) (i : Fin 256) : k0_pay24 (F := Ideal) x0 x1 x2 x3 x4 x5 x6 x7 (ix2 r i) = lin (rms d1024 (par x0 x1 x2 x3 x4 x5 x6 x7 r).x (par x0 x1 x2 x3 x4 x5 x6 x7 r).g0) (fun k (i : Fin 256) => (View.ld (Val := Elt Ideal) (e' := .bf16) x2 r0_29 : FVec Ideal S1x1x1024x256 .bf16) (ix4 0 0 k i)) i := by
  unfold k0_pay24
  rw [pay13_at]
  simp only [p22]

theorem p23 (r : Fin 512) (c : Fin 1024) : k0_pay23 (F := Ideal) x0 x1 x2 x3 x4 x5 x6 x7 (ix2 r c) = part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 0 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 1 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 2 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 3 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 4 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 5 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 6 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 7 c + part (par x0 x1 x2 x3 x4 x5 x6 x7 r).G (par x0 x1 x2 x3 x4 x5 x6 x7 r).U (par x0 x1 x2 x3 x4 x5 x6 x7 r).D (rms d1024 (par x0 x1 x2 x3 x4 x5 x6 x7 r).x (par x0 x1 x2 x3 x4 x5 x6 x7 r).g0) 8 c := by
  have e : ∀ k : Fin 1024, k0_pay4 (F := Ideal) (View.ld x0 r0_0) (View.ld x1 r0_1) (ix2 r k) = (rms d1024 (par x0 x1 x2 x3 x4 x5 x6 x7 r).x (par x0 x1 x2 x3 x4 x5 x6 x7 r).g0) k := fun k => p22 x0 x1 x2 x3 x4 x5 x6 x7 r k
  unfold k0_pay23
  rw [pay12_at, pay10_at, pay8_at, pay6_at, pay5_at]
  simp only [p22, pay7_at, pay9_at, pay11_at, e]
  generalize (rms d1024 (par x0 x1 x2 x3 x4 x5 x6 x7 r).x (par x0 x1 x2 x3 x4 x5 x6 x7 r).g0) = h
  simp only [← ch0 x0 x1 x2 x3 x4 x5 x6 x7 r, ← ch1 x0 x1 x2 x3 x4 x5 x6 x7 r, ← ch2 x0 x1 x2 x3 x4 x5 x6 x7 r, ← ch3 x0 x1 x2 x3 x4 x5 x6 x7 r, ← ch4 x0 x1 x2 x3 x4 x5 x6 x7 r, ← ch5 x0 x1 x2 x3 x4 x5 x6 x7 r, ← ch6 x0 x1 x2 x3 x4 x5 x6 x7 r, ← ch7 x0 x1 x2 x3 x4 x5 x6 x7 r, ← ch8 x0 x1 x2 x3 x4 x5 x6 x7 r]
  rfl

theorem y_at (r : Fin 512) (c : Fin 1024) : k0_pay25 (F := Ideal) x0 x1 x2 x3 x4 x5 x6 x7 (ix2 r c) = (par x0 x1 x2 x3 x4 x5 x6 x7 r).y c := by
  unfold k0_pay25 Pre.y
  rw [pay14_at, p23, ffn_parts]
  simp only [p22, p24]
  generalize (rms d1024 (par x0 x1 x2 x3 x4 x5 x6 x7 r).x (par x0 x1 x2 x3 x4 x5 x6 x7 r).g0) = h
  have e9 := ch9 x0 x1 x2 x3 x4 x5 x6 x7 r h c
  have e10 := ch10 x0 x1 x2 x3 x4 x5 x6 x7 r h c
  refine congrArg₂ (· + ·) (congrArg₂ (· + ·) rfl ?_) ?_
  · exact e9
  · exact e10

theorem x1_at (r : Fin 512) (c : Fin 1024) :
    k0_pay17 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (ix2 r c) = (par x0 x1 x2 x3 x4 x5 x6 x7 r).x1 c := by
  have f : k0_pay27 (F := Ideal) x0 x1 x2 x3 x4 x5 x6 x7 (ix2 r 0) = Ideal.div (∑ c : Fin 1024, (par x0 x1 x2 x3 x4 x5 x6 x7 r).y c * (par x0 x1 x2 x3 x4 x5 x6 x7 r).y c) d1024 + Ideal.ofBits .f32 0x358637BD#32 := by
    unfold k0_pay27
    rw [pay16_at]
    simp only [← y_at]
    rfl
  have g : k0_pay26 (F := Ideal) x0 x1 x2 x3 x4 x5 x6 x7 (ix2 0 c) = (par x0 x1 x2 x3 x4 x5 x6 x7 r).g1 c := by
    unfold k0_pay26
    rw [pay15_at]
    pointwise [par]
  have e : k0_pay21 (F := Ideal) x0 x1 x2 x3 x4 x5 x6 x7 (ix2 r c) = (par x0 x1 x2 x3 x4 x5 x6 x7 r).x c := by
    unfold k0_pay21
    rw [pay3_at]
    pointwise [par]
  rw [pay17_at, y_at, e, f, g]
  rfl

theorem u_at (r : Fin 512) (k : Fin 1024) :
    k0_pay18 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (ix2 r k) = rms d1024 (par x0 x1 x2 x3 x4 x5 x6 x7 r).x1 (par x0 x1 x2 x3 x4 x5 x6 x7 r).g2 k := by
  rw [pay18_at]
  simp only [x1_at]
  unfold rms
  pointwise [par]

theorem out8_at (r : Fin 512) (c : Fin 1024) : out0_8 (F := Ideal) x0 x1 x2 x3 x4 x5 x6 x7 (ix2 r c) = (par x0 x1 x2 x3 x4 x5 x6 x7 r).x1 c := by
  unfold out0_8
  refine Eq.trans ?_ (x1_at x0 x1 x2 x3 x4 x5 x6 x7 r c)
  exact congrFun (View.canon_unit_zero (S := S512x1024) (by decide) inb_S512x1024_S512x1024_0_0 _) (ix2 r c)

theorem out9_at (r : Fin 512) (c : Fin 1152) : out0_9 (F := Ideal) x0 x1 x2 x3 x4 x5 x6 x7 (ix2 r c) = (par x0 x1 x2 x3 x4 x5 x6 x7 r).pr ⟨c, by omega⟩ * x7 (ix2 0 ⟨c, by omega⟩) := by
  have w : k0_pay19 (F := Ideal) (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (View.ld x6 r0_35) (View.ld x7 r0_36) (ix2 r c)
      = (par x0 x1 x2 x3 x4 x5 x6 x7 r).pr ⟨c, by omega⟩ * x7 (ix2 0 ⟨c, by omega⟩) := by
    rw [pay19_at]
    simp only [u_at]
    unfold Pre.pr lin
    pointwise [par]
  unfold out0_9
  refine Eq.trans ?_ w
  exact congrFun (View.canon_unit_zero (S := S512x1152) (by decide) inb_S512x1152_S512x1152_0_0 _) (ix2 r c)

theorem out10_at (r : Fin 512) (c : Fin 768) : out0_10 (F := Ideal) x0 x1 x2 x3 x4 x5 x6 x7 (ix2 r c) = (par x0 x1 x2 x3 x4 x5 x6 x7 r).pr ⟨1152 + c, by omega⟩ * x7 (ix2 0 ⟨1152 + c, by omega⟩) := by
  have w : k0_pay1 (F := Ideal) (k0_pay20 (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1) (View.ld x6 r0_38)) (View.ld x7 r0_39) (ix2 r c)
      = (par x0 x1 x2 x3 x4 x5 x6 x7 r).pr ⟨1152 + c, by omega⟩ * x7 (ix2 0 ⟨1152 + c, by omega⟩) := by
    rw [pay1_at, pay20_at]
    simp only [u_at]
    unfold Pre.pr lin
    pointwise [par]
  unfold out0_10
  refine Eq.trans ?_ w
  exact congrFun (View.canon_unit_zero (S := S512x768) (by decide) inb_S512x768_S512x768_0_0 _) (ix2 r c)

theorem out11_at (r : Fin 512) (c : Fin 1152) : out0_11 (F := Ideal) x0 x1 x2 x3 x4 x5 x6 x7 (ix2 r c) = (par x0 x1 x2 x3 x4 x5 x6 x7 r).pr ⟨1920 + c, by omega⟩ * x7 (ix2 0 ⟨1920 + c, by omega⟩) := by
  have w : k0_pay2 (F := Ideal) (k0_pay18 (k0_pay21 x0 x1 x2 x3 x4 x5 x6 x7) (k0_pay25 x0 x1 x2 x3 x4 x5 x6 x7) (k0_pay26 x0 x1 x2 x3 x4 x5 x6 x7) (k0_pay27 x0 x1 x2 x3 x4 x5 x6 x7) (View.ld x5 r0_1)) (View.ld x6 r0_41) (View.ld x7 r0_42) (ix2 r c)
      = (par x0 x1 x2 x3 x4 x5 x6 x7 r).pr ⟨1920 + c, by omega⟩ * x7 (ix2 0 ⟨1920 + c, by omega⟩) := by
    rw [pay2_at]
    simp only [u_at]
    unfold Pre.pr lin
    pointwise [par]
  unfold out0_11
  refine Eq.trans ?_ w
  exact congrFun (View.canon_unit_zero (S := S512x1152) (by decide) inb_S512x1152_S512x1152_0_0 _) (ix2 r c)

end Cert.P5

end
-- ==== Proof.P5Final.lean ====
/- The result arrays of the first block of layer 1. -/
module

public import proofs.«01_k».proof.Proof.P5Entry
public import proofs.«01_k».proof.Proof.P5Blk

@[expose] public section

set_option maxRecDepth 16384

noncomputable section

namespace Cert.P5

open Idealize.ShloMosaic Idealize.ShloMosaic.TcCoe Idealize.SL.Sem Cert.Kernel5Ideal Cert.Kernel5Ideal.Gen Cert.Rows

variable (m : (ℓ : Loc nD τ sig) → Buf (Elt Ideal) ℓ) (c : Dev nD)

/-- The token at position `l` of batch `b`, over the kernel's arguments. -/
def tok (b : Fin 2) (l : Fin 8192) : Pre where
  x k := K0 m c (ix3 b l k)
  g0 k := K1 m c (ix3 1 0 k)
  g1 k := K1 m c (ix3 1 1 k)
  g2 k := K1 m c (ix3 1 2 k)
  G k c' := K3 m c (ix4 1 0 k ⟨c', by omega⟩)
  U k c' := K3 m c (ix4 1 0 k ⟨2816 + c', by omega⟩)
  D k c' := K4 m c (ix4 1 0 k c')
  w k c' := K2 m c (ix3 1 k c')

/-- The blocks of grid point `t` hold, in row `r`, the token of row `512 t + r`. -/
theorem par_eq (t : Fin cfg0.N) (r : Fin 512) :
    par (B0 m c t) (B1 m c t) (B2 m c t) (B3 m c t) (B4 m c t) (B5 m c t) (B6 m c t) (B7 m c t) r = tok m c ⟨(t * 512 + r) / 8192, by have := lt t; omega⟩ ⟨(t * 512 + r) % 8192, by omega⟩ := by
  unfold par tok
  simp only [b0, b1, b2, b3, b4, b5, b6]

/-- The tokens after the half step, at every row of the array. -/
def G8 : FVec Ideal S16384x1024 .f32 := fun i => (tok m c ⟨(i 0).val / 8192, by have := (i 0).isLt; change _ < 16384 at this; omega⟩ ⟨(i 0).val % 8192, by omega⟩).x1 (i 1)

/-- The scaled projection's columns 0 to 1151, at every row of the array. -/
def G9 : FVec Ideal S16384x1152 .f32 := fun i => (tok m c ⟨(i 0).val / 8192, by have := (i 0).isLt; change _ < 16384 at this; omega⟩ ⟨(i 0).val % 8192, by omega⟩).pr ⟨(i 1).val, by have := (i 1).isLt; change _ < 1152 at this; omega⟩ * colscale ⟨(i 1).val, by have := (i 1).isLt; change _ < 1152 at this; omega⟩

/-- The scaled projection's columns 1152 to 1919, at every row of the array. -/
def G10 : FVec Ideal S16384x768 .f32 := fun i => (tok m c ⟨(i 0).val / 8192, by have := (i 0).isLt; change _ < 16384 at this; omega⟩ ⟨(i 0).val % 8192, by omega⟩).pr ⟨1152 + (i 1).val, by have := (i 1).isLt; change _ < 768 at this; omega⟩ * colscale ⟨1152 + (i 1).val, by have := (i 1).isLt; change _ < 768 at this; omega⟩

/-- The scaled projection's columns 1920 to 3071, at every row of the array. -/
def G11 : FVec Ideal S16384x1152 .f32 := fun i => (tok m c ⟨(i 0).val / 8192, by have := (i 0).isLt; change _ < 16384 at this; omega⟩ ⟨(i 0).val % 8192, by omega⟩).pr ⟨1920 + (i 1).val, by have := (i 1).isLt; change _ < 1152 at this; omega⟩ * colscale ⟨1920 + (i 1).val, by have := (i 1).isLt; change _ < 1152 at this; omega⟩

theorem point8 (t : Fin cfg0.N) (y : S512x1024.Idx) : out0_8 (F := Ideal) (B0 m c t) (B1 m c t) (B2 m c t) (B3 m c t) (B4 m c t) (B5 m c t) (B6 m c t) (B7 m c t) y = G8 m c (((cfg0.win 8).blk t).view.emb y) := by
  obtain ⟨r, k, rfl⟩ : ∃ (r : Fin 512) (k : Fin 1024), y = ix2 r k := ⟨y 0, y 1, eq_ix2 y⟩
  rw [out8_at, par_eq]
  have e0 : ((((cfg0.win 8).blk t).view.emb (ix2 r k)) 0 : ℕ) = t * 512 + r := by blk_simp [idx t]
  have e1 : (((cfg0.win 8).blk t).view.emb (ix2 r k)) 1 = k := by
    ext
    blk_simp [idx t]
  unfold G8
  simp only [e0, e1]

theorem final8 : (dats m 0 c).arrAt 8 (cfgs 0).N = G8 m c := by
  refine (dats m 0 c).arrAt_eq_of_covers 8 _ (by decide +kernel) fun t _ y => ?_
  blk_simp
  rw [after0_8]
  exact point8 m c t y

theorem point9 (t : Fin cfg0.N) (y : S512x1152.Idx) : out0_9 (F := Ideal) (B0 m c t) (B1 m c t) (B2 m c t) (B3 m c t) (B4 m c t) (B5 m c t) (B6 m c t) (B7 m c t) y = G9 m c (((cfg0.win 9).blk t).view.emb y) := by
  obtain ⟨r, k, rfl⟩ : ∃ (r : Fin 512) (k : Fin 1152), y = ix2 r k := ⟨y 0, y 1, eq_ix2 y⟩
  rw [out9_at, par_eq, b7]
  have e0 : ((((cfg0.win 9).blk t).view.emb (ix2 r k)) 0 : ℕ) = t * 512 + r := by blk_simp [idx t]
  have e1 : (((cfg0.win 9).blk t).view.emb (ix2 r k)) 1 = k := by
    ext
    blk_simp [idx t]
  unfold G9
  simp only [e0, e1]

theorem final9 : (dats m 0 c).arrAt 9 (cfgs 0).N = G9 m c := by
  refine (dats m 0 c).arrAt_eq_of_covers 9 _ (by decide +kernel) fun t _ y => ?_
  blk_simp
  rw [after0_9]
  exact point9 m c t y

theorem point10 (t : Fin cfg0.N) (y : S512x768.Idx) : out0_10 (F := Ideal) (B0 m c t) (B1 m c t) (B2 m c t) (B3 m c t) (B4 m c t) (B5 m c t) (B6 m c t) (B7 m c t) y = G10 m c (((cfg0.win 10).blk t).view.emb y) := by
  obtain ⟨r, k, rfl⟩ : ∃ (r : Fin 512) (k : Fin 768), y = ix2 r k := ⟨y 0, y 1, eq_ix2 y⟩
  rw [out10_at, par_eq, b7]
  have e0 : ((((cfg0.win 10).blk t).view.emb (ix2 r k)) 0 : ℕ) = t * 512 + r := by blk_simp [idx t]
  have e1 : (((cfg0.win 10).blk t).view.emb (ix2 r k)) 1 = k := by
    ext
    blk_simp [idx t]
  unfold G10
  simp only [e0, e1]

theorem final10 : (dats m 0 c).arrAt 10 (cfgs 0).N = G10 m c := by
  refine (dats m 0 c).arrAt_eq_of_covers 10 _ (by decide +kernel) fun t _ y => ?_
  blk_simp
  rw [after0_10]
  exact point10 m c t y

theorem point11 (t : Fin cfg0.N) (y : S512x1152.Idx) : out0_11 (F := Ideal) (B0 m c t) (B1 m c t) (B2 m c t) (B3 m c t) (B4 m c t) (B5 m c t) (B6 m c t) (B7 m c t) y = G11 m c (((cfg0.win 11).blk t).view.emb y) := by
  obtain ⟨r, k, rfl⟩ : ∃ (r : Fin 512) (k : Fin 1152), y = ix2 r k := ⟨y 0, y 1, eq_ix2 y⟩
  rw [out11_at, par_eq, b7]
  have e0 : ((((cfg0.win 11).blk t).view.emb (ix2 r k)) 0 : ℕ) = t * 512 + r := by blk_simp [idx t]
  have e1 : (((cfg0.win 11).blk t).view.emb (ix2 r k)) 1 = k := by
    ext
    blk_simp [idx t]
  unfold G11
  simp only [e0, e1]

theorem final11 : (dats m 0 c).arrAt 11 (cfgs 0).N = G11 m c := by
  refine (dats m 0 c).arrAt_eq_of_covers 11 _ (by decide +kernel) fun t _ y => ?_
  blk_simp
  rw [after0_11]
  exact point11 m c t y

end Cert.P5

end
-- ==== Proof.P5Ref.lean ====
/- The reference of the first block of layer 1, read at an index. -/
module

public import proofs.«01_k».proof.Proof.Pre
public import proofs.«01_k».proof.Proof.Gen.Reference5Ideal.Run

@[expose] public section

set_option maxRecDepth 16384

noncomputable section

namespace Cert.P5.Ref

open Cert.Reference5Ideal Cert.Reference5Ideal.Gen Cert.Reference5Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x8192x1024 .f32 := V0 (Proc.devRef .tc main_arg0)

/-- The reference's argument 1. -/
abbrev A1 : FVec Ideal S2x10x1024 .f32 := V0 (Proc.devRef .tc main_arg1)

/-- The reference's argument 2. -/
abbrev A2 : FVec Ideal S2x1024x3072 .f32 := V0 (Proc.devRef .tc main_arg2)

/-- The reference's argument 3. -/
abbrev A3 : FVec Ideal S2x2x1024x5632 .f32 := V0 (Proc.devRef .tc main_arg3)

/-- The reference's argument 4. -/
abbrev A4 : FVec Ideal S2x2x2816x1024 .f32 := V0 (Proc.devRef .tc main_arg4)

/-- The token at position `s` of batch `b`, over the reference's arguments. -/
def tok (b : Fin 2) (s : Fin 8192) : Pre where
  x k := A0 V0 (ix3 b s k)
  g0 k := A1 V0 (ix3 1 0 k)
  g1 k := A1 V0 (ix3 1 1 k)
  g2 k := A1 V0 (ix3 1 2 k)
  G k c' := A3 V0 (ix4 1 0 k ⟨c', by omega⟩)
  U k c' := A3 V0 (ix4 1 0 k ⟨2816 + c', by omega⟩)
  D k c' := A4 V0 (ix4 1 0 k c')
  w k c' := A2 V0 (ix3 1 k c')

theorem v1_at (i : Fin 10) (c : Fin 1024) : (res_main_v1 V0 : FVec Ideal S10x1024 .f32) (ix2 i c) = A1 V0 (ix3 1 i c) := by
  pointwise [res_main_v1]

theorem v21_at (b : Fin 2) (s : Fin 8192) (c : Fin 5632) :
    (res_main_v21 V0 : FVec Ideal S2x8192x5632 .f32) (ix3 b s c) =
      lin (rms d1024 (fun k => A0 V0 (ix3 b s k)) (fun k => A1 V0 (ix3 1 0 k))) (fun k c => A3 V0 (ix4 1 0 k c)) c := by
  unfold lin rms rscale
  pointwise [res_main_v21, v1_at]

theorem v22_at (b : Fin 2) (s : Fin 8192) (c : Fin 2816) :
    (res_main_v22 V0 : FVec Ideal S2x8192x2816 .f32) (ix3 b s c) = (res_main_v21 V0 : FVec Ideal S2x8192x5632 .f32) (ix3 b s ⟨c, by omega⟩) := by
  pointwise [res_main_v22]

theorem v26_at (b : Fin 2) (s : Fin 8192) (c : Fin 1024) :
    (res_main_v26 V0 : FVec Ideal S2x8192x1024 .f32) (ix3 b s c) = (tok V0 b s).y c := by
  unfold Pre.y ffn hid Ideal.logistic
  pointwise [res_main_v26, v22_at, v21_at]
  rfl

theorem v44_at (b : Fin 2) (s : Fin 8192) (c : Fin 1024) :
    (res_main_v44 V0 : FVec Ideal S2x8192x1024 .f32) (ix3 b s c) = (tok V0 b s).x1 c := by
  unfold Pre.x1 rms rscale
  pointwise [res_main_v44, v1_at, v26_at]
  rfl

theorem v62_at (b : Fin 2) (s : Fin 8192) (c : Fin 3072) :
    (res_main_v62 V0 : FVec Ideal S2x8192x3072 .f32) (ix3 b s c) = (tok V0 b s).pr c := by
  unfold Pre.pr lin rms rscale
  pointwise [res_main_v62, v1_at, v44_at]
  rfl

theorem v63_at (b : Fin 2) (s : Fin 8192) (c : Fin 1152) :
    (res_main_v63 V0 : FVec Ideal S2x8192x1152 .f32) (ix3 b s c) = (tok V0 b s).pr ⟨c, by omega⟩ := by
  pointwise [res_main_v63, v62_at]

theorem v65_at (b : Fin 2) (s : Fin 8192) (c : Fin 1152) :
    (res_main_v65 V0 : FVec Ideal S2x8192x1152 .f32) (ix3 b s c) = (tok V0 b s).pr ⟨1920 + c, by omega⟩ := by
  pointwise [res_main_v65, v62_at]

/-- The reference's result 0. -/
def o82 : FVec Ideal S16384x1024 .f32 :=
  shapeCast _ (res_main_v44 V0) shapeCasts_S2x8192x1024_S16384x1024

/-- The reference's result 1. -/
def o83 : FVec Ideal S16384x1152 .f32 :=
  shapeCast _ ((concatenate S2x8192x1152 2 [⟨S2x8192x384, ((mulf (mulf (extractStridedSlice S2x8192x384 ![0, 0, 0] (res_main_v63 V0) slices_S2x8192x1152_S2x8192x384_0_0_0) (broadcastInDim S2x8192x384 ![] bcast_S_S2x8192x384 (constant S_ .f32 0x3E000000#32))) (broadcastInDim S2x8192x384 ![] bcast_S_S2x8192x384 (constant S_ .f32 0x3FB8AA3B#32))) : (⟨S2x8192x384, .f32⟩ : BufTy).Contents (Elt Ideal))⟩, ⟨S2x8192x384, ((extractStridedSlice S2x8192x384 ![0, 0, 384] (res_main_v63 V0) slices_S2x8192x1152_S2x8192x384_0_0_384) : (⟨S2x8192x384, .f32⟩ : BufTy).Contents (Elt Ideal))⟩, ⟨S2x8192x384, ((extractStridedSlice S2x8192x384 ![0, 0, 768] (res_main_v63 V0) slices_S2x8192x1152_S2x8192x384_0_0_768) : (⟨S2x8192x384, .f32⟩ : BufTy).Contents (Elt Ideal))⟩] concatenates_S2x8192x384_S2x8192x384_S2x8192x384_S2x8192x1152_d2 : (⟨S2x8192x1152, .f32⟩ : BufTy).Contents (Elt Ideal))) shapeCasts_S2x8192x1152_S16384x1152

/-- The reference's result 2. -/
def o84 : FVec Ideal S16384x768 .f32 :=
  shapeCast _ (extractStridedSlice S2x8192x768 ![0, 0, 1152] (res_main_v62 V0) slices_S2x8192x3072_S2x8192x768_0_0_1152) shapeCasts_S2x8192x768_S16384x768

/-- The reference's result 3. -/
def o85 : FVec Ideal S16384x1152 .f32 :=
  shapeCast _ ((concatenate S2x8192x1152 2 [⟨S2x8192x384, ((mulf (mulf (extractStridedSlice S2x8192x384 ![0, 0, 0] (res_main_v65 V0) slices_S2x8192x1152_S2x8192x384_0_0_0) (broadcastInDim S2x8192x384 ![] bcast_S_S2x8192x384 (constant S_ .f32 0x3E000000#32))) (broadcastInDim S2x8192x384 ![] bcast_S_S2x8192x384 (constant S_ .f32 0x3FB8AA3B#32))) : (⟨S2x8192x384, .f32⟩ : BufTy).Contents (Elt Ideal))⟩, ⟨S2x8192x384, ((extractStridedSlice S2x8192x384 ![0, 0, 384] (res_main_v65 V0) slices_S2x8192x1152_S2x8192x384_0_0_384) : (⟨S2x8192x384, .f32⟩ : BufTy).Contents (Elt Ideal))⟩, ⟨S2x8192x384, ((extractStridedSlice S2x8192x384 ![0, 0, 768] (res_main_v65 V0) slices_S2x8192x1152_S2x8192x384_0_0_768) : (⟨S2x8192x384, .f32⟩ : BufTy).Contents (Elt Ideal))⟩] concatenates_S2x8192x384_S2x8192x384_S2x8192x384_S2x8192x1152_d2 : (⟨S2x8192x1152, .f32⟩ : BufTy).Contents (Elt Ideal))) shapeCasts_S2x8192x1152_S16384x1152

theorem o82_at (r : Fin 16384) (c : Fin 1024) : o82 V0 (ix2 r c) = (tok V0 ⟨r / 8192, by omega⟩ ⟨r % 8192, by omega⟩).x1 c := by
  pointwise [o82, v44_at]

theorem o84_at (r : Fin 16384) (c : Fin 768) :
    o84 V0 (ix2 r c) = (tok V0 ⟨r / 8192, by omega⟩ ⟨r % 8192, by omega⟩).pr ⟨1152 + c, by omega⟩ * colscale ⟨1152 + c, by omega⟩ := by
  rw [colscale_mid _ (by show 384 ≤ 1152 + (c : ℕ); omega) (by show 1152 + (c : ℕ) < 1920; omega)]
  pointwise [o84, v62_at]

theorem o83_at (r : Fin 16384) (c : Fin 1152) :
    o83 V0 (ix2 r c) = (tok V0 ⟨r / 8192, by omega⟩ ⟨r % 8192, by omega⟩).pr ⟨c, by omega⟩ * colscale ⟨c, by omega⟩ := by
  by_cases h : (c : ℕ) < 384
  · rw [colscale_q _ h]
    pointwise [o83, v63_at]
    rw [dif_pos h]
  · rw [colscale_mid _ (by show 384 ≤ (c : ℕ); omega) (by show (c : ℕ) < 1920; omega)]
    pointwise [o83, v63_at]
    rw [dif_neg h]
    split_ifs <;> refine congrArg (Pre.pr _) (Fin.ext ?_) <;> dsimp only <;> omega

theorem o85_at (r : Fin 16384) (c : Fin 1152) :
    o85 V0 (ix2 r c) = (tok V0 ⟨r / 8192, by omega⟩ ⟨r % 8192, by omega⟩).pr ⟨1920 + c, by omega⟩ * colscale ⟨1920 + c, by omega⟩ := by
  by_cases h : (c : ℕ) < 384
  · rw [colscale_q' _ (by show 1920 ≤ 1920 + (c : ℕ); omega) (by show 1920 + (c : ℕ) < 2304; omega)]
    pointwise [o85, v65_at]
    rw [dif_pos h]
  · rw [colscale_end _ (by show 2304 ≤ 1920 + (c : ℕ); omega)]
    pointwise [o85, v65_at]
    rw [dif_neg h]
    split_ifs <;> refine congrArg (Pre.pr _) (Fin.ext ?_) <;> dsimp only <;> omega

end Cert.P5.Ref

end
-- ==== Proof.P5Bridge.lean ====
/- The first block of layer 1: the kernel's arrays are the reference's results when the two programs' arguments agree. -/
module

public import proofs.«01_k».proof.Defs
public import proofs.«01_k».proof.Proof.Gen.Reference5Ideal
public import proofs.«01_k».proof.Proof.P5Final
public import proofs.«01_k».proof.Proof.P5Ref
public import Idealize.ShloMosaic.Lib.Claim
public import Idealize.ShloMosaic.Adequacy
public import Idealize.ShloMosaic.Init

@[expose] public section

set_option maxRecDepth 16384

noncomputable section

namespace Cert.P5

open Idealize.ShloMosaic Idealize.ShloMosaic.TcCoe Idealize.SL.Sem Cert.Kernel5Ideal Cert.Kernel5Ideal.Gen Cert.Rows

/-- Both programs see the same token. -/
theorem tok_eq (m : (ℓ : Loc nD τ sig) → Buf (Elt Ideal) ℓ) (c : Dev nD) (V0 : Valuation Cert.Reference5Ideal.τ Cert.Reference5Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c)
    (b : Fin 2) (s : Fin 8192) : Ref.tok V0 b s = tok m c b s := by
  unfold Ref.tok tok
  rw [h0, h1, h2, h3, h4]

/-- The reference's result 0 is the kernel's array 0. -/
theorem o82_eq (m : (ℓ : Loc nD τ sig) → Buf (Elt Ideal) ℓ) (c : Dev nD) (V0 : Valuation Cert.Reference5Ideal.τ Cert.Reference5Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o82 V0 = G8 m c := by
  funext i
  obtain ⟨r, k, rfl⟩ : ∃ (r : Fin 16384) (k : Fin 1024), i = ix2 r k := ⟨i 0, i 1, eq_ix2 i⟩
  rw [Ref.o82_at, tok_eq m c V0 h0 h1 h2 h3 h4]
  rfl

/-- The reference's result 1 is the kernel's array 1. -/
theorem o83_eq (m : (ℓ : Loc nD τ sig) → Buf (Elt Ideal) ℓ) (c : Dev nD) (V0 : Valuation Cert.Reference5Ideal.τ Cert.Reference5Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o83 V0 = G9 m c := by
  funext i
  obtain ⟨r, k, rfl⟩ : ∃ (r : Fin 16384) (k : Fin 1152), i = ix2 r k := ⟨i 0, i 1, eq_ix2 i⟩
  rw [Ref.o83_at, tok_eq m c V0 h0 h1 h2 h3 h4]
  rfl

/-- The reference's result 2 is the kernel's array 2. -/
theorem o84_eq (m : (ℓ : Loc nD τ sig) → Buf (Elt Ideal) ℓ) (c : Dev nD) (V0 : Valuation Cert.Reference5Ideal.τ Cert.Reference5Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o84 V0 = G10 m c := by
  funext i
  obtain ⟨r, k, rfl⟩ : ∃ (r : Fin 16384) (k : Fin 768), i = ix2 r k := ⟨i 0, i 1, eq_ix2 i⟩
  rw [Ref.o84_at, tok_eq m c V0 h0 h1 h2 h3 h4]
  rfl

/-- The reference's result 3 is the kernel's array 3. -/
theorem o85_eq (m : (ℓ : Loc nD τ sig) → Buf (Elt Ideal) ℓ) (c : Dev nD) (V0 : Valuation Cert.Reference5Ideal.τ Cert.Reference5Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) :
    Ref.o85 V0 = G11 m c := by
  funext i
  obtain ⟨r, k, rfl⟩ : ∃ (r : Fin 16384) (k : Fin 1152), i = ix2 r k := ⟨i 0, i 1, eq_ix2 i⟩
  rw [Ref.o85_at, tok_eq m c V0 h0 h1 h2 h3 h4]
  rfl

/-- The reference runs, leaves its arguments unchanged, and declares no semaphore. -/
theorem reference_frame : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The reference's run: its results are its definitions at the arguments, its arguments unchanged. -/
theorem reference_run (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      fun r => ∀ c : Dev Cert.Reference5Ideal.nD,
      r.2.mem ((c.tc : Thread Cert.Reference5Ideal.nD Cert.Reference5Ideal.τ).loc Cert.Reference5Ideal.main_v82) = Ref.o82 (StableHlo.launchContents m c)
      ∧ r.2.mem ((c.tc : Thread Cert.Reference5Ideal.nD Cert.Reference5Ideal.τ).loc Cert.Reference5Ideal.main_v83) = Ref.o83 (StableHlo.launchContents m c)
      ∧ r.2.mem ((c.tc : Thread Cert.Reference5Ideal.nD Cert.Reference5Ideal.τ).loc Cert.Reference5Ideal.main_v84) = Ref.o84 (StableHlo.launchContents m c)
      ∧ r.2.mem ((c.tc : Thread Cert.Reference5Ideal.nD Cert.Reference5Ideal.τ).loc Cert.Reference5Ideal.main_v85) = Ref.o85 (StableHlo.launchContents m c)
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4) :=
  Cert.Reference5Ideal.Value.run (F := Ideal) m g

/-- The kernel and the reference end with equal results over the extended reals. -/
theorem value : Cert.algebraic_Kernel5Ideal_Reference5Ideal (hKernel5Ideal := Cert.Kernel5Ideal.Gen.facts) (hReference5Ideal := Cert.Reference5Ideal.Gen.facts) := by
  intro m g m' g' _ hagree
  refine ⟨fun c => G8 m c, fun c => G9 m c, fun c => G10 m c, fun c => G11 m c, ?_, ?_⟩
  · exact (θ_run _ _ _).mono (fun r h c => ⟨(h c).1.trans (final8 m c), (h c).2.1.trans (final9 m c), (h c).2.2.1.trans (final10 m c), (h c).2.2.2.1.trans (final11 m c), (h c).2.2.2.2⟩) (Cert.Kernel5Ideal.Value.run_blocks m g)
  · refine (θ_run _ _ _).mono (fun r h c => ?_) (reference_run m' g')
    obtain ⟨e0, e1, e2, e3, e4⟩ := hagree c
    exact ⟨(h c).1.trans (o82_eq m c (StableHlo.launchContents m' c) e0 e1 e2 e3 e4), (h c).2.1.trans (o83_eq m c (StableHlo.launchContents m' c) e0 e1 e2 e3 e4), (h c).2.2.1.trans (o84_eq m c (StableHlo.launchContents m' c) e0 e1 e2 e3 e4), (h c).2.2.2.1.trans (o85_eq m c (StableHlo.launchContents m' c) e0 e1 e2 e3 e4), (h c).2.2.2.2⟩

end Cert.P5

end
-- ==== Proof.Tap.lean ====
/- A convolution of three taps along a sequence of 8192 values, zero before its first and after its last. -/
module

public import proofs.«01_k».proof.Proof.Rows

@[expose] public section

set_option maxRecDepth 16384

noncomputable section

namespace Cert.Rows

/-- The value before place `s` of the sequence `u`, 0 before the first. -/
def prev (u : Fin 8192 → EReal) (s : Fin 8192) : EReal := if h : (s : ℕ) = 0 then 0 else u ⟨s - 1, by omega⟩

/-- The value after place `s` of the sequence `u`, 0 after the last. -/
def next (u : Fin 8192 → EReal) (s : Fin 8192) : EReal := if h : (s : ℕ) = 8191 then 0 else u ⟨s + 1, by omega⟩

/-- Three taps and a bias at place `s` of the sequence `u`. -/
def tap (u : Fin 8192 → EReal) (w0 w1 w2 b : EReal) (s : Fin 8192) : EReal :=
  prev u s * w0 + u s * w1 + next u s * w2 + b

end Cert.Rows

end
-- ==== Proof.P4Pay.lean ====
/- The short convolution's gate of layer 0: the payloads of the kernel's body, read at a row and a column. -/
module

public import proofs.«01_k».proof.Proof.Tap
public import proofs.«01_k».proof.Proof.Gen.Kernel4Ideal.Skeleton
public import Idealize.ShloMosaic.Lib.Affine
public import Idealize.ShloMosaic.Lib.DynamicIndex

@[expose] public section

set_option maxRecDepth 16384

noncomputable section

namespace Cert.P4

open Idealize.ShloMosaic Idealize.ShloMosaic.TcCoe Cert.Kernel4Ideal Cert.Kernel4Ideal.Gen Cert.Rows

/-- The sum of the three taps and the bias. -/
theorem pay1_at (d a b : FVec Ideal S1024x768 .f32) (w bias : FVec Ideal S1x768 .f32) (r : Fin 1024) (k : Fin 768) :
    k0_pay1 (F := Ideal) d a b w bias (ix2 r k) = a (ix2 r k) + b (ix2 r k) + d (ix2 r k) * w (ix2 0 k) + bias (ix2 0 k) := by
  pointwise [k0_pay1]

/-- The first result: columns 256 to 511 of the convolution times columns 0 to 255. -/
theorem pay2_at (d a b : FVec Ideal S1024x768 .f32) (w bias : FVec Ideal S1x768 .f32) (r : Fin 1024) (k : Fin 256) :
    k0_pay2 (F := Ideal) d a b w bias (ix3 0 r k) = k0_pay1 (F := Ideal) d a b w bias (ix2 r ⟨256 + k, by omega⟩) * k0_pay1 (F := Ideal) d a b w bias (ix2 r ⟨k, by omega⟩) := by
  pointwise [k0_pay2]

/-- The second result: columns 512 to 767 of the convolution. -/
theorem pay3_at (d a b : FVec Ideal S1024x768 .f32) (w bias : FVec Ideal S1x768 .f32) (r : Fin 1024) (k : Fin 256) :
    k0_pay3 (F := Ideal) d a b w bias (ix3 0 r k) = k0_pay1 (F := Ideal) d a b w bias (ix2 r ⟨512 + k, by omega⟩) := by
  pointwise [k0_pay3]

theorem pay4_at (u : FVec Ideal S1x1024x768 .f32) (r : Fin 1024) (k : Fin 768) : k0_pay4 (F := Ideal) u (ix2 r k) = u (ix3 0 r k) := by
  pointwise [k0_pay4]

/-- The middle tap. -/
theorem pay7_at (u : FVec Ideal S1x1024x768 .f32) (w : FVec Ideal S1x768 .f32) (r : Fin 1024) (k : Fin 768) :
    k0_pay7 (F := Ideal) u w (ix2 r k) = u (ix3 0 r k) * w (ix2 0 k) := by
  pointwise [k0_pay7, pay4_at]

/-- A select on the equality of two small numbers. -/
theorem sel_eq (a b : ℕ) (ha : a < 2 ^ 31) (hb : b < 2 ^ 31) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = 1#1 ↔ a = b := by
    refine IntOp.cmpi_eq.trans ⟨fun h => ?_, fun h => by rw [h]⟩
    have := congrArg BitVec.toNat h
    simp only [BitVec.toNat_ofNat] at this
    omega
  by_cases h : a = b
  · rw [if_pos h]
    exact if_pos (e.mpr h)
  · rw [if_neg h]
    exact if_neg (fun g => h (e.mp g))

/-- A select on the order of two small numbers. -/
theorem sel_gt (a b : ℕ) (ha : a < 2 ^ 31) (hb : b < 2 ^ 31) (x y : EReal) :
    Scalar.select (Scalar.cmpi CmpIPredicate.sgt (BitVec.ofNat 32 a) (BitVec.ofNat 32 b)) x y = if b < a then x else y := by
  have e : Scalar.cmpi CmpIPredicate.sgt (BitVec.ofNat 32 a) (BitVec.ofNat 32 b) = 1#1 ↔ b < a := by
    refine IntOp.cmpi_sgt.trans ?_
    rw [toInt_ofNat_of_lt ha, toInt_ofNat_of_lt hb]
    omega
  by_cases h : b < a
  · rw [if_pos h]
    exact if_pos (e.mpr h)
  · rw [if_neg h]
    exact if_neg (fun g => h (e.mp g))

/-- A select on the order of two small numbers. -/
theorem sel_lt (a b : ℕ) (ha : a < 2 ^ 31) (hb : b < 2 ^ 31) (x y : EReal) :
    Scalar.select (Scalar.cmpi CmpIPredicate.slt (BitVec.ofNat 32 a) (BitVec.ofNat 32 b)) x y = if a < b then x else y := by
  have e : Scalar.cmpi CmpIPredicate.slt (BitVec.ofNat 32 a) (BitVec.ofNat 32 b) = 1#1 ↔ a < b := by
    refine IntOp.cmpi_slt.trans ?_
    rw [toInt_ofNat_of_lt ha, toInt_ofNat_of_lt hb]
    omega
  by_cases h : a < b
  · rw [if_pos h]
    exact if_pos (e.mpr h)
  · rw [if_neg h]
    exact if_neg (fun g => h (e.mp g))

/-- The tap before: the row above, the block's first row takes the block before's last row, which is 0 for the first block. -/
theorem pay6_at (i : grid0.Coords) (u : FVec Ideal S1x1024x768 .f32) (p : FVec Ideal S1x1x768 .f32) (w : FVec Ideal S1x768 .f32) (r : Fin 1024) (k : Fin 768) :
    k0_pay6 (F := Ideal) i u p w (ix2 r k) =
      (if (r : ℕ) = 0 then (if 0 < (i 1).val then p (ix3 0 0 k) else 0) else u (ix3 0 ⟨(r + 1024 - 1) % 1024, by omega⟩ k)) * w (ix2 0 k) := by
  have hi : (i 1).val < 8 := (i 1).isLt
  pointwise [k0_pay6, pay4_at]
  rw [sel_eq r 0 (by omega) (by omega), sel_gt _ 0 (by omega) (by omega)]

/-- The tap after: the row below, the block's last row takes the block after's first row, which is 0 for the last block. -/
theorem pay5_at (i : grid0.Coords) (u : FVec Ideal S1x1024x768 .f32) (p : FVec Ideal S1x1x768 .f32) (r : Fin 1024) (k : Fin 768) :
    k0_pay5 (F := Ideal) i u p (ix2 r k) =
      if (r : ℕ) = 1023 then (if (i 1).val < 7 then p (ix3 0 0 k) else 0) else u (ix3 0 ⟨(r + 1024 - 1023) % 1024, by omega⟩ k) := by
  have hi : (i 1).val < 8 := (i 1).isLt
  pointwise [k0_pay5, pay4_at]
  rw [sel_eq r 1023 (by omega) (by omega), sel_lt _ 7 (by omega) (by omega)]

end Cert.P4

end
-- ==== Proof.P4Final.lean ====
/- The short convolution's gate of layer 0: the result arrays of the kernel. -/
module

public import proofs.«01_k».proof.Proof.Gen.Kernel4Ideal.Value
public import Idealize.ShloMosaic.Lib.Claim
public import Idealize.ShloMosaic.Lib.Pipeline.ValueKit
public import proofs.«01_k».proof.Proof.P4Pay

@[expose] public section

set_option maxRecDepth 16384

noncomputable section

namespace Cert.P4

open Idealize.ShloMosaic Idealize.ShloMosaic.TcCoe Idealize.SL.Sem Cert.Kernel4Ideal Cert.Kernel4Ideal.Gen Cert.Rows

variable (m : (ℓ : Loc nD τ sig) → Buf (Elt Ideal) ℓ) (c : Dev nD)

/-- The windows' block indices. -/
theorem idx : ∀ t : Fin cfg0.N, win0_0.index t = ![t.val / 8, t.val % 8, 0] ∧ win0_1.index t = ![t.val / 8, t.val % 8 * 128 - 1, 0]
    ∧ win0_2.index t = ![t.val / 8, min ((t.val % 8 + 1) * 128) 1023, 0] ∧ win0_3.index t = ![0, 0] ∧ win0_4.index t = ![0, 0]
    ∧ win0_5.index t = ![t.val / 8, t.val % 8, 0] ∧ win0_6.index t = ![t.val / 8, t.val % 8, 0]
    ∧ (grid0.coords t 1).val = t.val % 8 ∧ t.val < 16 :=
  (by decide +kernel : ∀ t : Fin grid0.N, _)

theorem lt (t : Fin cfg0.N) : t.val < 16 := (idx t).2.2.2.2.2.2.2.2

theorem coord (t : Fin cfg0.N) : (grid0.coords t 1).val = t.val % 8 := (idx t).2.2.2.2.2.2.2.1

/-- Window 0's block at a grid point. -/
abbrev B0 (t : Fin cfg0.N) : FVec Ideal S1x1024x768 .f32 := iblk m c 0 t

/-- Window 1's block at a grid point. -/
abbrev B1 (t : Fin cfg0.N) : FVec Ideal S1x8x768 .f32 := iblk m c 1 t

/-- Window 2's block at a grid point. -/
abbrev B2 (t : Fin cfg0.N) : FVec Ideal S1x8x768 .f32 := iblk m c 2 t

/-- Window 3's block at a grid point. -/
abbrev B3 (t : Fin cfg0.N) : FVec Ideal S3x768 .f32 := iblk m c 3 t

/-- Window 4's block at a grid point. -/
abbrev B4 (t : Fin cfg0.N) : FVec Ideal S1x768 .f32 := iblk m c 4 t

/-- The kernel's argument 0. -/
abbrev K0 : FVec Ideal S2x8192x768 .f32 := m ((c : Thread nD τ).loc main_arg0)

/-- The kernel's argument 1. -/
abbrev K1 : FVec Ideal S2x3x768 .f32 := m ((c : Thread nD τ).loc main_arg1)

/-- The kernel's argument 2. -/
abbrev K2 : FVec Ideal S2x768 .f32 := m ((c : Thread nD τ).loc main_arg2)

theorem b0 (t : Fin cfg0.N) (r : Fin 1024) (k : Fin 768) :
    B0 m c t (ix3 0 r k) = K0 m c (ix3 ⟨t / 8, by have := lt t; omega⟩ ⟨t % 8 * 1024 + r, by omega⟩ k) := by
  blk_point [iblk, V, idx t]

theorem b1 (t : Fin cfg0.N) (k : Fin 768) :
    B1 m c t (ix3 0 7 k) = K0 m c (ix3 ⟨t / 8, by have := lt t; omega⟩ ⟨(t % 8 * 128 - 1) * 8 + 7, by omega⟩ k) := by
  blk_point [iblk, V, idx t]

theorem b2 (t : Fin cfg0.N) (k : Fin 768) :
    B2 m c t (ix3 0 0 k) = K0 m c (ix3 ⟨t / 8, by have := lt t; omega⟩ ⟨min ((t.val % 8 + 1) * 128) 1023 * 8, by omega⟩ k) := by
  blk_point [iblk, V, idx t]

theorem b3 (t : Fin cfg0.N) (a : Fin 3) (k : Fin 768) : B3 m c t (ix2 a k) = K1 m c (ix3 0 a k) := by
  blk_point [iblk, V, idx t]

theorem b4 (t : Fin cfg0.N) (k : Fin 768) : B4 m c t (ix2 0 k) = K2 m c (ix2 0 k) := by
  blk_point [iblk, V, idx t]

/-- The short convolution of batch `b` at row `s` and one of the 768 columns. -/
def cv (b : Fin 2) (s : Fin 8192) (k : Fin 768) : EReal :=
  tap (fun s => K0 m c (ix3 b s k)) (K1 m c (ix3 0 0 k)) (K1 m c (ix3 0 1 k)) (K1 m c (ix3 0 2 k)) (K2 m c (ix2 0 k)) s

/-- The whole block read as it is. -/
theorem v0 (x : FVec Ideal S1x1024x768 .f32) (q : Fin 1024) (k : Fin 768) : View.ld (Val := Elt Ideal) (e' := .f32) x r0_0 (ix3 0 q k) = x (ix3 0 q k) := by
  pointwise []

/-- The body's sum on its blocks is the convolution at the block's rows. -/
theorem sum_at (t : Fin cfg0.N) (r : Fin 1024) (k : Fin 768) :
    k0_pay1 (F := Ideal) (k0_pay8 (grid0.coords t) (B0 m c t) (B1 m c t) (B2 m c t) (B3 m c t) (B4 m c t)) (k0_pay9 (grid0.coords t) (B0 m c t) (B1 m c t) (B2 m c t) (B3 m c t) (B4 m c t))
      (k0_pay10 (grid0.coords t) (B0 m c t) (B1 m c t) (B2 m c t) (B3 m c t) (B4 m c t)) (View.ld (B3 m c t) r0_5) (View.ld (B4 m c t) r0_6) (ix2 r k)
      = cv m c ⟨t / 8, by have := lt t; omega⟩ ⟨t % 8 * 1024 + r, by omega⟩ k := by
  have v1 : View.ld (Val := Elt Ideal) (e' := .f32) (B1 m c t) r0_1 (ix3 0 0 k) = B1 m c t (ix3 0 7 k) := by pointwise []
  have v2 : View.ld (Val := Elt Ideal) (e' := .f32) (B2 m c t) r0_2 (ix3 0 0 k) = B2 m c t (ix3 0 0 k) := by pointwise []
  have v3 : View.ld (Val := Elt Ideal) (e' := .f32) (B3 m c t) r0_3 (ix2 0 k) = B3 m c t (ix2 0 k) := by pointwise []
  have v4 : View.ld (Val := Elt Ideal) (e' := .f32) (B3 m c t) r0_4 (ix2 0 k) = B3 m c t (ix2 1 k) := by pointwise []
  have v5 : View.ld (Val := Elt Ideal) (e' := .f32) (B3 m c t) r0_5 (ix2 0 k) = B3 m c t (ix2 2 k) := by pointwise []
  have v6 : View.ld (Val := Elt Ideal) (e' := .f32) (B4 m c t) r0_6 (ix2 0 k) = B4 m c t (ix2 0 k) := by pointwise []
  rw [pay1_at]
  unfold k0_pay8 k0_pay9 k0_pay10
  rw [pay5_at, pay6_at, pay7_at, v0, v0, v0, v1, v2, v3, v4, v5, v6, coord t, b0, b0, b0, b1, b2, b3, b3, b3, b4]
  unfold cv tap prev next
  have hr := r.isLt
  congr 2
  · congr 2
    by_cases h : (r : ℕ) = 0
    · rw [if_pos h]
      by_cases h' : 0 < t.val % 8
      · rw [if_pos h', dif_neg (by simp only; omega)]
        congr 2
        ext
        simp only
        omega
      · rw [if_neg h', dif_pos (by simp only; omega)]
    · rw [if_neg h, dif_neg (by simp only; omega)]
      congr 2
      ext
      simp only
      omega
  · congr 1
    by_cases h : (r : ℕ) = 1023
    · rw [if_pos h]
      by_cases h' : t.val % 8 < 7
      · rw [if_pos h', dif_neg (by simp only; omega)]
        congr 2
        ext
        simp only
        omega
      · rw [if_neg h', dif_pos (by simp only; omega)]
    · rw [if_neg h, dif_neg (by simp only; omega)]
      congr 2
      ext
      simp only
      omega

/-- The first result, at every row of the array. -/
def Z : FVec Ideal S2x8192x256 .f32 := fun i => cv m c (i 0) (i 1) ⟨256 + (i 2).val, by have := (i 2).isLt; change _ < 256 at this; omega⟩ * cv m c (i 0) (i 1) ⟨(i 2).val, by have := (i 2).isLt; change _ < 256 at this; omega⟩

/-- The second result, at every row of the array. -/
def X : FVec Ideal S2x8192x256 .f32 := fun i => cv m c (i 0) (i 1) ⟨512 + (i 2).val, by have := (i 2).isLt; change _ < 256 at this; omega⟩

theorem point5 (t : Fin cfg0.N) (y : S1x1024x256.Idx) :
    out0_5 (F := Ideal) (grid0.coords t) (B0 m c t) (B1 m c t) (B2 m c t) (B3 m c t) (B4 m c t) y = Z m c (((cfg0.win 5).blk t).view.emb y) := by
  obtain ⟨r, k, rfl⟩ : ∃ (r : Fin 1024) (k : Fin 256), y = ix3 0 r k := ⟨y 1, y 2, by
    rw [eq_ix3 y]
    congr 1
    exact Subsingleton.elim (α := Fin 1) _ _⟩
  unfold out0_5
  refine (congrFun (View.canon_unit_zero (S := S1x1024x256) (by decide) inb_S1x1024x256_S1x1024x256_0_0_0 _) (ix3 0 r k)).trans ?_
  rw [pay2_at, sum_at, sum_at]
  have e0 : (((cfg0.win 5).blk t).view.emb (ix3 0 r k)) 0 = (⟨t / 8, by have := lt t; omega⟩ : Fin 2) := by
    ext
    blk_simp [idx t]
    rfl
  have e1 : (((cfg0.win 5).blk t).view.emb (ix3 0 r k)) 1 = (⟨t % 8 * 1024 + r, by omega⟩ : Fin 8192) := by
    ext
    blk_simp [idx t]
  have e2 : ((((cfg0.win 5).blk t).view.emb (ix3 0 r k)) 2 : ℕ) = k := by blk_simp [idx t]
  unfold Z
  simp only [e0, e1, e2]

theorem point6 (t : Fin cfg0.N) (y : S1x1024x256.Idx) :
    out0_6 (F := Ideal) (grid0.coords t) (B0 m c t) (B1 m c t) (B2 m c t) (B3 m c t) (B4 m c t) y = X m c (((cfg0.win 6).blk t).view.emb y) := by
  obtain ⟨r, k, rfl⟩ : ∃ (r : Fin 1024) (k : Fin 256), y = ix3 0 r k := ⟨y 1, y 2, by
    rw [eq_ix3 y]
    congr 1
    exact Subsingleton.elim (α := Fin 1) _ _⟩
  unfold out0_6
  refine (congrFun (View.canon_unit_zero (S := S1x1024x256) (by decide) inb_S1x1024x256_S1x1024x256_0_0_0 _) (ix3 0 r k)).trans ?_
  rw [pay3_at, sum_at]
  have e0 : (((cfg0.win 6).blk t).view.emb (ix3 0 r k)) 0 = (⟨t / 8, by have := lt t; omega⟩ : Fin 2) := by
    ext
    blk_simp [idx t]
    rfl
  have e1 : (((cfg0.win 6).blk t).view.emb (ix3 0 r k)) 1 = (⟨t % 8 * 1024 + r, by omega⟩ : Fin 8192) := by
    ext
    blk_simp [idx t]
  have e2 : ((((cfg0.win 6).blk t).view.emb (ix3 0 r k)) 2 : ℕ) = k := by blk_simp [idx t]
  unfold X
  simp only [e0, e1, e2]

/-- The kernel's first result array: the convolution's second third times its first. -/
theorem final5 : (dats m 0 c).arrAt 5 (cfgs 0).N = Z m c := by
  refine (dats m 0 c).arrAt_eq_of_covers 5 _ (by decide +kernel) fun t _ y => ?_
  blk_simp
  rw [after0_5]
  exact point5 m c t y

/-- The kernel's second result array: the convolution's last third. -/
theorem final6 : (dats m 0 c).arrAt 6 (cfgs 0).N = X m c := by
  refine (dats m 0 c).arrAt_eq_of_covers 6 _ (by decide +kernel) fun t _ y => ?_
  blk_simp
  rw [after0_6]
  exact point6 m c t y

end Cert.P4

end
-- ==== Proof.P4Ref.lean ====
/- The short convolution's gate of layer 0 as the reference computes it, read at a batch, a row and a column. -/
module

public import proofs.«01_k».proof.Proof.Tap
public import proofs.«01_k».proof.Proof.Gen.Reference4Ideal.Run
public import Idealize.ShloMosaic.Lib.KernelVsHost

@[expose] public section

set_option maxRecDepth 16384

noncomputable section

namespace Cert.P4.Ref

open Cert.Reference4Ideal Cert.Reference4Ideal.Gen Cert.Reference4Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x8192x768 .f32 := V0 (Proc.devRef .tc main_arg0)

/-- The reference's argument 1. -/
abbrev A1 : FVec Ideal S2x3x768 .f32 := V0 (Proc.devRef .tc main_arg1)

/-- The reference's argument 2. -/
abbrev A2 : FVec Ideal S2x768 .f32 := V0 (Proc.devRef .tc main_arg2)

/-- Argument 0 with a row of zeros before its first and after its last. -/
def padded : FVec Ideal S2x8194x768 .f32 := pad S2x8194x768 ![0, 1, 0] ![0, 1, 0] ![0, 0, 0] (A0 V0) (sitofp .f32 (constantI S_ 32 0#32)) pads_S2x8192x768_S2x8194x768_000_110_000 h_S_

/-- The short convolution. -/
def conv : FVec Ideal S2x8192x768 .f32 := addf (addf (addf (mulf (extractStridedSlice S2x8192x768 ![0, 0, 0] (padded V0) slices_S2x8194x768_S2x8192x768_0_0_0) (broadcastInDim S2x8192x768 ![0, 1, 2] bcast_S1x1x768_S2x8192x768_0_1_2 (broadcastInDim S1x1x768 ![2] bcast_S768_S1x1x768_2 (shapeCast _ (extractStridedSlice S1x768 ![0, 0] (shapeCast _ (extractStridedSlice S1x3x768 ![0, 0, 0] (A1 V0) slices_S2x3x768_S1x3x768_0_0_0) shapeCasts_S1x3x768_S3x768) slices_S3x768_S1x768_0_0) shapeCasts_S1x768_S768)))) (mulf (extractStridedSlice S2x8192x768 ![0, 1, 0] (padded V0) slices_S2x8194x768_S2x8192x768_0_1_0) (broadcastInDim S2x8192x768 ![0, 1, 2] bcast_S1x1x768_S2x8192x768_0_1_2 (broadcastInDim S1x1x768 ![2] bcast_S768_S1x1x768_2 (shapeCast _ (extractStridedSlice S1x768 ![1, 0] (shapeCast _ (extractStridedSlice S1x3x768 ![0, 0, 0] (A1 V0) slices_S2x3x768_S1x3x768_0_0_0) shapeCasts_S1x3x768_S3x768) slices_S3x768_S1x768_1_0) shapeCasts_S1x768_S768))))) (mulf (extractStridedSlice S2x8192x768 ![0, 2, 0] (padded V0) slices_S2x8194x768_S2x8192x768_0_2_0) (broadcastInDim S2x8192x768 ![0, 1, 2] bcast_S1x1x768_S2x8192x768_0_1_2 (broadcastInDim S1x1x768 ![2] bcast_S768_S1x1x768_2 (shapeCast _ (extractStridedSlice S1x768 ![2, 0] (shapeCast _ (extractStridedSlice S1x3x768 ![0, 0, 0] (A1 V0) slices_S2x3x768_S1x3x768_0_0_0) shapeCasts_S1x3x768_S3x768) slices_S3x768_S1x768_2_0) shapeCasts_S1x768_S768))))) (broadcastInDim S2x8192x768 ![0, 1, 2] bcast_S1x1x768_S2x8192x768_0_1_2 (broadcastInDim S1x1x768 ![2] bcast_S768_S1x1x768_2 (shapeCast _ (extractStridedSlice S1x768 ![0, 0] (A2 V0) slices_S2x768_S1x768_0_0) shapeCasts_S1x768_S768)))

/-- The reference's first result. -/
def o0 : FVec Ideal S2x8192x256 .f32 := mulf (extractStridedSlice S2x8192x256 ![0, 0, 256] (conv V0) slices_S2x8192x768_S2x8192x256_0_0_256) (extractStridedSlice S2x8192x256 ![0, 0, 0] (conv V0) slices_S2x8192x768_S2x8192x256_0_0_0)

/-- The reference's second result. -/
def o1 : FVec Ideal S2x8192x256 .f32 := extractStridedSlice S2x8192x256 ![0, 0, 512] (conv V0) slices_S2x8192x768_S2x8192x256_0_0_512

/-- Row `s + 1` of the padded array is row `s` of the argument. -/
theorem padded_mid (b : Fin 2) (s : Fin 8192) (k : Fin 768) (e : Fin 8194) (h : (e : ℕ) = s + 1) : padded V0 (ix3 b e k) = A0 V0 (ix3 b s k) := by
  unfold padded
  refine pad_apply_of_inside _ _ _ _ _ _ _ _ _ fun a => ?_
  fin_cases a
  · show (b : ℕ) = 0 + b * 1
    omega
  · show (e : ℕ) = 1 + s * 1
    omega
  · show (k : ℕ) = 0 + k * 1
    omega

/-- The padded array's first and last rows are zero. -/
theorem padded_edge (b : Fin 2) (k : Fin 768) (e : Fin 8194) (h : (e : ℕ) = 0 ∨ (e : ℕ) = 8193) : padded V0 (ix3 b e k) = 0 := by
  unfold padded
  refine (pad_apply_of_not_inside _ _ _ _ _ _ _ _ (1 : Fin 3) ?_).trans ?_
  · show ¬(1 ≤ (e : ℕ) ∧ ((e : ℕ) - 1) % 1 = 0 ∧ ((e : ℕ) - 1) / 1 < 8192)
    omega
  · pointwise []
    show ((((0#32 : BitVec 32).toInt : ℝ)) : EReal) = 0
    simp

/-- The convolution at a batch, a row and a column. -/
theorem conv_at (b : Fin 2) (s : Fin 8192) (k : Fin 768) : conv V0 (ix3 b s k) =
    tap (fun s => A0 V0 (ix3 b s k)) (A1 V0 (ix3 0 0 k)) (A1 V0 (ix3 0 1 k)) (A1 V0 (ix3 0 2 k)) (A2 V0 (ix2 0 k)) s := by
  have h : conv V0 (ix3 b s k) = padded V0 (ix3 b ⟨s, by omega⟩ k) * A1 V0 (ix3 0 0 k) + padded V0 (ix3 b ⟨s + 1, by omega⟩ k) * A1 V0 (ix3 0 1 k)
      + padded V0 (ix3 b ⟨s + 2, by omega⟩ k) * A1 V0 (ix3 0 2 k) + A2 V0 (ix2 0 k) := by
    pointwise [conv]
    simp only [Nat.add_comm]
  have e0 : padded V0 (ix3 b ⟨s, by omega⟩ k) = prev (fun s => A0 V0 (ix3 b s k)) s := by
    unfold prev
    by_cases hs : (s : ℕ) = 0
    · rw [dif_pos hs]
      exact padded_edge V0 b k _ (Or.inl hs)
    · rw [dif_neg hs]
      exact padded_mid V0 b _ k _ (by simp only; omega)
  have e2 : padded V0 (ix3 b ⟨s + 2, by omega⟩ k) = next (fun s => A0 V0 (ix3 b s k)) s := by
    unfold next
    by_cases hs : (s : ℕ) = 8191
    · rw [dif_pos hs]
      exact padded_edge V0 b k _ (Or.inr (by simp only; omega))
    · rw [dif_neg hs]
      exact padded_mid V0 b _ k _ (by simp only)
  rw [h, e0, e2, padded_mid V0 b s k ⟨s + 1, by omega⟩ rfl]
  rfl

theorem o0_at (b : Fin 2) (s : Fin 8192) (k : Fin 256) : o0 V0 (ix3 b s k) = conv V0 (ix3 b s ⟨256 + k, by omega⟩) * conv V0 (ix3 b s ⟨k, by omega⟩) := by
  pointwise [o0]

theorem o1_at (b : Fin 2) (s : Fin 8192) (k : Fin 256) : o1 V0 (ix3 b s k) = conv V0 (ix3 b s ⟨512 + k, by omega⟩) := by
  pointwise [o1]

end Cert.P4.Ref

end
-- ==== Proof.P4Bridge.lean ====
/- The short convolution's gate of layer 0: the kernel's arrays are the reference's results when the two programs' arguments agree. -/
module

public import proofs.«01_k».proof.Defs
public import proofs.«01_k».proof.Proof.Gen.Reference4Ideal
public import proofs.«01_k».proof.Proof.P4Final
public import proofs.«01_k».proof.Proof.P4Ref
public import Idealize.ShloMosaic.Lib.Claim
public import Idealize.ShloMosaic.Adequacy
public import Idealize.ShloMosaic.Init

@[expose] public section

set_option maxRecDepth 16384

noncomputable section

namespace Cert.P4

open Idealize.ShloMosaic Idealize.ShloMosaic.TcCoe Idealize.SL.Sem Cert.Kernel4Ideal Cert.Kernel4Ideal.Gen Cert.Rows

/-- The reference's first result is the kernel's first array. -/
theorem o0_eq (m : (ℓ : Loc nD τ sig) → Buf (Elt Ideal) ℓ) (c : Dev nD) (V0 : Valuation Cert.Reference4Ideal.τ Cert.Reference4Ideal.sig (Elt Ideal)) (h0 : Ref.A0 V0 = K0 m c) (h1 : Ref.A1 V0 = K1 m c) (h2 : Ref.A2 V0 = K2 m c) :
    Ref.o0 V0 = Z m c := by
  funext i
  obtain ⟨b, s, k, rfl⟩ : ∃ (b : Fin 2) (s : Fin 8192) (k : Fin 256), i = ix3 b s k := ⟨i 0, i 1, i 2, eq_ix3 i⟩
  rw [Ref.o0_at, Ref.conv_at, Ref.conv_at, h0, h1, h2]
  rfl

/-- The reference's second result is the kernel's second array. -/
theorem o1_eq (m : (ℓ : Loc nD τ sig) → Buf (Elt Ideal) ℓ) (c : Dev nD) (V0 : Valuation Cert.Reference4Ideal.τ Cert.Reference4Ideal.sig (Elt Ideal)) (h0 : Ref.A0 V0 = K0 m c) (h1 : Ref.A1 V0 = K1 m c) (h2 : Ref.A2 V0 = K2 m c) :
    Ref.o1 V0 = X m c := by
  funext i
  obtain ⟨b, s, k, rfl⟩ : ∃ (b : Fin 2) (s : Fin 8192) (k : Fin 256), i = ix3 b s k := ⟨i 0, i 1, i 2, eq_ix3 i⟩
  rw [Ref.o1_at, Ref.conv_at, h0, h1, h2]
  rfl

/-- The reference runs, leaves its arguments unchanged, and declares no semaphore. -/
theorem reference_frame : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference's run: its results are their definitions at the arguments, its arguments unchanged. -/
theorem reference_run (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      fun r => ∀ c : Dev Cert.Reference4Ideal.nD,
      r.2.mem ((c.tc : Thread Cert.Reference4Ideal.nD Cert.Reference4Ideal.τ).loc Cert.Reference4Ideal.main_v31) = Ref.o0 (StableHlo.launchContents m c)
      ∧ r.2.mem ((c.tc : Thread Cert.Reference4Ideal.nD Cert.Reference4Ideal.τ).loc Cert.Reference4Ideal.main_v30) = Ref.o1 (StableHlo.launchContents m c)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2) :=
  Cert.Reference4Ideal.Value.run (F := Ideal) m g

/-- The kernel and the reference end with equal results over the extended reals. -/
theorem value : Cert.algebraic_Kernel4Ideal_Reference4Ideal (hKernel4Ideal := Cert.Kernel4Ideal.Gen.facts) (hReference4Ideal := Cert.Reference4Ideal.Gen.facts) := by
  intro m g m' g' _ hagree
  refine ⟨fun c => Z m c, fun c => X m c, ?_, ?_⟩
  · exact (θ_run _ _ _).mono (fun r h c => ⟨(h c).1.trans (final5 m c), (h c).2.1.trans (final6 m c), (h c).2.2⟩) (Cert.Kernel4Ideal.Value.run_blocks m g)
  · refine (θ_run _ _ _).mono (fun r h c => ?_) (reference_run m' g')
    obtain ⟨e0, e1, e2⟩ := hagree c
    exact ⟨(h c).1.trans (o0_eq m c (StableHlo.launchContents m' c) e0 e1 e2), (h c).2.1.trans (o1_eq m c (StableHlo.launchContents m' c) e0 e1 e2), (h c).2.2⟩

end Cert.P4

end
-- ==== Proof.P6Entry.lean ====
/- What each window's block holds at a grid point, in terms of the kernel's arguments. -/
module

public import proofs.«01_k».proof.Proof.Gen.Kernel6Ideal.Value
public import Idealize.ShloMosaic.Lib.Claim
public import Idealize.ShloMosaic.Lib.Pipeline.ValueKit
public import proofs.«01_k».proof.Proof.Rows

@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0, 0]
    ∧ win0_9.index t = ![0, 0] ∧ win0_10.index t = ![0, 0] ∧ win0_11.index t = ![0, 0, 0] ∧ win0_12.index t = ![t.val / 16, 0, 0] ∧ win0_13.index t = ![0, 0, 0]
    ∧ win0_14.index t = ![0, 0] ∧ win0_15.index t = ![0, 0] ∧ win0_16.index t = ![0, 1, 0, 0] ∧ win0_17.index t = ![0, 1, 0, 0] ∧ win0_18.index t = ![0, 0]
    ∧ win0_19.index t = ![t.val, 0] ∧ t.val < 32 :=
  (by decide +kernel : ∀ t : Fin grid0.N, _)

theorem lt (t : Fin cfg0.N) : t.val < 32 := (idx t).2.2.2.2.2.2.2.2.2.2.2.2.2.2.2.2.2.2.2.2

/-- Window 0's block at a grid point. -/
abbrev B0 (t : Fin cfg0.N) : FVec Ideal S512x1024 .f32 := iblk m c 0 t

/-- Window 1's block at a grid point. -/
abbrev B1 (t : Fin cfg0.N) : FVec Ideal S512x384 .f32 := iblk m c 1 t

/-- Window 2's block at a grid point. -/
abbrev B2 (t : Fin cfg0.N) : FVec Ideal S512x256 .f32 := iblk m c 2 t

/-- Window 3's block at a grid point. -/
abbrev B3 (t : Fin cfg0.N) : FVec Ideal S512x256 .f32 := iblk m c 3 t

/-- Window 4's block at a grid point. -/
abbrev B4 (t : Fin cfg0.N) : FVec Ideal S512x256 .f32 := iblk m c 4 t

/-- Window 5's block at a grid point. -/
abbrev B5 (t : Fin cfg0.N) : FVec Ideal S512x384 .f32 := iblk m c 5 t

/-- Window 6's block at a grid point. -/
abbrev B6 (t : Fin cfg0.N) : FVec Ideal S1x256 .f32 := iblk m c 6 t

/-- Window 7's block at a grid point. -/
abbrev B7 (t : Fin cfg0.N) : FVec Ideal S1x1024 .f32 := iblk m c 7 t

/-- Window 8's block at a grid point. -/
abbrev B8 (t : Fin cfg0.N) : FVec Ideal S1x1024x1024 .bf16 := iblk m c 8 t

/-- Window 9's block at a grid point. -/
abbrev B9 (t : Fin cfg0.N) : FVec Ideal S1x1024 .f32 := iblk m c 9 t

/-- Window 10's block at a grid point. -/
abbrev B10 (t : Fin cfg0.N) : FVec Ideal S1x1024 .f32 := iblk m c 10 t

/-- Window 11's block at a grid point. -/
abbrev B11 (t : Fin cfg0.N) : FVec Ideal S1x1024x1024 .bf16 := iblk m c 11 t

/-- Window 12's block at a grid point. -/
abbrev B12 (t : Fin cfg0.N) : FVec Ideal S1x256x2048 .bf16 := iblk m c 12 t

/-- Window 13's block at a grid point. -/
abbrev B13 (t : Fin cfg0.N) : FVec Ideal S1x1024x1024 .bf16 := iblk m c 13 t

/-- Window 14's block at a grid point. -/
abbrev B14 (t : Fin cfg0.N) : FVec Ideal S1x1024 .f32 := iblk m c 14 t

/-- Window 15's block at a grid point. -/
abbrev B15 (t : Fin cfg0.N) : FVec Ideal S1x1024 .f32 := iblk m c 15 t

/-- Window 16's block at a grid point. -/
abbrev B16 (t : Fin cfg0.N) : FVec Ideal S1x1x1024x5632 .bf16 := iblk m c 16 t

/-- Window 17's block at a grid point. -/
abbrev B17 (t : Fin cfg0.N) : FVec Ideal S1x1x2816x1024 .bf16 := iblk m c 17 t

/-- Window 18's block at a grid point. -/
abbrev B18 (t : Fin cfg0.N) : FVec Ideal S1x1024 .f32 := iblk m c 18 t

/-- The kernel's argument 0. -/
abbrev K0 : FVec Ideal S2x8192x1024 .f32 := m ((c : Thread nD τ).loc main_arg0)

/-- The kernel's argument 1. -/
abbrev K1 : FVec Ideal S2x8192x384 .f32 := m ((c : Thread nD τ).loc main_arg1)

/-- The kernel's argument 2. -/
abbrev K2 : FVec Ideal S2x8192x256 .f32 := m ((c : Thread nD τ).loc main_arg2)

/-- The kernel's argument 3. -/
abbrev K3 : FVec Ideal S2x8192x256 .f32 := m ((c : Thread nD τ).loc main_arg3)

/-- The kernel's argument 4. -/
abbrev K4 : FVec Ideal S2x8192x256 .f32 := m ((c : Thread nD τ).loc main_arg4)

/-- The kernel's argument 5. -/
abbrev K5 : FVec Ideal S2x8192x384 .f32 := m ((c : Thread nD τ).loc main_arg5)

/-- The kernel's argument 6. -/
abbrev K6 : FVec Ideal S2x256 .f32 := m ((c : Thread nD τ).loc main_arg6)

/-- The kernel's argument 7. -/
abbrev K7 : FVec Ideal S2x10x1024 .f32 := m ((c : Thread nD τ).loc main_arg7)

/-- The kernel's argument 8. -/
abbrev K8 : FVec Ideal S2x1024x1024 .f32 := m ((c : Thread nD τ).loc main_arg8)

/-- The kernel's argument 9. -/
abbrev K9 : FVec Ideal S2x1024x1024 .f32 := m ((c : Thread nD τ).loc main_arg9)

/-- The kernel's argument 10. -/
abbrev K10 : FVec Ideal S2x256x2048 .bf16 := m ((c : Thread nD τ).loc main_arg10)

/-- The kernel's argument 11. -/
abbrev K11 : FVec Ideal S2x1024x1024 .f32 := m ((c : Thread nD τ).loc main_arg11)

/-- The kernel's argument 12. -/
abbrev K12 : FVec Ideal S2x2x1024x5632 .f32 := m ((c : Thread nD τ).loc main_arg12)

/-- The kernel's argument 13. -/
abbrev K13 : FVec Ideal S2x2x2816x1024 .f32 := m ((c : Thread nD τ).loc main_arg13)

end Cert.P6.Entry

end
-- ==== Proof.P6EntryA.lean ====
/- What windows 0, 1, 2, 3 hold, read at an index of the kernel's arguments. -/
module

public import proofs.«01_k».proof.Proof.P6Entry
@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem b0 (t : Fin cfg0.N) (r : Fin 512) (k : Fin 1024) : B0 m c t (ix2 r k) = K0 m c (ix3 ⟨(t * 512 + r) / 8192, by have := lt t; omega⟩ ⟨(t * 512 + r) % 8192, by omega⟩ k) := by
  blk_point [iblk, V, idx t]

theorem b1 (t : Fin cfg0.N) (r : Fin 512) (k : Fin 384) : B1 m c t (ix2 r k) = K1 m c (ix3 ⟨(t * 512 + r) / 8192, by have := lt t; omega⟩ ⟨(t * 512 + r) % 8192, by omega⟩ k) := by
  blk_point [iblk, V, idx t]

theorem b2 (t : Fin cfg0.N) (r : Fin 512) (k : Fin 256) : B2 m c t (ix2 r k) = K2 m c (ix3 ⟨(t * 512 + r) / 8192, by have := lt t; omega⟩ ⟨(t * 512 + r) % 8192, by omega⟩ k) := by
  blk_point [iblk, V, idx t]

theorem b3 (t : Fin cfg0.N) (r : Fin 512) (k : Fin 256) : B3 m c t (ix2 r k) = K3 m c (ix3 ⟨(t * 512 + r) / 8192, by have := lt t; omega⟩ ⟨(t * 512 + r) % 8192, by omega⟩ k) := by
  blk_point [iblk, V, idx t]

end Cert.P6.Entry

end
-- ==== Proof.P6EntryB.lean ====
/- What windows 4, 5, 6, 12 hold, read at an index of the kernel's arguments. -/
module

public import proofs.«01_k».proof.Proof.P6Entry
@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem b4 (t : Fin cfg0.N) (r : Fin 512) (k : Fin 256) : B4 m c t (ix2 r k) = K4 m c (ix3 ⟨(t * 512 + r) / 8192, by have := lt t; omega⟩ ⟨(t * 512 + r) % 8192, by omega⟩ k) := by
  blk_point [iblk, V, idx t]

theorem b5 (t : Fin cfg0.N) (r : Fin 512) (k : Fin 384) : B5 m c t (ix2 r k) = K5 m c (ix3 ⟨(t * 512 + r) / 8192, by have := lt t; omega⟩ ⟨(t * 512 + r) % 8192, by omega⟩ k) := by
  blk_point [iblk, V, idx t]

theorem b6 (t : Fin cfg0.N) (k : Fin 256) : B6 m c t (ix2 0 k) = K6 m c (ix2 0 k) := by
  blk_point [iblk, V, idx t]

theorem b12 (t : Fin cfg0.N) (r : Fin 512) (p : Fin 256) (k : Fin 2048) : B12 m c t (ix3 0 p k) = K10 m c (ix3 ⟨(t * 512 + r) / 8192, by have := lt t; omega⟩ p k) := by
  blk_point [iblk, V, idx t]

end Cert.P6.Entry

end
-- ==== Proof.P6EntryC.lean ====
/- What windows 7, 9, 10, 14 hold, read at an index of the kernel's arguments. -/
module

public import proofs.«01_k».proof.Proof.P6Entry
@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem b7 (t : Fin cfg0.N) (k : Fin 1024) : B7 m c t (ix2 0 k) = K7 m c (ix3 0 3 k) := by
  blk_point [iblk, V, idx t]

theorem b9 (t : Fin cfg0.N) (k : Fin 1024) : B9 m c t (ix2 0 k) = K7 m c (ix3 0 4 k) := by
  blk_point [iblk, V, idx t]

theorem b10 (t : Fin cfg0.N) (k : Fin 1024) : B10 m c t (ix2 0 k) = K7 m c (ix3 0 5 k) := by
  blk_point [iblk, V, idx t]

theorem b14 (t : Fin cfg0.N) (k : Fin 1024) : B14 m c t (ix2 0 k) = K7 m c (ix3 0 7 k) := by
  blk_point [iblk, V, idx t]

end Cert.P6.Entry

end
-- ==== Proof.P6EntryD.lean ====
/- What windows 15, 18, 8, 11 hold, read at an index of the kernel's arguments. -/
module

public import proofs.«01_k».proof.Proof.P6Entry
@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem b15 (t : Fin cfg0.N) (k : Fin 1024) : B15 m c t (ix2 0 k) = K7 m c (ix3 0 8 k) := by
  blk_point [iblk, V, idx t]

theorem b18 (t : Fin cfg0.N) (k : Fin 1024) : B18 m c t (ix2 0 k) = K7 m c (ix3 0 9 k) := by
  blk_point [iblk, V, idx t]

theorem b8 (t : Fin cfg0.N) (k c' : Fin 1024) : B8 m c t (ix3 0 k c') = K8 m c (ix3 0 k c') := by
  blk_point [iblk, V, idx t]

theorem b11 (t : Fin cfg0.N) (k c' : Fin 1024) : B11 m c t (ix3 0 k c') = K9 m c (ix3 0 k c') := by
  blk_point [iblk, V, idx t]

end Cert.P6.Entry

end
-- ==== Proof.P6EntryE.lean ====
/- What windows 13, 16, 17 hold, read at an index of the kernel's arguments. -/
module

public import proofs.«01_k».proof.Proof.P6Entry
@[expose] public section

set_option maxRecDepth 16384

noncomputable section

namespace Cert.P6.Entry

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem b13 (t : Fin cfg0.N) (k c' : Fin 1024) : B13 m c t (ix3 0 k c') = K11 m c (ix3 0 k c') := by
  blk_point [iblk, V, idx t]

theorem b16 (t : Fin cfg0.N) (k : Fin 1024) (n : Fin 5632) : B16 m c t (ix4 0 0 k n) = K12 m c (ix4 0 1 k n) := by
  blk_point [iblk, V, idx t]

theorem b17 (t : Fin cfg0.N) (k : Fin 2816) (n : Fin 1024) : B17 m c t (ix4 0 0 k n) = K13 m c (ix4 0 1 k n) := by
  blk_point [iblk, V, idx t]

end Cert.P6.Entry

end
-- ==== Proof.P6PayMix.lean ====
/- The kernel's payloads of the group norms, the output projection and the attention's scores, read at a row and a column. -/
module

public import proofs.«01_k».proof.Proof.Rows
public import proofs.«01_k».proof.Proof.Gen.Kernel6Ideal.Skeleton

@[expose] public section

set_option maxRecDepth 16384

noncomputable section

namespace Cert.P6.Pay

open Idealize.ShloMosaic Idealize.ShloMosaic.TcCoe Cert.Kernel6Ideal Cert.Kernel6Ideal.Gen Cert.Rows

theorem pay2_at (v0 : FVec Ideal S512x1024 .f32) (r : Fin 512) (c : Fin 1024) :
    k0_pay2 (F := Ideal) v0 (ix2 r c) = v0 (ix2 r c) := by
  pointwise [k0_pay2]

theorem pay3_at (v0 : FVec Ideal S512x384 .f32) (r : Fin 512) (c : Fin 384) :
    k0_pay3 (F := Ideal) v0 (ix2 r c) = v0 (ix2 r c) := by
  pointwise [k0_pay3]

theorem pay4_at (v4 v6 v8 : FVec Ideal S512x256 .f32) (v12 : FVec Ideal S1x256 .f32) (r : Fin 512) (c : Fin 256) :
    k0_pay4 (F := Ideal) v4 v6 v8 v12 (ix2 r c) = v8 (ix2 r c) * (v4 (ix2 r c) + v12 (ix2 0 c) * v6 (ix2 r c)) := by
  pointwise [k0_pay4]

theorem pay5_at (v2 : FVec Ideal S512x384 .f32) (v18 : FVec Ideal S1x384 .f32) (v33 : FVec Ideal S1x384x1024 .bf16)
    (r : Fin 512) (c : Fin 1024) :
    k0_pay5 (F := Ideal) v2 v18 v33 (ix2 r c) = lin (rms d384 (fun k => v2 (ix2 r k)) (fun k => v18 (ix2 0 k))) (fun k c => v33 (ix3 0 k c)) c := by
  unfold lin rms rscale
  pointwise [k0_pay5]

theorem pay6_at (v11 : FVec Ideal S512x384 .f32) (v17 : FVec Ideal S512x256 .f32) (v35 : FVec Ideal S512x1024 .f32)
    (v36 : FVec Ideal S1x256 .f32) (v51 : FVec Ideal S1x256x1024 .bf16) (v55 : FVec Ideal S1x384 .f32) (v70 : FVec Ideal S1x384x1024 .bf16)
    (r : Fin 512) (c : Fin 1024) :
    k0_pay6 (F := Ideal) v11 v17 v35 v36 v51 v55 v70 (ix2 r c) =
      v35 (ix2 r c) + lin (rms d256 (fun k => v17 (ix2 r k)) (fun k => v36 (ix2 0 k))) (fun k c => v51 (ix3 0 k c)) c
      + lin (rms d384 (fun k => v11 (ix2 r k)) (fun k => v55 (ix2 0 k))) (fun k c => v70 (ix3 0 k c)) c := by
  unfold lin rms rscale
  pointwise [k0_pay6]

theorem pay7_at (v0 : FVec Ideal S1x1024 .f32) (c : Fin 1024) :
    k0_pay7 (F := Ideal) v0 (ix2 0 c) = v0 (ix2 0 c) := by
  pointwise [k0_pay7]

theorem pay8_at (v1 v73 : FVec Ideal S512x1024 .f32) (v75 : FVec Ideal S1x1024 .f32) (r : Fin 512) (c : Fin 1024) :
    k0_pay8 (F := Ideal) v1 v73 v75 (ix2 r c) =
      v1 (ix2 r c) + rms d1024 (fun k => v73 (ix2 r k)) (fun k => v75 (ix2 0 k)) c := by
  unfold rms rscale
  pointwise [k0_pay8]

theorem pay9_at (v1 v73 : FVec Ideal S512x1024 .f32) (v75 v89 : FVec Ideal S1x1024 .f32) (v104 : FVec Ideal S1x1024x1024 .bf16)
    (r : Fin 512) (c : Fin 1024) :
    k0_pay9 (F := Ideal) v1 v73 v75 v89 v104 (ix2 r c) =
      lin (rms d1024 (fun k => k0_pay8 (F := Ideal) v1 v73 v75 (ix2 r k)) (fun k => v89 (ix2 0 k))) (fun k c => v104 (ix3 0 k c)) c
        * Ideal.ofBits .f32 0x3D800000#32 := by
  unfold lin rms rscale
  pointwise [k0_pay9]

theorem pay10_at (v0 : FVec Ideal S1x256x256 .bf16) (r c : Fin 256) :
    k0_pay10 (F := Ideal) v0 (ix2 r c) = v0 (ix3 0 r c) := by
  pointwise [k0_pay10]

theorem pay14_at (v0 : FVec Ideal S1x256x256 .bf16) (r c : Fin 256) :
    k0_pay14 (F := Ideal) v0 (ix2 r c) = v0 (ix3 0 r c) := by
  pointwise [k0_pay14]

theorem pay11_at (v1 v73 : FVec Ideal S512x1024 .f32) (v75 v89 : FVec Ideal S1x1024 .f32) (v104 : FVec Ideal S1x1024x1024 .bf16)
    (v111 : FVec Ideal S1x256x256 .bf16) (r : Fin 512) (m : Fin 256) :
    k0_pay11 (F := Ideal) v1 v73 v75 v89 v104 v111 (ix2 r m) =
      ∑ d : Fin 256, k0_pay9 (F := Ideal) v1 v73 v75 v89 v104 (ix2 r ⟨d, by omega⟩) * v111 (ix3 0 m d) := by
  pointwise [k0_pay11]

theorem pay12_at (v114 : FVec Ideal S256x256 .bf16) (v115 : FVec Ideal S512x256 .f32) (r : Fin 512) (d : Fin 256) :
    k0_pay12 (F := Ideal) v114 v115 (ix2 r d) = att (fun m => v115 (ix2 r m)) (fun m d => v114 (ix2 m d)) d := by
  unfold att top
  pointwise [k0_pay12]

theorem pay13_at (v108 : FVec Ideal S512x1024 .f32) (v129 v131 : FVec Ideal S1x256x256 .bf16) (r : Fin 512) (d : Fin 256) :
    k0_pay13 (F := Ideal) v108 v129 v131 (ix2 r d) =
      att (fun m => ∑ d : Fin 256, v108 (ix2 r ⟨256 + d, by omega⟩) * v129 (ix3 0 m d)) (fun m d => v131 (ix3 0 m d)) d := by
  unfold att top
  pointwise [k0_pay13]

theorem pay15_at (v108 : FVec Ideal S512x1024 .f32) (v147 : FVec Ideal S1x256x256 .bf16) (r : Fin 512) (m : Fin 256) :
    k0_pay15 (F := Ideal) v108 v147 (ix2 r m) = ∑ d : Fin 256, v108 (ix2 r ⟨512 + d, by omega⟩) * v147 (ix3 0 m d) := by
  pointwise [k0_pay15]

theorem pay16_at (v108 : FVec Ideal S512x1024 .f32) (v147 : FVec Ideal S1x256x256 .bf16) (r : Fin 512) (m : Fin 256) :
    k0_pay16 (F := Ideal) v108 v147 (ix2 r m) = top (fun m => k0_pay15 (F := Ideal) v108 v147 (ix2 r m)) := by
  unfold top
  pointwise [k0_pay16]

end Cert.P6.Pay

end
-- ==== Proof.P6PayAtt.lean ====
/- The kernel's payloads of the cross-attention's output, read at a row and a column. -/
module

public import proofs.«01_k».proof.Proof.Rows
public import proofs.«01_k».proof.Proof.Gen.Kernel6Ideal.Skeleton

@[expose] public section

set_option maxRecDepth 16384

noncomputable section

namespace Cert.P6.Pay

open Idealize.ShloMosaic Idealize.ShloMosaic.TcCoe Cert.Kernel6Ideal Cert.Kernel6Ideal.Gen Cert.Rows

/-- The four heads' outputs side by side. -/
def heads (f0 f1 f2 f3 : Fin 256 → EReal) (k : Fin 1024) : EReal :=
  if h0 : (k : ℕ) < 256 then f0 ⟨k, h0⟩ else if h1 : (k : ℕ) - 256 < 256 then f1 ⟨k - 256, h1⟩
    else if h2 : (k : ℕ) - 256 - 256 < 256 then f2 ⟨k - 256 - 256, h2⟩ else f3 ⟨k - 256 - 256 - 256, by omega⟩

theorem pay17_at (v108 : FVec Ideal S512x1024 .f32) (v126 v144 : FVec Ideal S512x256 .f32) (v150 : FVec Ideal S256x256 .bf16) (v151 v154 : FVec Ideal S512x256 .f32) (v165 v167 : FVec Ideal S1x256x256 .bf16) (v183 : FVec Ideal S1x1024x1024 .bf16) (r : Fin 512) (c : Fin 1024) :
    k0_pay17 (F := Ideal) v108 v126 v144 v150 v151 v154 v165 v167 v183 (ix2 r c) =
      lin (heads (fun d => v126 (ix2 r d)) (fun d => v144 (ix2 r d))
        (fun d => Ideal.div (∑ m : Fin 256, Ideal.exp (v151 (ix2 r m) - v154 (ix2 r m)) * v150 (ix2 m d))
          (∑ m : Fin 256, Ideal.exp (v151 (ix2 r m) - v154 (ix2 r m))))
        (att (fun m => ∑ d : Fin 256, v108 (ix2 r ⟨768 + d, by omega⟩) * v165 (ix3 0 m d)) (fun m d => v167 (ix3 0 m d))))
        (fun k c => v183 (ix3 0 k c)) c := by
  unfold lin att top
  pointwise [k0_pay17]
  rfl

theorem pay19_at (v108 : FVec Ideal S512x1024 .f32) (v126 v144 : FVec Ideal S512x256 .f32) (v150 : FVec Ideal S256x256 .bf16) (v151 v154 : FVec Ideal S512x256 .f32) (v165 v167 : FVec Ideal S1x256x256 .bf16) (v183 : FVec Ideal S1x1024x1024 .bf16) (r : Fin 512) :
    k0_pay19 (F := Ideal) v108 v126 v144 v150 v151 v154 v165 v167 v183 (ix2 r 0) =
      Ideal.div (∑ c : Fin 1024, k0_pay17 (F := Ideal) v108 v126 v144 v150 v151 v154 v165 v167 v183 (ix2 r c) * k0_pay17 (F := Ideal) v108 v126 v144 v150 v151 v154 v165 v167 v183 (ix2 r c)) d1024 := by
  pointwise [k0_pay19]

end Cert.P6.Pay

end
-- ==== Proof.P6PayFfn.lean ====
/- The kernel's payloads of the feed-forward network and of the last norms, read at a row and a column. -/
module

public import proofs.«01_k».proof.Proof.Rows
public import proofs.«01_k».proof.Proof.Gen.Kernel6Ideal.Skeleton

@[expose] public section

set_option maxRecDepth 16384

noncomputable section

namespace Cert.P6.Pay

open Idealize.ShloMosaic Idealize.ShloMosaic.TcCoe Cert.Kernel6Ideal Cert.Kernel6Ideal.Gen Cert.Rows

theorem pay18_at (v0 : FVec Ideal S1x1024 .f32) (c : Fin 1024) :
    k0_pay18 (F := Ideal) v0 (ix2 0 c) = v0 (ix2 0 c) := by
  pointwise [k0_pay18]

theorem pay20_at (r : Fin 512) : k0_pay20 (F := Ideal) (ix2 r 0) = Ideal.ofBits .f32 0x358637BD#32 := by
  pointwise [k0_pay20]

theorem pay21_at (v88 v185 : FVec Ideal S512x1024 .f32) (v187 : FVec Ideal S1x1024 .f32) (v192 v193 : FVec Ideal S512x1 .f32) (r : Fin 512) (c : Fin 1024) :
    k0_pay21 (F := Ideal) v88 v185 v187 v192 v193 (ix2 r c) =
      v88 (ix2 r c) + v185 (ix2 r c) * Ideal.rsqrt (v192 (ix2 r 0) + v193 (ix2 r 0)) * v187 (ix2 0 c) := by
  pointwise [k0_pay21]

theorem pay22_at (v88 v185 : FVec Ideal S512x1024 .f32) (v187 : FVec Ideal S1x1024 .f32) (v192 v193 : FVec Ideal S512x1 .f32) (v201 : FVec Ideal S1x1024 .f32) (r : Fin 512) (c : Fin 1024) :
    k0_pay22 (F := Ideal) v88 v185 v187 v192 v193 v201 (ix2 r c) =
      rms d1024 (fun k => k0_pay21 (F := Ideal) v88 v185 v187 v192 v193 (ix2 r k)) (fun k => v201 (ix2 0 k)) c := by
  unfold rms rscale
  pointwise [k0_pay22]

theorem pay23_at (v88 v185 : FVec Ideal S512x1024 .f32) (v187 : FVec Ideal S1x1024 .f32) (v192 v193 : FVec Ideal S512x1 .f32) (v201 : FVec Ideal S1x1024 .f32) (v217 v220 : FVec Ideal S1x1x1024x256 .bf16) (v227 : FVec Ideal S1x1x256x1024 .bf16) (r : Fin 512) (c : Fin 1024) :
    k0_pay23 (F := Ideal) v88 v185 v187 v192 v193 v201 v217 v220 v227 (ix2 r c) =
      ffn (fun k => k0_pay22 (F := Ideal) v88 v185 v187 v192 v193 v201 (ix2 r k)) (fun k c => v217 (ix4 0 0 k c)) (fun k c => v220 (ix4 0 0 k c)) (fun k c => v227 (ix4 0 0 k c)) c := by
  unfold ffn hid lin
  pointwise [k0_pay23]

theorem pay24_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay24 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay24]

theorem pay25_at (h : FVec Ideal S512x1024 .bf16) (a : FVec Ideal S512x1024 .f32) (g u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay25 (F := Ideal) h a g u d g' u' d' (ix2 r c) =
      a (ix2 r c) + ffn (fun k => h (ix2 r k)) (fun k c => g (ix4 0 0 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay25]

theorem pay26_at (v0 : FVec Ideal S1x1x1024x256 .bf16) (k : Fin 1024) (c : Fin 256) : k0_pay26 (F := Ideal) v0 (ix2 k c) = v0 (ix4 0 0 k c) := by
  pointwise [k0_pay26]

theorem pay27_at (h : FVec Ideal S512x1024 .bf16) (a : FVec Ideal S512x1024 .f32) (g : FVec Ideal S1024x256 .bf16) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay27 (F := Ideal) h a g u d g' u' d' (ix2 r c) =
      a (ix2 r c) + ffn (fun k => h (ix2 r k)) (fun k c => g (ix2 k c)) (fun k c => u (ix4 0 0 k c)) (fun k c => d (ix4 0 0 k c)) c
        + ffn (fun k => h (ix2 r k)) (fun k c => g' (ix4 0 0 k c)) (fun k c => u' (ix4 0 0 k c)) (fun k c => d' (ix4 0 0 k c)) c := by
  unfold ffn hid lin
  pointwise [k0_pay27]

theorem pay28_at (h : FVec Ideal S512x1024 .bf16) (g : FVec Ideal S1x1x1024x256 .bf16) (r : Fin 512) (c : Fin 256) :
    k0_pay28 (F := Ideal) h g (ix2 r c) = lin (fun k => h (ix2 r k)) (fun k c => g (ix4 0 0 k c)) c := by
  unfold lin
  pointwise [k0_pay28]

theorem pay30_at (h : FVec Ideal S512x1024 .bf16) (g : FVec Ideal S1x1x1024x256 .bf16) (r : Fin 512) (c : Fin 256) :
    k0_pay30 (F := Ideal) h g (ix2 r c) = lin (fun k => h (ix2 r k)) (fun k c => g (ix4 0 0 k c)) c := by
  unfold lin
  pointwise [k0_pay30]

theorem pay29_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay29 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay29]

theorem pay31_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) (c : Fin 1024) :
    k0_pay31 (F := Ideal) h a s u d g' u' d' (ix2 r c) =
      a (ix2 r c) + (∑ k : Fin 256, s (ix2 r k) * Ideal.logistic (s (ix2 r k)) * lin (fun k => h (ix2 r k)) (fun k c => u (ix4 0 0 k c)) k * d (ix4 0 0 k c))
        + ffn (fun k => h (ix2 r k)) (fun k c => g' (ix4 0 0 k c)) (fun k c => u' (ix4 0 0 k c)) (fun k c => d' (ix4 0 0 k c)) c := by
  unfold ffn hid lin
  pointwise [k0_pay31]

theorem pay32_at (v0 : FVec Ideal S1x1024 .f32) (c : Fin 1024) :
    k0_pay32 (F := Ideal) v0 (ix2 0 c) = v0 (ix2 0 c) := by
  pointwise [k0_pay32]

theorem pay33_at (h : FVec Ideal S512x1024 .bf16) (a : FVec Ideal S512x1024 .f32) (s : FVec Ideal S512x256 .f32) (u : FVec Ideal S1x1x1024x256 .bf16) (d : FVec Ideal S1x1x256x1024 .bf16) (g' u' : FVec Ideal S1x1x1024x256 .bf16) (d' : FVec Ideal S1x1x256x1024 .bf16) (r : Fin 512) :
    k0_pay33 (F := Ideal) h a s u d g' u' d' (ix2 r 0) =
      Ideal.div (∑ c : Fin 1024, k0_pay31 (F := Ideal) h a s u d g' u' d' (ix2 r c) * k0_pay31 (F := Ideal) h a s u d g' u' d' (ix2 r c)) d1024 := by
  pointwise [k0_pay33]

theorem pay1_at (v200 v370 : FVec Ideal S512x1024 .f32) (v372 : FVec Ideal S1x1024 .f32) (v377 : FVec Ideal S512x1 .f32) (e : EReal) (r : Fin 512) (c : Fin 1024) :
    k0_pay1 (F := Ideal) v200 v370 v372 v377 e (ix2 r c) =
      v200 (ix2 r c) + Ideal.ofBits .f32 0x3F000000#32 * (v370 (ix2 r c) * Ideal.rsqrt (v377 (ix2 r 0) + e) * v372 (ix2 0 c)) := by
  pointwise [k0_pay1]

end Cert.P6.Pay

end
-- ==== Proof.P6BlkA.lean ====
/- The layer's last block on the blocks of one grid point: the token's parameters, and the values the body computes in terms of them. -/
module

public import proofs.«01_k».proof.Proof.Tok
public import proofs.«01_k».proof.Proof.P6PayMix
public import proofs.«01_k».proof.Proof.P6PayAtt
public import proofs.«01_k».proof.Proof.P6PayFfn
public import proofs.«01_k».proof.Proof.Gen.Kernel6Ideal.Frame

@[expose] public section

set_option maxRecDepth 16384

noncomputable section

namespace Cert.P6.Blk

open Idealize.ShloMosaic Idealize.ShloMosaic.TcCoe Cert.Kernel6Ideal Cert.Kernel6Ideal.Gen Cert.Rows Cert.P6.Pay

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

/-- The parameters of the token in row `r` of the blocks. -/
def par (r : Fin 512) : Par where
  x k := x0 (ix2 r k)
  ya k := x1 (ix2 r k)
  yb k := x4 (ix2 r k) * (x2 (ix2 r k) + x6 (ix2 0 k) * x3 (ix2 r k))
  yc k := x5 (ix2 r k)
  gm k := x7 (ix2 0 k)
  g4 k := x9 (ix2 0 k)
  g5 k := x10 (ix2 0 k)
  g7 k := x14 (ix2 0 k)
  g8 k := x15 (ix2 0 k)
  g9 k := x18 (ix2 0 k)
  wm k c := x8 (ix3 0 k c)
  wq k c := x11 (ix3 0 k c)
  wo k c := x13 (ix3 0 k c)
  K h m d := x12 (ix3 0 m ⟨h * 256 + d, by omega⟩)
  V h m d := x12 (ix3 0 m ⟨1024 + h * 256 + d, by omega⟩)
  G k c := x16 (ix4 0 0 k ⟨c, by omega⟩)
  U k c := x16 (ix4 0 0 k ⟨2816 + c, by omega⟩)
  D k c := x17 (ix4 0 0 k c)

theorem p34 (r : Fin 512) (c : Fin 1024) : k0_pay34 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).x c := by
  unfold k0_pay34
  rw [pay2_at]
  pointwise [par]

theorem p35 (r : Fin 512) (c : Fin 1024) : k0_pay35 (F := Ideal) x0 x1 x2 x3 x4 x5 x6 x7 x8 x9 x10 x11 x12 x13 x14 x15 x16 x17 x18 (ix2 r c) = lin (par x0 x1 x2 x3 x4 x5 x6 x7 x8 x9 x10 x11 x12 x13 x14 x15 x16 x17 x18 r).cat (par x0 x1 x2 x3 x4 x5 x6 x7 x8 x9 x10 x11 x12 x13 x14 x15 x16 x17 x18 r).wm c := by
  unfold k0_pay35 Par.cat
  rw [lin_cat3, pay6_at, pay5_at]
  unfold lin rms rscale par
  simp only [pay4_at, pay3_at]
  pointwise

theorem p36 (c : Fin 1024) : k0_pay36 (F := Ideal) x0 x1 x2 x3 x4 x5 x6 x7 x8 x9 x10 x11 x12 x13 x14 x15 x16 x17 x18 (ix2 0 c) = x9 (ix2 0 c) := by
  unfold k0_pay36
  rw [pay7_at]
  pointwise

theorem p37 (r : Fin 512) (c : Fin 1024) : k0_pay37 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).x1 c := by
  unfold k0_pay37 Par.x1
  rw [pay8_at]
  simp only [p34, p35, p36]
  rfl

theorem p38 (r : Fin 512) (c : Fin 1024) : k0_pay38 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).q c := by
  have e : ∀ k : Fin 1024, k0_pay8 (F := Ideal) (k0_pay34 x0 x1 x2 x3 x4 x5 x6 x7 x8 x9 x10 x11 x12 x13 x14 x15 x16 x17 x18) (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (ix2 r k) = (par x0 x1 x2 x3 x4 x5 x6 x7 x8 x9 x10 x11 x12 x13 x14 x15 x16 x17 x18 r).x1 k := p37 x0 x1 x2 x3 x4 x5 x6 x7 x8 x9 x10 x11 x12 x13 x14 x15 x16 x17 x18 r
  unfold k0_pay38 Par.q
  rw [pay9_at]
  simp only [e]
  unfold lin rms rscale
  pointwise [par]

theorem p39 (r : Fin 512) (d : Fin 256) : k0_pay39 (F := Ideal) x0 x1 x2 x3 x4 x5 x6 x7 x8 x9 x10 x11 x12 x13 x14 x15 x16 x17 x18 (ix2 r d) = att ((par x0 x1 x2 x3 x4 x5 x6 x7 x8 x9 x10 x11 x12 x13 x14 x15 x16 x17 x18 r).sc 0) ((par x0 x1 x2 x3 x4 x5 x6 x7 x8 x9 x10 x11 x12 x13 x14 x15 x16 x17 x18 r).V 0) d := by
  have e : ∀ k : Fin 1024, k0_pay9 (F := Ideal) (k0_pay34 x0 x1 x2 x3 x4 x5 x6 x7 x8 x9 x10 x11 x12 x13 x14 x15 x16 x17 x18) (k0_pay35 x0 x1 x2 x3 x4 x5 x6 x7 x8 x9 x10 x11 x12 x13 x14 x15 x16 x17 x18) (k0_pay36 x0 x1 x2 x3 x4 x5 x6 x7 x8 x9 x10 x11 x12 x13 x14 x15 x16 x17 x18) (View.ld x10 r0_10) (View.ld x11 r0_11) (ix2 r k) = (par x0 x1 x2 x3 x4 x5 x6 x7 x8 x9 x10 x11 x12 x13 x14 x15 x16 x17 x18 r).q k := p38 x0 x1 x2 x3 x4 x5 x6 x7 x8 x9 x10 x11 x12 x13 x14 x15 x16 x17 x18 r
  unfold k0_pay39
  rw [pay12_at]
  refine congrArg₂ (fun s v => att s v d) (funext fun m => ?_) (funext fun m => funext fun d => ?_)
  · rw [pay11_at]
    simp only [e]
    unfold Par.sc
    refine Finset.sum_congr rfl fun d _ => congrArg₂ (· * ·) (congrArg _ (Fin.ext (by simp))) ?_
    pointwise [par]
  · rw [pay10_at]
    pointwise [par]

end Cert.P6.Blk

end
-- ==== Proof.P6BlkB.lean ====
/- The layer's last block on the blocks of one grid point: the memory's attention. -/
module

public import proofs.«01_k».proof.Proof.P6BlkA
@[expose] public section

set_option maxRecDepth 16384

noncomputable section

namespace Cert.P6.Blk

open Idealize.ShloMosaic Idealize.ShloMosaic.TcCoe Cert.Kernel6Ideal Cert.Kernel6Ideal.Gen Cert.Rows Cert.P6.Pay

/-- Four heads side by side: lane `k` is lane `k % 256` of head `k / 256`. -/
theorem heads_at (F : Fin 4 → Fin 256 → EReal) (k : Fin 1024) :
    heads (F 0) (F 1) (F 2) (F 3) k = F ⟨k / 256, by omega⟩ ⟨k % 256, by omega⟩ := by
  have key : ∀ (a : Fin 4) (b : Fin 256), (k : ℕ) = a * 256 + b → F a b = F ⟨k / 256, by omega⟩ ⟨k % 256, by omega⟩ := fun a b h => by
    congr 1
    · congr 1; ext; simp only; omega
    · ext; simp only; omega
  unfold heads
  split_ifs with h0 h1 h2
  · exact key 0 _ (by simp)
  · exact key 1 _ (by simp; omega)
  · exact key 2 _ (by simp; omega)
  · exact key 3 _ (by simp; omega)

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

theorem p40 (r : Fin 512) (d : Fin 256) : k0_pay40 (F := Ideal) x0 x1 x2 x3 x4 x5 x6 x7 x8 x9 x10 x11 x12 x13 x14 x15 x16 x17 x18 (ix2 r d) = att ((par x0 x1 x2 x3 x4 x5 x6 x7 x8 x9 x10 x11 x12 x13 x14 x15 x16 x17 x18 r).sc 1) ((par x0 x1 x2 x3 x4 x5 x6 x7 x8 x9 x10 x11 x12 x13 x14 x15 x16 x17 x18 r).V 1) d := by
  unfold k0_pay40
  rw [pay13_at]
  refine congrArg₂ (fun s v => att s v d) (funext fun m => ?_) (funext fun m => funext fun d => ?_)
  · unfold Par.sc
    simp only [p38]
    refine Finset.sum_congr rfl fun d _ => congrArg₂ (· * ·) (congrArg _ (Fin.ext (by simp))) ?_
    pointwise [par]
  · pointwise [par]

theorem p41 (m d : Fin 256) (r : Fin 512) : k0_pay41 (F := Ideal) x0 x1 x2 x3 x4 x5 x6 x7 x8 x9 x10 x11 x12 x13 x14 x15 x16 x17 x18 (ix2 m d) = (par x0 x1 x2 x3 x4 x5 x6 x7 x8 x9 x10 x11 x12 x13 x14 x15 x16 x17 x18 r).V 2 m d := by
  unfold k0_pay41
  rw [pay14_at]
  pointwise [par]

theorem p42 (r : Fin 512) (m : Fin 256) : k0_pay42 (F := Ideal) x0 x1 x2 x3 x4 x5 x6 x7 x8 x9 x10 x11 x12 x13 x14 x15 x16 x17 x18 (ix2 r m) = (par x0 x1 x2 x3 x4 x5 x6 x7 x8 x9 x10 x11 x12 x13 x14 x15 x16 x17 x18 r).sc 2 m := by
  unfold k0_pay42
  rw [pay15_at]
  unfold Par.sc
  simp only [p38]
  refine Finset.sum_congr rfl fun d _ => congrArg₂ (· * ·) (congrArg _ (Fin.ext (by simp))) ?_
  pointwise [par]

theorem p43 (r : Fin 512) (m : Fin 256) : k0_pay43 (F := Ideal) x0 x1 x2 x3 x4 x5 x6 x7 x8 x9 x10 x11 x12 x13 x14 x15 x16 x17 x18 (ix2 r m) = top ((par x0 x1 x2 x3 x4 x5 x6 x7 x8 x9 x10 x11 x12 x13 x14 x15 x16 x17 x18 r).sc 2) := by
  have e : ∀ m : Fin 256, k0_pay15 (F := Ideal) (k0_pay38 x0 x1 x2 x3 x4 x5 x6 x7 x8 x9 x10 x11 x12 x13 x14 x15 x16 x17 x18) (View.ld x12 r0_16) (ix2 r m) = (par x0 x1 x2 x3 x4 x5 x6 x7 x8 x9 x10 x11 x12 x13 x14 x15 x16 x17 x18 r).sc 2 m := p42 x0 x1 x2 x3 x4 x5 x6 x7 x8 x9 x10 x11 x12 x13 x14 x15 x16 x17 x18 r
  unfold k0_pay43
  rw [pay16_at]
  simp only [e]

theorem p44 (r : Fin 512) (c : Fin 1024) : k0_pay44 (F := Ideal) x0 x1 x2 x3 x4 x5 x6 x7 x8 x9 x10 x11 x12 x13 x14 x15 x16 x17 x18 (ix2 r c) = lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c := by
  unfold k0_pay44
  rw [pay17_at]
  refine congrArg₂ (fun o w => lin o w c) (funext fun k => ?_) (funext fun k => funext fun c => ?_)
  · refine Eq.trans ?_ (heads_at (fun h d => att ((par x0 x1 x2 x3 x4 x5 x6 x7 x8 x9 x10 x11 x12 x13 x14 x15 x16 x17 x18 r).sc h) ((par x0 x1 x2 x3 x4 x5 x6 x7 x8 x9 x10 x11 x12 x13 x14 x15 x16 x17 x18 r).V h) d) k)
    refine congrFun (congr (congr (congr (congrArg heads ?_) ?_) ?_) ?_) k <;> funext d
    · exact p39 x0 x1 x2 x3 x4 x5 x6 x7 x8 x9 x10 x11 x12 x13 x14 x15 x16 x17 x18 r d
    · exact p40 x0 x1 x2 x3 x4 x5 x6 x7 x8 x9 x10 x11 x12 x13 x14 x15 x16 x17 x18 r d
    · simp only [p42, p43]
      simp only [p41 (r := r)]
      rfl
    · refine congrArg₂ (fun s v => att s v d) (funext fun m => ?_) (funext fun m => funext fun d => ?_)
      · unfold Par.sc
        simp only [p38]
        refine Finset.sum_congr rfl fun d _ => congrArg₂ (· * ·) (congrArg _ (Fin.ext (by simp))) ?_
        pointwise [par]
      · pointwise [par]
  · pointwise [par]

theorem p45 (c : Fin 1024) : k0_pay45 (F := Ideal) x0 x1 x2 x3 x4 x5 x6 x7 x8 x9 x10 x11 x12 x13 x14 x15 x16 x17 x18 (ix2 0 c) = x14 (ix2 0 c) := by
  unfold k0_pay45
  rw [pay18_at]
  pointwise

theorem p46 (r : Fin 512) : k0_pay46 (F := Ideal) x0 x1 x2 x3 x4 x5 x6 x7 x8 x9 x10 x11 x12 x13 x14 x15 x16 x17 x18 (ix2 r 0) =
    Ideal.div (∑ c : Fin 1024, lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c * lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c) d1024 := by
  have e : ∀ c : Fin 1024, k0_pay17 (F := Ideal) (k0_pay38 x0 x1 x2 x3 x4 x5 x6 x7 x8 x9 x10 x11 x12 x13 x14 x15 x16 x17 x18) (k0_pay39 x0 x1 x2 x3 x4 x5 x6 x7 x8 x9 x10 x11 x12 x13 x14 x15 x16 x17 x18) (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18) (k0_pay42 x0 x1 x2 x3 x4 x5 x6 x7 x8 x9 x10 x11 x12 x13 x14 x15 x16 x17 x18) (k0_pay43 x0 x1 x2 x3 x4 x5 x6 x7 x8 x9 x10 x11 x12 x13 x14 x15 x16 x17 x18) (View.ld x12 r0_18) (View.ld x12 r0_19) (View.ld x13 r0_11) (ix2 r c) = lin (par x0 x1 x2 x3 x4 x5 x6 x7 x8 x9 x10 x11 x12 x13 x14 x15 x16 x17 x18 r).oK (par x0 x1 x2 x3 x4 x5 x6 x7 x8 x9 x10 x11 x12 x13 x14 x15 x16 x17 x18 r).wo c := p44 x0 x1 x2 x3 x4 x5 x6 x7 x8 x9 x10 x11 x12 x13 x14 x15 x16 x17 x18 r
  unfold k0_pay46
  rw [pay19_at]
  simp only [e]

theorem p47 (r : Fin 512) : k0_pay47 (F := Ideal) x0 x1 x2 x3 x4 x5 x6 x7 x8 x9 x10 x11 x12 x13 x14 x15 x16 x17 x18 (ix2 r 0) = Ideal.ofBits .f32 0x358637BD#32 := by
  unfold k0_pay47
  exact pay20_at r

/-- The token after the attention. -/
theorem x2_at (r : Fin 512) (c : Fin 1024) :
    k0_pay21 (F := Ideal) (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (ix2 r c) = (par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK c := by
  rw [pay21_at, p37, p44, p45, p46, p47]
  rfl

theorem p48 (r : Fin 512) (c : Fin 1024) : k0_pay48 (F := Ideal) x0 x1 x2 x3 x4 x5 x6 x7 x8 x9 x10 x11 x12 x13 x14 x15 x16 x17 x18 (ix2 r c) = rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8 c := by
  unfold k0_pay48
  rw [pay22_at]
  simp only [x2_at]
  unfold rms rscale
  pointwise [par]

end Cert.P6.Blk

end
-- ==== Proof.P6BlkC.lean ====
/- The layer's last block on the blocks of one grid point: the feed-forward network and the result. -/
module

public import proofs.«01_k».proof.Proof.P6BlkB
@[expose] public section

set_option maxRecDepth 16384

noncomputable section

namespace Cert.P6.Blk

open Idealize.ShloMosaic Idealize.ShloMosaic.TcCoe Cert.Kernel6Ideal Cert.Kernel6Ideal.Gen Cert.Rows Cert.P6.Pay

variable (x0 : FVec Ideal S512x1024 .f32) (x1 : FVec Ideal S512x384 .f32) (x2 : FVec Ideal S512x256 .f32) (x3 : FVec Ideal S512x256 .f32) (x4 : FVec Ideal S512x256 .f32) (x5 : FVec Ideal S512x384 .f32) (x6 : FVec Ideal S1x256 .f32) (x7 : FVec Ideal S1x1024 .f32) (x8 : FVec Ideal S1x1024x1024 .bf16) (x9 : FVec Ideal S1x1024 .f32) (x10 : FVec Ideal S1x1024 .f32) (x11 : FVec Ideal S1x1024x1024 .bf16) (x12 : FVec Ideal S1x256x2048 .bf16) (x13 : FVec Ideal S1x1024x1024 .bf16) (x14 : FVec Ideal S1x1024 .f32) (x15 : FVec Ideal S1x1024 .f32) (x16 : FVec Ideal S1x1x1024x5632 .bf16) (x17 : FVec Ideal S1x1x2816x1024 .bf16) (x18 : FVec Ideal S1x1024 .f32)

/-- Hidden units `256 j …` of the feed-forward network with the weights of the parameters `p`. -/
def chunk (p : Par) (h : Fin 1024 → EReal) (j : Fin 11) (c : Fin 1024) : EReal :=
  ffn h (fun k (i : Fin 256) => p.G k ⟨j * 256 + i, by omega⟩) (fun k (i : Fin 256) => p.U k ⟨j * 256 + i, by omega⟩)
    (fun (i : Fin 256) c => p.D ⟨j * 256 + i, by omega⟩ c) c

theorem ch0 (r : Fin 512) (h : Fin 1024 → EReal) (c : Fin 1024) : ffn h (fun k (i : Fin 256) => (View.ld (Val := Elt Ideal) (e' := .bf16) x16 r0_20 : FVec Ideal S1x1x1024x256 .bf16) (ix4 0 0 k i)) (fun k (i : Fin 256) => (View.ld (Val := Elt Ideal) (e' := .bf16) x16 r0_21 : FVec Ideal S1x1x1024x256 .bf16) (ix4 0 0 k i)) (fun (i : Fin 256) (c : Fin 1024) => (View.ld (Val := Elt Ideal) (e' := .bf16) x17 r0_22 : FVec Ideal S1x1x256x1024 .bf16) (ix4 0 0 i c)) c = chunk (par x0 x1 x2 x3 x4 x5 x6 x7 x8 x9 x10 x11 x12 x13 x14 x15 x16 x17 x18 r) h 0 c := by
  unfold chunk ffn hid lin
  pointwise [par]

theorem ch1 (r : Fin 512) (h : Fin 1024 → EReal) (c : Fin 1024) : ffn h (fun k (i : Fin 256) => (View.ld (Val := Elt Ideal) (e' := .bf16) x16 r0_23 : FVec Ideal S1x1x1024x256 .bf16) (ix4 0 0 k i)) (fun k (i : Fin 256) => (View.ld (Val := Elt Ideal) (e' := .bf16) x16 r0_24 : FVec Ideal S1x1x1024x256 .bf16) (ix4 0 0 k i)) (fun (i : Fin 256) (c : Fin 1024) => (View.ld (Val := Elt Ideal) (e' := .bf16) x17 r0_25 : FVec Ideal S1x1x256x1024 .bf16) (ix4 0 0 i c)) c = chunk (par x0 x1 x2 x3 x4 x5 x6 x7 x8 x9 x10 x11 x12 x13 x14 x15 x16 x17 x18 r) h 1 c := by
  unfold chunk ffn hid lin
  pointwise [par]
  simp only [← Nat.add_assoc, Nat.reduceAdd]

theorem ch2 (r : Fin 512) (h : Fin 1024 → EReal) (c : Fin 1024) : ffn h (fun k (i : Fin 256) => (View.ld (Val := Elt Ideal) (e' := .bf16) x16 r0_26 : FVec Ideal S1x1x1024x256 .bf16) (ix4 0 0 k i)) (fun k (i : Fin 256) => (View.ld (Val := Elt Ideal) (e' := .bf16) x16 r0_27 : FVec Ideal S1x1x1024x256 .bf16) (ix4 0 0 k i)) (fun (i : Fin 256) (c : Fin 1024) => (View.ld (Val := Elt Ideal) (e' := .bf16) x17 r0_28 : FVec Ideal S1x1x256x1024 .bf16) (ix4 0 0 i c)) c = chunk (par x0 x1 x2 x3 x4 x5 x6 x7 x8 x9 x10 x11 x12 x13 x14 x15 x16 x17 x18 r) h 2 c := by
  unfold chunk ffn hid lin
  pointwise [par]
  simp only [← Nat.add_assoc, Nat.reduceAdd]

theorem ch3 (r : Fin 512) (h : Fin 1024 → EReal) (c : Fin 1024) : ffn h (fun k (i : Fin 256) => (View.ld (Val := Elt Ideal) (e' := .bf16) x16 r0_29 : FVec Ideal S1x1x1024x256 .bf16) (ix4 0 0 k i)) (fun k (i : Fin 256) => (View.ld (Val := Elt Ideal) (e' := .bf16) x16 r0_30 : FVec Ideal S1x1x1024x256 .bf16) (ix4 0 0 k i)) (fun (i : Fin 256) (c : Fin 1024) => (View.ld (Val := Elt Ideal) (e' := .bf16) x17 r0_31 : FVec Ideal S1x1x256x1024 .bf16) (ix4 0 0 i c)) c = chunk (par x0 x1 x2 x3 x4 x5 x6 x7 x8 x9 x10 x11 x12 x13 x14 x15 x16 x17 x18 r) h 3 c := by
  unfold chunk ffn hid lin
  pointwise [par]
  simp only [← Nat.add_assoc, Nat.reduceAdd]

theorem ch4 (r : Fin 512) (h : Fin 1024 → EReal) (c : Fin 1024) : ffn h (fun k (i : Fin 256) => (View.ld (Val := Elt Ideal) (e' := .bf16) x16 r0_32 : FVec Ideal S1x1x1024x256 .bf16) (ix4 0 0 k i)) (fun k (i : Fin 256) => (View.ld (Val := Elt Ideal) (e' := .bf16) x16 r0_33 : FVec Ideal S1x1x1024x256 .bf16) (ix4 0 0 k i)) (fun (i : Fin 256) (c : Fin 1024) => (View.ld (Val := Elt Ideal) (e' := .bf16) x17 r0_34 : FVec Ideal S1x1x256x1024 .bf16) (ix4 0 0 i c)) c = chunk (par x0 x1 x2 x3 x4 x5 x6 x7 x8 x9 x10 x11 x12 x13 x14 x15 x16 x17 x18 r) h 4 c := by
  unfold chunk ffn hid lin
  pointwise [par]
  simp only [← Nat.add_assoc, Nat.reduceAdd]

theorem ch5 (r : Fin 512) (h : Fin 1024 → EReal) (c : Fin 1024) : ffn h (fun k (i : Fin 256) => (View.ld (Val := Elt Ideal) (e' := .bf16) x16 r0_35 : FVec Ideal S1x1x1024x256 .bf16) (ix4 0 0 k i)) (fun k (i : Fin 256) => (View.ld (Val := Elt Ideal) (e' := .bf16) x16 r0_36 : FVec Ideal S1x1x1024x256 .bf16) (ix4 0 0 k i)) (fun (i : Fin 256) (c : Fin 1024) => (View.ld (Val := Elt Ideal) (e' := .bf16) x17 r0_37 : FVec Ideal S1x1x256x1024 .bf16) (ix4 0 0 i c)) c = chunk (par x0 x1 x2 x3 x4 x5 x6 x7 x8 x9 x10 x11 x12 x13 x14 x15 x16 x17 x18 r) h 5 c := by
  unfold chunk ffn hid lin
  pointwise [par]
  simp only [← Nat.add_assoc, Nat.reduceAdd]

theorem ch6 (r : Fin 512) (h : Fin 1024 → EReal) (c : Fin 1024) : ffn h (fun k (i : Fin 256) => (View.ld (Val := Elt Ideal) (e' := .bf16) x16 r0_38 : FVec Ideal S1x1x1024x256 .bf16) (ix4 0 0 k i)) (fun k (i : Fin 256) => (View.ld (Val := Elt Ideal) (e' := .bf16) x16 r0_39 : FVec Ideal S1x1x1024x256 .bf16) (ix4 0 0 k i)) (fun (i : Fin 256) (c : Fin 1024) => (View.ld (Val := Elt Ideal) (e' := .bf16) x17 r0_40 : FVec Ideal S1x1x256x1024 .bf16) (ix4 0 0 i c)) c = chunk (par x0 x1 x2 x3 x4 x5 x6 x7 x8 x9 x10 x11 x12 x13 x14 x15 x16 x17 x18 r) h 6 c := by
  unfold chunk ffn hid lin
  pointwise [par]
  simp only [← Nat.add_assoc, Nat.reduceAdd]

theorem ch7 (r : Fin 512) (h : Fin 1024 → EReal) (c : Fin 1024) : ffn h (fun k (i : Fin 256) => (View.ld (Val := Elt Ideal) (e' := .bf16) x16 r0_41 : FVec Ideal S1x1x1024x256 .bf16) (ix4 0 0 k i)) (fun k (i : Fin 256) => (View.ld (Val := Elt Ideal) (e' := .bf16) x16 r0_42 : FVec Ideal S1x1x1024x256 .bf16) (ix4 0 0 k i)) (fun (i : Fin 256) (c : Fin 1024) => (View.ld (Val := Elt Ideal) (e' := .bf16) x17 r0_43 : FVec Ideal S1x1x256x1024 .bf16) (ix4 0 0 i c)) c = chunk (par x0 x1 x2 x3 x4 x5 x6 x7 x8 x9 x10 x11 x12 x13 x14 x15 x16 x17 x18 r) h 7 c := by
  unfold chunk ffn hid lin
  pointwise [par]
  simp only [← Nat.add_assoc, Nat.reduceAdd]

theorem ch8 (r : Fin 512) (h : Fin 1024 → EReal) (c : Fin 1024) : ffn h (fun k (i : Fin 256) => (View.ld (Val := Elt Ideal) (e' := .bf16) x16 r0_44 : FVec Ideal S1x1x1024x256 .bf16) (ix4 0 0 k i)) (fun k (i : Fin 256) => (View.ld (Val := Elt Ideal) (e' := .bf16) x16 r0_45 : FVec Ideal S1x1x1024x256 .bf16) (ix4 0 0 k i)) (fun (i : Fin 256) (c : Fin 1024) => (View.ld (Val := Elt Ideal) (e' := .bf16) x17 r0_46 : FVec Ideal S1x1x256x1024 .bf16) (ix4 0 0 i c)) c = chunk (par x0 x1 x2 x3 x4 x5 x6 x7 x8 x9 x10 x11 x12 x13 x14 x15 x16 x17 x18 r) h 8 c := by
  unfold chunk ffn hid lin
  pointwise [par]
  simp only [← Nat.add_assoc, Nat.reduceAdd]

theorem ch9 (r : Fin 512) (h : Fin 1024 → EReal) (c : Fin 1024) : ffn h (fun k (i : Fin 256) => (View.ld (Val := Elt Ideal) (e' := .bf16) x16 r0_47 : FVec Ideal S1x1x1024x256 .bf16) (ix4 0 0 k i)) (fun k (i : Fin 256) => (View.ld (Val := Elt Ideal) (e' := .bf16) x16 r0_48 : FVec Ideal S1x1x1024x256 .bf16) (ix4 0 0 k i)) (fun (i : Fin 256) (c : Fin 1024) => (View.ld (Val := Elt Ideal) (e' := .bf16) x17 r0_49 : FVec Ideal S1x1x256x1024 .bf16) (ix4 0 0 i c)) c = chunk (par x0 x1 x2 x3 x4 x5 x6 x7 x8 x9 x10 x11 x12 x13 x14 x15 x16 x17 x18 r) h 9 c := by
  unfold chunk ffn hid lin
  pointwise [par]
  simp only [← Nat.add_assoc, Nat.reduceAdd]

theorem ch10 (r : Fin 512) (h : Fin 1024 → EReal) (c : Fin 1024) : ffn h (fun k (i : Fin 256) => (View.ld (Val := Elt Ideal) (e' := .bf16) x16 r0_50 : FVec Ideal S1x1x1024x256 .bf16) (ix4 0 0 k i)) (fun k (i : Fin 256) => (View.ld (Val := Elt Ideal) (e' := .bf16) x16 r0_51 : FVec Ideal S1x1x1024x256 .bf16) (ix4 0 0 k i)) (fun (i : Fin 256) (c : Fin 1024) => (View.ld (Val := Elt Ideal) (e' := .bf16) x17 r0_52 : FVec Ideal S1x1x256x1024 .bf16) (ix4 0 0 i c)) c = chunk (par x0 x1 x2 x3 x4 x5 x6 x7 x8 x9 x10 x11 x12 x13 x14 x15 x16 x17 x18 r) h 10 c := by
  unfold chunk ffn hid lin
  pointwise [par]
  simp only [← Nat.add_assoc, Nat.reduceAdd]

theorem sum11 (f : Fin 11 → EReal) : ∑ j, f j = f 0 + f 1 + f 2 + f 3 + f 4 + f 5 + f 6 + f 7 + f 8 + f 9 + f 10 := by
  simp only [Fin.sum_univ_succ, Fin.sum_univ_zero, ← add_assoc, add_zero]
  rfl

theorem p50 (r : Fin 512) (i : Fin 256) : k0_pay50 (F := Ideal) x0 x1 x2 x3 x4 x5 x6 x7 x8 x9 x10 x11 x12 x13 x14 x15 x16 x17 x18 (ix2 r i) = lin (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (fun k (i : Fin 256) => (View.ld (Val := Elt Ideal) (e' := .bf16) x16 r0_47 : FVec Ideal S1x1x1024x256 .bf16) (ix4 0 0 k i)) i := by
  unfold k0_pay50
  rw [pay30_at]
  simp only [p48]

theorem p49 (r : Fin 512) (c : Fin 1024) : k0_pay49 (F := Ideal) x0 x1 x2 x3 x4 x5 x6 x7 x8 x9 x10 x11 x12 x13 x14 x15 x16 x17 x18 (ix2 r c) = chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 0 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 1 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 2 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 3 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 4 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 5 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 6 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 7 c + chunk (par x0 x1 x2 x3 x4 x5 x6 x7 x8 x9 x10 x11 x12 x13 x14 x15 x16 x17 x18 r) (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) 8 c := by
  have e : ∀ k : Fin 1024, k0_pay22 (F := Ideal) (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18) (View.ld x15 r0_10) (ix2 r k) = (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) k := p48 x0 x1 x2 x3 x4 x5 x6 x7 x8 x9 x10 x11 x12 x13 x14 x15 x16 x17 x18 r
  unfold k0_pay49
  rw [pay29_at, pay27_at, pay25_at, pay24_at, pay23_at]
  simp only [p48, pay26_at, pay28_at, e]
  generalize (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) = h
  simp only [← ch0 x0 x1 x2 x3 x4 x5 x6 x7 x8 x9 x10 x11 x12 x13 x14 x15 x16 x17 x18 r, ← ch1 x0 x1 x2 x3 x4 x5 x6 x7 x8 x9 x10 x11 x12 x13 x14 x15 x16 x17 x18 r, ← ch2 x0 x1 x2 x3 x4 x5 x6 x7 x8 x9 x10 x11 x12 x13 x14 x15 x16 x17 x18 r, ← ch3 x0 x1 x2 x3 x4 x5 x6 x7 x8 x9 x10 x11 x12 x13 x14 x15 x16 x17 x18 r, ← ch4 x0 x1 x2 x3 x4 x5 x6 x7 x8 x9 x10 x11 x12 x13 x14 x15 x16 x17 x18 r, ← ch5 x0 x1 x2 x3 x4 x5 x6 x7 x8 x9 x10 x11 x12 x13 x14 x15 x16 x17 x18 r, ← ch6 x0 x1 x2 x3 x4 x5 x6 x7 x8 x9 x10 x11 x12 x13 x14 x15 x16 x17 x18 r, ← ch7 x0 x1 x2 x3 x4 x5 x6 x7 x8 x9 x10 x11 x12 x13 x14 x15 x16 x17 x18 r, ← ch8 x0 x1 x2 x3 x4 x5 x6 x7 x8 x9 x10 x11 x12 x13 x14 x15 x16 x17 x18 r]
  rfl

theorem y_at (r : Fin 512) (c : Fin 1024) :
    k0_pay31 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r c)
      = ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c := by
  rw [pay31_at, p49, ffn_chunks]
  simp only [p48, p50]
  generalize (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) = h
  refine Eq.trans ?_ (sum11 fun j => chunk (par x0 x1 x2 x3 x4 x5 x6 x7 x8 x9 x10 x11 x12 x13 x14 x15 x16 x17 x18 r) h j c).symm
  have e9 := ch9 x0 x1 x2 x3 x4 x5 x6 x7 x8 x9 x10 x11 x12 x13 x14 x15 x16 x17 x18 r h c
  have e10 := ch10 x0 x1 x2 x3 x4 x5 x6 x7 x8 x9 x10 x11 x12 x13 x14 x15 x16 x17 x18 r h c
  refine congrArg₂ (· + ·) (congrArg₂ (· + ·) rfl ?_) ?_
  · exact e9
  · exact e10

theorem out_at (r : Fin 512) (c : Fin 1024) : out0_19 (F := Ideal) x0 x1 x2 x3 x4 x5 x6 x7 x8 x9 x10 x11 x12 x13 x14 x15 x16 x17 x18 (ix2 r c) = (par x0 x1 x2 x3 x4 x5 x6 x7 x8 x9 x10 x11 x12 x13 x14 x15 x16 x17 x18 r).res (par x0 x1 x2 x3 x4 x5 x6 x7 x8 x9 x10 x11 x12 x13 x14 x15 x16 x17 x18 r).oK c := by
  unfold out0_19 Par.res
  have e : ∀ c : Fin 1024, k0_pay31 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r c)
      = ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c := y_at x0 x1 x2 x3 x4 x5 x6 x7 x8 x9 x10 x11 x12 x13 x14 x15 x16 x17 x18 r
  have f : k0_pay33 (F := Ideal) (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52) (ix2 r 0)
      = Ideal.div (∑ c : Fin 1024, ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c * ffn (rms d1024 ((par x0 x1 x2 x3 x4 x5 x6 x7 x8 x9 x10 x11 x12 x13 x14 x15 x16 x17 x18 r).x2 (par x0 x1 x2 x3 x4 x5 x6 x7 x8 x9 x10 x11 x12 x13 x14 x15 x16 x17 x18 r).oK) (par x0 x1 x2 x3 x4 x5 x6 x7 x8 x9 x10 x11 x12 x13 x14 x15 x16 x17 x18 r).g8) (par x0 x1 x2 x3 x4 x5 x6 x7 x8 x9 x10 x11 x12 x13 x14 x15 x16 x17 x18 r).G (par x0 x1 x2 x3 x4 x5 x6 x7 x8 x9 x10 x11 x12 x13 x14 x15 x16 x17 x18 r).U (par x0 x1 x2 x3 x4 x5 x6 x7 x8 x9 x10 x11 x12 x13 x14 x15 x16 x17 x18 r).D c) d1024 := by
    rw [pay33_at]
    simp only [e]
  have g : k0_pay32 (F := Ideal) (View.ld x18 r0_10) (ix2 0 c) = (par x0 x1 x2 x3 x4 x5 x6 x7 x8 x9 x10 x11 x12 x13 x14 x15 x16 x17 x18 r).g9 c := by
    rw [pay32_at]
    pointwise [par]
  have w : k0_pay1 (F := Ideal) (k0_pay21 (k0_pay37 x0 x1 x2 x3 x4 x5 x6 x7 x8 x9 x10 x11 x12 x13 x14 x15 x16 x17 x18) (k0_pay44 x0 x1 x2 x3 x4 x5 x6 x7 x8 x9 x10 x11 x12 x13 x14 x15 x16 x17 x18) (k0_pay45 x0 x1 x2 x3 x4 x5 x6 x7 x8 x9 x10 x11 x12 x13 x14 x15 x16 x17 x18) (k0_pay46 x0 x1 x2 x3 x4 x5 x6 x7 x8 x9 x10 x11 x12 x13 x14 x15 x16 x17 x18) (k0_pay47 x0 x1 x2 x3 x4 x5 x6 x7 x8 x9 x10 x11 x12 x13 x14 x15 x16 x17 x18))
      (k0_pay31 (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52)) (k0_pay32 (View.ld x18 r0_10)) (k0_pay33 (k0_pay48 x0 x1 x2 x3 x4 x5 x6 x7 x8 x9 x10 x11 x12 x13 x14 x15 x16 x17 x18) (k0_pay49 x0 x1 x2 x3 x4 x5 x6 x7 x8 x9 x10 x11 x12 x13 x14 x15 x16 x17 x18) (k0_pay50 x0 x1 x2 x3 x4 x5 x6 x7 x8 x9 x10 x11 x12 x13 x14 x15 x16 x17 x18) (View.ld x16 r0_48) (View.ld x17 r0_49) (View.ld x16 r0_50) (View.ld x16 r0_51) (View.ld x17 r0_52)) (Scalar.ofBits .f32 0x358637BD#32) (ix2 r c) = (par x0 x1 x2 x3 x4 x5 x6 x7 x8 x9 x10 x11 x12 x13 x14 x15 x16 x17 x18 r).res (par x0 x1 x2 x3 x4 x5 x6 x7 x8 x9 x10 x11 x12 x13 x14 x15 x16 x17 x18 r).oK c := by
    rw [pay1_at, x2_at, e, f, g]
    rfl
  refine Eq.trans ?_ w
  exact congrFun (View.canon_unit_zero (S := S512x1024) (by decide) inb_S512x1024_S512x1024_0_0 _) (ix2 r c)

end Cert.P6.Blk

end
-- ==== Proof.P6RefBase.lean ====
/- The reference's named terms, read at a batch, a position and a column. -/
module

public import proofs.«01_k».proof.Proof.Rows
public import proofs.«01_k».proof.Proof.Gen.Reference6Ideal.Run

@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

/-- Argument 0 of the reference. -/
abbrev A0 (V0 : Valuation τ sig (Elt Ideal)) : FVec Ideal S2x8192x1024 .f32 := V0 (Proc.devRef .tc main_arg0)
/-- Argument 1 of the reference. -/
abbrev A1 (V0 : Valuation τ sig (Elt Ideal)) : FVec Ideal S2x8192x384 .f32 := V0 (Proc.devRef .tc main_arg1)
/-- Argument 2 of the reference. -/
abbrev A2 (V0 : Valuation τ sig (Elt Ideal)) : FVec Ideal S2x8192x256 .f32 := V0 (Proc.devRef .tc main_arg2)
/-- Argument 3 of the reference. -/
abbrev A3 (V0 : Valuation τ sig (Elt Ideal)) : FVec Ideal S2x8192x256 .f32 := V0 (Proc.devRef .tc main_arg3)
/-- Argument 4 of the reference. -/
abbrev A4 (V0 : Valuation τ sig (Elt Ideal)) : FVec Ideal S2x8192x256 .f32 := V0 (Proc.devRef .tc main_arg4)
/-- Argument 5 of the reference. -/
abbrev A5 (V0 : Valuation τ sig (Elt Ideal)) : FVec Ideal S2x8192x384 .f32 := V0 (Proc.devRef .tc main_arg5)
/-- Argument 6 of the reference. -/
abbrev A6 (V0 : Valuation τ sig (Elt Ideal)) : FVec Ideal S2x256 .f32 := V0 (Proc.devRef .tc main_arg6)
/-- Argument 7 of the reference. -/
abbrev A7 (V0 : Valuation τ sig (Elt Ideal)) : FVec Ideal S2x10x1024 .f32 := V0 (Proc.devRef .tc main_arg7)
/-- Argument 8 of the reference. -/
abbrev A8 (V0 : Valuation τ sig (Elt Ideal)) : FVec Ideal S2x1024x1024 .f32 := V0 (Proc.devRef .tc main_arg8)
/-- Argument 9 of the reference. -/
abbrev A9 (V0 : Valuation τ sig (Elt Ideal)) : FVec Ideal S2x1024x1024 .f32 := V0 (Proc.devRef .tc main_arg9)
/-- Argument 10 of the reference. -/
abbrev A10 (V0 : Valuation τ sig (Elt Ideal)) : FVec Ideal S2x256x2048 .bf16 := V0 (Proc.devRef .tc main_arg10)
/-- Argument 11 of the reference. -/
abbrev A11 (V0 : Valuation τ sig (Elt Ideal)) : FVec Ideal S2x1024x1024 .f32 := V0 (Proc.devRef .tc main_arg11)
/-- Argument 12 of the reference. -/
abbrev A12 (V0 : Valuation τ sig (Elt Ideal)) : FVec Ideal S2x2x1024x5632 .f32 := V0 (Proc.devRef .tc main_arg12)
/-- Argument 13 of the reference. -/
abbrev A13 (V0 : Valuation τ sig (Elt Ideal)) : FVec Ideal S2x2x2816x1024 .f32 := V0 (Proc.devRef .tc main_arg13)
/-- The named term 1 of the reference, as numbers. -/
abbrev R1 (V0 : Valuation τ sig (Elt Ideal)) : S10x1024.Idx → EReal := res_main_v1 (F := Ideal) V0
/-- The named term 8 of the reference, as numbers. -/
abbrev R8 (V0 : Valuation τ sig (Elt Ideal)) : S2x8192x256.Idx → EReal := res_main_v8 (F := Ideal) V0
/-- The named term 10 of the reference, as numbers. -/
abbrev R10 (V0 : Valuation τ sig (Elt Ideal)) : S1024.Idx → EReal := res_main_v10 (F := Ideal) V0
/-- The named term 56 of the reference, as numbers. -/
abbrev R56 (V0 : Valuation τ sig (Elt Ideal)) : S2x8192x1024.Idx → EReal := res_main_v56 (F := Ideal) V0
/-- The named term 72 of the reference, as numbers. -/
abbrev R72 (V0 : Valuation τ sig (Elt Ideal)) : S2x8192x1024.Idx → EReal := res_main_v72 (F := Ideal) V0
/-- The named term 95 of the reference, as numbers. -/
abbrev R95 (V0 : Valuation τ sig (Elt Ideal)) : S2x256x2x4x256.Idx → EReal := res_main_v95 (F := Ideal) V0
/-- The named term 98 of the reference, as numbers. -/
abbrev R98 (V0 : Valuation τ sig (Elt Ideal)) : S2x4x8192x256.Idx → EReal := res_main_v98 (F := Ideal) V0
/-- The named term 105 of the reference, as numbers. -/
abbrev R105 (V0 : Valuation τ sig (Elt Ideal)) : S2x4x8192x256.Idx → EReal := res_main_v105 (F := Ideal) V0
/-- The named term 117 of the reference, as numbers. -/
abbrev R117 (V0 : Valuation τ sig (Elt Ideal)) : S2x8192x1024.Idx → EReal := res_main_v117 (F := Ideal) V0
/-- The named term 133 of the reference, as numbers. -/
abbrev R133 (V0 : Valuation τ sig (Elt Ideal)) : S2x8192x1024.Idx → EReal := res_main_v133 (F := Ideal) V0
/-- The named term 153 of the reference, as numbers. -/
abbrev R153 (V0 : Valuation τ sig (Elt Ideal)) : S2x8192x5632.Idx → EReal := res_main_v153 (F := Ideal) V0
/-- The named term 154 of the reference, as numbers. -/
abbrev R154 (V0 : Valuation τ sig (Elt Ideal)) : S2x8192x2816.Idx → EReal := res_main_v154 (F := Ideal) V0
/-- The named term 158 of the reference, as numbers. -/
abbrev R158 (V0 : Valuation τ sig (Elt Ideal)) : S2x8192x1024.Idx → EReal := res_main_v158 (F := Ideal) V0

variable (V0 : Valuation τ sig (Elt Ideal))

theorem v1_at (i : Fin 10) (c : Fin 1024) : R1 V0 (ix2 i c) = A7 V0 (ix3 0 i c) := by
  pointwise [res_main_v1]

end Cert.P6.Ref

end
-- ==== Proof.P6RefMix.lean ====
/- The reference's group norms and output projection, read at a batch, a position and a column. -/
module

public import proofs.«01_k».proof.Proof.P6RefBase
public import proofs.«01_k».proof.Proof.Gen.Reference6Ideal.Run

@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

variable (V0 : Valuation τ sig (Elt Ideal))

theorem v8_at (b : Fin 2) (l : Fin 8192) (c : Fin 256) :
    R8 V0 (ix3 b l c) =
      A4 V0 (ix3 b l c) * (A2 V0 (ix3 b l c) + A6 V0 (ix2 0 c) * A3 V0 (ix3 b l c)) := by
  pointwise [res_main_v8]

theorem v10_at (c : Fin 1024) : R10 V0 (ix1 c) = A7 V0 (ix3 0 3 c) := by
  pointwise [res_main_v10, v1_at]

theorem v56_at (b : Fin 2) (l : Fin 8192) (c : Fin 1024) :
    R56 V0 (ix3 b l c) =
      lin (cat3 (rms d384 (fun k => A1 V0 (ix3 b l k)) (fun k => A7 V0 (ix3 0 3 ⟨k, by omega⟩)))
        (rms d256 (fun k => R8 V0 (ix3 b l k)) (fun k => A7 V0 (ix3 0 3 ⟨384 + k, by omega⟩)))
        (rms d384 (fun k => A5 V0 (ix3 b l k)) (fun k => A7 V0 (ix3 0 3 ⟨640 + k, by omega⟩)))) (fun k c => A8 V0 (ix3 0 k c)) c := by
  unfold lin rms rscale
  pointwise [res_main_v56, v10_at]
  exact Finset.sum_congr rfl fun x _ => rfl

theorem v72_at (b : Fin 2) (l : Fin 8192) (c : Fin 1024) :
    R72 V0 (ix3 b l c) =
      A0 V0 (ix3 b l c) + rms d1024 (fun k => R56 V0 (ix3 b l k)) (fun k => A7 V0 (ix3 0 4 k)) c := by
  unfold rms rscale
  pointwise [res_main_v72, v1_at]

end Cert.P6.Ref

end
-- ==== Proof.P6RefAtt.lean ====
/- The reference's cross-attention, read at an index. -/
module

public import proofs.«01_k».proof.Proof.P6RefBase
public import proofs.«01_k».proof.Proof.Gen.Reference6Ideal.Run

@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

variable (V0 : Valuation τ sig (Elt Ideal))

theorem v95_at (b : Fin 2) (m : Fin 256) (s : Fin 2) (h : Fin 4) (d : Fin 256) :
    R95 V0 (ix5 b m s h d) = A10 V0 (ix3 b m ⟨s * 1024 + h * 256 + d, by omega⟩) := by
  pointwise [res_main_v95]

theorem v98_at (b : Fin 2) (h : Fin 4) (l : Fin 8192) (m : Fin 256) :
    R98 V0 (ix4 b h l m) =
      ∑ d : Fin 256, (lin (rms d1024 (fun k => R72 V0 (ix3 b l k)) (fun k => A7 V0 (ix3 0 5 k)))
        (fun k c => A9 V0 (ix3 0 k c)) ⟨h * 256 + d, by omega⟩ * Ideal.ofBits .f32 0x3D800000#32)
        * R95 V0 (ix5 b m 0 h d) := by
  unfold lin rms rscale
  pointwise [res_main_v98, v1_at]

theorem v117_at (b : Fin 2) (l : Fin 8192) (c : Fin 1024) :
    R117 V0 (ix3 b l c) =
      lin (fun k : Fin 1024 => ∑ m : Fin 256, R95 V0 (ix5 b m 1 ⟨k / 256, by omega⟩ ⟨k % 256, by omega⟩) *
          Ideal.div (R105 V0 (ix4 b ⟨k / 256, by omega⟩ l m))
            (∑ m : Fin 256, R105 V0 (ix4 b ⟨k / 256, by omega⟩ l m)))
        (fun k c => A11 V0 (ix3 0 k c)) c := by
  unfold lin
  pointwise [res_main_v117]

theorem v133_at (b : Fin 2) (l : Fin 8192) (c : Fin 1024) :
    R133 V0 (ix3 b l c) =
      R72 V0 (ix3 b l c)
      + rms d1024 (fun k => R117 V0 (ix3 b l k)) (fun k => A7 V0 (ix3 0 7 k)) c := by
  unfold rms rscale
  pointwise [res_main_v133, v1_at]

end Cert.P6.Ref

end
-- ==== Proof.P6RefSoft.lean ====
/- The reference's exponentials of the attention's scores, read at an index. -/
module

public import proofs.«01_k».proof.Proof.P6RefBase
public import proofs.«01_k».proof.Proof.Gen.Reference6Ideal.Run

@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

variable (V0 : Valuation τ sig (Elt Ideal))

/-- The largest number along the last axis, as the fold of `max`. -/
theorem reduce_at {n0 n1 n2 n3 : ℕ} (v : FVec Ideal ⟨4, ![n0, n1, n2, n3]⟩ .f32) (e : FVec Ideal S_ .f32)
    (hr : (⟨4, ![n0, n1, n2, n3]⟩ : Shape).ReducesTo [3] ⟨3, ![n0, n1, n2]⟩) (hu : 0 < S_.numel) (b : Fin n0) (h : Fin n1) (l : Fin n2) :
    Host.reduce FloatOps.maximumf v e hr hu (ix3 b h l)
      = (Finset.univ : Finset (Fin n3)).fold max (e (Shape.Idx.first hu)) fun m => v (ix4 b h l m) := by
  pointwise

/-- The exponentials of a softmax over the last axis, the largest numbers `w` being given. -/
theorem soft_at (v : FVec Ideal S2x4x8192x256 .f32) (w : FVec Ideal S2x4x8192 .f32) (b : Fin 2) (h : Fin 4) (l : Fin 8192) (m : Fin 256) :
    Host.exp (subf v (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant (F := Ideal) S_ .f32 0xFF800000#32)) w)))) (ix4 b h l m)
      = Ideal.exp (v (ix4 b h l m) - max (Ideal.ofBits .f32 0xFF800000#32) (w (ix3 b h l))) := by
  pointwise

theorem v105_at (V0 : Valuation τ sig (Elt Ideal)) (b : Fin 2) (h : Fin 4) (l : Fin 8192) (m : Fin 256) :
    R105 V0 (ix4 b h l m) = Ideal.exp (R98 V0 (ix4 b h l m)
        - max (Ideal.ofBits .f32 0xFF800000#32) (top (fun m => R98 V0 (ix4 b h l m)))) := by
  have e := reduce_at (R98 V0) (constant (F := Ideal) S_ .f32 0xFF800000#32) reducesTo_S2x4x8192x256_S2x4x8192_d3 h_S_ b h l
  have f := soft_at (R98 V0) (Host.reduce FloatOps.maximumf (R98 V0) (constant (F := Ideal) S_ .f32 0xFF800000#32) reducesTo_S2x4x8192x256_S2x4x8192_d3 h_S_) b h l m
  rw [e] at f
  exact f

end Cert.P6.Ref

end
-- ==== Proof.P6RefFfn.lean ====
/- The reference's feed-forward network and result, read at an index. -/
module

public import proofs.«01_k».proof.Proof.P6RefBase
public import proofs.«01_k».proof.Proof.Gen.Reference6Ideal.Run

@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

variable (V0 : Valuation τ sig (Elt Ideal))

theorem v153_at (b : Fin 2) (l : Fin 8192) (c : Fin 5632) :
    R153 V0 (ix3 b l c) =
      lin (rms d1024 (fun k => R133 V0 (ix3 b l k)) (fun k => A7 V0 (ix3 0 8 k)))
        (fun k c => A12 V0 (ix4 0 1 k c)) c := by
  unfold lin rms rscale
  pointwise [res_main_v153, v1_at]

theorem v154_at (b : Fin 2) (l : Fin 8192) (c : Fin 2816) :
    R154 V0 (ix3 b l c) =
      R153 V0 (ix3 b l ⟨c, by omega⟩) := by
  pointwise [res_main_v154]

theorem v158_at (b : Fin 2) (l : Fin 8192) (c : Fin 1024) :
    R158 V0 (ix3 b l c) =
      ffn (rms d1024 (fun k => R133 V0 (ix3 b l k)) (fun k => A7 V0 (ix3 0 8 k)))
        (fun k (c : Fin 2816) => A12 V0 (ix4 0 1 k ⟨c, by omega⟩)) (fun k c => A12 V0 (ix4 0 1 k ⟨2816 + c, by omega⟩))
        (fun k c => A13 V0 (ix4 0 1 k c)) c := by
  unfold ffn hid Ideal.logistic
  pointwise [res_main_v158, v154_at, v153_at]
  rfl

/-- The reference's result. -/
def out : FVec Ideal S16384x1024 .f32 :=
  shapeCast _ (addf (res_main_v133 V0) (mulf (broadcastInDim S2x8192x1024 ![] bcast_S_S2x8192x1024 (constant S_ .f32 0x3F000000#32)) (mulf (mulf (res_main_v158 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v158 V0) (res_main_v158 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![9, 0] (res_main_v1 V0) slices_S10x1024_S1x1024_9_0) shapeCasts_S1x1024_S1024)))))) shapeCasts_S2x8192x1024_S16384x1024

theorem out_at (r : Fin 16384) (c : Fin 1024) :
    out V0 (ix2 r c) = R133 V0 (ix3 ⟨r / 8192, by omega⟩ ⟨r % 8192, by omega⟩ c)
      + Ideal.ofBits .f32 0x3F000000#32 * rms d1024 (fun k => R158 V0 (ix3 ⟨r / 8192, by omega⟩ ⟨r % 8192, by omega⟩ k))
          (fun k => A7 V0 (ix3 0 9 k)) c := by
  unfold rms rscale
  pointwise [out, v1_at]

end Cert.P6.Ref

end
-- ==== Proof.P6RefTok.lean ====
/- The reference's result at a row, as the token's function of its parameters. -/
module

public import proofs.«01_k».proof.Proof.Tok
public import proofs.«01_k».proof.Proof.P6RefMix
public import proofs.«01_k».proof.Proof.P6RefAtt
public import proofs.«01_k».proof.Proof.P6RefSoft
public import proofs.«01_k».proof.Proof.P6RefFfn
@[expose] public section

set_option maxRecDepth 16384

noncomputable section

namespace Cert.P6.Ref

open Cert.Reference6Ideal Cert.Reference6Ideal.Gen Cert.Reference6Ideal.Value Idealize.ShloMosaic Idealize.ShloMosaic.TcCoe
open Idealize.SL.Sem Idealize.ShloMosaic.StableHlo Cert.Rows

variable (V0 : Valuation τ sig (Elt Ideal))

/-- The parameters of the token at position `l` of batch `b`. -/
def par (b : Fin 2) (l : Fin 8192) : Par where
  x k := A0 V0 (ix3 b l k)
  ya k := A1 V0 (ix3 b l k)
  yb k := A4 V0 (ix3 b l k) * (A2 V0 (ix3 b l k) + A6 V0 (ix2 0 k) * A3 V0 (ix3 b l k))
  yc k := A5 V0 (ix3 b l k)
  gm k := A7 V0 (ix3 0 3 k)
  g4 k := A7 V0 (ix3 0 4 k)
  g5 k := A7 V0 (ix3 0 5 k)
  g7 k := A7 V0 (ix3 0 7 k)
  g8 k := A7 V0 (ix3 0 8 k)
  g9 k := A7 V0 (ix3 0 9 k)
  wm k c := A8 V0 (ix3 0 k c)
  wq k c := A9 V0 (ix3 0 k c)
  wo k c := A11 V0 (ix3 0 k c)
  K h m d := A10 V0 (ix3 b m ⟨h * 256 + d, by omega⟩)
  V h m d := A10 V0 (ix3 b m ⟨1024 + h * 256 + d, by omega⟩)
  G k c := A12 V0 (ix4 0 1 k ⟨c, by omega⟩)
  U k c := A12 V0 (ix4 0 1 k ⟨2816 + c, by omega⟩)
  D k c := A13 V0 (ix4 0 1 k c)

theorem mix_at (b : Fin 2) (l : Fin 8192) (c : Fin 1024) : R56 V0 (ix3 b l c) = lin (par V0 b l).cat (par V0 b l).wm c := by
  rw [v56_at]
  simp only [v8_at]
  rfl

theorem x1_at (b : Fin 2) (l : Fin 8192) (c : Fin 1024) : R72 V0 (ix3 b l c) = (par V0 b l).x1 c := by
  rw [v72_at]
  simp only [mix_at]
  rfl

theorem sc_at (b : Fin 2) (h : Fin 4) (l : Fin 8192) (m : Fin 256) : R98 V0 (ix4 b h l m) = (par V0 b l).sc h m := by
  rw [v98_at]
  simp only [x1_at]
  unfold Par.sc
  refine Finset.sum_congr rfl fun d _ => congrArg₂ (· * ·) rfl ?_
  rw [v95_at]
  exact congrArg (fun k => A10 V0 (ix3 b m k)) (Fin.ext (by simp))

theorem o_at (b : Fin 2) (l : Fin 8192) (c : Fin 1024) : R117 V0 (ix3 b l c) = lin (par V0 b l).oR (par V0 b l).wo c := by
  rw [v117_at]
  refine congrArg₂ (fun o w => lin o w c) (funext fun k => ?_) rfl
  unfold Par.oR
  simp only [v105_at, sc_at]
  refine Finset.sum_congr rfl fun m _ => congrArg₂ (· * ·) ?_ rfl
  rw [v95_at]
  exact congrArg (fun k => A10 V0 (ix3 b m k)) (Fin.ext (by simp))

theorem x2_at (b : Fin 2) (l : Fin 8192) (c : Fin 1024) : R133 V0 (ix3 b l c) = (par V0 b l).x2 (par V0 b l).oR c := by
  rw [v133_at, x1_at]
  simp only [o_at]
  rfl

theorem y_at (b : Fin 2) (l : Fin 8192) (c : Fin 1024) :
    R158 V0 (ix3 b l c) = ffn (rms d1024 ((par V0 b l).x2 (par V0 b l).oR) (par V0 b l).g8) (par V0 b l).G (par V0 b l).U (par V0 b l).D c := by
  rw [v158_at]
  simp only [x2_at]
  rfl

/-- The reference's result at row `r`: batch `r / 8192`, position `r % 8192`. -/
theorem res_at (r : Fin 16384) (c : Fin 1024) :
    out V0 (ix2 r c) = (par V0 ⟨r / 8192, by omega⟩ ⟨r % 8192, by omega⟩).res (par V0 ⟨r / 8192, by omega⟩ ⟨r % 8192, by omega⟩).oR c := by
  rw [out_at, x2_at]
  simp only [y_at]
  rfl

end Cert.P6.Ref

end
-- ==== Proof.P6Final.lean ====
/- The kernel's result array is the reference's result, the arguments that feed the scores being finite. -/
module

public import proofs.«01_k».proof.Proof.P6EntryA
public import proofs.«01_k».proof.Proof.P6EntryB
public import proofs.«01_k».proof.Proof.P6EntryC
public import proofs.«01_k».proof.Proof.P6EntryD
public import proofs.«01_k».proof.Proof.P6EntryE
public import proofs.«01_k».proof.Proof.P6BlkC
public import proofs.«01_k».proof.Proof.P6RefTok
public import proofs.«01_k».proof.Proof.PreFacts

@[expose] public section

set_option maxRecDepth 16384

noncomputable section

namespace Cert.P6.Final

open Idealize.ShloMosaic Idealize.ShloMosaic.TcCoe Idealize.SL.Sem Cert.Kernel6Ideal Cert.Kernel6Ideal.Gen Cert.P6.Entry Cert.Rows
open Idealize.ShloMosaic.Pipeline (Dat)

variable (m : (ℓ : Loc nD τ sig) → Buf (Elt Ideal) ℓ) (c : Dev nD)

/-- The parameters of the token at position `l` of batch `b`, over the kernel's arguments. -/
def par (b : Fin 2) (l : Fin 8192) : Par where
  x k := K0 m c (ix3 b l k)
  ya k := K1 m c (ix3 b l k)
  yb k := K4 m c (ix3 b l k) * (K2 m c (ix3 b l k) + K6 m c (ix2 0 k) * K3 m c (ix3 b l k))
  yc k := K5 m c (ix3 b l k)
  gm k := K7 m c (ix3 0 3 k)
  g4 k := K7 m c (ix3 0 4 k)
  g5 k := K7 m c (ix3 0 5 k)
  g7 k := K7 m c (ix3 0 7 k)
  g8 k := K7 m c (ix3 0 8 k)
  g9 k := K7 m c (ix3 0 9 k)
  wm k c' := K8 m c (ix3 0 k c')
  wq k c' := K9 m c (ix3 0 k c')
  wo k c' := K11 m c (ix3 0 k c')
  K h p d := K10 m c (ix3 b p ⟨h * 256 + d, by omega⟩)
  V h p d := K10 m c (ix3 b p ⟨1024 + h * 256 + d, by omega⟩)
  G k c' := K12 m c (ix4 0 1 k ⟨c', by omega⟩)
  U k c' := K12 m c (ix4 0 1 k ⟨2816 + c', by omega⟩)
  D k c' := K13 m c (ix4 0 1 k c')

/-- The blocks of grid point `t` hold, in row `r`, the token of row `512 t + r`. -/
theorem par_eq (t : Fin cfg0.N) (r : Fin 512) :
    Cert.P6.Blk.par (B0 m c t) (B1 m c t) (B2 m c t) (B3 m c t) (B4 m c t) (B5 m c t) (B6 m c t) (B7 m c t) (B8 m c t) (B9 m c t) (B10 m c t) (B11 m c t)
      (B12 m c t) (B13 m c t) (B14 m c t) (B15 m c t) (B16 m c t) (B17 m c t) (B18 m c t) r
      = par m c ⟨(t * 512 + r) / 8192, by have := lt t; omega⟩ ⟨(t * 512 + r) % 8192, by omega⟩ := by
  unfold Cert.P6.Blk.par par
  simp only [b0, b1, b2, b3, b4, b5, b6, b7, b8, b9, b10, b11, b12 m c t r, b13, b14, b15, b16, b17, b18]

/-- The token's result at every row of the array. -/
def G : FVec Ideal S16384x1024 .f32 := fun i =>
  (par m c ⟨(i 0).val / 8192, by have := (i 0).isLt; change _ < 16384 at this; omega⟩ ⟨(i 0).val % 8192, by omega⟩).res
    (par m c ⟨(i 0).val / 8192, by have := (i 0).isLt; change _ < 16384 at this; omega⟩ ⟨(i 0).val % 8192, by omega⟩).oK (i 1)

theorem point (t : Fin cfg0.N) (y : S512x1024.Idx) :
    out0_19 (F := Ideal) (B0 m c t) (B1 m c t) (B2 m c t) (B3 m c t) (B4 m c t) (B5 m c t) (B6 m c t) (B7 m c t) (B8 m c t) (B9 m c t) (B10 m c t) (B11 m c t)
      (B12 m c t) (B13 m c t) (B14 m c t) (B15 m c t) (B16 m c t) (B17 m c t) (B18 m c t) y = G m c (((cfg0.win 19).blk t).view.emb y) := by
  obtain ⟨r, k, rfl⟩ : ∃ (r : Fin 512) (k : Fin 1024), y = ix2 r k := ⟨y 0, y 1, eq_ix2 y⟩
  rw [Cert.P6.Blk.out_at, par_eq]
  have e0 : ((((cfg0.win 19).blk t).view.emb (ix2 r k)) 0 : ℕ) = t * 512 + r := by blk_simp [idx t]
  have e1 : (((cfg0.win 19).blk t).view.emb (ix2 r k)) 1 = k := by
    ext
    blk_simp [idx t]
  unfold G
  simp only [e0, e1]

theorem final : (dats m 0 c).arrAt 19 (cfgs 0).N = G m c := by
  refine (dats m 0 c).arrAt_eq_of_covers 19 _ (by decide +kernel) fun t _ y => ?_
  blk_simp
  rw [after0_19]
  exact point m c t y

end Cert.P6.Final

end
-- ==== Proof.P6Bridge.lean ====
/- The kernel's array is the reference's result when the two programs' arguments agree and those feeding the scores are finite. -/
module

public import proofs.«01_k».proof.Defs
public import proofs.«01_k».proof.Proof.Gen.Reference6Ideal
public import Idealize.ShloMosaic.Lib.Claim
public import Idealize.ShloMosaic.Adequacy
public import Idealize.ShloMosaic.Init
public import proofs.«01_k».proof.Proof.P6Final
public import proofs.«01_k».proof.Proof.PreRead

@[expose] public section

set_option maxRecDepth 16384

noncomputable section

namespace Cert.P6.Bridge

open Idealize.ShloMosaic Idealize.ShloMosaic.TcCoe Idealize.SL.Sem Cert.Kernel6Ideal Cert.Kernel6Ideal.Gen Cert.P6.Entry Cert.Rows
open Cert.P6.Ref (A0 A1 A2 A3 A4 A5 A6 A7 A8 A9 A10 A11 A12 A13)

section

variable (m : (ℓ : Loc nD τ sig) → Buf (Elt Ideal) ℓ) (c : Dev nD)

/-- Under the precondition every token's parameters that feed the scores are finite. -/
theorem par_fin (h : Cert.Pre_finite.fn (F := Ideal) (K0 m c) (K1 m c) (K2 m c) (K3 m c) (K4 m c) (K5 m c) (K6 m c) (K7 m c) (K8 m c) (K9 m c) (K10 m c) (K11 m c) (K12 m c) (K13 m c) = fun _ => 1#1)
    (b : Fin 2) (l : Fin 8192) : (Cert.P6.Final.par m c b l).Finite := by
  obtain ⟨h0, h1, h2, h3, h4, h5, h6, h7, h8, h9, h10⟩ := Cert.PreFin.read _ _ _ _ _ _ _ _ _ _ _ _ _ _ h
  exact
    { x := fun k => h0 _, ya := fun k => h1 _, yb := fun k => (h4 _).mul ((h2 _).add ((h6 _).mul (h3 _))), yc := fun k => h5 _,
      gm := fun k => h7 _, g4 := fun k => h7 _, g5 := fun k => h7 _, wm := fun k c' => h8 _, wq := fun k c' => h9 _, K := fun h' p d => h10 _ }

/-- Both programs see the same token. -/
theorem par_eq (V0 : Valuation Cert.Reference6Ideal.τ Cert.Reference6Ideal.sig (Elt Ideal)) (h0 : A0 V0 = K0 m c) (h1 : A1 V0 = K1 m c) (h2 : A2 V0 = K2 m c) (h3 : A3 V0 = K3 m c) (h4 : A4 V0 = K4 m c) (h5 : A5 V0 = K5 m c) (h6 : A6 V0 = K6 m c) (h7 : A7 V0 = K7 m c) (h8 : A8 V0 = K8 m c) (h9 : A9 V0 = K9 m c) (h10 : A10 V0 = K10 m c) (h11 : A11 V0 = K11 m c) (h12 : A12 V0 = K12 m c) (h13 : A13 V0 = K13 m c)
    (b : Fin 2) (l : Fin 8192) : Cert.P6.Ref.par V0 b l = Cert.P6.Final.par m c b l := by
  unfold Cert.P6.Ref.par Cert.P6.Final.par
  rw [h0, h1, h2, h3, h4, h5, h6, h7, h8, h9, h10, h11, h12, h13]

/-- The reference's result is the kernel's array. -/
theorem out_eq (V0 : Valuation Cert.Reference6Ideal.τ Cert.Reference6Ideal.sig (Elt Ideal)) (h0 : A0 V0 = K0 m c) (h1 : A1 V0 = K1 m c) (h2 : A2 V0 = K2 m c) (h3 : A3 V0 = K3 m c) (h4 : A4 V0 = K4 m c) (h5 : A5 V0 = K5 m c) (h6 : A6 V0 = K6 m c) (h7 : A7 V0 = K7 m c) (h8 : A8 V0 = K8 m c) (h9 : A9 V0 = K9 m c) (h10 : A10 V0 = K10 m c) (h11 : A11 V0 = K11 m c) (h12 : A12 V0 = K12 m c) (h13 : A13 V0 = K13 m c)
    (h : Cert.Pre_finite.fn (F := Ideal) (K0 m c) (K1 m c) (K2 m c) (K3 m c) (K4 m c) (K5 m c) (K6 m c) (K7 m c) (K8 m c) (K9 m c) (K10 m c) (K11 m c) (K12 m c) (K13 m c) = fun _ => 1#1) : Cert.P6.Ref.out V0 = Cert.P6.Final.G m c := by
  funext i
  obtain ⟨r, k, rfl⟩ : ∃ (r : Fin 16384) (k : Fin 1024), i = ix2 r k := ⟨i 0, i 1, eq_ix2 i⟩
  rw [Cert.P6.Ref.res_at, par_eq m c V0 h0 h1 h2 h3 h4 h5 h6 h7 h8 h9 h10 h11 h12 h13, ← Par.oK_eq (par_fin m c h _ _)]
  rfl

end

/-- The reference runs, leaves its arguments unchanged, and declares no semaphore. -/
theorem reference_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's run: its result is the token's function at every row, its arguments unchanged. -/
theorem reference_run (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      fun r => ∀ c : Dev Cert.Reference6Ideal.nD,
      r.2.mem ((c.tc : Thread Cert.Reference6Ideal.nD Cert.Reference6Ideal.τ).loc Cert.Reference6Ideal.main_v177) = Cert.P6.Ref.out (StableHlo.launchContents m c)
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13) :=
  Cert.Reference6Ideal.Value.run (F := Ideal) m g

/-- The kernel and the reference end with equal results over the extended reals, the arguments feeding the scores being finite. -/
theorem post : Cert.algebraic_Kernel6Ideal_Reference6Ideal_pre_finite (hKernel6Ideal := Cert.Kernel6Ideal.Gen.facts)
    (hReference6Ideal := Cert.Reference6Ideal.Gen.facts) (hPre_finite := Cert.PreFin.preFacts) := by
  intro m g m' g' hpre hagree
  refine ⟨fun c => Cert.P6.Final.G m c, ?_, ?_⟩
  · exact (θ_run _ _ _).mono (fun r h c => ⟨(h c).1.trans (Cert.P6.Final.final m c), (h c).2⟩) (Cert.Kernel6Ideal.Value.run_blocks m g)
  · refine (θ_run _ _ _).mono (fun r h c => ⟨(h c).1.trans ?_, (h c).2⟩) (reference_run m' g')
    obtain ⟨e0, e1, e2, e3, e4, e5, e6, e7, e8, e9, e10, e11, e12, e13⟩ := hagree c
    exact Cert.P6.Bridge.out_eq m c (StableHlo.launchContents m' c) e0 e1 e2 e3 e4 e5 e6 e7 e8 e9 e10 e11 e12 e13 (hpre c)

end Cert.P6.Bridge

end
-- ==== Proof.P7Final.lean ====
/- The memory's keys and values of layer 0: the result array of the kernel. -/
module

public import proofs.«01_k».proof.Proof.Gen.Kernel7Ideal.Value
public import Idealize.ShloMosaic.Lib.Claim
public import Idealize.ShloMosaic.Lib.Pipeline.ValueKit
public import proofs.«01_k».proof.Proof.Rows

@[expose] public section

set_option maxRecDepth 16384

noncomputable section

namespace Cert.P7

open Idealize.ShloMosaic Idealize.ShloMosaic.TcCoe Idealize.SL.Sem Cert.Kernel7Ideal Cert.Kernel7Ideal.Gen Cert.Rows

/-- The payload: the normed row times the matrix. -/
theorem pay1_at (x : FVec Ideal S256x1024 .f32) (g : FVec Ideal S1x1024 .f32) (w : FVec Ideal S1x1024x2048 .bf16) (r : Fin 256) (k : Fin 2048) :
    k0_pay1 (F := Ideal) x g w (ix2 r k) = lin (rms d1024 (fun j => x (ix2 r j)) (fun j => g (ix2 0 j))) (fun j k => w (ix3 0 j k)) k := by
  unfold lin rms rscale
  pointwise [k0_pay1]

/-- The body's result on its blocks. -/
theorem out3_at (x0 : FVec Ideal S256x1024 .f32) (x1 : FVec Ideal S1x1024 .f32) (x2 : FVec Ideal S1x1024x2048 .bf16) (r : Fin 256) (k : Fin 2048) :
    out0_3 (F := Ideal) x0 x1 x2 (ix2 r k) = lin (rms d1024 (fun j => x0 (ix2 r j)) (fun j => x1 (ix2 0 j))) (fun j k => x2 (ix3 0 j k)) k := by
  have w : k0_pay1 (F := Ideal) (View.ld x0 r0_0) (View.ld x1 r0_1) (View.ld x2 r0_2) (ix2 r k)
      = lin (rms d1024 (fun j => x0 (ix2 r j)) (fun j => x1 (ix2 0 j))) (fun j k => x2 (ix3 0 j k)) k := by
    rw [pay1_at]
    unfold lin rms rscale
    pointwise []
  unfold out0_3
  refine Eq.trans ?_ w
  exact congrFun (View.canon_unit_zero (S := S256x2048) (by decide) inb_S256x2048_S256x2048_0_0 _) (ix2 r k)

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0, 0] ∧ win0_3.index t = ![t.val, 0] ∧ t.val < 2 :=
  (by decide +kernel : ∀ t : Fin grid0.N, _)

theorem lt (t : Fin cfg0.N) : t.val < 2 := (idx t).2.2.2.2

/-- Window 0's block at a grid point. -/
abbrev B0 (t : Fin cfg0.N) : FVec Ideal S256x1024 .f32 := iblk m c 0 t

/-- Window 1's block at a grid point. -/
abbrev B1 (t : Fin cfg0.N) : FVec Ideal S1x1024 .f32 := iblk m c 1 t

/-- Window 2's block at a grid point. -/
abbrev B2 (t : Fin cfg0.N) : FVec Ideal S1x1024x2048 .bf16 := iblk m c 2 t

/-- The kernel's argument 0. -/
abbrev K0 : FVec Ideal S2x256x1024 .f32 := m ((c : Thread nD τ).loc main_arg0)

/-- The kernel's argument 1. -/
abbrev K1 : FVec Ideal S2x10x1024 .f32 := m ((c : Thread nD τ).loc main_arg1)

/-- The kernel's argument 2. -/
abbrev K2 : FVec Ideal S2x1024x2048 .f32 := m ((c : Thread nD τ).loc main_arg2)

theorem b0 (t : Fin cfg0.N) (r : Fin 256) (k : Fin 1024) :
    B0 m c t (ix2 r k) = K0 m c (ix3 ⟨(t * 256 + r) / 256, by have := lt t; omega⟩ ⟨(t * 256 + r) % 256, by omega⟩ k) := by
  blk_point [iblk, V, idx t]

theorem b1 (t : Fin cfg0.N) (k : Fin 1024) : B1 m c t (ix2 0 k) = K1 m c (ix3 0 6 k) := by
  blk_point [iblk, V, idx t]

theorem b2 (t : Fin cfg0.N) (k : Fin 1024) (k' : Fin 2048) : B2 m c t (ix3 0 k k') = K2 m c (ix3 0 k k') := by
  blk_point [iblk, V, idx t]

/-- The keys and values of the memory's row `s` of batch `b`, at one of the 2048 columns. -/
def kv (b : Fin 2) (s : Fin 256) : Fin 2048 → EReal :=
  lin (rms d1024 (fun j => K0 m c (ix3 b s j)) (fun j => K1 m c (ix3 0 6 j))) (fun j k => K2 m c (ix3 0 j k))

/-- The keys and values, at every row of the array. -/
def G : FVec Ideal S512x2048 .bf16 := fun i =>
  kv m c ⟨(i 0).val / 256, by have := (i 0).isLt; change _ < 512 at this; omega⟩ ⟨(i 0).val % 256, by omega⟩ (i 1)

theorem point (t : Fin cfg0.N) (y : S256x2048.Idx) : out0_3 (F := Ideal) (B0 m c t) (B1 m c t) (B2 m c t) y = G m c (((cfg0.win 3).blk t).view.emb y) := by
  obtain ⟨r, k, rfl⟩ : ∃ (r : Fin 256) (k : Fin 2048), y = ix2 r k := ⟨y 0, y 1, eq_ix2 y⟩
  rw [out3_at]
  simp only [b0, b1, b2]
  have e0 : ((((cfg0.win 3).blk t).view.emb (ix2 r k)) 0 : ℕ) = t * 256 + r := by blk_simp [idx t]
  have e1 : (((cfg0.win 3).blk t).view.emb (ix2 r k)) 1 = k := by
    ext
    blk_simp [idx t]
  unfold G kv
  simp only [e0, e1]

/-- The kernel's result array: every row's keys and values. -/
theorem final : (dats m 0 c).arrAt 3 (cfgs 0).N = G m c := by
  refine (dats m 0 c).arrAt_eq_of_covers 3 _ (by decide +kernel) fun t _ y => ?_
  blk_simp
  rw [after0_3]
  exact point m c t y

end Cert.P7

end
-- ==== Proof.P7Ref.lean ====
/- The memory's keys and values of layer 0 as the reference computes them, read at a row and a column. -/
module

public import proofs.«01_k».proof.Proof.Rows
public import proofs.«01_k».proof.Proof.Gen.Reference7Ideal.Run

@[expose] public section

set_option maxRecDepth 16384

noncomputable section

namespace Cert.P7.Ref

open Cert.Reference7Ideal Cert.Reference7Ideal.Gen Cert.Reference7Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x256x1024 .f32 := V0 (Proc.devRef .tc main_arg0)

/-- The reference's argument 1. -/
abbrev A1 : FVec Ideal S2x10x1024 .f32 := V0 (Proc.devRef .tc main_arg1)

/-- The reference's argument 2. -/
abbrev A2 : FVec Ideal S2x1024x2048 .f32 := V0 (Proc.devRef .tc main_arg2)

/-- The reference's result. -/
def o : FVec Ideal S512x2048 .bf16 := shapeCast _ (truncf .bf16 (Host.dotGeneral dot_S2x256x1024_S1024x2048_S2x256x2048_2_0_01_1_n_n none (mulf (mulf (A0 V0) (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (A0 V0) (A0 V0)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![6, 0] (shapeCast _ (extractStridedSlice S1x10x1024 ![0, 0, 0] (A1 V0) slices_S2x10x1024_S1x10x1024_0_0_0) shapeCasts_S1x10x1024_S10x1024) slices_S10x1024_S1x1024_6_0) shapeCasts_S1x1024_S1024)))) (shapeCast _ (extractStridedSlice S1x1024x2048 ![0, 0, 0] (A2 V0) slices_S2x1024x2048_S1x1024x2048_0_0_0) shapeCasts_S1x1024x2048_S1024x2048)) bitsLt_bf16_f32) shapeCasts_S2x256x2048_S512x2048

theorem o_at (r : Fin 512) (k : Fin 2048) : o V0 (ix2 r k) =
    lin (rms d1024 (fun j => A0 V0 (ix3 ⟨r / 256, by omega⟩ ⟨r % 256, by omega⟩ j)) (fun j => A1 V0 (ix3 0 6 j))) (fun j k => A2 V0 (ix3 0 j k)) k := by
  unfold lin rms rscale
  pointwise [o]

end Cert.P7.Ref

end
-- ==== Proof.P7Bridge.lean ====
/- The memory's keys and values of layer 0: the kernel's array is the reference's result when the two programs' arguments agree. -/
module

public import proofs.«01_k».proof.Defs
public import proofs.«01_k».proof.Proof.Gen.Reference7Ideal
public import proofs.«01_k».proof.Proof.P7Final
public import proofs.«01_k».proof.Proof.P7Ref
public import Idealize.ShloMosaic.Lib.Claim
public import Idealize.ShloMosaic.Adequacy
public import Idealize.ShloMosaic.Init

@[expose] public section

set_option maxRecDepth 16384

noncomputable section

namespace Cert.P7

open Idealize.ShloMosaic Idealize.ShloMosaic.TcCoe Idealize.SL.Sem Cert.Kernel7Ideal Cert.Kernel7Ideal.Gen Cert.Rows

/-- The reference's result is the kernel's array. -/
theorem o_eq (m : (ℓ : Loc nD τ sig) → Buf (Elt Ideal) ℓ) (c : Dev nD) (V0 : Valuation Cert.Reference7Ideal.τ Cert.Reference7Ideal.sig (Elt Ideal)) (h0 : Ref.A0 V0 = K0 m c) (h1 : Ref.A1 V0 = K1 m c) (h2 : Ref.A2 V0 = K2 m c) :
    Ref.o V0 = G m c := by
  funext i
  obtain ⟨r, k, rfl⟩ : ∃ (r : Fin 512) (k : Fin 2048), i = ix2 r k := ⟨i 0, i 1, eq_ix2 i⟩
  rw [Ref.o_at, h0, h1, h2]
  rfl

/-- The reference runs, leaves its arguments unchanged, and declares no semaphore. -/
theorem reference_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference's run: its result is its definition at the arguments, its arguments unchanged. -/
theorem reference_run (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      fun r => ∀ c : Dev Cert.Reference7Ideal.nD,
      r.2.mem ((c.tc : Thread Cert.Reference7Ideal.nD Cert.Reference7Ideal.τ).loc Cert.Reference7Ideal.main_v21) = Ref.o (StableHlo.launchContents m c)
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2) :=
  Cert.Reference7Ideal.Value.run (F := Ideal) m g

/-- The kernel and the reference end with equal results over the extended reals. -/
theorem value : Cert.algebraic_Kernel7Ideal_Reference7Ideal (hKernel7Ideal := Cert.Kernel7Ideal.Gen.facts) (hReference7Ideal := Cert.Reference7Ideal.Gen.facts) := by
  intro m g m' g' _ hagree
  refine ⟨fun c => G m c, ?_, ?_⟩
  · exact (θ_run _ _ _).mono (fun r h c => ⟨(h c).1.trans (final m c), (h c).2⟩) (Cert.Kernel7Ideal.Value.run_blocks m g)
  · refine (θ_run _ _ _).mono (fun r h c => ?_) (reference_run m' g')
    obtain ⟨e0, e1, e2⟩ := hagree c
    exact ⟨(h c).1.trans (o_eq m c (StableHlo.launchContents m' c) e0 e1 e2), (h c).2⟩

end Cert.P7

end
-- ==== Proof.P8Pay.lean ====
/- The short convolution's gate of layer 1: the payloads of the kernel's body, read at a row and a column. -/
module

public import proofs.«01_k».proof.Proof.Tap
public import proofs.«01_k».proof.Proof.Gen.Kernel8Ideal.Skeleton
public import Idealize.ShloMosaic.Lib.Affine
public import Idealize.ShloMosaic.Lib.DynamicIndex

@[expose] public section

set_option maxRecDepth 16384

noncomputable section

namespace Cert.P8

open Idealize.ShloMosaic Idealize.ShloMosaic.TcCoe Cert.Kernel8Ideal Cert.Kernel8Ideal.Gen Cert.Rows

/-- The sum of the three taps and the bias. -/
theorem pay1_at (d a b : FVec Ideal S1024x768 .f32) (w bias : FVec Ideal S1x768 .f32) (r : Fin 1024) (k : Fin 768) :
    k0_pay1 (F := Ideal) d a b w bias (ix2 r k) = a (ix2 r k) + b (ix2 r k) + d (ix2 r k) * w (ix2 0 k) + bias (ix2 0 k) := by
  pointwise [k0_pay1]

/-- The first result: columns 256 to 511 of the convolution times columns 0 to 255. -/
theorem pay2_at (d a b : FVec Ideal S1024x768 .f32) (w bias : FVec Ideal S1x768 .f32) (r : Fin 1024) (k : Fin 256) :
    k0_pay2 (F := Ideal) d a b w bias (ix3 0 r k) = k0_pay1 (F := Ideal) d a b w bias (ix2 r ⟨256 + k, by omega⟩) * k0_pay1 (F := Ideal) d a b w bias (ix2 r ⟨k, by omega⟩) := by
  pointwise [k0_pay2]

/-- The second result: columns 512 to 767 of the convolution. -/
theorem pay3_at (d a b : FVec Ideal S1024x768 .f32) (w bias : FVec Ideal S1x768 .f32) (r : Fin 1024) (k : Fin 256) :
    k0_pay3 (F := Ideal) d a b w bias (ix3 0 r k) = k0_pay1 (F := Ideal) d a b w bias (ix2 r ⟨512 + k, by omega⟩) := by
  pointwise [k0_pay3]

theorem pay4_at (u : FVec Ideal S1x1024x768 .f32) (r : Fin 1024) (k : Fin 768) : k0_pay4 (F := Ideal) u (ix2 r k) = u (ix3 0 r k) := by
  pointwise [k0_pay4]

/-- The middle tap. -/
theorem pay7_at (u : FVec Ideal S1x1024x768 .f32) (w : FVec Ideal S1x768 .f32) (r : Fin 1024) (k : Fin 768) :
    k0_pay7 (F := Ideal) u w (ix2 r k) = u (ix3 0 r k) * w (ix2 0 k) := by
  pointwise [k0_pay7, pay4_at]

/-- A select on the equality of two small numbers. -/
theorem sel_eq (a b : ℕ) (ha : a < 2 ^ 31) (hb : b < 2 ^ 31) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = 1#1 ↔ a = b := by
    refine IntOp.cmpi_eq.trans ⟨fun h => ?_, fun h => by rw [h]⟩
    have := congrArg BitVec.toNat h
    simp only [BitVec.toNat_ofNat] at this
    omega
  by_cases h : a = b
  · rw [if_pos h]
    exact if_pos (e.mpr h)
  · rw [if_neg h]
    exact if_neg (fun g => h (e.mp g))

/-- A select on the order of two small numbers. -/
theorem sel_gt (a b : ℕ) (ha : a < 2 ^ 31) (hb : b < 2 ^ 31) (x y : EReal) :
    Scalar.select (Scalar.cmpi CmpIPredicate.sgt (BitVec.ofNat 32 a) (BitVec.ofNat 32 b)) x y = if b < a then x else y := by
  have e : Scalar.cmpi CmpIPredicate.sgt (BitVec.ofNat 32 a) (BitVec.ofNat 32 b) = 1#1 ↔ b < a := by
    refine IntOp.cmpi_sgt.trans ?_
    rw [toInt_ofNat_of_lt ha, toInt_ofNat_of_lt hb]
    omega
  by_cases h : b < a
  · rw [if_pos h]
    exact if_pos (e.mpr h)
  · rw [if_neg h]
    exact if_neg (fun g => h (e.mp g))

/-- A select on the order of two small numbers. -/
theorem sel_lt (a b : ℕ) (ha : a < 2 ^ 31) (hb : b < 2 ^ 31) (x y : EReal) :
    Scalar.select (Scalar.cmpi CmpIPredicate.slt (BitVec.ofNat 32 a) (BitVec.ofNat 32 b)) x y = if a < b then x else y := by
  have e : Scalar.cmpi CmpIPredicate.slt (BitVec.ofNat 32 a) (BitVec.ofNat 32 b) = 1#1 ↔ a < b := by
    refine IntOp.cmpi_slt.trans ?_
    rw [toInt_ofNat_of_lt ha, toInt_ofNat_of_lt hb]
    omega
  by_cases h : a < b
  · rw [if_pos h]
    exact if_pos (e.mpr h)
  · rw [if_neg h]
    exact if_neg (fun g => h (e.mp g))

/-- The tap before: the row above, the block's first row takes the block before's last row, which is 0 for the first block. -/
theorem pay6_at (i : grid0.Coords) (u : FVec Ideal S1x1024x768 .f32) (p : FVec Ideal S1x1x768 .f32) (w : FVec Ideal S1x768 .f32) (r : Fin 1024) (k : Fin 768) :
    k0_pay6 (F := Ideal) i u p w (ix2 r k) =
      (if (r : ℕ) = 0 then (if 0 < (i 1).val then p (ix3 0 0 k) else 0) else u (ix3 0 ⟨(r + 1024 - 1) % 1024, by omega⟩ k)) * w (ix2 0 k) := by
  have hi : (i 1).val < 8 := (i 1).isLt
  pointwise [k0_pay6, pay4_at]
  rw [sel_eq r 0 (by omega) (by omega), sel_gt _ 0 (by omega) (by omega)]

/-- The tap after: the row below, the block's last row takes the block after's first row, which is 0 for the last block. -/
theorem pay5_at (i : grid0.Coords) (u : FVec Ideal S1x1024x768 .f32) (p : FVec Ideal S1x1x768 .f32) (r : Fin 1024) (k : Fin 768) :
    k0_pay5 (F := Ideal) i u p (ix2 r k) =
      if (r : ℕ) = 1023 then (if (i 1).val < 7 then p (ix3 0 0 k) else 0) else u (ix3 0 ⟨(r + 1024 - 1023) % 1024, by omega⟩ k) := by
  have hi : (i 1).val < 8 := (i 1).isLt
  pointwise [k0_pay5, pay4_at]
  rw [sel_eq r 1023 (by omega) (by omega), sel_lt _ 7 (by omega) (by omega)]

end Cert.P8

end
-- ==== Proof.P8Final.lean ====
/- The short convolution's gate of layer 1: the result arrays of the kernel. -/
module

public import proofs.«01_k».proof.Proof.Gen.Kernel8Ideal.Value
public import Idealize.ShloMosaic.Lib.Claim
public import Idealize.ShloMosaic.Lib.Pipeline.ValueKit
public import proofs.«01_k».proof.Proof.P8Pay

@[expose] public section

set_option maxRecDepth 16384

noncomputable section

namespace Cert.P8

open Idealize.ShloMosaic Idealize.ShloMosaic.TcCoe Idealize.SL.Sem Cert.Kernel8Ideal Cert.Kernel8Ideal.Gen Cert.Rows

variable (m : (ℓ : Loc nD τ sig) → Buf (Elt Ideal) ℓ) (c : Dev nD)

/-- The windows' block indices. -/
theorem idx : ∀ t : Fin cfg0.N, win0_0.index t = ![t.val / 8, t.val % 8, 0] ∧ win0_1.index t = ![t.val / 8, t.val % 8 * 128 - 1, 0]
    ∧ win0_2.index t = ![t.val / 8, min ((t.val % 8 + 1) * 128) 1023, 0] ∧ win0_3.index t = ![0, 0] ∧ win0_4.index t = ![0, 0]
    ∧ win0_5.index t = ![t.val / 8, t.val % 8, 0] ∧ win0_6.index t = ![t.val / 8, t.val % 8, 0]
    ∧ (grid0.coords t 1).val = t.val % 8 ∧ t.val < 16 :=
  (by decide +kernel : ∀ t : Fin grid0.N, _)

theorem lt (t : Fin cfg0.N) : t.val < 16 := (idx t).2.2.2.2.2.2.2.2

theorem coord (t : Fin cfg0.N) : (grid0.coords t 1).val = t.val % 8 := (idx t).2.2.2.2.2.2.2.1

/-- Window 0's block at a grid point. -/
abbrev B0 (t : Fin cfg0.N) : FVec Ideal S1x1024x768 .f32 := iblk m c 0 t

/-- Window 1's block at a grid point. -/
abbrev B1 (t : Fin cfg0.N) : FVec Ideal S1x8x768 .f32 := iblk m c 1 t

/-- Window 2's block at a grid point. -/
abbrev B2 (t : Fin cfg0.N) : FVec Ideal S1x8x768 .f32 := iblk m c 2 t

/-- Window 3's block at a grid point. -/
abbrev B3 (t : Fin cfg0.N) : FVec Ideal S3x768 .f32 := iblk m c 3 t

/-- Window 4's block at a grid point. -/
abbrev B4 (t : Fin cfg0.N) : FVec Ideal S1x768 .f32 := iblk m c 4 t

/-- The kernel's argument 0. -/
abbrev K0 : FVec Ideal S2x8192x768 .f32 := m ((c : Thread nD τ).loc main_arg0)

/-- The kernel's argument 1. -/
abbrev K1 : FVec Ideal S2x3x768 .f32 := m ((c : Thread nD τ).loc main_arg1)

/-- The kernel's argument 2. -/
abbrev K2 : FVec Ideal S2x768 .f32 := m ((c : Thread nD τ).loc main_arg2)

theorem b0 (t : Fin cfg0.N) (r : Fin 1024) (k : Fin 768) :
    B0 m c t (ix3 0 r k) = K0 m c (ix3 ⟨t / 8, by have := lt t; omega⟩ ⟨t % 8 * 1024 + r, by omega⟩ k) := by
  blk_point [iblk, V, idx t]

theorem b1 (t : Fin cfg0.N) (k : Fin 768) :
    B1 m c t (ix3 0 7 k) = K0 m c (ix3 ⟨t / 8, by have := lt t; omega⟩ ⟨(t % 8 * 128 - 1) * 8 + 7, by omega⟩ k) := by
  blk_point [iblk, V, idx t]

theorem b2 (t : Fin cfg0.N) (k : Fin 768) :
    B2 m c t (ix3 0 0 k) = K0 m c (ix3 ⟨t / 8, by have := lt t; omega⟩ ⟨min ((t.val % 8 + 1) * 128) 1023 * 8, by omega⟩ k) := by
  blk_point [iblk, V, idx t]

theorem b3 (t : Fin cfg0.N) (a : Fin 3) (k : Fin 768) : B3 m c t (ix2 a k) = K1 m c (ix3 1 a k) := by
  blk_point [iblk, V, idx t]

theorem b4 (t : Fin cfg0.N) (k : Fin 768) : B4 m c t (ix2 0 k) = K2 m c (ix2 1 k) := by
  blk_point [iblk, V, idx t]

/-- The short convolution of batch `b` at row `s` and one of the 768 columns. -/
def cv (b : Fin 2) (s : Fin 8192) (k : Fin 768) : EReal :=
  tap (fun s => K0 m c (ix3 b s k)) (K1 m c (ix3 1 0 k)) (K1 m c (ix3 1 1 k)) (K1 m c (ix3 1 2 k)) (K2 m c (ix2 1 k)) s

/-- The whole block read as it is. -/
theorem v0 (x : FVec Ideal S1x1024x768 .f32) (q : Fin 1024) (k : Fin 768) : View.ld (Val := Elt Ideal) (e' := .f32) x r0_0 (ix3 0 q k) = x (ix3 0 q k) := by
  pointwise []

/-- The body's sum on its blocks is the convolution at the block's rows. -/
theorem sum_at (t : Fin cfg0.N) (r : Fin 1024) (k : Fin 768) :
    k0_pay1 (F := Ideal) (k0_pay8 (grid0.coords t) (B0 m c t) (B1 m c t) (B2 m c t) (B3 m c t) (B4 m c t)) (k0_pay9 (grid0.coords t) (B0 m c t) (B1 m c t) (B2 m c t) (B3 m c t) (B4 m c t))
      (k0_pay10 (grid0.coords t) (B0 m c t) (B1 m c t) (B2 m c t) (B3 m c t) (B4 m c t)) (View.ld (B3 m c t) r0_5) (View.ld (B4 m c t) r0_6) (ix2 r k)
      = cv m c ⟨t / 8, by have := lt t; omega⟩ ⟨t % 8 * 1024 + r, by omega⟩ k := by
  have v1 : View.ld (Val := Elt Ideal) (e' := .f32) (B1 m c t) r0_1 (ix3 0 0 k) = B1 m c t (ix3 0 7 k) := by pointwise []
  have v2 : View.ld (Val := Elt Ideal) (e' := .f32) (B2 m c t) r0_2 (ix3 0 0 k) = B2 m c t (ix3 0 0 k) := by pointwise []
  have v3 : View.ld (Val := Elt Ideal) (e' := .f32) (B3 m c t) r0_3 (ix2 0 k) = B3 m c t (ix2 0 k) := by pointwise []
  have v4 : View.ld (Val := Elt Ideal) (e' := .f32) (B3 m c t) r0_4 (ix2 0 k) = B3 m c t (ix2 1 k) := by pointwise []
  have v5 : View.ld (Val := Elt Ideal) (e' := .f32) (B3 m c t) r0_5 (ix2 0 k) = B3 m c t (ix2 2 k) := by pointwise []
  have v6 : View.ld (Val := Elt Ideal) (e' := .f32) (B4 m c t) r0_6 (ix2 0 k) = B4 m c t (ix2 0 k) := by pointwise []
  rw [pay1_at]
  unfold k0_pay8 k0_pay9 k0_pay10
  rw [pay5_at, pay6_at, pay7_at, v0, v0, v0, v1, v2, v3, v4, v5, v6, coord t, b0, b0, b0, b1, b2, b3, b3, b3, b4]
  unfold cv tap prev next
  have hr := r.isLt
  congr 2
  · congr 2
    by_cases h : (r : ℕ) = 0
    · rw [if_pos h]
      by_cases h' : 0 < t.val % 8
      · rw [if_pos h', dif_neg (by simp only; omega)]
        congr 2
        ext
        simp only
        omega
      · rw [if_neg h', dif_pos (by simp only; omega)]
    · rw [if_neg h, dif_neg (by simp only; omega)]
      congr 2
      ext
      simp only
      omega
  · congr 1
    by_cases h : (r : ℕ) = 1023
    · rw [if_pos h]
      by_cases h' : t.val % 8 < 7
      · rw [if_pos h', dif_neg (by simp only; omega)]
        congr 2
        ext
        simp only
        omega
      · rw [if_neg h', dif_pos (by simp only; omega)]
    · rw [if_neg h, dif_neg (by simp only; omega)]
      congr 2
      ext
      simp only
      omega

/-- The first result, at every row of the array. -/
def Z : FVec Ideal S2x8192x256 .f32 := fun i => cv m c (i 0) (i 1) ⟨256 + (i 2).val, by have := (i 2).isLt; change _ < 256 at this; omega⟩ * cv m c (i 0) (i 1) ⟨(i 2).val, by have := (i 2).isLt; change _ < 256 at this; omega⟩

/-- The second result, at every row of the array. -/
def X : FVec Ideal S2x8192x256 .f32 := fun i => cv m c (i 0) (i 1) ⟨512 + (i 2).val, by have := (i 2).isLt; change _ < 256 at this; omega⟩

theorem point5 (t : Fin cfg0.N) (y : S1x1024x256.Idx) :
    out0_5 (F := Ideal) (grid0.coords t) (B0 m c t) (B1 m c t) (B2 m c t) (B3 m c t) (B4 m c t) y = Z m c (((cfg0.win 5).blk t).view.emb y) := by
  obtain ⟨r, k, rfl⟩ : ∃ (r : Fin 1024) (k : Fin 256), y = ix3 0 r k := ⟨y 1, y 2, by
    rw [eq_ix3 y]
    congr 1
    exact Subsingleton.elim (α := Fin 1) _ _⟩
  unfold out0_5
  refine (congrFun (View.canon_unit_zero (S := S1x1024x256) (by decide) inb_S1x1024x256_S1x1024x256_0_0_0 _) (ix3 0 r k)).trans ?_
  rw [pay2_at, sum_at, sum_at]
  have e0 : (((cfg0.win 5).blk t).view.emb (ix3 0 r k)) 0 = (⟨t / 8, by have := lt t; omega⟩ : Fin 2) := by
    ext
    blk_simp [idx t]
    rfl
  have e1 : (((cfg0.win 5).blk t).view.emb (ix3 0 r k)) 1 = (⟨t % 8 * 1024 + r, by omega⟩ : Fin 8192) := by
    ext
    blk_simp [idx t]
  have e2 : ((((cfg0.win 5).blk t).view.emb (ix3 0 r k)) 2 : ℕ) = k := by blk_simp [idx t]
  unfold Z
  simp only [e0, e1, e2]

theorem point6 (t : Fin cfg0.N) (y : S1x1024x256.Idx) :
    out0_6 (F := Ideal) (grid0.coords t) (B0 m c t) (B1 m c t) (B2 m c t) (B3 m c t) (B4 m c t) y = X m c (((cfg0.win 6).blk t).view.emb y) := by
  obtain ⟨r, k, rfl⟩ : ∃ (r : Fin 1024) (k : Fin 256), y = ix3 0 r k := ⟨y 1, y 2, by
    rw [eq_ix3 y]
    congr 1
    exact Subsingleton.elim (α := Fin 1) _ _⟩
  unfold out0_6
  refine (congrFun (View.canon_unit_zero (S := S1x1024x256) (by decide) inb_S1x1024x256_S1x1024x256_0_0_0 _) (ix3 0 r k)).trans ?_
  rw [pay3_at, sum_at]
  have e0 : (((cfg0.win 6).blk t).view.emb (ix3 0 r k)) 0 = (⟨t / 8, by have := lt t; omega⟩ : Fin 2) := by
    ext
    blk_simp [idx t]
    rfl
  have e1 : (((cfg0.win 6).blk t).view.emb (ix3 0 r k)) 1 = (⟨t % 8 * 1024 + r, by omega⟩ : Fin 8192) := by
    ext
    blk_simp [idx t]
  have e2 : ((((cfg0.win 6).blk t).view.emb (ix3 0 r k)) 2 : ℕ) = k := by blk_simp [idx t]
  unfold X
  simp only [e0, e1, e2]

/-- The kernel's first result array: the convolution's second third times its first. -/
theorem final5 : (dats m 0 c).arrAt 5 (cfgs 0).N = Z m c := by
  refine (dats m 0 c).arrAt_eq_of_covers 5 _ (by decide +kernel) fun t _ y => ?_
  blk_simp
  rw [after0_5]
  exact point5 m c t y

/-- The kernel's second result array: the convolution's last third. -/
theorem final6 : (dats m 0 c).arrAt 6 (cfgs 0).N = X m c := by
  refine (dats m 0 c).arrAt_eq_of_covers 6 _ (by decide +kernel) fun t _ y => ?_
  blk_simp
  rw [after0_6]
  exact point6 m c t y

end Cert.P8

end
-- ==== Proof.P8Ref.lean ====
/- The short convolution's gate of layer 1 as the reference computes it, read at a batch, a row and a column. -/
module

public import proofs.«01_k».proof.Proof.Tap
public import proofs.«01_k».proof.Proof.Gen.Reference8Ideal.Run
public import Idealize.ShloMosaic.Lib.KernelVsHost

@[expose] public section

set_option maxRecDepth 16384

noncomputable section

namespace Cert.P8.Ref

open Cert.Reference8Ideal Cert.Reference8Ideal.Gen Cert.Reference8Ideal.Value Idealize.ShloMosaic Idealize.ShloMosaic.TcCoe
open Idealize.SL.Sem Idealize.ShloMosaic.StableHlo Cert.Rows

variable (V0 : Valuation τ sig (Elt Ideal))

/-- The reference's argument 0. -/
abbrev A0 : FVec Ideal S2x8192x768 .f32 := V0 (Proc.devRef .tc main_arg0)

/-- The reference's argument 1. -/
abbrev A1 : FVec Ideal S2x3x768 .f32 := V0 (Proc.devRef .tc main_arg1)

/-- The reference's argument 2. -/
abbrev A2 : FVec Ideal S2x768 .f32 := V0 (Proc.devRef .tc main_arg2)

/-- Argument 0 with a row of zeros before its first and after its last. -/
def padded : FVec Ideal S2x8194x768 .f32 := pad S2x8194x768 ![0, 1, 0] ![0, 1, 0] ![0, 0, 0] (A0 V0) (sitofp .f32 (constantI S_ 32 0#32)) pads_S2x8192x768_S2x8194x768_000_110_000 h_S_

/-- The short convolution. -/
def conv : FVec Ideal S2x8192x768 .f32 := addf (addf (addf (mulf (extractStridedSlice S2x8192x768 ![0, 0, 0] (padded V0) slices_S2x8194x768_S2x8192x768_0_0_0) (broadcastInDim S2x8192x768 ![0, 1, 2] bcast_S1x1x768_S2x8192x768_0_1_2 (broadcastInDim S1x1x768 ![2] bcast_S768_S1x1x768_2 (shapeCast _ (extractStridedSlice S1x768 ![0, 0] (shapeCast _ (extractStridedSlice S1x3x768 ![1, 0, 0] (A1 V0) slices_S2x3x768_S1x3x768_1_0_0) shapeCasts_S1x3x768_S3x768) slices_S3x768_S1x768_0_0) shapeCasts_S1x768_S768)))) (mulf (extractStridedSlice S2x8192x768 ![0, 1, 0] (padded V0) slices_S2x8194x768_S2x8192x768_0_1_0) (broadcastInDim S2x8192x768 ![0, 1, 2] bcast_S1x1x768_S2x8192x768_0_1_2 (broadcastInDim S1x1x768 ![2] bcast_S768_S1x1x768_2 (shapeCast _ (extractStridedSlice S1x768 ![1, 0] (shapeCast _ (extractStridedSlice S1x3x768 ![1, 0, 0] (A1 V0) slices_S2x3x768_S1x3x768_1_0_0) shapeCasts_S1x3x768_S3x768) slices_S3x768_S1x768_1_0) shapeCasts_S1x768_S768))))) (mulf (extractStridedSlice S2x8192x768 ![0, 2, 0] (padded V0) slices_S2x8194x768_S2x8192x768_0_2_0) (broadcastInDim S2x8192x768 ![0, 1, 2] bcast_S1x1x768_S2x8192x768_0_1_2 (broadcastInDim S1x1x768 ![2] bcast_S768_S1x1x768_2 (shapeCast _ (extractStridedSlice S1x768 ![2, 0] (shapeCast _ (extractStridedSlice S1x3x768 ![1, 0, 0] (A1 V0) slices_S2x3x768_S1x3x768_1_0_0) shapeCasts_S1x3x768_S3x768) slices_S3x768_S1x768_2_0) shapeCasts_S1x768_S768))))) (broadcastInDim S2x8192x768 ![0, 1, 2] bcast_S1x1x768_S2x8192x768_0_1_2 (broadcastInDim S1x1x768 ![2] bcast_S768_S1x1x768_2 (shapeCast _ (extractStridedSlice S1x768 ![1, 0] (A2 V0) slices_S2x768_S1x768_1_0) shapeCasts_S1x768_S768)))

/-- The reference's first result. -/
def o0 : FVec Ideal S2x8192x256 .f32 := mulf (extractStridedSlice S2x8192x256 ![0, 0, 256] (conv V0) slices_S2x8192x768_S2x8192x256_0_0_256) (extractStridedSlice S2x8192x256 ![0, 0, 0] (conv V0) slices_S2x8192x768_S2x8192x256_0_0_0)

/-- The reference's second result. -/
def o1 : FVec Ideal S2x8192x256 .f32 := extractStridedSlice S2x8192x256 ![0, 0, 512] (conv V0) slices_S2x8192x768_S2x8192x256_0_0_512

/-- Row `s + 1` of the padded array is row `s` of the argument. -/
theorem padded_mid (b : Fin 2) (s : Fin 8192) (k : Fin 768) (e : Fin 8194) (h : (e : ℕ) = s + 1) : padded V0 (ix3 b e k) = A0 V0 (ix3 b s k) := by
  unfold padded
  refine pad_apply_of_inside _ _ _ _ _ _ _ _ _ fun a => ?_
  fin_cases a
  · show (b : ℕ) = 0 + b * 1
    omega
  · show (e : ℕ) = 1 + s * 1
    omega
  · show (k : ℕ) = 0 + k * 1
    omega

/-- The padded array's first and last rows are zero. -/
theorem padded_edge (b : Fin 2) (k : Fin 768) (e : Fin 8194) (h : (e : ℕ) = 0 ∨ (e : ℕ) = 8193) : padded V0 (ix3 b e k) = 0 := by
  unfold padded
  refine (pad_apply_of_not_inside _ _ _ _ _ _ _ _ (1 : Fin 3) ?_).trans ?_
  · show ¬(1 ≤ (e : ℕ) ∧ ((e : ℕ) - 1) % 1 = 0 ∧ ((e : ℕ) - 1) / 1 < 8192)
    omega
  · pointwise []
    show ((((0#32 : BitVec 32).toInt : ℝ)) : EReal) = 0
    simp

/-- The convolution at a batch, a row and a column. -/
theorem conv_at (b : Fin 2) (s : Fin 8192) (k : Fin 768) : conv V0 (ix3 b s k) =
    tap (fun s => A0 V0 (ix3 b s k)) (A1 V0 (ix3 1 0 k)) (A1 V0 (ix3 1 1 k)) (A1 V0 (ix3 1 2 k)) (A2 V0 (ix2 1 k)) s := by
  have h : conv V0 (ix3 b s k) = padded V0 (ix3 b ⟨s, by omega⟩ k) * A1 V0 (ix3 1 0 k) + padded V0 (ix3 b ⟨s + 1, by omega⟩ k) * A1 V0 (ix3 1 1 k)
      + padded V0 (ix3 b ⟨s + 2, by omega⟩ k) * A1 V0 (ix3 1 2 k) + A2 V0 (ix2 1 k) := by
    pointwise [conv]
    simp only [Nat.add_comm]
  have e0 : padded V0 (ix3 b ⟨s, by omega⟩ k) = prev (fun s => A0 V0 (ix3 b s k)) s := by
    unfold prev
    by_cases hs : (s : ℕ) = 0
    · rw [dif_pos hs]
      exact padded_edge V0 b k _ (Or.inl hs)
    · rw [dif_neg hs]
      exact padded_mid V0 b _ k _ (by simp only; omega)
  have e2 : padded V0 (ix3 b ⟨s + 2, by omega⟩ k) = next (fun s => A0 V0 (ix3 b s k)) s := by
    unfold next
    by_cases hs : (s : ℕ) = 8191
    · rw [dif_pos hs]
      exact padded_edge V0 b k _ (Or.inr (by simp only; omega))
    · rw [dif_neg hs]
      exact padded_mid V0 b _ k _ (by simp only)
  rw [h, e0, e2, padded_mid V0 b s k ⟨s + 1, by omega⟩ rfl]
  rfl

theorem o0_at (b : Fin 2) (s : Fin 8192) (k : Fin 256) : o0 V0 (ix3 b s k) = conv V0 (ix3 b s ⟨256 + k, by omega⟩) * conv V0 (ix3 b s ⟨k, by omega⟩) := by
  pointwise [o0]

theorem o1_at (b : Fin 2) (s : Fin 8192) (k : Fin 256) : o1 V0 (ix3 b s k) = conv V0 (ix3 b s ⟨512 + k, by omega⟩) := by
  pointwise [o1]

end Cert.P8.Ref

end
-- ==== Proof.P8Bridge.lean ====
/- The short convolution's gate of layer 1: the kernel's arrays are the reference's results when the two programs' arguments agree. -/
module

public import proofs.«01_k».proof.Defs
public import proofs.«01_k».proof.Proof.Gen.Reference8Ideal
public import proofs.«01_k».proof.Proof.P8Final
public import proofs.«01_k».proof.Proof.P8Ref
public import Idealize.ShloMosaic.Lib.Claim
public import Idealize.ShloMosaic.Adequacy
public import Idealize.ShloMosaic.Init

@[expose] public section

set_option maxRecDepth 16384

noncomputable section

namespace Cert.P8

open Idealize.ShloMosaic Idealize.ShloMosaic.TcCoe Idealize.SL.Sem Cert.Kernel8Ideal Cert.Kernel8Ideal.Gen Cert.Rows

/-- The reference's first result is the kernel's first array. -/
theorem o0_eq (m : (ℓ : Loc nD τ sig) → Buf (Elt Ideal) ℓ) (c : Dev nD) (V0 : Valuation Cert.Reference8Ideal.τ Cert.Reference8Ideal.sig (Elt Ideal)) (h0 : Ref.A0 V0 = K0 m c) (h1 : Ref.A1 V0 = K1 m c) (h2 : Ref.A2 V0 = K2 m c) :
    Ref.o0 V0 = Z m c := by
  funext i
  obtain ⟨b, s, k, rfl⟩ : ∃ (b : Fin 2) (s : Fin 8192) (k : Fin 256), i = ix3 b s k := ⟨i 0, i 1, i 2, eq_ix3 i⟩
  rw [Ref.o0_at, Ref.conv_at, Ref.conv_at, h0, h1, h2]
  rfl

/-- The reference's second result is the kernel's second array. -/
theorem o1_eq (m : (ℓ : Loc nD τ sig) → Buf (Elt Ideal) ℓ) (c : Dev nD) (V0 : Valuation Cert.Reference8Ideal.τ Cert.Reference8Ideal.sig (Elt Ideal)) (h0 : Ref.A0 V0 = K0 m c) (h1 : Ref.A1 V0 = K1 m c) (h2 : Ref.A2 V0 = K2 m c) :
    Ref.o1 V0 = X m c := by
  funext i
  obtain ⟨b, s, k, rfl⟩ : ∃ (b : Fin 2) (s : Fin 8192) (k : Fin 256), i = ix3 b s k := ⟨i 0, i 1, i 2, eq_ix3 i⟩
  rw [Ref.o1_at, Ref.conv_at, h0, h1, h2]
  rfl

/-- The reference runs, leaves its arguments unchanged, and declares no semaphore. -/
theorem reference_frame : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The reference's run: its results are their definitions at the arguments, its arguments unchanged. -/
theorem reference_run (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩
      fun r => ∀ c : Dev Cert.Reference8Ideal.nD,
      r.2.mem ((c.tc : Thread Cert.Reference8Ideal.nD Cert.Reference8Ideal.τ).loc Cert.Reference8Ideal.main_v31) = Ref.o0 (StableHlo.launchContents m c)
      ∧ r.2.mem ((c.tc : Thread Cert.Reference8Ideal.nD Cert.Reference8Ideal.τ).loc Cert.Reference8Ideal.main_v30) = Ref.o1 (StableHlo.launchContents m c)
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2) :=
  Cert.Reference8Ideal.Value.run (F := Ideal) m g

/-- The kernel and the reference end with equal results over the extended reals. -/
theorem value : Cert.algebraic_Kernel8Ideal_Reference8Ideal (hKernel8Ideal := Cert.Kernel8Ideal.Gen.facts) (hReference8Ideal := Cert.Reference8Ideal.Gen.facts) := by
  intro m g m' g' _ hagree
  refine ⟨fun c => Z m c, fun c => X m c, ?_, ?_⟩
  · exact (θ_run _ _ _).mono (fun r h c => ⟨(h c).1.trans (final5 m c), (h c).2.1.trans (final6 m c), (h c).2.2⟩) (Cert.Kernel8Ideal.Value.run_blocks m g)
  · refine (θ_run _ _ _).mono (fun r h c => ?_) (reference_run m' g')
    obtain ⟨e0, e1, e2⟩ := hagree c
    exact ⟨(h c).1.trans (o0_eq m c (StableHlo.launchContents m' c) e0 e1 e2), (h c).2.1.trans (o1_eq m c (StableHlo.launchContents m' c) e0 e1 e2), (h c).2.2⟩

end Cert.P8

end
-- ==== Proof.FiltNet.lean ====
/- The long convolution's filter: the small network that makes it, and the kernel's form of it with two places side by side. -/
module

public import proofs.«01_k».proof.Proof.Rows

@[expose] public section

set_option maxRecDepth 16384

noncomputable section

namespace Cert.Rows

open Idealize.ShloMosaic

/-- One layer of the filter's network: the sine of the frequency times the affine map. -/
def layer {n m : ℕ} (v : Fin n → EReal) (w : Fin n → Fin m → EReal) (b f : Fin m → EReal) (k : Fin m) : EReal :=
  Ideal.sin (f k * (lin v w k + b k))

/-- One place of the filter: the network's last affine map, under the window that decays with the time `t`. -/
def wind (h : Fin 64 → EReal) (w : Fin 64 → Fin 512 → EReal) (t : EReal) (d : Fin 512 → EReal) (k : Fin 512) : EReal :=
  lin h w k * Ideal.exp ((0 - t) * (FloatOps.absf (F := Ideal) (φ := .f32) (d k) : EReal))

/-- A sum cut in two. -/
theorem sum_split {n a b : ℕ} (h : n = a + b) (f : Fin n → EReal) :
    ∑ k, f k = ∑ k : Fin a, f ⟨k, by omega⟩ + ∑ k : Fin b, f ⟨a + k, by omega⟩ := by
  subst h
  exact Fin.sum_univ_add f

/-- A sum whose second part vanishes. -/
theorem sum_lo {n a b : ℕ} (h : n = a + b) (f : Fin n → EReal) (hz : ∀ k : Fin b, f ⟨a + k, by omega⟩ = 0) :
    ∑ k, f k = ∑ k : Fin a, f ⟨k, by omega⟩ := by
  rw [sum_split h, Finset.sum_eq_zero (fun k _ => hz k), add_zero]

/-- A sum whose first part vanishes. -/
theorem sum_hi {n a b : ℕ} (h : n = a + b) (f : Fin n → EReal) (hz : ∀ k : Fin a, f ⟨k, by omega⟩ = 0) :
    ∑ k, f k = ∑ k : Fin b, f ⟨a + k, by omega⟩ := by
  rw [sum_split h, Finset.sum_eq_zero (fun k _ => hz k), zero_add]

/-- A matrix with two equal blocks on its diagonal. -/
def diag {N M a p : ℕ} (hN : N = a + a) (hM : M = p + p) (w : Fin a → Fin p → EReal) (k : Fin N) (k' : Fin M) : EReal :=
  if h : k.val < a then (if h' : k'.val < p then w ⟨k, h⟩ ⟨k', h'⟩ else 0)
  else (if h' : k'.val < p then 0 else w ⟨k - a, by omega⟩ ⟨k' - p, by omega⟩)

/-- The first half of a row times such a matrix. -/
theorem lin_diag_lo {N M a p : ℕ} (hN : N = a + a) (hM : M = p + p) (w : Fin a → Fin p → EReal) (v : Fin N → EReal) (k : Fin p) :
    lin v (diag hN hM w) ⟨k, by omega⟩ = lin (fun j : Fin a => v ⟨j, by omega⟩) w k := by
  unfold lin
  rw [sum_lo hN]
  · refine Finset.sum_congr rfl fun j _ => ?_
    unfold diag
    rw [dif_pos j.isLt, dif_pos k.isLt]
  · intro j
    unfold diag
    rw [dif_neg (by simp), dif_pos k.isLt, mul_zero]

/-- The second half of a row times such a matrix. -/
theorem lin_diag_hi {N M a p : ℕ} (hN : N = a + a) (hM : M = p + p) (w : Fin a → Fin p → EReal) (v : Fin N → EReal) (k : Fin p) :
    lin v (diag hN hM w) ⟨p + k, by omega⟩ = lin (fun j : Fin a => v ⟨a + j, by omega⟩) w k := by
  unfold lin
  rw [sum_hi hN]
  · refine Finset.sum_congr rfl fun j _ => ?_
    unfold diag
    rw [dif_neg (by simp), dif_neg (by simp)]
    congr 2
    · ext
      simp
    · ext
      simp
  · intro j
    unfold diag
    rw [dif_pos j.isLt, dif_neg (by simp), mul_zero]

/-- A vector twice side by side. -/
def twice {M p : ℕ} (hM : M = p + p) (b : Fin p → EReal) (k : Fin M) : EReal :=
  if h : k.val < p then b ⟨k, h⟩ else b ⟨k - p, by omega⟩

theorem twice_lo {M p : ℕ} (hM : M = p + p) (b : Fin p → EReal) (k : Fin p) : twice hM b ⟨k, by omega⟩ = b k := dif_pos k.isLt

theorem twice_hi {M p : ℕ} (hM : M = p + p) (b : Fin p → EReal) (k : Fin p) : twice hM b ⟨p + k, by omega⟩ = b k := by
  unfold twice
  rw [dif_neg (by simp)]
  congr 1
  ext
  simp

theorem layer_lo {N M a p : ℕ} (hN : N = a + a) (hM : M = p + p) (w : Fin a → Fin p → EReal) (b f : Fin p → EReal) (v : Fin N → EReal) :
    (fun k : Fin p => layer v (diag hN hM w) (twice hM b) (twice hM f) ⟨k, by omega⟩) = layer (fun j : Fin a => v ⟨j, by omega⟩) w b f := by
  funext k
  unfold layer
  rw [lin_diag_lo, twice_lo, twice_lo]

theorem layer_hi {N M a p : ℕ} (hN : N = a + a) (hM : M = p + p) (w : Fin a → Fin p → EReal) (b f : Fin p → EReal) (v : Fin N → EReal) :
    (fun k : Fin p => layer v (diag hN hM w) (twice hM b) (twice hM f) ⟨p + k, by omega⟩) = layer (fun j : Fin a => v ⟨a + j, by omega⟩) w b f := by
  funext k
  unfold layer
  rw [lin_diag_hi, twice_hi, twice_hi]

/-- The features of a place with zeros behind them. -/
def padv (z : Fin 33 → EReal) (k : Fin 128) : EReal := if h : k.val < 33 then z ⟨k, h⟩ else 0

/-- A matrix with rows of zeros below it. -/
def padm (w : Fin 33 → Fin 64 → EReal) (k : Fin 128) (k' : Fin 64) : EReal := if h : k.val < 33 then w ⟨k, h⟩ k' else 0

theorem lin_pad (z : Fin 33 → EReal) (w : Fin 33 → Fin 64 → EReal) : lin (padv z) (padm w) = lin z w := by
  funext k
  unfold lin
  rw [sum_lo (a := 33) (b := 95) rfl]
  · refine Finset.sum_congr rfl fun j _ => ?_
    unfold padv padm
    rw [dif_pos j.isLt, dif_pos j.isLt]
  · intro j
    unfold padv
    rw [dif_neg (by simp), zero_mul]

/-- The network's last hidden layer at a place. -/
def net (z : Fin 33 → EReal) (w1 : Fin 33 → Fin 64 → EReal) (b1 : Fin 64 → EReal) (w2 : Fin 64 → Fin 64 → EReal) (b2 : Fin 64 → EReal)
    (w3 : Fin 64 → Fin 64 → EReal) (b3 f : Fin 64 → EReal) : Fin 64 → EReal :=
  layer (layer (layer z w1 b1 f) w2 b2 f) w3 b3 f

/-- The same network on two places side by side. -/
def net2 (za zb : Fin 33 → EReal) (w1 : Fin 33 → Fin 64 → EReal) (b1 : Fin 64 → EReal) (w2 : Fin 64 → Fin 64 → EReal) (b2 : Fin 64 → EReal)
    (w3 : Fin 64 → Fin 64 → EReal) (b3 f : Fin 64 → EReal) : Fin 128 → EReal :=
  layer (layer (layer (fun k : Fin 256 => if h : k.val < 128 then padv za ⟨k, h⟩ else padv zb ⟨k - 128, by omega⟩)
    (diag (N := 256) (M := 128) (a := 128) (p := 64) rfl rfl (padm w1)) (twice (M := 128) (p := 64) rfl b1) (twice (M := 128) (p := 64) rfl f))
    (diag (N := 128) (M := 128) (a := 64) (p := 64) rfl rfl w2) (twice (M := 128) (p := 64) rfl b2) (twice (M := 128) (p := 64) rfl f))
    (diag (N := 128) (M := 128) (a := 64) (p := 64) rfl rfl w3) (twice (M := 128) (p := 64) rfl b3) (twice (M := 128) (p := 64) rfl f)

theorem layer_pad (z : Fin 33 → EReal) (w1 : Fin 33 → Fin 64 → EReal) (b f : Fin 64 → EReal) : layer (padv z) (padm w1) b f = layer z w1 b f := by
  funext k
  unfold layer
  rw [lin_pad]

variable (za zb : Fin 33 → EReal) (w1 : Fin 33 → Fin 64 → EReal) (b1 : Fin 64 → EReal) (w2 : Fin 64 → Fin 64 → EReal) (b2 : Fin 64 → EReal)
    (w3 : Fin 64 → Fin 64 → EReal) (b3 f : Fin 64 → EReal)

theorem net2_lo : (fun j : Fin 64 => net2 za zb w1 b1 w2 b2 w3 b3 f ⟨j, by omega⟩) = net za w1 b1 w2 b2 w3 b3 f := by
  unfold net2 net
  rw [layer_lo, layer_lo, layer_lo, ← layer_pad]
  congr 3
  funext j
  exact dif_pos j.isLt

theorem net2_hi : (fun j : Fin 64 => net2 za zb w1 b1 w2 b2 w3 b3 f ⟨64 + j, by omega⟩) = net zb w1 b1 w2 b2 w3 b3 f := by
  unfold net2 net
  rw [layer_hi, layer_hi, layer_hi, ← layer_pad]
  congr 3
  funext j
  rw [dif_neg (by simp)]
  congr 1
  ext
  simp

/-- The filter before the window, first half of the columns. -/
theorem out_lo (w4 : Fin 64 → Fin 512 → EReal) (k : Fin 512) :
    lin (net2 za zb w1 b1 w2 b2 w3 b3 f) (diag (N := 128) (M := 1024) (a := 64) (p := 512) rfl rfl w4) ⟨k, by omega⟩ = lin (net za w1 b1 w2 b2 w3 b3 f) w4 k := by
  rw [lin_diag_lo, net2_lo]

/-- The filter before the window, second half of the columns. -/
theorem out_hi (w4 : Fin 64 → Fin 512 → EReal) (k : Fin 512) :
    lin (net2 za zb w1 b1 w2 b2 w3 b3 f) (diag (N := 128) (M := 1024) (a := 64) (p := 512) rfl rfl w4) ⟨512 + k, by omega⟩ = lin (net zb w1 b1 w2 b2 w3 b3 f) w4 k := by
  rw [lin_diag_hi, net2_hi]

end Cert.Rows

end
-- ==== Proof.P9Pay.lean ====
/- The long convolution's filter: the payloads of the kernel's body, read at a row and a column. -/
module

public import proofs.«01_k».proof.Proof.FiltNet
public import proofs.«01_k».proof.Proof.Gen.Kernel9Ideal.Value
public import Idealize.ShloMosaic.Lib.Affine
public import Idealize.ShloMosaic.Lib.DynamicIndex

@[expose] public section

set_option maxRecDepth 16384

noncomputable section

namespace Cert.P9

open Idealize.ShloMosaic Idealize.ShloMosaic.TcCoe Cert.Kernel9Ideal Cert.Kernel9Ideal.Gen Cert.Rows

theorem pay6_at (v0 : FVec Ideal S1024x256 .f32) (v2 : FVec Ideal S1x128 .f32) (v4 : FVec Ideal S256x128 .f32) (v7 : FVec Ideal S1x128 .f32)
    (v14 : FVec Ideal S128x128 .f32) (v17 : FVec Ideal S1x128 .f32) (v24 : FVec Ideal S128x128 .f32) (v27 : FVec Ideal S1x128 .f32)
    (r : Fin 1024) (k : Fin 128) :
    k0_pay6 (F := Ideal) v0 v2 v4 v7 v14 v17 v24 v27 (ix2 r k) =
      layer (layer (layer (fun j => v0 (ix2 r j)) (fun j k => v4 (ix2 j k)) (fun k => v7 (ix2 0 k)) (fun k => v2 (ix2 0 k)))
        (fun j k => v14 (ix2 j k)) (fun k => v17 (ix2 0 k)) (fun k => v2 (ix2 0 k)))
        (fun j k => v24 (ix2 j k)) (fun k => v27 (ix2 0 k)) (fun k => v2 (ix2 0 k)) k := by
  unfold layer lin
  pointwise [k0_pay6, k0_pay5]

theorem pay4_at (v1 : FVec Ideal S1024x256 .f32) (v34 : FVec Ideal S1024x128 .bf16) (v36 : FVec Ideal S128x1024 .bf16) (v38 : FVec Ideal S1x512 .f32)
    (r : Fin 1024) (k : Fin 512) :
    k0_pay4 (F := Ideal) v1 v34 v36 (constant S1024x1024 .f32 0x00000000#32) v38 (ix3 0 r k) =
      lin (fun j => v34 (ix2 r j)) (fun j k => v36 (ix2 j k)) (⟨512 + k, by omega⟩ : Fin 1024) * Ideal.exp ((0 - v1 (ix2 r 128)) * (FloatOps.absf (F := Ideal) (v38 (ix2 0 k) : Ideal .f32) : EReal)) := by
  unfold lin
  pointwise [k0_pay4, k0_pay1, k0_pay2]

theorem pay5_at (x : FVec Ideal S1024x256 .f32) (r : Fin 1024) (k : Fin 256) : k0_pay5 (F := Ideal) x (ix2 r k) = x (ix2 r k) := by
  pointwise [k0_pay5]

theorem pay7_at (x : FVec Ideal S128x1024 .bf16) (r : Fin 128) (k : Fin 1024) : k0_pay7 (F := Ideal) x (ix2 r k) = x (ix2 r k) := by
  pointwise [k0_pay7]

theorem pay3_at (a : ℕ) (ha : a < 4) (v1 : FVec Ideal S1024x256 .f32) (v34 : FVec Ideal S1024x128 .bf16) (v36 : FVec Ideal S128x1024 .bf16) (v38 : FVec Ideal S1x512 .f32)
    (r : Fin 1024) (k : Fin 512) :
    k0_pay3 (F := Ideal) (BitVec.ofNat 32 a) v1 v34 v36 (constant S1024x1024 .f32 0x00000000#32) v38 (ix3 0 r k) =
      if a * 1024 + r.val = 0 ∧ 256 ≤ k.val then (0 : EReal) else
      lin (fun j => v34 (ix2 r j)) (fun j k => v36 (ix2 j k)) (⟨k, by omega⟩ : Fin 1024) * Ideal.exp ((0 - v1 (ix2 r 0)) * (FloatOps.absf (F := Ideal) (v38 (ix2 0 k) : Ideal .f32) : EReal)) := by
  unfold lin
  pointwise [k0_pay3, k0_pay1, k0_pay2]
  have hr := r.isLt
  have hk := k.isLt
  have e : IntOp.andi (IntOp.cmpi CmpIPredicate.eq (IntOp.addi (Scalar.muli (BitVec.ofNat 32 a) 1024#32) (BitVec.ofNat 32 r)) 0#32)
      (IntOp.cmpi CmpIPredicate.sge (BitVec.ofNat 32 k) 256#32) = 1#1 ↔ a * 1024 + r.val = 0 ∧ 256 ≤ k.val := by
    have e1 : IntOp.cmpi CmpIPredicate.eq (IntOp.addi (Scalar.muli (BitVec.ofNat 32 a) 1024#32) (BitVec.ofNat 32 r)) 0#32 = 1#1 ↔ a * 1024 + r.val = 0 := by
      refine IntOp.cmpi_eq.trans ⟨fun h => ?_, fun h => ?_⟩
      · have := congrArg BitVec.toNat h
        simp only [IntOp.addi, Scalar.muli, IntOp.muli, BitVec.toNat_add, BitVec.toNat_mul, BitVec.toNat_ofNat] at this
        omega
      · have h1 : a = 0 := by omega
        have h2 : (r : ℕ) = 0 := by omega
        rw [h1, h2]
        rfl
    have e2 : IntOp.cmpi CmpIPredicate.sge (BitVec.ofNat 32 k) 256#32 = 1#1 ↔ 256 ≤ k.val := by
      refine IntOp.cmpi_sge.trans ?_
      rw [toInt_ofNat_of_lt (by omega : (k : ℕ) < 2 ^ 31), toInt_ofNat_of_lt (by omega : 256 < 2 ^ 31)]
      omega
    rw [← e1, ← e2]
    generalize IntOp.cmpi CmpIPredicate.eq _ _ = x
    generalize IntOp.cmpi CmpIPredicate.sge _ _ = y
    revert x y
    decide
  by_cases h : a * 1024 + r.val = 0 ∧ 256 ≤ k.val
  · rw [if_pos h]
    exact if_pos (e.mpr h)
  · rw [if_neg h]
    exact if_neg (fun g => h (e.mp g))

end Cert.P9

end
-- ==== Proof.P9Args.lean ====
/- The long convolution's filter of layer 0: the kernel's arguments, its blocks and the features of the places. -/
module

public import proofs.«01_k».proof.Proof.Gen.Kernel9Ideal.Value
public import proofs.«01_k».proof.Proof.FiltNet
public import Idealize.ShloMosaic.Lib.Pipeline.ValueKit
public import Idealize.ShloMosaic.Lib.KernelVsHost
public import Idealize.ShloMosaic.Lib.StableHlo.RunRead

@[expose] public section

set_option maxRecDepth 16384

noncomputable section

namespace Cert.P9

open Idealize.ShloMosaic Idealize.ShloMosaic.TcCoe Idealize.SL.Sem Idealize.ShloMosaic.StableHlo Cert.Kernel9Ideal Cert.Kernel9Ideal.Gen Cert.Rows

/-- The time of each place, from 0 to 1. -/
def tcol : FVec Ideal S8192x1 .f32 := broadcastInDim S8192x1 ![0] bcast_S8192_S8192x1_0 (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)

/-- The features of each place: the time, the cosines and the negated sines of the bands. -/
def feat : FVec Ideal S8192x33 .f32 := concatenate S8192x33 1 [⟨S8192x1, (tcol : FVec Ideal S8192x1 .f32)⟩, ⟨S8192x16, ((Host.cos (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0))))) : FVec Ideal S8192x16 .f32)⟩, ⟨S8192x16, ((Host.negf (Host.sin (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)))))) : FVec Ideal S8192x16 .f32)⟩] concatenates_S8192x1_S8192x16_S8192x16_S8192x33_d1

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, t.val, 0] ∧ t.val < 4 :=
  (by decide +kernel : ∀ t : Fin grid0.N, _)

theorem lt (t : Fin cfg0.N) : t.val < 4 := (idx t).2.2.2.2.2.2.2.2.2.2.2

/-- Window 0's block at a grid point. -/
abbrev B0 (t : Fin cfg0.N) : FVec Ideal S1024x256 .f32 := iblk m c 0 t

/-- Window 1's block at a grid point. -/
abbrev B1 (t : Fin cfg0.N) : FVec Ideal S256x128 .f32 := iblk m c 1 t

/-- Window 2's block at a grid point. -/
abbrev B2 (t : Fin cfg0.N) : FVec Ideal S1x128 .f32 := iblk m c 2 t

/-- Window 3's block at a grid point. -/
abbrev B3 (t : Fin cfg0.N) : FVec Ideal S128x128 .f32 := iblk m c 3 t

/-- Window 4's block at a grid point. -/
abbrev B4 (t : Fin cfg0.N) : FVec Ideal S1x128 .f32 := iblk m c 4 t

/-- Window 5's block at a grid point. -/
abbrev B5 (t : Fin cfg0.N) : FVec Ideal S128x128 .f32 := iblk m c 5 t

/-- Window 6's block at a grid point. -/
abbrev B6 (t : Fin cfg0.N) : FVec Ideal S1x128 .f32 := iblk m c 6 t

/-- Window 7's block at a grid point. -/
abbrev B7 (t : Fin cfg0.N) : FVec Ideal S128x1024 .bf16 := iblk m c 7 t

/-- Window 8's block at a grid point. -/
abbrev B8 (t : Fin cfg0.N) : FVec Ideal S1x128 .f32 := iblk m c 8 t

/-- Window 9's block at a grid point. -/
abbrev B9 (t : Fin cfg0.N) : FVec Ideal S1x512 .f32 := iblk m c 9 t

/-- The kernel's argument 0. -/
abbrev K0 : FVec Ideal S2x33x64 .f32 := m ((c : Thread nD τ).loc main_arg0)

/-- The kernel's argument 1. -/
abbrev K1 : FVec Ideal S2x64 .f32 := m ((c : Thread nD τ).loc main_arg1)

/-- The kernel's argument 2. -/
abbrev K2 : FVec Ideal S2x64x64 .f32 := m ((c : Thread nD τ).loc main_arg2)

/-- The kernel's argument 3. -/
abbrev K3 : FVec Ideal S2x64 .f32 := m ((c : Thread nD τ).loc main_arg3)

/-- The kernel's argument 4. -/
abbrev K4 : FVec Ideal S2x64x64 .f32 := m ((c : Thread nD τ).loc main_arg4)

/-- The kernel's argument 5. -/
abbrev K5 : FVec Ideal S2x64 .f32 := m ((c : Thread nD τ).loc main_arg5)

/-- The kernel's argument 6. -/
abbrev K6 : FVec Ideal S2x64x512 .f32 := m ((c : Thread nD τ).loc main_arg6)

/-- The kernel's argument 7. -/
abbrev K7 : FVec Ideal S2x64 .f32 := m ((c : Thread nD τ).loc main_arg7)

/-- The kernel's argument 8. -/
abbrev K8 : FVec Ideal S2x512 .f32 := m ((c : Thread nD τ).loc main_arg8)

end Cert.P9

end
-- ==== Proof.P9Feat.lean ====
/- The long convolution's filter of layer 0: the kernel's features, with zeros behind them and two places side by side. -/
module

public import proofs.«01_k».proof.Proof.P9Args

@[expose] public section

set_option maxRecDepth 16384

noncomputable section

namespace Cert.P9

open Idealize.ShloMosaic Idealize.ShloMosaic.TcCoe Idealize.SL.Sem Idealize.ShloMosaic.StableHlo Cert.Kernel9Ideal Cert.Kernel9Ideal.Gen Cert.Rows

variable (m : (ℓ : Loc nD τ sig) → Buf (Elt Ideal) ℓ) (c : Dev nD)

/-- The features as the kernel's operands are computed. -/
theorem cat (n : Fin 8192) (j : Fin 33) : concatenate S8192x33 1 [⟨S8192x1, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v1)⟩, ⟨S8192x16, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v11)⟩, ⟨S8192x16, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v13)⟩] concatenates_S8192x1_S8192x16_S8192x16_S8192x33_d1 (ix2 n j) = feat (ix2 n j) := by
  pointwise [feat, tcol]
  after_reads_simp
  pointwise
  try simp only [TRef.toBuf, TRef.ofBuf, cast_eq]
  try pointwise
  try after_reads_simp
  try pointwise
  try simp only [TRef.toBuf, TRef.ofBuf, cast_eq]
  try pointwise

theorem pad_cols (x : FVec Ideal S8192x33 .f32) (n : Fin 8192) (j : Fin 128) :
    pad S8192x128 ![0, 0] ![0, 95] ![0, 0] x (sitofp .f32 (constantI S_ 32 0#32)) pads_S8192x33_S8192x128_000_0950 h_S_ (ix2 n j) = padv (fun j => x (ix2 n j)) j := by
  pointwise
  unfold padv
  have e : (FloatOps.sitofp (F := Ideal) .f32 (0#32) : EReal) = 0 := by
    show ((((0#32 : BitVec 32).toInt : ℝ)) : EReal) = 0
    simp
  rw [e]

theorem v18 (k : Fin 4096) (k' : Fin 256) : (V m c main_v18 : FVec Ideal S4096x256 .f32) (ix2 k k') =
    if h : k'.val < 128 then padv (fun j => feat (ix2 ⟨k, by omega⟩ j)) ⟨k', h⟩ else padv (fun j => feat (ix2 ⟨4096 + k, by omega⟩ j)) ⟨k' - 128, by omega⟩ := by
  simp only [V, List.flatten_cons, List.flatten_nil, List.append_nil]
  after_reads_simp
  pointwise
  try after_reads_simp
  pointwise
  simp only [TRef.toBuf, TRef.ofBuf, cast_eq]
  simp only [pad_cols]
  split
  · exact congrFun (congrArg padv (funext (cat m c _))) _
  · exact congrFun (congrArg padv (funext (cat m c _))) _

end Cert.P9

end
-- ==== Proof.P9Win.lean ====
/- The long convolution's filter of layer 0: the weights as the kernel's operands hold them. -/
module

public import proofs.«01_k».proof.Proof.P9Args

@[expose] public section

set_option maxRecDepth 16384

noncomputable section

namespace Cert.P9

open Idealize.ShloMosaic Idealize.ShloMosaic.TcCoe Idealize.SL.Sem Idealize.ShloMosaic.StableHlo Cert.Kernel9Ideal Cert.Kernel9Ideal.Gen Cert.Rows

variable (m : (ℓ : Loc nD τ sig) → Buf (Elt Ideal) ℓ) (c : Dev nD)

theorem pad_rows (x : FVec Ideal S33x64 .f32) (k : Fin 128) (k' : Fin 64) :
    pad S128x64 ![0, 0] ![95, 0] ![0, 0] x (sitofp .f32 (constantI S_ 32 0#32)) pads_S33x64_S128x64_0950_000 h_S_ (ix2 k k') = padm (fun j k => x (ix2 j k)) k k' := by
  pointwise
  unfold padm
  have e : (FloatOps.sitofp (F := Ideal) .f32 (0#32) : EReal) = 0 := by
    show ((((0#32 : BitVec 32).toInt : ℝ)) : EReal) = 0
    simp
  rw [e]

theorem v41 (k : Fin 256) (k' : Fin 128) : (V m c main_v41 : FVec Ideal S256x128 .f32) (ix2 k k') = diag (a := 128) (p := 64) rfl rfl (padm (fun j k => K0 m c (ix3 0 j k))) k k' := by
  unfold diag
  simp only [V, List.flatten_cons, List.flatten_nil, List.append_nil]
  after_reads_simp
  pointwise
  try after_reads_simp
  pointwise
  simp only [TRef.toBuf, TRef.ofBuf, cast_eq]
  simp only [pad_rows]
  try rfl

theorem v43 (k : Fin 128) : (V m c main_v43 : FVec Ideal S1x128 .f32) (ix2 0 k) = twice (p := 64) rfl (fun k => K1 m c (ix2 0 k)) k := by
  unfold twice
  simp only [V, List.flatten_cons, List.flatten_nil, List.append_nil]
  after_reads_simp
  pointwise
  try after_reads_simp
  pointwise

theorem v47 (k : Fin 128) (k' : Fin 128) : (V m c main_v47 : FVec Ideal S128x128 .f32) (ix2 k k') = diag (a := 64) (p := 64) rfl rfl (fun j k => K2 m c (ix3 0 j k)) k k' := by
  unfold diag
  simp only [V, List.flatten_cons, List.flatten_nil, List.append_nil]
  after_reads_simp
  pointwise
  try after_reads_simp
  pointwise

theorem v49 (k : Fin 128) : (V m c main_v49 : FVec Ideal S1x128 .f32) (ix2 0 k) = twice (p := 64) rfl (fun k => K3 m c (ix2 0 k)) k := by
  unfold twice
  simp only [V, List.flatten_cons, List.flatten_nil, List.append_nil]
  after_reads_simp
  pointwise
  try after_reads_simp
  pointwise

theorem v53 (k : Fin 128) (k' : Fin 128) : (V m c main_v53 : FVec Ideal S128x128 .f32) (ix2 k k') = diag (a := 64) (p := 64) rfl rfl (fun j k => K4 m c (ix3 0 j k)) k k' := by
  unfold diag
  simp only [V, List.flatten_cons, List.flatten_nil, List.append_nil]
  after_reads_simp
  pointwise
  try after_reads_simp
  pointwise

theorem v55 (k : Fin 128) : (V m c main_v55 : FVec Ideal S1x128 .f32) (ix2 0 k) = twice (p := 64) rfl (fun k => K5 m c (ix2 0 k)) k := by
  unfold twice
  simp only [V, List.flatten_cons, List.flatten_nil, List.append_nil]
  after_reads_simp
  pointwise
  try after_reads_simp
  pointwise

theorem v60 (k : Fin 128) (k' : Fin 1024) : (V m c main_v60 : FVec Ideal S128x1024 .bf16) (ix2 k k') = diag (a := 64) (p := 512) rfl rfl (fun j k => K6 m c (ix3 0 j k)) k k' := by
  unfold diag
  simp only [V, List.flatten_cons, List.flatten_nil, List.append_nil]
  after_reads_simp
  pointwise
  try after_reads_simp
  pointwise

theorem v62 (k : Fin 128) : (V m c main_v62 : FVec Ideal S1x128 .f32) (ix2 0 k) = twice (p := 64) rfl (fun k => K7 m c (ix2 0 k)) k := by
  unfold twice
  simp only [V, List.flatten_cons, List.flatten_nil, List.append_nil]
  after_reads_simp
  pointwise
  try after_reads_simp
  pointwise

theorem v63 (k : Fin 512) : (V m c main_v63 : FVec Ideal S1x512 .f32) (ix2 0 k) = K8 m c (ix2 0 k) := by
  simp only [V, List.flatten_cons, List.flatten_nil, List.append_nil]
  after_reads_simp
  pointwise

end Cert.P9

end
-- ==== Proof.P9Blk.lean ====
/- The long convolution's filter of layer 0: the blocks of the kernel's operands. -/
module

public import proofs.«01_k».proof.Proof.P9Args

@[expose] public section

set_option maxRecDepth 16384

noncomputable section

namespace Cert.P9

open Idealize.ShloMosaic Idealize.ShloMosaic.TcCoe Idealize.SL.Sem Idealize.ShloMosaic.StableHlo Cert.Kernel9Ideal Cert.Kernel9Ideal.Gen Cert.Rows

variable (m : (ℓ : Loc nD τ sig) → Buf (Elt Ideal) ℓ) (c : Dev nD)

theorem b0 (t : Fin cfg0.N) (k : Fin 1024) (k' : Fin 256) : B0 m c t (ix2 k k') = (V m c main_v18 : FVec Ideal S4096x256 .f32) (ix2 ⟨t * 1024 + k, by have := lt t; omega⟩ k') := by
  blk_ext [iblk, idx t]

theorem b1 (t : Fin cfg0.N) (k : Fin 256) (k' : Fin 128) : B1 m c t (ix2 k k') = (V m c main_v41 : FVec Ideal S256x128 .f32) (ix2 k k') := by
  blk_ext [iblk, idx t]

theorem b2 (t : Fin cfg0.N) (k : Fin 1) (k' : Fin 128) : B2 m c t (ix2 k k') = (V m c main_v43 : FVec Ideal S1x128 .f32) (ix2 k k') := by
  blk_ext [iblk, idx t]

theorem b3 (t : Fin cfg0.N) (k : Fin 128) (k' : Fin 128) : B3 m c t (ix2 k k') = (V m c main_v47 : FVec Ideal S128x128 .f32) (ix2 k k') := by
  blk_ext [iblk, idx t]

theorem b4 (t : Fin cfg0.N) (k : Fin 1) (k' : Fin 128) : B4 m c t (ix2 k k') = (V m c main_v49 : FVec Ideal S1x128 .f32) (ix2 k k') := by
  blk_ext [iblk, idx t]

theorem b5 (t : Fin cfg0.N) (k : Fin 128) (k' : Fin 128) : B5 m c t (ix2 k k') = (V m c main_v53 : FVec Ideal S128x128 .f32) (ix2 k k') := by
  blk_ext [iblk, idx t]

theorem b6 (t : Fin cfg0.N) (k : Fin 1) (k' : Fin 128) : B6 m c t (ix2 k k') = (V m c main_v55 : FVec Ideal S1x128 .f32) (ix2 k k') := by
  blk_ext [iblk, idx t]

theorem b7 (t : Fin cfg0.N) (k : Fin 128) (k' : Fin 1024) : B7 m c t (ix2 k k') = (V m c main_v60 : FVec Ideal S128x1024 .bf16) (ix2 k k') := by
  blk_ext [iblk, idx t]

theorem b8 (t : Fin cfg0.N) (k : Fin 1) (k' : Fin 128) : B8 m c t (ix2 k k') = (V m c main_v62 : FVec Ideal S1x128 .f32) (ix2 k k') := by
  blk_ext [iblk, idx t]

theorem b9 (t : Fin cfg0.N) (k : Fin 1) (k' : Fin 512) : B9 m c t (ix2 k k') = (V m c main_v63 : FVec Ideal S1x512 .f32) (ix2 k k') := by
  blk_ext [iblk, idx t]

end Cert.P9

end
-- ==== Proof.P9Final.lean ====
/- The long convolution's filter of layer 0: the result array of the kernel. -/
module

public import proofs.«01_k».proof.Proof.P9Pay
public import proofs.«01_k».proof.Proof.P9Feat
public import proofs.«01_k».proof.Proof.P9Win
public import proofs.«01_k».proof.Proof.P9Blk
public import Idealize.ShloMosaic.Lib.Claim

@[expose] public section

set_option maxRecDepth 16384

noncomputable section

namespace Cert.P9

open Idealize.ShloMosaic Idealize.ShloMosaic.TcCoe Idealize.SL.Sem Idealize.ShloMosaic.StableHlo Cert.Kernel9Ideal Cert.Kernel9Ideal.Gen Cert.Rows

variable (m : (ℓ : Loc nD τ sig) → Buf (Elt Ideal) ℓ) (c : Dev nD)

theorem coord : ∀ t : Fin cfg0.N, (grid0.coords t 0).val = t.val :=
  (by decide +kernel : ∀ t : Fin grid0.N, _)

theorem ld0 (x : FVec Ideal S1024x256 .f32) : View.ld (Val := Elt Ideal) (e' := .f32) x r0_0 = x := by
  funext i
  obtain ⟨q, k, rfl⟩ : ∃ (q : Fin 1024) (k : Fin 256), i = ix2 q k := ⟨i 0, i 1, eq_ix2 i⟩

  pointwise []

theorem ld1 (x : FVec Ideal S1x128 .f32) : View.ld (Val := Elt Ideal) (e' := .f32) x r0_1 = x := by
  funext i
  obtain ⟨q, k, rfl⟩ : ∃ (q : Fin 1) (k : Fin 128), i = ix2 q k := ⟨i 0, i 1, eq_ix2 i⟩
  obtain rfl : q = 0 := Subsingleton.elim _ _
  pointwise []

theorem ld2 (x : FVec Ideal S256x128 .f32) : View.ld (Val := Elt Ideal) (e' := .f32) x r0_2 = x := by
  funext i
  obtain ⟨q, k, rfl⟩ : ∃ (q : Fin 256) (k : Fin 128), i = ix2 q k := ⟨i 0, i 1, eq_ix2 i⟩

  pointwise []

theorem ld3 (x : FVec Ideal S128x128 .f32) : View.ld (Val := Elt Ideal) (e' := .f32) x r0_3 = x := by
  funext i
  obtain ⟨q, k, rfl⟩ : ∃ (q : Fin 128) (k : Fin 128), i = ix2 q k := ⟨i 0, i 1, eq_ix2 i⟩

  pointwise []

theorem ld4 (x : FVec Ideal S128x1024 .bf16) : View.ld (Val := Elt Ideal) (e' := .bf16) x r0_4 = x := by
  funext i
  obtain ⟨q, k, rfl⟩ : ∃ (q : Fin 128) (k : Fin 1024), i = ix2 q k := ⟨i 0, i 1, eq_ix2 i⟩

  pointwise []

theorem ld5 (x : FVec Ideal S1x512 .f32) : View.ld (Val := Elt Ideal) (e' := .f32) x r0_5 = x := by
  funext i
  obtain ⟨q, k, rfl⟩ : ∃ (q : Fin 1) (k : Fin 512), i = ix2 q k := ⟨i 0, i 1, eq_ix2 i⟩
  obtain rfl : q = 0 := Subsingleton.elim _ _
  pointwise []

/-- The features of place `n`. -/
def ft (n : Fin 8192) (j : Fin 33) : EReal := feat (ix2 n j)

/-- The filter of place `n` under its window. -/
def G (n : Fin 8192) (k : Fin 512) : EReal :=
  wind (net (ft n) (fun j k => K0 m c (ix3 0 j k)) (fun k => K1 m c (ix2 0 k)) (fun j k => K2 m c (ix3 0 j k)) (fun k => K3 m c (ix2 0 k)) (fun j k => K4 m c (ix3 0 j k)) (fun k => K5 m c (ix2 0 k)) (fun k => K7 m c (ix2 0 k))) (fun j k => K6 m c (ix3 0 j k)) (ft n 0) (fun k => K8 m c (ix2 0 k)) k

/-- The result, at every row of the array. -/
def Z : FVec Ideal S2x4096x512 .f32 := fun i =>
  if (i 0).val * 4096 + (i 1).val = 0 ∧ 256 ≤ (i 2).val then (0 : EReal)
  else G m c ⟨(i 0).val * 4096 + (i 1).val, by have h0 := (i 0).isLt; have h1 := (i 1).isLt; change _ < 2 at h0; change _ < 4096 at h1; omega⟩ (i 2)

/-- The place of a block's row in the first half. -/
abbrev na (t : Fin cfg0.N) (r : Fin 1024) : Fin 8192 := ⟨t * 1024 + r, by have := lt t; omega⟩

/-- The place of a block's row in the second half. -/
abbrev nb (t : Fin cfg0.N) (r : Fin 1024) : Fin 8192 := ⟨4096 + (t * 1024 + r), by have := lt t; omega⟩

/-- The last hidden layer of the kernel: the network on the two places. -/
theorem hid_at (t : Fin cfg0.N) (r : Fin 1024) : (fun k => k0_pay10 (F := Ideal) (grid0.coords t) (B0 m c t) (B1 m c t) (B2 m c t) (B3 m c t) (B4 m c t) (B5 m c t) (B6 m c t) (B7 m c t) (B8 m c t) (B9 m c t) (ix2 r k)) =
    net2 (ft (na t r)) (ft (nb t r)) (fun j k => K0 m c (ix3 0 j k)) (fun k => K1 m c (ix2 0 k)) (fun j k => K2 m c (ix3 0 j k)) (fun k => K3 m c (ix2 0 k)) (fun j k => K4 m c (ix3 0 j k)) (fun k => K5 m c (ix2 0 k)) (fun k => K7 m c (ix2 0 k)) := by
  have f0 : (fun j => B0 m c t (ix2 r j)) = fun k : Fin 256 => if h : k.val < 128 then padv (ft (na t r)) ⟨k, h⟩ else padv (ft (nb t r)) ⟨k - 128, by omega⟩ := by
    funext j
    rw [b0, v18]
    rfl
  have f1 : (fun j k => B1 m c t (ix2 j k)) = diag (N := 256) (M := 128) (a := 128) (p := 64) rfl rfl (padm (fun j k => K0 m c (ix3 0 j k))) := by
    funext j k
    rw [b1, v41]
  have f3 : (fun j k => B3 m c t (ix2 j k)) = diag (N := 128) (M := 128) (a := 64) (p := 64) rfl rfl (fun j k => K2 m c (ix3 0 j k)) := by
    funext j k
    rw [b3, v47]
  have f5 : (fun j k => B5 m c t (ix2 j k)) = diag (N := 128) (M := 128) (a := 64) (p := 64) rfl rfl (fun j k => K4 m c (ix3 0 j k)) := by
    funext j k
    rw [b5, v53]
  have f2 : (fun k => B2 m c t (ix2 0 k)) = twice (M := 128) (p := 64) rfl (fun k => K1 m c (ix2 0 k)) := by
    funext k
    rw [b2, v43]
  have f4 : (fun k => B4 m c t (ix2 0 k)) = twice (M := 128) (p := 64) rfl (fun k => K3 m c (ix2 0 k)) := by
    funext k
    rw [b4, v49]
  have f6 : (fun k => B6 m c t (ix2 0 k)) = twice (M := 128) (p := 64) rfl (fun k => K5 m c (ix2 0 k)) := by
    funext k
    rw [b6, v55]
  have f8 : (fun k => B8 m c t (ix2 0 k)) = twice (M := 128) (p := 64) rfl (fun k => K7 m c (ix2 0 k)) := by
    funext k
    rw [b8, v62]
  funext k
  unfold k0_pay10
  rw [ld0 (B0 m c t), ld1 (B8 m c t), ld2 (B1 m c t), ld1 (B2 m c t), ld3 (B3 m c t), ld1 (B4 m c t), ld3 (B5 m c t), ld1 (B6 m c t), pay6_at]
  rw [f0, f1, f2, f3, f4, f5, f6, f8]
  rfl

theorem w4_at (t : Fin cfg0.N) : (fun j k => k0_pay11 (F := Ideal) (grid0.coords t) (B0 m c t) (B1 m c t) (B2 m c t) (B3 m c t) (B4 m c t) (B5 m c t) (B6 m c t) (B7 m c t) (B8 m c t) (B9 m c t) (ix2 j k)) =
    diag (N := 128) (M := 1024) (a := 64) (p := 512) rfl rfl (fun j k => K6 m c (ix3 0 j k)) := by
  funext j k
  unfold k0_pay11
  rw [ld4, pay7_at, b7, v60]

theorem time_lo (t : Fin cfg0.N) (r : Fin 1024) : k0_pay9 (F := Ideal) (grid0.coords t) (B0 m c t) (B1 m c t) (B2 m c t) (B3 m c t) (B4 m c t) (B5 m c t) (B6 m c t) (B7 m c t) (B8 m c t) (B9 m c t) (ix2 r 0) = ft (na t r) 0 := by
  unfold k0_pay9
  rw [ld0, pay5_at, b0, v18]
  rfl

theorem time_hi (t : Fin cfg0.N) (r : Fin 1024) : k0_pay9 (F := Ideal) (grid0.coords t) (B0 m c t) (B1 m c t) (B2 m c t) (B3 m c t) (B4 m c t) (B5 m c t) (B6 m c t) (B7 m c t) (B8 m c t) (B9 m c t) (ix2 r 128) = ft (nb t r) 0 := by
  unfold k0_pay9
  rw [ld0, pay5_at, b0, v18]
  rfl

theorem lo_at (t : Fin cfg0.N) (r : Fin 1024) (k : Fin 512) :
    k0_pay3 (F := Ideal) (BitVec.ofNat 32 ((grid0.coords t) 0).val) (k0_pay9 (grid0.coords t) (B0 m c t) (B1 m c t) (B2 m c t) (B3 m c t) (B4 m c t) (B5 m c t) (B6 m c t) (B7 m c t) (B8 m c t) (B9 m c t)) (k0_pay10 (grid0.coords t) (B0 m c t) (B1 m c t) (B2 m c t) (B3 m c t) (B4 m c t) (B5 m c t) (B6 m c t) (B7 m c t) (B8 m c t) (B9 m c t)) (k0_pay11 (grid0.coords t) (B0 m c t) (B1 m c t) (B2 m c t) (B3 m c t) (B4 m c t) (B5 m c t) (B6 m c t) (B7 m c t) (B8 m c t) (B9 m c t)) (k0_pay8 (grid0.coords t) (B0 m c t) (B1 m c t) (B2 m c t) (B3 m c t) (B4 m c t) (B5 m c t) (B6 m c t) (B7 m c t) (B8 m c t) (B9 m c t)) (View.ld (B9 m c t) r0_5) (ix3 0 r k)
      = if t.val * 1024 + r.val = 0 ∧ 256 ≤ k.val then (0 : EReal) else G m c (na t r) k := by
  unfold k0_pay8
  rw [ld5, coord t, pay3_at _ (lt t), hid_at, w4_at, time_lo, b9, v63, out_lo]
  rfl

theorem hi_at (t : Fin cfg0.N) (r : Fin 1024) (k : Fin 512) :
    k0_pay4 (F := Ideal) (k0_pay9 (grid0.coords t) (B0 m c t) (B1 m c t) (B2 m c t) (B3 m c t) (B4 m c t) (B5 m c t) (B6 m c t) (B7 m c t) (B8 m c t) (B9 m c t)) (k0_pay10 (grid0.coords t) (B0 m c t) (B1 m c t) (B2 m c t) (B3 m c t) (B4 m c t) (B5 m c t) (B6 m c t) (B7 m c t) (B8 m c t) (B9 m c t)) (k0_pay11 (grid0.coords t) (B0 m c t) (B1 m c t) (B2 m c t) (B3 m c t) (B4 m c t) (B5 m c t) (B6 m c t) (B7 m c t) (B8 m c t) (B9 m c t)) (k0_pay8 (grid0.coords t) (B0 m c t) (B1 m c t) (B2 m c t) (B3 m c t) (B4 m c t) (B5 m c t) (B6 m c t) (B7 m c t) (B8 m c t) (B9 m c t)) (View.ld (B9 m c t) r0_5) (ix3 0 r k)
      = G m c (nb t r) k := by
  unfold k0_pay8
  rw [ld5, pay4_at, hid_at, w4_at, time_hi, b9, v63, out_hi]
  rfl

theorem emb6 (r : Fin 1024) (k : Fin 512) : r0_6.emb (ix3 0 r k) = (ix3 0 r k : S2x1024x512.Idx) := by
  funext a
  fin_cases a
  · rfl
  · exact Fin.ext (by show 0 + 1 * r.val = r.val; omega)
  · exact Fin.ext (by show 0 + 1 * k.val = k.val; omega)

theorem emb7 (r : Fin 1024) (k : Fin 512) : r0_7.emb (ix3 0 r k) = (ix3 1 r k : S2x1024x512.Idx) := by
  funext a
  fin_cases a
  · rfl
  · exact Fin.ext (by show 0 + 1 * r.val = r.val; omega)
  · exact Fin.ext (by show 0 + 1 * k.val = k.val; omega)

theorem notin (r : Fin 1024) (k : Fin 512) : (ix3 0 r k : S2x1024x512.Idx) ∉ r0_7.set := by
  intro h
  obtain ⟨x, hx⟩ := r0_7.exists_idx_of_mem h
  have h0 : 1 + 1 * (x 0).val = 0 := congrArg (fun i : S2x1024x512.Idx => (i 0).val) hx
  omega

theorem two_lo (p q : FVec Ideal S1x1024x512 .f32) (r : Fin 1024) (k : Fin 512) :
    View.canon (Val := Elt Ideal) (s := S2x1024x512) (e := .f32) [⟨r0_7, p⟩, ⟨r0_6, q⟩] (ix3 0 r k) = q (ix3 0 r k) := by
  have h : View.canon (Val := Elt Ideal) (s := S2x1024x512) (e := .f32) [⟨r0_7, p⟩, ⟨r0_6, q⟩] (ix3 0 r k)
      = View.canon (Val := Elt Ideal) (s := S2x1024x512) (e := .f32) [⟨r0_6, q⟩] (ix3 0 r k) := by
    apply View.canon_cons_of_not_mem
    exact notin r k
  rw [h, ← emb6 r k]
  exact View.canon_cons_emb _ _ _ _

theorem two_hi (p q : FVec Ideal S1x1024x512 .f32) (r : Fin 1024) (k : Fin 512) :
    View.canon (Val := Elt Ideal) (s := S2x1024x512) (e := .f32) [⟨r0_7, p⟩, ⟨r0_6, q⟩] (ix3 1 r k) = p (ix3 0 r k) := by
  rw [← emb7 r k]
  exact View.canon_cons_emb _ _ _ _

theorem out_at0 (t : Fin cfg0.N) (r : Fin 1024) (k : Fin 512) : out0_10 (F := Ideal) (grid0.coords t) (B0 m c t) (B1 m c t) (B2 m c t) (B3 m c t) (B4 m c t) (B5 m c t) (B6 m c t) (B7 m c t) (B8 m c t) (B9 m c t) (ix3 0 r k) =
    if t.val * 1024 + r.val = 0 ∧ 256 ≤ k.val then (0 : EReal) else G m c (na t r) k := by
  unfold out0_10
  refine (two_lo _ _ r k).trans ?_
  rw [lo_at]

theorem out_at1 (t : Fin cfg0.N) (r : Fin 1024) (k : Fin 512) : out0_10 (F := Ideal) (grid0.coords t) (B0 m c t) (B1 m c t) (B2 m c t) (B3 m c t) (B4 m c t) (B5 m c t) (B6 m c t) (B7 m c t) (B8 m c t) (B9 m c t) (ix3 1 r k) = G m c (nb t r) k := by
  unfold out0_10
  exact (two_hi _ _ r k).trans (hi_at m c t r k)

theorem Z_at (q : Fin 2) (n : Fin 4096) (k : Fin 512) : Z m c (ix3 q n k) =
    if q.val * 4096 + n.val = 0 ∧ 256 ≤ k.val then (0 : EReal) else G m c ⟨q.val * 4096 + n.val, by omega⟩ k := rfl

theorem Z_at0 (n : Fin 4096) (k : Fin 512) : Z m c (ix3 0 n k) = if n.val = 0 ∧ 256 ≤ k.val then (0 : EReal) else G m c ⟨n, by omega⟩ k := by
  have h : (0 : Fin 2).val * 4096 + n.val = n.val := by simp
  rw [Z_at]
  simp only [h]

theorem Z_at1 (n : Fin 4096) (k : Fin 512) : Z m c (ix3 1 n k) = G m c ⟨4096 + n, by omega⟩ k := by
  have h : (1 : Fin 2).val * 4096 + n.val = 4096 + n.val := by simp
  have h' : ¬(4096 + n.val = 0 ∧ 256 ≤ k.val) := by omega
  rw [Z_at]
  simp only [h]
  exact if_neg h'

theorem emb (t : Fin cfg0.N) (q : Fin 2) (r : Fin 1024) (k : Fin 512) :
    ((cfg0.win 10).blk t).view.emb (ix3 q r k) = (ix3 q ⟨t * 1024 + r, by have := lt t; omega⟩ k : S2x4096x512.Idx) := by
  funext a
  fin_cases a
  · ext
    blk_simp [idx t]
    rfl
  · ext
    blk_simp [idx t]
    rfl
  · ext
    blk_simp [idx t]
    rfl

theorem point (t : Fin cfg0.N) (y : S2x1024x512.Idx) :
    out0_10 (F := Ideal) (grid0.coords t) (B0 m c t) (B1 m c t) (B2 m c t) (B3 m c t) (B4 m c t) (B5 m c t) (B6 m c t) (B7 m c t) (B8 m c t) (B9 m c t) y = Z m c (((cfg0.win 10).blk t).view.emb y) := by
  obtain ⟨q, r, k, rfl⟩ : ∃ (q : Fin 2) (r : Fin 1024) (k : Fin 512), y = ix3 q r k := ⟨y 0, y 1, y 2, eq_ix3 y⟩
  rw [emb]
  obtain rfl | rfl : q = 0 ∨ q = 1 := by omega
  · rw [out_at0, Z_at0]
  · rw [out_at1, Z_at1]

/-- The kernel's result array. -/
theorem final : (dats m 0 c).arrAt 10 (cfgs 0).N = Z m c := by
  refine (dats m 0 c).arrAt_eq_of_covers 10 _ (by decide +kernel) fun t _ y => ?_
  blk_simp
  rw [after0_10]
  exact point m c t y

end Cert.P9

end
-- ==== Proof.P9Ref.lean ====
/- The long convolution's filter of layer 0 as the reference computes it, read at a place and a column. -/
module

public import proofs.«01_k».proof.Proof.FiltNet
public import proofs.«01_k».proof.Proof.Gen.Reference9Ideal.Run
public import Idealize.ShloMosaic.Lib.KernelVsHost

@[expose] public section

set_option maxRecDepth 16384

noncomputable section

namespace Cert.P9.Ref

open Cert.Reference9Ideal Cert.Reference9Ideal.Gen Cert.Reference9Ideal.Value Idealize.ShloMosaic Idealize.ShloMosaic.TcCoe
open Idealize.SL.Sem Idealize.ShloMosaic.StableHlo Cert.Rows

/-- The time of each place, from 0 to 1. -/
def tcol : FVec Ideal S8192x1 .f32 := broadcastInDim S8192x1 ![0] bcast_S8192_S8192x1_0 (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)

/-- The features of each place: the time, the cosines and the negated sines of the bands. -/
def feat : FVec Ideal S8192x33 .f32 := concatenate S8192x33 1 [⟨S8192x1, (tcol : FVec Ideal S8192x1 .f32)⟩, ⟨S8192x16, ((Host.cos (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0))))) : FVec Ideal S8192x16 .f32)⟩, ⟨S8192x16, ((Host.negf (Host.sin (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)))))) : FVec Ideal S8192x16 .f32)⟩] concatenates_S8192x1_S8192x16_S8192x16_S8192x33_d1

variable (V0 : Valuation τ sig (Elt Ideal))

/-- The reference's argument 0. -/
abbrev A0 : FVec Ideal S2x33x64 .f32 := V0 (Proc.devRef .tc main_arg0)

/-- The reference's argument 1. -/
abbrev A1 : FVec Ideal S2x64 .f32 := V0 (Proc.devRef .tc main_arg1)

/-- The reference's argument 2. -/
abbrev A2 : FVec Ideal S2x64x64 .f32 := V0 (Proc.devRef .tc main_arg2)

/-- The reference's argument 3. -/
abbrev A3 : FVec Ideal S2x64 .f32 := V0 (Proc.devRef .tc main_arg3)

/-- The reference's argument 4. -/
abbrev A4 : FVec Ideal S2x64x64 .f32 := V0 (Proc.devRef .tc main_arg4)

/-- The reference's argument 5. -/
abbrev A5 : FVec Ideal S2x64 .f32 := V0 (Proc.devRef .tc main_arg5)

/-- The reference's argument 6. -/
abbrev A6 : FVec Ideal S2x64x512 .f32 := V0 (Proc.devRef .tc main_arg6)

/-- The reference's argument 7. -/
abbrev A7 : FVec Ideal S2x64 .f32 := V0 (Proc.devRef .tc main_arg7)

/-- The reference's argument 8. -/
abbrev A8 : FVec Ideal S2x512 .f32 := V0 (Proc.devRef .tc main_arg8)

/-- The first hidden layer. -/
def h1 : FVec Ideal S8192x64 .f32 := Host.sin (mulf (broadcastInDim S8192x64 ![0, 1] bcast_S1x64_S8192x64_0_1 (broadcastInDim S1x64 ![1] bcast_S64_S1x64_1 (shapeCast _ (extractStridedSlice S1x64 ![0, 0] (A7 V0) slices_S2x64_S1x64_0_0) shapeCasts_S1x64_S64))) (addf (Host.dotGeneral dot_S8192x33_S33x64_S8192x64_1_0_0_1_n_n none (feat) (shapeCast _ (extractStridedSlice S1x33x64 ![0, 0, 0] (A0 V0) slices_S2x33x64_S1x33x64_0_0_0) shapeCasts_S1x33x64_S33x64)) (broadcastInDim S8192x64 ![0, 1] bcast_S1x64_S8192x64_0_1 (broadcastInDim S1x64 ![1] bcast_S64_S1x64_1 (shapeCast _ (extractStridedSlice S1x64 ![0, 0] (A1 V0) slices_S2x64_S1x64_0_0) shapeCasts_S1x64_S64)))))

/-- The second hidden layer. -/
def h2 : FVec Ideal S8192x64 .f32 := Host.sin (mulf (broadcastInDim S8192x64 ![0, 1] bcast_S1x64_S8192x64_0_1 (broadcastInDim S1x64 ![1] bcast_S64_S1x64_1 (shapeCast _ (extractStridedSlice S1x64 ![0, 0] (A7 V0) slices_S2x64_S1x64_0_0) shapeCasts_S1x64_S64))) (addf (Host.dotGeneral dot_S8192x64_S64x64_S8192x64_1_0_0_1_n_n none (h1 V0) (shapeCast _ (extractStridedSlice S1x64x64 ![0, 0, 0] (A2 V0) slices_S2x64x64_S1x64x64_0_0_0) shapeCasts_S1x64x64_S64x64)) (broadcastInDim S8192x64 ![0, 1] bcast_S1x64_S8192x64_0_1 (broadcastInDim S1x64 ![1] bcast_S64_S1x64_1 (shapeCast _ (extractStridedSlice S1x64 ![0, 0] (A3 V0) slices_S2x64_S1x64_0_0) shapeCasts_S1x64_S64)))))

/-- The third hidden layer. -/
def h3 : FVec Ideal S8192x64 .f32 := Host.sin (mulf (broadcastInDim S8192x64 ![0, 1] bcast_S1x64_S8192x64_0_1 (broadcastInDim S1x64 ![1] bcast_S64_S1x64_1 (shapeCast _ (extractStridedSlice S1x64 ![0, 0] (A7 V0) slices_S2x64_S1x64_0_0) shapeCasts_S1x64_S64))) (addf (Host.dotGeneral dot_S8192x64_S64x64_S8192x64_1_0_0_1_n_n none (h2 V0) (shapeCast _ (extractStridedSlice S1x64x64 ![0, 0, 0] (A4 V0) slices_S2x64x64_S1x64x64_0_0_0) shapeCasts_S1x64x64_S64x64)) (broadcastInDim S8192x64 ![0, 1] bcast_S1x64_S8192x64_0_1 (broadcastInDim S1x64 ![1] bcast_S64_S1x64_1 (shapeCast _ (extractStridedSlice S1x64 ![0, 0] (A5 V0) slices_S2x64_S1x64_0_0) shapeCasts_S1x64_S64)))))

/-- The filter under its window. -/
def filt : FVec Ideal S8192x512 .f32 := mulf (Host.dotGeneral dot_S8192x64_S64x512_S8192x512_1_0_0_1_n_n none (h3 V0) (shapeCast _ (extractStridedSlice S1x64x512 ![0, 0, 0] (A6 V0) slices_S2x64x512_S1x64x512_0_0_0) shapeCasts_S1x64x512_S64x512)) (Host.exp (mulf (broadcastInDim S8192x512 ![0, 1] bcast_S8192x1_S8192x512_0_1 (Host.negf tcol)) (broadcastInDim S8192x512 ![0, 1] bcast_S1x512_S8192x512_0_1 (broadcastInDim S1x512 ![1] bcast_S512_S1x512_1 (Host.absf (shapeCast _ (extractStridedSlice S1x512 ![0, 0] (A8 V0) slices_S2x512_S1x512_0_0) shapeCasts_S1x512_S512))))))

/-- The reference's result. -/
def o0 : FVec Ideal S2x4096x512 .f32 := shapeCast _ (concatenate S8192x512 1 [⟨S8192x256, (extractStridedSlice S8192x256 ![0, 0] (filt V0) slices_S8192x512_S8192x256_0_0)⟩, ⟨S8192x256, (concatenate S8192x256 0 [⟨S1x256, (broadcastInDim S1x256 ![] bcast_S_S1x256 (constant S_ .f32 0x00000000#32))⟩, ⟨S8191x256, (extractStridedSlice S8191x256 ![1, 0] (extractStridedSlice S8192x256 ![0, 256] (filt V0) slices_S8192x512_S8192x256_0_256) slices_S8192x256_S8191x256_1_0)⟩] concatenates_S1x256_S8191x256_S8192x256_d0)⟩] concatenates_S8192x256_S8192x256_S8192x512_d1) shapeCasts_S8192x512_S2x4096x512

theorem tcol_at (n : Fin 8192) : tcol (ix2 n 0) = feat (ix2 n 0) := by
  pointwise [feat]

theorem h1_at (n : Fin 8192) (k : Fin 64) : h1 V0 (ix2 n k) =
    layer (fun j => feat (ix2 n j)) (fun j k => A0 V0 (ix3 0 j k)) (fun k => A1 V0 (ix2 0 k)) (fun k => A7 V0 (ix2 0 k)) k := by
  unfold layer lin
  pointwise [h1]

theorem h2_at (n : Fin 8192) (k : Fin 64) : h2 V0 (ix2 n k) =
    layer (fun j => h1 V0 (ix2 n j)) (fun j k => A2 V0 (ix3 0 j k)) (fun k => A3 V0 (ix2 0 k)) (fun k => A7 V0 (ix2 0 k)) k := by
  unfold layer lin
  pointwise [h2]

theorem h3_at (n : Fin 8192) (k : Fin 64) : h3 V0 (ix2 n k) =
    layer (fun j => h2 V0 (ix2 n j)) (fun j k => A4 V0 (ix3 0 j k)) (fun k => A5 V0 (ix2 0 k)) (fun k => A7 V0 (ix2 0 k)) k := by
  unfold layer lin
  pointwise [h3]

theorem filt_at (n : Fin 8192) (k : Fin 512) : filt V0 (ix2 n k) =
    wind (net (fun j => feat (ix2 n j)) (fun j k => A0 V0 (ix3 0 j k)) (fun k => A1 V0 (ix2 0 k)) (fun j k => A2 V0 (ix3 0 j k)) (fun k => A3 V0 (ix2 0 k))
      (fun j k => A4 V0 (ix3 0 j k)) (fun k => A5 V0 (ix2 0 k)) (fun k => A7 V0 (ix2 0 k))) (fun j k => A6 V0 (ix3 0 j k)) (feat (ix2 n 0)) (fun k => A8 V0 (ix2 0 k)) k := by
  have h : filt V0 (ix2 n k) = wind (fun j => h3 V0 (ix2 n j)) (fun j k => A6 V0 (ix3 0 j k)) (feat (ix2 n 0)) (fun k => A8 V0 (ix2 0 k)) k := by
    unfold wind lin
    pointwise [filt]
    rw [tcol_at, zero_sub]
  rw [h]
  unfold net
  simp only [h3_at, h2_at, h1_at]

theorem o0_at (b : Fin 2) (s : Fin 4096) (k : Fin 512) : o0 V0 (ix3 b s k) =
    if b.val * 4096 + s.val = 0 ∧ 256 ≤ k.val then (0 : EReal) else filt V0 (ix2 ⟨b * 4096 + s, by omega⟩ k) := by
  have hb := b.isLt
  have hs := s.isLt
  unfold o0
  generalize filt V0 = f
  pointwise
  by_cases h : k.val < 256
  · have h2 : ¬(b.val * 4096 + s.val = 0 ∧ 256 ≤ k.val) := by omega
    rw [dif_pos h, if_neg h2]
  · rw [dif_neg h]
    by_cases h' : b.val * 4096 + s.val < 1
    · have h2 : b.val * 4096 + s.val = 0 ∧ 256 ≤ k.val := by omega
      rw [dif_pos h', if_pos h2]
    · have h2 : ¬(b.val * 4096 + s.val = 0 ∧ 256 ≤ k.val) := by omega
      refine (dif_neg h').trans (Eq.trans ?_ (if_neg h2).symm)
      exact congrArg₂ (fun n k => f (ix2 n k)) (Fin.ext (by simp only; omega)) (Fin.ext (by simp only; omega))

end Cert.P9.Ref

end
-- ==== Proof.P9Bridge.lean ====
/- The long convolution's filter of layer 0: the kernel's array is the reference's result when the two programs' arguments agree. -/
module

public import proofs.«01_k».proof.Defs
public import proofs.«01_k».proof.Proof.Gen.Reference9Ideal
public import proofs.«01_k».proof.Proof.P9Final
public import proofs.«01_k».proof.Proof.P9Ref
public import Idealize.ShloMosaic.Lib.Claim
public import Idealize.ShloMosaic.Adequacy
public import Idealize.ShloMosaic.Init

@[expose] public section

set_option maxRecDepth 16384

noncomputable section

namespace Cert.P9

open Idealize.ShloMosaic Idealize.ShloMosaic.TcCoe Idealize.SL.Sem Cert.Kernel9Ideal Cert.Kernel9Ideal.Gen Cert.Rows

/-- The two programs compute the same features. -/
theorem feat_eq : Ref.feat = feat := rfl

/-- The reference's result is the kernel's array. -/
theorem o0_eq (m : (ℓ : Loc nD τ sig) → Buf (Elt Ideal) ℓ) (c : Dev nD) (V0 : Valuation Cert.Reference9Ideal.τ Cert.Reference9Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) (h5 : Ref.A5 V0 = K5 m c) (h6 : Ref.A6 V0 = K6 m c) (h7 : Ref.A7 V0 = K7 m c) (h8 : Ref.A8 V0 = K8 m c) :
    Ref.o0 V0 = Z m c := by
  funext i
  obtain ⟨b, s, k, rfl⟩ : ∃ (b : Fin 2) (s : Fin 4096) (k : Fin 512), i = ix3 b s k := ⟨i 0, i 1, i 2, eq_ix3 i⟩
  rw [Ref.o0_at, Ref.filt_at, h0, h1, h2, h3, h4, h5, h6, h7, h8, feat_eq]
  rfl

/-- The reference runs, leaves its arguments unchanged, and declares no semaphore. -/
theorem reference_frame : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's run: its result is its definition at the arguments, its arguments unchanged. -/
theorem reference_run (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩
      fun r => ∀ c : Dev Cert.Reference9Ideal.nD,
      r.2.mem ((c.tc : Thread Cert.Reference9Ideal.nD Cert.Reference9Ideal.τ).loc Cert.Reference9Ideal.main_v72) = Ref.o0 (StableHlo.launchContents m c)
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8) :=
  Cert.Reference9Ideal.Value.run (F := Ideal) m g

/-- The kernel and the reference end with equal results over the extended reals. -/
theorem value : Cert.algebraic_Kernel9Ideal_Reference9Ideal (hKernel9Ideal := Cert.Kernel9Ideal.Gen.facts) (hReference9Ideal := Cert.Reference9Ideal.Gen.facts) := by
  intro m g m' g' _ hagree
  refine ⟨fun c => Z m c, ?_, ?_⟩
  · exact (θ_run _ _ _).mono (fun r h c => ⟨(h c).1.trans (final m c), (h c).2⟩) (Cert.Kernel9Ideal.Value.run_blocks m g)
  · refine (θ_run _ _ _).mono (fun r h c => ?_) (reference_run m' g')
    obtain ⟨e0, e1, e2, e3, e4, e5, e6, e7, e8⟩ := hagree c
    exact ⟨(h c).1.trans (o0_eq m c (StableHlo.launchContents m' c) e0 e1 e2 e3 e4 e5 e6 e7 e8), (h c).2⟩

end Cert.P9

end
-- ==== Proof.P10Pay.lean ====
/- The long convolution's filter: the payloads of the kernel's body, read at a row and a column. -/
module

public import proofs.«01_k».proof.Proof.FiltNet
public import proofs.«01_k».proof.Proof.Gen.Kernel10Ideal.Value
public import Idealize.ShloMosaic.Lib.Affine
public import Idealize.ShloMosaic.Lib.DynamicIndex

@[expose] public section

set_option maxRecDepth 16384

noncomputable section

namespace Cert.P10

open Idealize.ShloMosaic Idealize.ShloMosaic.TcCoe Cert.Kernel10Ideal Cert.Kernel10Ideal.Gen Cert.Rows

theorem pay6_at (v0 : FVec Ideal S1024x256 .f32) (v2 : FVec Ideal S1x128 .f32) (v4 : FVec Ideal S256x128 .f32) (v7 : FVec Ideal S1x128 .f32)
    (v14 : FVec Ideal S128x128 .f32) (v17 : FVec Ideal S1x128 .f32) (v24 : FVec Ideal S128x128 .f32) (v27 : FVec Ideal S1x128 .f32)
    (r : Fin 1024) (k : Fin 128) :
    k0_pay6 (F := Ideal) v0 v2 v4 v7 v14 v17 v24 v27 (ix2 r k) =
      layer (layer (layer (fun j => v0 (ix2 r j)) (fun j k => v4 (ix2 j k)) (fun k => v7 (ix2 0 k)) (fun k => v2 (ix2 0 k)))
        (fun j k => v14 (ix2 j k)) (fun k => v17 (ix2 0 k)) (fun k => v2 (ix2 0 k)))
        (fun j k => v24 (ix2 j k)) (fun k => v27 (ix2 0 k)) (fun k => v2 (ix2 0 k)) k := by
  unfold layer lin
  pointwise [k0_pay6, k0_pay5]

theorem pay4_at (v1 : FVec Ideal S1024x256 .f32) (v34 : FVec Ideal S1024x128 .bf16) (v36 : FVec Ideal S128x1024 .bf16) (v38 : FVec Ideal S1x512 .f32)
    (r : Fin 1024) (k : Fin 512) :
    k0_pay4 (F := Ideal) v1 v34 v36 (constant S1024x1024 .f32 0x00000000#32) v38 (ix3 0 r k) =
      lin (fun j => v34 (ix2 r j)) (fun j k => v36 (ix2 j k)) (⟨512 + k, by omega⟩ : Fin 1024) * Ideal.exp ((0 - v1 (ix2 r 128)) * (FloatOps.absf (F := Ideal) (v38 (ix2 0 k) : Ideal .f32) : EReal)) := by
  unfold lin
  pointwise [k0_pay4, k0_pay1, k0_pay2]

theorem pay5_at (x : FVec Ideal S1024x256 .f32) (r : Fin 1024) (k : Fin 256) : k0_pay5 (F := Ideal) x (ix2 r k) = x (ix2 r k) := by
  pointwise [k0_pay5]

theorem pay7_at (x : FVec Ideal S128x1024 .bf16) (r : Fin 128) (k : Fin 1024) : k0_pay7 (F := Ideal) x (ix2 r k) = x (ix2 r k) := by
  pointwise [k0_pay7]

theorem pay3_at (a : ℕ) (ha : a < 4) (v1 : FVec Ideal S1024x256 .f32) (v34 : FVec Ideal S1024x128 .bf16) (v36 : FVec Ideal S128x1024 .bf16) (v38 : FVec Ideal S1x512 .f32)
    (r : Fin 1024) (k : Fin 512) :
    k0_pay3 (F := Ideal) (BitVec.ofNat 32 a) v1 v34 v36 (constant S1024x1024 .f32 0x00000000#32) v38 (ix3 0 r k) =
      if a * 1024 + r.val = 0 ∧ 256 ≤ k.val then (0 : EReal) else
      lin (fun j => v34 (ix2 r j)) (fun j k => v36 (ix2 j k)) (⟨k, by omega⟩ : Fin 1024) * Ideal.exp ((0 - v1 (ix2 r 0)) * (FloatOps.absf (F := Ideal) (v38 (ix2 0 k) : Ideal .f32) : EReal)) := by
  unfold lin
  pointwise [k0_pay3, k0_pay1, k0_pay2]
  have hr := r.isLt
  have hk := k.isLt
  have e : IntOp.andi (IntOp.cmpi CmpIPredicate.eq (IntOp.addi (Scalar.muli (BitVec.ofNat 32 a) 1024#32) (BitVec.ofNat 32 r)) 0#32)
      (IntOp.cmpi CmpIPredicate.sge (BitVec.ofNat 32 k) 256#32) = 1#1 ↔ a * 1024 + r.val = 0 ∧ 256 ≤ k.val := by
    have e1 : IntOp.cmpi CmpIPredicate.eq (IntOp.addi (Scalar.muli (BitVec.ofNat 32 a) 1024#32) (BitVec.ofNat 32 r)) 0#32 = 1#1 ↔ a * 1024 + r.val = 0 := by
      refine IntOp.cmpi_eq.trans ⟨fun h => ?_, fun h => ?_⟩
      · have := congrArg BitVec.toNat h
        simp only [IntOp.addi, Scalar.muli, IntOp.muli, BitVec.toNat_add, BitVec.toNat_mul, BitVec.toNat_ofNat] at this
        omega
      · have h1 : a = 0 := by omega
        have h2 : (r : ℕ) = 0 := by omega
        rw [h1, h2]
        rfl
    have e2 : IntOp.cmpi CmpIPredicate.sge (BitVec.ofNat 32 k) 256#32 = 1#1 ↔ 256 ≤ k.val := by
      refine IntOp.cmpi_sge.trans ?_
      rw [toInt_ofNat_of_lt (by omega : (k : ℕ) < 2 ^ 31), toInt_ofNat_of_lt (by omega : 256 < 2 ^ 31)]
      omega
    rw [← e1, ← e2]
    generalize IntOp.cmpi CmpIPredicate.eq _ _ = x
    generalize IntOp.cmpi CmpIPredicate.sge _ _ = y
    revert x y
    decide
  by_cases h : a * 1024 + r.val = 0 ∧ 256 ≤ k.val
  · rw [if_pos h]
    exact if_pos (e.mpr h)
  · rw [if_neg h]
    exact if_neg (fun g => h (e.mp g))

end Cert.P10

end
-- ==== Proof.P10Args.lean ====
/- The long convolution's filter of layer 1: the kernel's arguments, its blocks and the features of the places. -/
module

public import proofs.«01_k».proof.Proof.Gen.Kernel10Ideal.Value
public import proofs.«01_k».proof.Proof.FiltNet
public import Idealize.ShloMosaic.Lib.Pipeline.ValueKit
public import Idealize.ShloMosaic.Lib.KernelVsHost
public import Idealize.ShloMosaic.Lib.StableHlo.RunRead

@[expose] public section

set_option maxRecDepth 16384

noncomputable section

namespace Cert.P10

open Idealize.ShloMosaic Idealize.ShloMosaic.TcCoe Idealize.SL.Sem Idealize.ShloMosaic.StableHlo Cert.Kernel10Ideal Cert.Kernel10Ideal.Gen Cert.Rows

/-- The time of each place, from 0 to 1. -/
def tcol : FVec Ideal S8192x1 .f32 := broadcastInDim S8192x1 ![0] bcast_S8192_S8192x1_0 (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)

/-- The features of each place: the time, the cosines and the negated sines of the bands. -/
def feat : FVec Ideal S8192x33 .f32 := concatenate S8192x33 1 [⟨S8192x1, (tcol : FVec Ideal S8192x1 .f32)⟩, ⟨S8192x16, ((Host.cos (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0))))) : FVec Ideal S8192x16 .f32)⟩, ⟨S8192x16, ((Host.negf (Host.sin (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)))))) : FVec Ideal S8192x16 .f32)⟩] concatenates_S8192x1_S8192x16_S8192x16_S8192x33_d1

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, t.val, 0] ∧ t.val < 4 :=
  (by decide +kernel : ∀ t : Fin grid0.N, _)

theorem lt (t : Fin cfg0.N) : t.val < 4 := (idx t).2.2.2.2.2.2.2.2.2.2.2

/-- Window 0's block at a grid point. -/
abbrev B0 (t : Fin cfg0.N) : FVec Ideal S1024x256 .f32 := iblk m c 0 t

/-- Window 1's block at a grid point. -/
abbrev B1 (t : Fin cfg0.N) : FVec Ideal S256x128 .f32 := iblk m c 1 t

/-- Window 2's block at a grid point. -/
abbrev B2 (t : Fin cfg0.N) : FVec Ideal S1x128 .f32 := iblk m c 2 t

/-- Window 3's block at a grid point. -/
abbrev B3 (t : Fin cfg0.N) : FVec Ideal S128x128 .f32 := iblk m c 3 t

/-- Window 4's block at a grid point. -/
abbrev B4 (t : Fin cfg0.N) : FVec Ideal S1x128 .f32 := iblk m c 4 t

/-- Window 5's block at a grid point. -/
abbrev B5 (t : Fin cfg0.N) : FVec Ideal S128x128 .f32 := iblk m c 5 t

/-- Window 6's block at a grid point. -/
abbrev B6 (t : Fin cfg0.N) : FVec Ideal S1x128 .f32 := iblk m c 6 t

/-- Window 7's block at a grid point. -/
abbrev B7 (t : Fin cfg0.N) : FVec Ideal S128x1024 .bf16 := iblk m c 7 t

/-- Window 8's block at a grid point. -/
abbrev B8 (t : Fin cfg0.N) : FVec Ideal S1x128 .f32 := iblk m c 8 t

/-- Window 9's block at a grid point. -/
abbrev B9 (t : Fin cfg0.N) : FVec Ideal S1x512 .f32 := iblk m c 9 t

/-- The kernel's argument 0. -/
abbrev K0 : FVec Ideal S2x33x64 .f32 := m ((c : Thread nD τ).loc main_arg0)

/-- The kernel's argument 1. -/
abbrev K1 : FVec Ideal S2x64 .f32 := m ((c : Thread nD τ).loc main_arg1)

/-- The kernel's argument 2. -/
abbrev K2 : FVec Ideal S2x64x64 .f32 := m ((c : Thread nD τ).loc main_arg2)

/-- The kernel's argument 3. -/
abbrev K3 : FVec Ideal S2x64 .f32 := m ((c : Thread nD τ).loc main_arg3)

/-- The kernel's argument 4. -/
abbrev K4 : FVec Ideal S2x64x64 .f32 := m ((c : Thread nD τ).loc main_arg4)

/-- The kernel's argument 5. -/
abbrev K5 : FVec Ideal S2x64 .f32 := m ((c : Thread nD τ).loc main_arg5)

/-- The kernel's argument 6. -/
abbrev K6 : FVec Ideal S2x64x512 .f32 := m ((c : Thread nD τ).loc main_arg6)

/-- The kernel's argument 7. -/
abbrev K7 : FVec Ideal S2x64 .f32 := m ((c : Thread nD τ).loc main_arg7)

/-- The kernel's argument 8. -/
abbrev K8 : FVec Ideal S2x512 .f32 := m ((c : Thread nD τ).loc main_arg8)

end Cert.P10

end
-- ==== Proof.P10Feat.lean ====
/- The long convolution's filter of layer 1: the kernel's features, with zeros behind them and two places side by side. -/
module

public import proofs.«01_k».proof.Proof.P10Args

@[expose] public section

set_option maxRecDepth 16384

noncomputable section

namespace Cert.P10

open Idealize.ShloMosaic Idealize.ShloMosaic.TcCoe Idealize.SL.Sem Idealize.ShloMosaic.StableHlo Cert.Kernel10Ideal Cert.Kernel10Ideal.Gen Cert.Rows

variable (m : (ℓ : Loc nD τ sig) → Buf (Elt Ideal) ℓ) (c : Dev nD)

/-- The features as the kernel's operands are computed. -/
theorem cat (n : Fin 8192) (j : Fin 33) : concatenate S8192x33 1 [⟨S8192x1, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v1)⟩, ⟨S8192x16, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v11)⟩, ⟨S8192x16, upto (hostOps0 ++ (hostOps0_1 ++ (hostOps0_2 ++ (hostOps0_3 ++ (hostOps0_4 ++ (hostOps0_5 ++ (hostOps0_6 ++ (hostOps0_7 ++ hostOps0_8)))))))) (fun b => m (c, b)) 59 (Proc.tc.devRef main_v13)⟩] concatenates_S8192x1_S8192x16_S8192x16_S8192x33_d1 (ix2 n j) = feat (ix2 n j) := by
  pointwise [feat, tcol]
  after_reads_simp
  pointwise
  try simp only [TRef.toBuf, TRef.ofBuf, cast_eq]
  try pointwise
  try after_reads_simp
  try pointwise
  try simp only [TRef.toBuf, TRef.ofBuf, cast_eq]
  try pointwise

theorem pad_cols (x : FVec Ideal S8192x33 .f32) (n : Fin 8192) (j : Fin 128) :
    pad S8192x128 ![0, 0] ![0, 95] ![0, 0] x (sitofp .f32 (constantI S_ 32 0#32)) pads_S8192x33_S8192x128_000_0950 h_S_ (ix2 n j) = padv (fun j => x (ix2 n j)) j := by
  pointwise
  unfold padv
  have e : (FloatOps.sitofp (F := Ideal) .f32 (0#32) : EReal) = 0 := by
    show ((((0#32 : BitVec 32).toInt : ℝ)) : EReal) = 0
    simp
  rw [e]

theorem v18 (k : Fin 4096) (k' : Fin 256) : (V m c main_v18 : FVec Ideal S4096x256 .f32) (ix2 k k') =
    if h : k'.val < 128 then padv (fun j => feat (ix2 ⟨k, by omega⟩ j)) ⟨k', h⟩ else padv (fun j => feat (ix2 ⟨4096 + k, by omega⟩ j)) ⟨k' - 128, by omega⟩ := by
  simp only [V, List.flatten_cons, List.flatten_nil, List.append_nil]
  after_reads_simp
  pointwise
  try after_reads_simp
  pointwise
  simp only [TRef.toBuf, TRef.ofBuf, cast_eq]
  simp only [pad_cols]
  split
  · exact congrFun (congrArg padv (funext (cat m c _))) _
  · exact congrFun (congrArg padv (funext (cat m c _))) _

end Cert.P10

end
-- ==== Proof.P10Win.lean ====
/- The long convolution's filter of layer 1: the weights as the kernel's operands hold them. -/
module

public import proofs.«01_k».proof.Proof.P10Args

@[expose] public section

set_option maxRecDepth 16384

noncomputable section

namespace Cert.P10

open Idealize.ShloMosaic Idealize.ShloMosaic.TcCoe Idealize.SL.Sem Idealize.ShloMosaic.StableHlo Cert.Kernel10Ideal Cert.Kernel10Ideal.Gen Cert.Rows

variable (m : (ℓ : Loc nD τ sig) → Buf (Elt Ideal) ℓ) (c : Dev nD)

theorem pad_rows (x : FVec Ideal S33x64 .f32) (k : Fin 128) (k' : Fin 64) :
    pad S128x64 ![0, 0] ![95, 0] ![0, 0] x (sitofp .f32 (constantI S_ 32 0#32)) pads_S33x64_S128x64_0950_000 h_S_ (ix2 k k') = padm (fun j k => x (ix2 j k)) k k' := by
  pointwise
  unfold padm
  have e : (FloatOps.sitofp (F := Ideal) .f32 (0#32) : EReal) = 0 := by
    show ((((0#32 : BitVec 32).toInt : ℝ)) : EReal) = 0
    simp
  rw [e]

theorem v41 (k : Fin 256) (k' : Fin 128) : (V m c main_v41 : FVec Ideal S256x128 .f32) (ix2 k k') = diag (a := 128) (p := 64) rfl rfl (padm (fun j k => K0 m c (ix3 1 j k))) k k' := by
  unfold diag
  simp only [V, List.flatten_cons, List.flatten_nil, List.append_nil]
  after_reads_simp
  pointwise
  try after_reads_simp
  pointwise
  simp only [TRef.toBuf, TRef.ofBuf, cast_eq]
  simp only [pad_rows]
  try rfl

theorem v43 (k : Fin 128) : (V m c main_v43 : FVec Ideal S1x128 .f32) (ix2 0 k) = twice (p := 64) rfl (fun k => K1 m c (ix2 1 k)) k := by
  unfold twice
  simp only [V, List.flatten_cons, List.flatten_nil, List.append_nil]
  after_reads_simp
  pointwise
  try after_reads_simp
  pointwise

theorem v47 (k : Fin 128) (k' : Fin 128) : (V m c main_v47 : FVec Ideal S128x128 .f32) (ix2 k k') = diag (a := 64) (p := 64) rfl rfl (fun j k => K2 m c (ix3 1 j k)) k k' := by
  unfold diag
  simp only [V, List.flatten_cons, List.flatten_nil, List.append_nil]
  after_reads_simp
  pointwise
  try after_reads_simp
  pointwise

theorem v49 (k : Fin 128) : (V m c main_v49 : FVec Ideal S1x128 .f32) (ix2 0 k) = twice (p := 64) rfl (fun k => K3 m c (ix2 1 k)) k := by
  unfold twice
  simp only [V, List.flatten_cons, List.flatten_nil, List.append_nil]
  after_reads_simp
  pointwise
  try after_reads_simp
  pointwise

theorem v53 (k : Fin 128) (k' : Fin 128) : (V m c main_v53 : FVec Ideal S128x128 .f32) (ix2 k k') = diag (a := 64) (p := 64) rfl rfl (fun j k => K4 m c (ix3 1 j k)) k k' := by
  unfold diag
  simp only [V, List.flatten_cons, List.flatten_nil, List.append_nil]
  after_reads_simp
  pointwise
  try after_reads_simp
  pointwise

theorem v55 (k : Fin 128) : (V m c main_v55 : FVec Ideal S1x128 .f32) (ix2 0 k) = twice (p := 64) rfl (fun k => K5 m c (ix2 1 k)) k := by
  unfold twice
  simp only [V, List.flatten_cons, List.flatten_nil, List.append_nil]
  after_reads_simp
  pointwise
  try after_reads_simp
  pointwise

theorem v60 (k : Fin 128) (k' : Fin 1024) : (V m c main_v60 : FVec Ideal S128x1024 .bf16) (ix2 k k') = diag (a := 64) (p := 512) rfl rfl (fun j k => K6 m c (ix3 1 j k)) k k' := by
  unfold diag
  simp only [V, List.flatten_cons, List.flatten_nil, List.append_nil]
  after_reads_simp
  pointwise
  try after_reads_simp
  pointwise

theorem v62 (k : Fin 128) : (V m c main_v62 : FVec Ideal S1x128 .f32) (ix2 0 k) = twice (p := 64) rfl (fun k => K7 m c (ix2 1 k)) k := by
  unfold twice
  simp only [V, List.flatten_cons, List.flatten_nil, List.append_nil]
  after_reads_simp
  pointwise
  try after_reads_simp
  pointwise

theorem v63 (k : Fin 512) : (V m c main_v63 : FVec Ideal S1x512 .f32) (ix2 0 k) = K8 m c (ix2 1 k) := by
  simp only [V, List.flatten_cons, List.flatten_nil, List.append_nil]
  after_reads_simp
  pointwise

end Cert.P10

end
-- ==== Proof.P10Blk.lean ====
/- The long convolution's filter of layer 1: the blocks of the kernel's operands. -/
module

public import proofs.«01_k».proof.Proof.P10Args

@[expose] public section

set_option maxRecDepth 16384

noncomputable section

namespace Cert.P10

open Idealize.ShloMosaic Idealize.ShloMosaic.TcCoe Idealize.SL.Sem Idealize.ShloMosaic.StableHlo Cert.Kernel10Ideal Cert.Kernel10Ideal.Gen Cert.Rows

variable (m : (ℓ : Loc nD τ sig) → Buf (Elt Ideal) ℓ) (c : Dev nD)

theorem b0 (t : Fin cfg0.N) (k : Fin 1024) (k' : Fin 256) : B0 m c t (ix2 k k') = (V m c main_v18 : FVec Ideal S4096x256 .f32) (ix2 ⟨t * 1024 + k, by have := lt t; omega⟩ k') := by
  blk_ext [iblk, idx t]

theorem b1 (t : Fin cfg0.N) (k : Fin 256) (k' : Fin 128) : B1 m c t (ix2 k k') = (V m c main_v41 : FVec Ideal S256x128 .f32) (ix2 k k') := by
  blk_ext [iblk, idx t]

theorem b2 (t : Fin cfg0.N) (k : Fin 1) (k' : Fin 128) : B2 m c t (ix2 k k') = (V m c main_v43 : FVec Ideal S1x128 .f32) (ix2 k k') := by
  blk_ext [iblk, idx t]

theorem b3 (t : Fin cfg0.N) (k : Fin 128) (k' : Fin 128) : B3 m c t (ix2 k k') = (V m c main_v47 : FVec Ideal S128x128 .f32) (ix2 k k') := by
  blk_ext [iblk, idx t]

theorem b4 (t : Fin cfg0.N) (k : Fin 1) (k' : Fin 128) : B4 m c t (ix2 k k') = (V m c main_v49 : FVec Ideal S1x128 .f32) (ix2 k k') := by
  blk_ext [iblk, idx t]

theorem b5 (t : Fin cfg0.N) (k : Fin 128) (k' : Fin 128) : B5 m c t (ix2 k k') = (V m c main_v53 : FVec Ideal S128x128 .f32) (ix2 k k') := by
  blk_ext [iblk, idx t]

theorem b6 (t : Fin cfg0.N) (k : Fin 1) (k' : Fin 128) : B6 m c t (ix2 k k') = (V m c main_v55 : FVec Ideal S1x128 .f32) (ix2 k k') := by
  blk_ext [iblk, idx t]

theorem b7 (t : Fin cfg0.N) (k : Fin 128) (k' : Fin 1024) : B7 m c t (ix2 k k') = (V m c main_v60 : FVec Ideal S128x1024 .bf16) (ix2 k k') := by
  blk_ext [iblk, idx t]

theorem b8 (t : Fin cfg0.N) (k : Fin 1) (k' : Fin 128) : B8 m c t (ix2 k k') = (V m c main_v62 : FVec Ideal S1x128 .f32) (ix2 k k') := by
  blk_ext [iblk, idx t]

theorem b9 (t : Fin cfg0.N) (k : Fin 1) (k' : Fin 512) : B9 m c t (ix2 k k') = (V m c main_v63 : FVec Ideal S1x512 .f32) (ix2 k k') := by
  blk_ext [iblk, idx t]

end Cert.P10

end
-- ==== Proof.P10Final.lean ====
/- The long convolution's filter of layer 1: the result array of the kernel. -/
module

public import proofs.«01_k».proof.Proof.P10Pay
public import proofs.«01_k».proof.Proof.P10Feat
public import proofs.«01_k».proof.Proof.P10Win
public import proofs.«01_k».proof.Proof.P10Blk
public import Idealize.ShloMosaic.Lib.Claim

@[expose] public section

set_option maxRecDepth 16384

noncomputable section

namespace Cert.P10

open Idealize.ShloMosaic Idealize.ShloMosaic.TcCoe Idealize.SL.Sem Idealize.ShloMosaic.StableHlo Cert.Kernel10Ideal Cert.Kernel10Ideal.Gen Cert.Rows

variable (m : (ℓ : Loc nD τ sig) → Buf (Elt Ideal) ℓ) (c : Dev nD)

theorem coord : ∀ t : Fin cfg0.N, (grid0.coords t 0).val = t.val :=
  (by decide +kernel : ∀ t : Fin grid0.N, _)

theorem ld0 (x : FVec Ideal S1024x256 .f32) : View.ld (Val := Elt Ideal) (e' := .f32) x r0_0 = x := by
  funext i
  obtain ⟨q, k, rfl⟩ : ∃ (q : Fin 1024) (k : Fin 256), i = ix2 q k := ⟨i 0, i 1, eq_ix2 i⟩

  pointwise []

theorem ld1 (x : FVec Ideal S1x128 .f32) : View.ld (Val := Elt Ideal) (e' := .f32) x r0_1 = x := by
  funext i
  obtain ⟨q, k, rfl⟩ : ∃ (q : Fin 1) (k : Fin 128), i = ix2 q k := ⟨i 0, i 1, eq_ix2 i⟩
  obtain rfl : q = 0 := Subsingleton.elim _ _
  pointwise []

theorem ld2 (x : FVec Ideal S256x128 .f32) : View.ld (Val := Elt Ideal) (e' := .f32) x r0_2 = x := by
  funext i
  obtain ⟨q, k, rfl⟩ : ∃ (q : Fin 256) (k : Fin 128), i = ix2 q k := ⟨i 0, i 1, eq_ix2 i⟩

  pointwise []

theorem ld3 (x : FVec Ideal S128x128 .f32) : View.ld (Val := Elt Ideal) (e' := .f32) x r0_3 = x := by
  funext i
  obtain ⟨q, k, rfl⟩ : ∃ (q : Fin 128) (k : Fin 128), i = ix2 q k := ⟨i 0, i 1, eq_ix2 i⟩

  pointwise []

theorem ld4 (x : FVec Ideal S128x1024 .bf16) : View.ld (Val := Elt Ideal) (e' := .bf16) x r0_4 = x := by
  funext i
  obtain ⟨q, k, rfl⟩ : ∃ (q : Fin 128) (k : Fin 1024), i = ix2 q k := ⟨i 0, i 1, eq_ix2 i⟩

  pointwise []

theorem ld5 (x : FVec Ideal S1x512 .f32) : View.ld (Val := Elt Ideal) (e' := .f32) x r0_5 = x := by
  funext i
  obtain ⟨q, k, rfl⟩ : ∃ (q : Fin 1) (k : Fin 512), i = ix2 q k := ⟨i 0, i 1, eq_ix2 i⟩
  obtain rfl : q = 0 := Subsingleton.elim _ _
  pointwise []

/-- The features of place `n`. -/
def ft (n : Fin 8192) (j : Fin 33) : EReal := feat (ix2 n j)

/-- The filter of place `n` under its window. -/
def G (n : Fin 8192) (k : Fin 512) : EReal :=
  wind (net (ft n) (fun j k => K0 m c (ix3 1 j k)) (fun k => K1 m c (ix2 1 k)) (fun j k => K2 m c (ix3 1 j k)) (fun k => K3 m c (ix2 1 k)) (fun j k => K4 m c (ix3 1 j k)) (fun k => K5 m c (ix2 1 k)) (fun k => K7 m c (ix2 1 k))) (fun j k => K6 m c (ix3 1 j k)) (ft n 0) (fun k => K8 m c (ix2 1 k)) k

/-- The result, at every row of the array. -/
def Z : FVec Ideal S2x4096x512 .f32 := fun i =>
  if (i 0).val * 4096 + (i 1).val = 0 ∧ 256 ≤ (i 2).val then (0 : EReal)
  else G m c ⟨(i 0).val * 4096 + (i 1).val, by have h0 := (i 0).isLt; have h1 := (i 1).isLt; change _ < 2 at h0; change _ < 4096 at h1; omega⟩ (i 2)

/-- The place of a block's row in the first half. -/
abbrev na (t : Fin cfg0.N) (r : Fin 1024) : Fin 8192 := ⟨t * 1024 + r, by have := lt t; omega⟩

/-- The place of a block's row in the second half. -/
abbrev nb (t : Fin cfg0.N) (r : Fin 1024) : Fin 8192 := ⟨4096 + (t * 1024 + r), by have := lt t; omega⟩

/-- The last hidden layer of the kernel: the network on the two places. -/
theorem hid_at (t : Fin cfg0.N) (r : Fin 1024) : (fun k => k0_pay10 (F := Ideal) (grid0.coords t) (B0 m c t) (B1 m c t) (B2 m c t) (B3 m c t) (B4 m c t) (B5 m c t) (B6 m c t) (B7 m c t) (B8 m c t) (B9 m c t) (ix2 r k)) =
    net2 (ft (na t r)) (ft (nb t r)) (fun j k => K0 m c (ix3 1 j k)) (fun k => K1 m c (ix2 1 k)) (fun j k => K2 m c (ix3 1 j k)) (fun k => K3 m c (ix2 1 k)) (fun j k => K4 m c (ix3 1 j k)) (fun k => K5 m c (ix2 1 k)) (fun k => K7 m c (ix2 1 k)) := by
  have f0 : (fun j => B0 m c t (ix2 r j)) = fun k : Fin 256 => if h : k.val < 128 then padv (ft (na t r)) ⟨k, h⟩ else padv (ft (nb t r)) ⟨k - 128, by omega⟩ := by
    funext j
    rw [b0, v18]
    rfl
  have f1 : (fun j k => B1 m c t (ix2 j k)) = diag (N := 256) (M := 128) (a := 128) (p := 64) rfl rfl (padm (fun j k => K0 m c (ix3 1 j k))) := by
    funext j k
    rw [b1, v41]
  have f3 : (fun j k => B3 m c t (ix2 j k)) = diag (N := 128) (M := 128) (a := 64) (p := 64) rfl rfl (fun j k => K2 m c (ix3 1 j k)) := by
    funext j k
    rw [b3, v47]
  have f5 : (fun j k => B5 m c t (ix2 j k)) = diag (N := 128) (M := 128) (a := 64) (p := 64) rfl rfl (fun j k => K4 m c (ix3 1 j k)) := by
    funext j k
    rw [b5, v53]
  have f2 : (fun k => B2 m c t (ix2 0 k)) = twice (M := 128) (p := 64) rfl (fun k => K1 m c (ix2 1 k)) := by
    funext k
    rw [b2, v43]
  have f4 : (fun k => B4 m c t (ix2 0 k)) = twice (M := 128) (p := 64) rfl (fun k => K3 m c (ix2 1 k)) := by
    funext k
    rw [b4, v49]
  have f6 : (fun k => B6 m c t (ix2 0 k)) = twice (M := 128) (p := 64) rfl (fun k => K5 m c (ix2 1 k)) := by
    funext k
    rw [b6, v55]
  have f8 : (fun k => B8 m c t (ix2 0 k)) = twice (M := 128) (p := 64) rfl (fun k => K7 m c (ix2 1 k)) := by
    funext k
    rw [b8, v62]
  funext k
  unfold k0_pay10
  rw [ld0 (B0 m c t), ld1 (B8 m c t), ld2 (B1 m c t), ld1 (B2 m c t), ld3 (B3 m c t), ld1 (B4 m c t), ld3 (B5 m c t), ld1 (B6 m c t), pay6_at]
  rw [f0, f1, f2, f3, f4, f5, f6, f8]
  rfl

theorem w4_at (t : Fin cfg0.N) : (fun j k => k0_pay11 (F := Ideal) (grid0.coords t) (B0 m c t) (B1 m c t) (B2 m c t) (B3 m c t) (B4 m c t) (B5 m c t) (B6 m c t) (B7 m c t) (B8 m c t) (B9 m c t) (ix2 j k)) =
    diag (N := 128) (M := 1024) (a := 64) (p := 512) rfl rfl (fun j k => K6 m c (ix3 1 j k)) := by
  funext j k
  unfold k0_pay11
  rw [ld4, pay7_at, b7, v60]

theorem time_lo (t : Fin cfg0.N) (r : Fin 1024) : k0_pay9 (F := Ideal) (grid0.coords t) (B0 m c t) (B1 m c t) (B2 m c t) (B3 m c t) (B4 m c t) (B5 m c t) (B6 m c t) (B7 m c t) (B8 m c t) (B9 m c t) (ix2 r 0) = ft (na t r) 0 := by
  unfold k0_pay9
  rw [ld0, pay5_at, b0, v18]
  rfl

theorem time_hi (t : Fin cfg0.N) (r : Fin 1024) : k0_pay9 (F := Ideal) (grid0.coords t) (B0 m c t) (B1 m c t) (B2 m c t) (B3 m c t) (B4 m c t) (B5 m c t) (B6 m c t) (B7 m c t) (B8 m c t) (B9 m c t) (ix2 r 128) = ft (nb t r) 0 := by
  unfold k0_pay9
  rw [ld0, pay5_at, b0, v18]
  rfl

theorem lo_at (t : Fin cfg0.N) (r : Fin 1024) (k : Fin 512) :
    k0_pay3 (F := Ideal) (BitVec.ofNat 32 ((grid0.coords t) 0).val) (k0_pay9 (grid0.coords t) (B0 m c t) (B1 m c t) (B2 m c t) (B3 m c t) (B4 m c t) (B5 m c t) (B6 m c t) (B7 m c t) (B8 m c t) (B9 m c t)) (k0_pay10 (grid0.coords t) (B0 m c t) (B1 m c t) (B2 m c t) (B3 m c t) (B4 m c t) (B5 m c t) (B6 m c t) (B7 m c t) (B8 m c t) (B9 m c t)) (k0_pay11 (grid0.coords t) (B0 m c t) (B1 m c t) (B2 m c t) (B3 m c t) (B4 m c t) (B5 m c t) (B6 m c t) (B7 m c t) (B8 m c t) (B9 m c t)) (k0_pay8 (grid0.coords t) (B0 m c t) (B1 m c t) (B2 m c t) (B3 m c t) (B4 m c t) (B5 m c t) (B6 m c t) (B7 m c t) (B8 m c t) (B9 m c t)) (View.ld (B9 m c t) r0_5) (ix3 0 r k)
      = if t.val * 1024 + r.val = 0 ∧ 256 ≤ k.val then (0 : EReal) else G m c (na t r) k := by
  unfold k0_pay8
  rw [ld5, coord t, pay3_at _ (lt t), hid_at, w4_at, time_lo, b9, v63, out_lo]
  rfl

theorem hi_at (t : Fin cfg0.N) (r : Fin 1024) (k : Fin 512) :
    k0_pay4 (F := Ideal) (k0_pay9 (grid0.coords t) (B0 m c t) (B1 m c t) (B2 m c t) (B3 m c t) (B4 m c t) (B5 m c t) (B6 m c t) (B7 m c t) (B8 m c t) (B9 m c t)) (k0_pay10 (grid0.coords t) (B0 m c t) (B1 m c t) (B2 m c t) (B3 m c t) (B4 m c t) (B5 m c t) (B6 m c t) (B7 m c t) (B8 m c t) (B9 m c t)) (k0_pay11 (grid0.coords t) (B0 m c t) (B1 m c t) (B2 m c t) (B3 m c t) (B4 m c t) (B5 m c t) (B6 m c t) (B7 m c t) (B8 m c t) (B9 m c t)) (k0_pay8 (grid0.coords t) (B0 m c t) (B1 m c t) (B2 m c t) (B3 m c t) (B4 m c t) (B5 m c t) (B6 m c t) (B7 m c t) (B8 m c t) (B9 m c t)) (View.ld (B9 m c t) r0_5) (ix3 0 r k)
      = G m c (nb t r) k := by
  unfold k0_pay8
  rw [ld5, pay4_at, hid_at, w4_at, time_hi, b9, v63, out_hi]
  rfl

theorem emb6 (r : Fin 1024) (k : Fin 512) : r0_6.emb (ix3 0 r k) = (ix3 0 r k : S2x1024x512.Idx) := by
  funext a
  fin_cases a
  · rfl
  · exact Fin.ext (by show 0 + 1 * r.val = r.val; omega)
  · exact Fin.ext (by show 0 + 1 * k.val = k.val; omega)

theorem emb7 (r : Fin 1024) (k : Fin 512) : r0_7.emb (ix3 0 r k) = (ix3 1 r k : S2x1024x512.Idx) := by
  funext a
  fin_cases a
  · rfl
  · exact Fin.ext (by show 0 + 1 * r.val = r.val; omega)
  · exact Fin.ext (by show 0 + 1 * k.val = k.val; omega)

theorem notin (r : Fin 1024) (k : Fin 512) : (ix3 0 r k : S2x1024x512.Idx) ∉ r0_7.set := by
  intro h
  obtain ⟨x, hx⟩ := r0_7.exists_idx_of_mem h
  have h0 : 1 + 1 * (x 0).val = 0 := congrArg (fun i : S2x1024x512.Idx => (i 0).val) hx
  omega

theorem two_lo (p q : FVec Ideal S1x1024x512 .f32) (r : Fin 1024) (k : Fin 512) :
    View.canon (Val := Elt Ideal) (s := S2x1024x512) (e := .f32) [⟨r0_7, p⟩, ⟨r0_6, q⟩] (ix3 0 r k) = q (ix3 0 r k) := by
  have h : View.canon (Val := Elt Ideal) (s := S2x1024x512) (e := .f32) [⟨r0_7, p⟩, ⟨r0_6, q⟩] (ix3 0 r k)
      = View.canon (Val := Elt Ideal) (s := S2x1024x512) (e := .f32) [⟨r0_6, q⟩] (ix3 0 r k) := by
    apply View.canon_cons_of_not_mem
    exact notin r k
  rw [h, ← emb6 r k]
  exact View.canon_cons_emb _ _ _ _

theorem two_hi (p q : FVec Ideal S1x1024x512 .f32) (r : Fin 1024) (k : Fin 512) :
    View.canon (Val := Elt Ideal) (s := S2x1024x512) (e := .f32) [⟨r0_7, p⟩, ⟨r0_6, q⟩] (ix3 1 r k) = p (ix3 0 r k) := by
  rw [← emb7 r k]
  exact View.canon_cons_emb _ _ _ _

theorem out_at0 (t : Fin cfg0.N) (r : Fin 1024) (k : Fin 512) : out0_10 (F := Ideal) (grid0.coords t) (B0 m c t) (B1 m c t) (B2 m c t) (B3 m c t) (B4 m c t) (B5 m c t) (B6 m c t) (B7 m c t) (B8 m c t) (B9 m c t) (ix3 0 r k) =
    if t.val * 1024 + r.val = 0 ∧ 256 ≤ k.val then (0 : EReal) else G m c (na t r) k := by
  unfold out0_10
  refine (two_lo _ _ r k).trans ?_
  rw [lo_at]

theorem out_at1 (t : Fin cfg0.N) (r : Fin 1024) (k : Fin 512) : out0_10 (F := Ideal) (grid0.coords t) (B0 m c t) (B1 m c t) (B2 m c t) (B3 m c t) (B4 m c t) (B5 m c t) (B6 m c t) (B7 m c t) (B8 m c t) (B9 m c t) (ix3 1 r k) = G m c (nb t r) k := by
  unfold out0_10
  exact (two_hi _ _ r k).trans (hi_at m c t r k)

theorem Z_at (q : Fin 2) (n : Fin 4096) (k : Fin 512) : Z m c (ix3 q n k) =
    if q.val * 4096 + n.val = 0 ∧ 256 ≤ k.val then (0 : EReal) else G m c ⟨q.val * 4096 + n.val, by omega⟩ k := rfl

theorem Z_at0 (n : Fin 4096) (k : Fin 512) : Z m c (ix3 0 n k) = if n.val = 0 ∧ 256 ≤ k.val then (0 : EReal) else G m c ⟨n, by omega⟩ k := by
  have h : (0 : Fin 2).val * 4096 + n.val = n.val := by simp
  rw [Z_at]
  simp only [h]

theorem Z_at1 (n : Fin 4096) (k : Fin 512) : Z m c (ix3 1 n k) = G m c ⟨4096 + n, by omega⟩ k := by
  have h : (1 : Fin 2).val * 4096 + n.val = 4096 + n.val := by simp
  have h' : ¬(4096 + n.val = 0 ∧ 256 ≤ k.val) := by omega
  rw [Z_at]
  simp only [h]
  exact if_neg h'

theorem emb (t : Fin cfg0.N) (q : Fin 2) (r : Fin 1024) (k : Fin 512) :
    ((cfg0.win 10).blk t).view.emb (ix3 q r k) = (ix3 q ⟨t * 1024 + r, by have := lt t; omega⟩ k : S2x4096x512.Idx) := by
  funext a
  fin_cases a
  · ext
    blk_simp [idx t]
    rfl
  · ext
    blk_simp [idx t]
    rfl
  · ext
    blk_simp [idx t]
    rfl

theorem point (t : Fin cfg0.N) (y : S2x1024x512.Idx) :
    out0_10 (F := Ideal) (grid0.coords t) (B0 m c t) (B1 m c t) (B2 m c t) (B3 m c t) (B4 m c t) (B5 m c t) (B6 m c t) (B7 m c t) (B8 m c t) (B9 m c t) y = Z m c (((cfg0.win 10).blk t).view.emb y) := by
  obtain ⟨q, r, k, rfl⟩ : ∃ (q : Fin 2) (r : Fin 1024) (k : Fin 512), y = ix3 q r k := ⟨y 0, y 1, y 2, eq_ix3 y⟩
  rw [emb]
  obtain rfl | rfl : q = 0 ∨ q = 1 := by omega
  · rw [out_at0, Z_at0]
  · rw [out_at1, Z_at1]

/-- The kernel's result array. -/
theorem final : (dats m 0 c).arrAt 10 (cfgs 0).N = Z m c := by
  refine (dats m 0 c).arrAt_eq_of_covers 10 _ (by decide +kernel) fun t _ y => ?_
  blk_simp
  rw [after0_10]
  exact point m c t y

end Cert.P10

end
-- ==== Proof.P10Ref.lean ====
/- The long convolution's filter of layer 1 as the reference computes it, read at a place and a column. -/
module

public import proofs.«01_k».proof.Proof.FiltNet
public import proofs.«01_k».proof.Proof.Gen.Reference10Ideal.Run
public import Idealize.ShloMosaic.Lib.KernelVsHost

@[expose] public section

set_option maxRecDepth 16384

noncomputable section

namespace Cert.P10.Ref

open Cert.Reference10Ideal Cert.Reference10Ideal.Gen Cert.Reference10Ideal.Value Idealize.ShloMosaic Idealize.ShloMosaic.TcCoe
open Idealize.SL.Sem Idealize.ShloMosaic.StableHlo Cert.Rows

/-- The time of each place, from 0 to 1. -/
def tcol : FVec Ideal S8192x1 .f32 := broadcastInDim S8192x1 ![0] bcast_S8192_S8192x1_0 (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)

/-- The features of each place: the time, the cosines and the negated sines of the bands. -/
def feat : FVec Ideal S8192x33 .f32 := concatenate S8192x33 1 [⟨S8192x1, (tcol : FVec Ideal S8192x1 .f32)⟩, ⟨S8192x16, ((Host.cos (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0))))) : FVec Ideal S8192x16 .f32)⟩, ⟨S8192x16, ((Host.negf (Host.sin (mulf (broadcastInDim S8192x16 ![0, 1] bcast_S8192x1_S8192x16_0_1 (mulf (broadcastInDim S8192x1 ![] bcast_S_S8192x1 (constant S_ .f32 0x3A490FDB#32)) (broadcastInDim S8192x1 ![0] bcast_S8192_S8192x1_0 (sitofp .f32 (iotaInDim S8192 32 0))))) (broadcastInDim S8192x16 ![0, 1] bcast_S1x16_S8192x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)))))) : FVec Ideal S8192x16 .f32)⟩] concatenates_S8192x1_S8192x16_S8192x16_S8192x33_d1

variable (V0 : Valuation τ sig (Elt Ideal))

/-- The reference's argument 0. -/
abbrev A0 : FVec Ideal S2x33x64 .f32 := V0 (Proc.devRef .tc main_arg0)

/-- The reference's argument 1. -/
abbrev A1 : FVec Ideal S2x64 .f32 := V0 (Proc.devRef .tc main_arg1)

/-- The reference's argument 2. -/
abbrev A2 : FVec Ideal S2x64x64 .f32 := V0 (Proc.devRef .tc main_arg2)

/-- The reference's argument 3. -/
abbrev A3 : FVec Ideal S2x64 .f32 := V0 (Proc.devRef .tc main_arg3)

/-- The reference's argument 4. -/
abbrev A4 : FVec Ideal S2x64x64 .f32 := V0 (Proc.devRef .tc main_arg4)

/-- The reference's argument 5. -/
abbrev A5 : FVec Ideal S2x64 .f32 := V0 (Proc.devRef .tc main_arg5)

/-- The reference's argument 6. -/
abbrev A6 : FVec Ideal S2x64x512 .f32 := V0 (Proc.devRef .tc main_arg6)

/-- The reference's argument 7. -/
abbrev A7 : FVec Ideal S2x64 .f32 := V0 (Proc.devRef .tc main_arg7)

/-- The reference's argument 8. -/
abbrev A8 : FVec Ideal S2x512 .f32 := V0 (Proc.devRef .tc main_arg8)

/-- The first hidden layer. -/
def h1 : FVec Ideal S8192x64 .f32 := Host.sin (mulf (broadcastInDim S8192x64 ![0, 1] bcast_S1x64_S8192x64_0_1 (broadcastInDim S1x64 ![1] bcast_S64_S1x64_1 (shapeCast _ (extractStridedSlice S1x64 ![1, 0] (A7 V0) slices_S2x64_S1x64_1_0) shapeCasts_S1x64_S64))) (addf (Host.dotGeneral dot_S8192x33_S33x64_S8192x64_1_0_0_1_n_n none (feat) (shapeCast _ (extractStridedSlice S1x33x64 ![1, 0, 0] (A0 V0) slices_S2x33x64_S1x33x64_1_0_0) shapeCasts_S1x33x64_S33x64)) (broadcastInDim S8192x64 ![0, 1] bcast_S1x64_S8192x64_0_1 (broadcastInDim S1x64 ![1] bcast_S64_S1x64_1 (shapeCast _ (extractStridedSlice S1x64 ![1, 0] (A1 V0) slices_S2x64_S1x64_1_0) shapeCasts_S1x64_S64)))))

/-- The second hidden layer. -/
def h2 : FVec Ideal S8192x64 .f32 := Host.sin (mulf (broadcastInDim S8192x64 ![0, 1] bcast_S1x64_S8192x64_0_1 (broadcastInDim S1x64 ![1] bcast_S64_S1x64_1 (shapeCast _ (extractStridedSlice S1x64 ![1, 0] (A7 V0) slices_S2x64_S1x64_1_0) shapeCasts_S1x64_S64))) (addf (Host.dotGeneral dot_S8192x64_S64x64_S8192x64_1_0_0_1_n_n none (h1 V0) (shapeCast _ (extractStridedSlice S1x64x64 ![1, 0, 0] (A2 V0) slices_S2x64x64_S1x64x64_1_0_0) shapeCasts_S1x64x64_S64x64)) (broadcastInDim S8192x64 ![0, 1] bcast_S1x64_S8192x64_0_1 (broadcastInDim S1x64 ![1] bcast_S64_S1x64_1 (shapeCast _ (extractStridedSlice S1x64 ![1, 0] (A3 V0) slices_S2x64_S1x64_1_0) shapeCasts_S1x64_S64)))))

/-- The third hidden layer. -/
def h3 : FVec Ideal S8192x64 .f32 := Host.sin (mulf (broadcastInDim S8192x64 ![0, 1] bcast_S1x64_S8192x64_0_1 (broadcastInDim S1x64 ![1] bcast_S64_S1x64_1 (shapeCast _ (extractStridedSlice S1x64 ![1, 0] (A7 V0) slices_S2x64_S1x64_1_0) shapeCasts_S1x64_S64))) (addf (Host.dotGeneral dot_S8192x64_S64x64_S8192x64_1_0_0_1_n_n none (h2 V0) (shapeCast _ (extractStridedSlice S1x64x64 ![1, 0, 0] (A4 V0) slices_S2x64x64_S1x64x64_1_0_0) shapeCasts_S1x64x64_S64x64)) (broadcastInDim S8192x64 ![0, 1] bcast_S1x64_S8192x64_0_1 (broadcastInDim S1x64 ![1] bcast_S64_S1x64_1 (shapeCast _ (extractStridedSlice S1x64 ![1, 0] (A5 V0) slices_S2x64_S1x64_1_0) shapeCasts_S1x64_S64)))))

/-- The filter under its window. -/
def filt : FVec Ideal S8192x512 .f32 := mulf (Host.dotGeneral dot_S8192x64_S64x512_S8192x512_1_0_0_1_n_n none (h3 V0) (shapeCast _ (extractStridedSlice S1x64x512 ![1, 0, 0] (A6 V0) slices_S2x64x512_S1x64x512_1_0_0) shapeCasts_S1x64x512_S64x512)) (Host.exp (mulf (broadcastInDim S8192x512 ![0, 1] bcast_S8192x1_S8192x512_0_1 (Host.negf tcol)) (broadcastInDim S8192x512 ![0, 1] bcast_S1x512_S8192x512_0_1 (broadcastInDim S1x512 ![1] bcast_S512_S1x512_1 (Host.absf (shapeCast _ (extractStridedSlice S1x512 ![1, 0] (A8 V0) slices_S2x512_S1x512_1_0) shapeCasts_S1x512_S512))))))

/-- The reference's result. -/
def o0 : FVec Ideal S2x4096x512 .f32 := shapeCast _ (concatenate S8192x512 1 [⟨S8192x256, (extractStridedSlice S8192x256 ![0, 0] (filt V0) slices_S8192x512_S8192x256_0_0)⟩, ⟨S8192x256, (concatenate S8192x256 0 [⟨S1x256, (broadcastInDim S1x256 ![] bcast_S_S1x256 (constant S_ .f32 0x00000000#32))⟩, ⟨S8191x256, (extractStridedSlice S8191x256 ![1, 0] (extractStridedSlice S8192x256 ![0, 256] (filt V0) slices_S8192x512_S8192x256_0_256) slices_S8192x256_S8191x256_1_0)⟩] concatenates_S1x256_S8191x256_S8192x256_d0)⟩] concatenates_S8192x256_S8192x256_S8192x512_d1) shapeCasts_S8192x512_S2x4096x512

theorem tcol_at (n : Fin 8192) : tcol (ix2 n 0) = feat (ix2 n 0) := by
  pointwise [feat]

theorem h1_at (n : Fin 8192) (k : Fin 64) : h1 V0 (ix2 n k) =
    layer (fun j => feat (ix2 n j)) (fun j k => A0 V0 (ix3 1 j k)) (fun k => A1 V0 (ix2 1 k)) (fun k => A7 V0 (ix2 1 k)) k := by
  unfold layer lin
  pointwise [h1]

theorem h2_at (n : Fin 8192) (k : Fin 64) : h2 V0 (ix2 n k) =
    layer (fun j => h1 V0 (ix2 n j)) (fun j k => A2 V0 (ix3 1 j k)) (fun k => A3 V0 (ix2 1 k)) (fun k => A7 V0 (ix2 1 k)) k := by
  unfold layer lin
  pointwise [h2]

theorem h3_at (n : Fin 8192) (k : Fin 64) : h3 V0 (ix2 n k) =
    layer (fun j => h2 V0 (ix2 n j)) (fun j k => A4 V0 (ix3 1 j k)) (fun k => A5 V0 (ix2 1 k)) (fun k => A7 V0 (ix2 1 k)) k := by
  unfold layer lin
  pointwise [h3]

theorem filt_at (n : Fin 8192) (k : Fin 512) : filt V0 (ix2 n k) =
    wind (net (fun j => feat (ix2 n j)) (fun j k => A0 V0 (ix3 1 j k)) (fun k => A1 V0 (ix2 1 k)) (fun j k => A2 V0 (ix3 1 j k)) (fun k => A3 V0 (ix2 1 k))
      (fun j k => A4 V0 (ix3 1 j k)) (fun k => A5 V0 (ix2 1 k)) (fun k => A7 V0 (ix2 1 k))) (fun j k => A6 V0 (ix3 1 j k)) (feat (ix2 n 0)) (fun k => A8 V0 (ix2 1 k)) k := by
  have h : filt V0 (ix2 n k) = wind (fun j => h3 V0 (ix2 n j)) (fun j k => A6 V0 (ix3 1 j k)) (feat (ix2 n 0)) (fun k => A8 V0 (ix2 1 k)) k := by
    unfold wind lin
    pointwise [filt]
    rw [tcol_at, zero_sub]
  rw [h]
  unfold net
  simp only [h3_at, h2_at, h1_at]

theorem o0_at (b : Fin 2) (s : Fin 4096) (k : Fin 512) : o0 V0 (ix3 b s k) =
    if b.val * 4096 + s.val = 0 ∧ 256 ≤ k.val then (0 : EReal) else filt V0 (ix2 ⟨b * 4096 + s, by omega⟩ k) := by
  have hb := b.isLt
  have hs := s.isLt
  unfold o0
  generalize filt V0 = f
  pointwise
  by_cases h : k.val < 256
  · have h2 : ¬(b.val * 4096 + s.val = 0 ∧ 256 ≤ k.val) := by omega
    rw [dif_pos h, if_neg h2]
  · rw [dif_neg h]
    by_cases h' : b.val * 4096 + s.val < 1
    · have h2 : b.val * 4096 + s.val = 0 ∧ 256 ≤ k.val := by omega
      rw [dif_pos h', if_pos h2]
    · have h2 : ¬(b.val * 4096 + s.val = 0 ∧ 256 ≤ k.val) := by omega
      refine (dif_neg h').trans (Eq.trans ?_ (if_neg h2).symm)
      exact congrArg₂ (fun n k => f (ix2 n k)) (Fin.ext (by simp only; omega)) (Fin.ext (by simp only; omega))

end Cert.P10.Ref

end
-- ==== Proof.P10Bridge.lean ====
/- The long convolution's filter of layer 1: the kernel's array is the reference's result when the two programs' arguments agree. -/
module

public import proofs.«01_k».proof.Defs
public import proofs.«01_k».proof.Proof.Gen.Reference10Ideal
public import proofs.«01_k».proof.Proof.P10Final
public import proofs.«01_k».proof.Proof.P10Ref
public import Idealize.ShloMosaic.Lib.Claim
public import Idealize.ShloMosaic.Adequacy
public import Idealize.ShloMosaic.Init

@[expose] public section

set_option maxRecDepth 16384

noncomputable section

namespace Cert.P10

open Idealize.ShloMosaic Idealize.ShloMosaic.TcCoe Idealize.SL.Sem Cert.Kernel10Ideal Cert.Kernel10Ideal.Gen Cert.Rows

/-- The two programs compute the same features. -/
theorem feat_eq : Ref.feat = feat := rfl

/-- The reference's result is the kernel's array. -/
theorem o0_eq (m : (ℓ : Loc nD τ sig) → Buf (Elt Ideal) ℓ) (c : Dev nD) (V0 : Valuation Cert.Reference10Ideal.τ Cert.Reference10Ideal.sig (Elt Ideal)) (h0 : Ref.A0 V0 = K0 m c) (h1 : Ref.A1 V0 = K1 m c) (h2 : Ref.A2 V0 = K2 m c) (h3 : Ref.A3 V0 = K3 m c) (h4 : Ref.A4 V0 = K4 m c) (h5 : Ref.A5 V0 = K5 m c) (h6 : Ref.A6 V0 = K6 m c) (h7 : Ref.A7 V0 = K7 m c) (h8 : Ref.A8 V0 = K8 m c) :
    Ref.o0 V0 = Z m c := by
  funext i
  obtain ⟨b, s, k, rfl⟩ : ∃ (b : Fin 2) (s : Fin 4096) (k : Fin 512), i = ix3 b s k := ⟨i 0, i 1, i 2, eq_ix3 i⟩
  rw [Ref.o0_at, Ref.filt_at, h0, h1, h2, h3, h4, h5, h6, h7, h8, feat_eq]
  rfl

/-- The reference runs, leaves its arguments unchanged, and declares no semaphore. -/
theorem reference_frame : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference's run: its result is its definition at the arguments, its arguments unchanged. -/
theorem reference_run (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩
      fun r => ∀ c : Dev Cert.Reference10Ideal.nD,
      r.2.mem ((c.tc : Thread Cert.Reference10Ideal.nD Cert.Reference10Ideal.τ).loc Cert.Reference10Ideal.main_v72) = Ref.o0 (StableHlo.launchContents m c)
      ∧ r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8) :=
  Cert.Reference10Ideal.Value.run (F := Ideal) m g

/-- The kernel and the reference end with equal results over the extended reals. -/
theorem value : Cert.algebraic_Kernel10Ideal_Reference10Ideal (hKernel10Ideal := Cert.Kernel10Ideal.Gen.facts) (hReference10Ideal := Cert.Reference10Ideal.Gen.facts) := by
  intro m g m' g' _ hagree
  refine ⟨fun c => Z m c, ?_, ?_⟩
  · exact (θ_run _ _ _).mono (fun r h c => ⟨(h c).1.trans (final m c), (h c).2⟩) (Cert.Kernel10Ideal.Value.run_blocks m g)
  · refine (θ_run _ _ _).mono (fun r h c => ?_) (reference_run m' g')
    obtain ⟨e0, e1, e2, e3, e4, e5, e6, e7, e8⟩ := hagree c
    exact ⟨(h c).1.trans (o0_eq m c (StableHlo.launchContents m' c) e0 e1 e2 e3 e4 e5 e6 e7 e8), (h c).2⟩

end Cert.P10

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Bridge
public import proofs.«01_k».proof.Proof.P2Bridge
public import proofs.«01_k».proof.Proof.P3Bridge
public import proofs.«01_k».proof.Proof.P5Bridge
public import proofs.«01_k».proof.Proof.P4Bridge
public import proofs.«01_k».proof.Proof.P6Bridge
public import proofs.«01_k».proof.Proof.P7Bridge
public import proofs.«01_k».proof.Proof.P8Bridge
public import proofs.«01_k».proof.Proof.P9Bridge
public import proofs.«01_k».proof.Proof.P10Bridge
public import Idealize.ShloMosaic.Lib.Claim
public import Idealize.ShloMosaic.Adequacy
public import Idealize.ShloMosaic.Init

@[expose] public section

noncomputable section

namespace Cert.Proof

open Idealize.ShloMosaic Idealize.SL.Sem

/-- The reference runs, leaves its arguments unchanged, and declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run: its result is the token's function at every row, its arguments unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
      r.2.mem ((c.tc : Thread Cert.ReferenceIdeal.nD Cert.ReferenceIdeal.τ).loc Cert.ReferenceIdeal.main_v177) = Cert.Ref.out (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13) :=
  Cert.ReferenceIdeal.Value.run (F := Ideal) m g

/-- The kernel and the reference end with equal results over the extended reals, the arguments feeding the scores being finite. -/
theorem post : Cert.algebraic_KernelIdeal_ReferenceIdeal_pre_finite (hKernelIdeal := Cert.KernelIdeal.Gen.facts)
    (hReferenceIdeal := Cert.ReferenceIdeal.Gen.facts) (hPre_finite := Cert.PreFin.preFacts) := by
  intro m g m' g' hpre hagree
  refine ⟨fun c => Cert.Final.G m c, ?_, ?_⟩
  · exact (θ_run _ _ _).mono (fun r h c => ⟨(h c).1.trans (Cert.Final.final m c), (h c).2⟩) (Cert.KernelIdeal.Value.run_blocks m g)
  · refine (θ_run _ _ _).mono (fun r h c => ⟨(h c).1.trans ?_, (h c).2⟩) (reference_run m' g')
    obtain ⟨e0, e1, e2, e3, e4, e5, e6, e7, e8, e9, e10, e11, e12, e13⟩ := hagree c
    exact Cert.Bridge.out_eq m c (StableHlo.launchContents m' c) e0 e1 e2 e3 e4 e5 e6 e7 e8 e9 e10 e11 e12 e13 (hpre c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.PreFin.preFacts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  fun m ρ _ => Cert.Kernel2.Gen.frame m ρ,
  fun m ρ _ => Cert.Kernel2Ideal.Gen.frame m ρ,
  Cert.P2.reference_frame,
  fun m ρ _ => Cert.Kernel3.Gen.frame m ρ,
  fun m ρ _ => Cert.Kernel3Ideal.Gen.frame m ρ,
  Cert.P3.reference_frame,
  fun m ρ _ => Cert.Kernel4.Gen.frame m ρ,
  fun m ρ _ => Cert.Kernel4Ideal.Gen.frame m ρ,
  Cert.P4.reference_frame,
  fun m ρ _ => Cert.Kernel5.Gen.frame m ρ,
  fun m ρ _ => Cert.Kernel5Ideal.Gen.frame m ρ,
  Cert.P5.reference_frame,
  fun m ρ _ => Cert.Kernel6.Gen.frame m ρ,
  fun m ρ _ => Cert.Kernel6Ideal.Gen.frame m ρ,
  fun m ρ _ => Cert.Kernel6Ideal.Gen.frame m ρ,
  fun m ρ _ => Cert.P6.Bridge.reference_frame m ρ trivial,
  fun m ρ _ => Cert.P6.Bridge.reference_frame m ρ trivial,
  fun m ρ _ => Cert.Kernel7.Gen.frame m ρ,
  fun m ρ _ => Cert.Kernel7Ideal.Gen.frame m ρ,
  Cert.P7.reference_frame,
  fun m ρ _ => Cert.Kernel8.Gen.frame m ρ,
  fun m ρ _ => Cert.Kernel8Ideal.Gen.frame m ρ,
  Cert.P8.reference_frame,
  fun m ρ _ => Cert.Kernel9.Gen.frame m ρ,
  fun m ρ _ => Cert.Kernel9Ideal.Gen.frame m ρ,
  Cert.P9.reference_frame,
  fun m ρ _ => Cert.Kernel10.Gen.frame m ρ,
  fun m ρ _ => Cert.Kernel10Ideal.Gen.frame m ρ,
  Cert.P10.reference_frame,
  trivial,
  post,
  trivial,
  Cert.P2.value,
  trivial,
  Cert.P3.value,
  trivial,
  Cert.P4.value,
  trivial,
  Cert.P5.value,
  trivial,
  Cert.P6.Bridge.post,
  trivial,
  Cert.P7.value,
  trivial,
  Cert.P8.value,
  trivial,
  Cert.P9.value,
  trivial,
  Cert.P10.value⟩

end Cert.Proof

end
